-- ==== Defs.lean ====
def Pre_Ce (m : (ℓ : Loc Cert.Ce.nD Cert.Ce.τ Cert.Ce.sig) → Buf (Elt Bits) ℓ) : Prop :=
  True

def Pre_CeIdeal (m : (ℓ : Loc Cert.CeIdeal.nD Cert.CeIdeal.τ Cert.CeIdeal.sig) → Buf (Elt Ideal) ℓ) : Prop :=
  True

def Pre_CeIdeal_class_in_range [hPre_class_in_range : Cert.Pre_class_in_range.Facts] (m : (ℓ : Loc Cert.CeIdeal.nD Cert.CeIdeal.τ Cert.CeIdeal.sig) → Buf (Elt Ideal) ℓ) : Prop :=
  ∀ c : Dev Cert.CeIdeal.nD,
    (Cert.Pre_class_in_range.fn (F := Ideal) (m ((c.tc : Thread Cert.CeIdeal.nD Cert.CeIdeal.τ).loc Cert.CeIdeal.main_arg0)) (m ((c.tc : Thread Cert.CeIdeal.nD Cert.CeIdeal.τ).loc Cert.CeIdeal.main_arg1))) = (fun _ => 1#1)

def Pre_CeReferenceIdeal (m : (ℓ : Loc Cert.CeReferenceIdeal.nD Cert.CeReferenceIdeal.τ Cert.CeReferenceIdeal.sig) → Buf (Elt Ideal) ℓ) : Prop :=
  True

def Pre_CeReferenceIdeal_class_in_range [hPre_class_in_range : Cert.Pre_class_in_range.Facts] (m : (ℓ : Loc Cert.CeReferenceIdeal.nD Cert.CeReferenceIdeal.τ Cert.CeReferenceIdeal.sig) → Buf (Elt Ideal) ℓ) : Prop :=
  ∀ c : Dev Cert.CeReferenceIdeal.nD,
    (Cert.Pre_class_in_range.fn (F := Ideal) (m ((c.tc : Thread Cert.CeReferenceIdeal.nD Cert.CeReferenceIdeal.τ).loc Cert.CeReferenceIdeal.main_arg0)) (m ((c.tc : Thread Cert.CeReferenceIdeal.nD Cert.CeReferenceIdeal.τ).loc Cert.CeReferenceIdeal.main_arg1))) = (fun _ => 1#1)

def Pre_Match (m : (ℓ : Loc Cert.Match.nD Cert.Match.τ Cert.Match.sig) → Buf (Elt Bits) ℓ) : Prop :=
  True

def Pre_MatchIdeal (m : (ℓ : Loc Cert.MatchIdeal.nD Cert.MatchIdeal.τ Cert.MatchIdeal.sig) → Buf (Elt Ideal) ℓ) : Prop :=
  True

def Pre_MatchReferenceIdeal (m : (ℓ : Loc Cert.MatchReferenceIdeal.nD Cert.MatchReferenceIdeal.τ Cert.MatchReferenceIdeal.sig) → Buf (Elt Ideal) ℓ) : Prop :=
  True

def Pre_Mine (m : (ℓ : Loc Cert.Mine.nD Cert.Mine.τ Cert.Mine.sig) → Buf (Elt Bits) ℓ) : Prop :=
  True

def Pre_MineReference (m : (ℓ : Loc Cert.MineReference.nD Cert.MineReference.τ Cert.MineReference.sig) → Buf (Elt Bits) ℓ) : Prop :=
  True

def Pre_MineValues (m : (ℓ : Loc Cert.MineValues.nD Cert.MineValues.τ Cert.MineValues.sig) → Buf (Elt Bits) ℓ) : Prop :=
  True

def Pre_MineValuesIdeal (m : (ℓ : Loc Cert.MineValuesIdeal.nD Cert.MineValuesIdeal.τ Cert.MineValuesIdeal.sig) → Buf (Elt Ideal) ℓ) : Prop :=
  True

def Pre_MineValuesIdeal_losses_are_floats [hPre_losses_are_floats : Cert.Pre_losses_are_floats.Facts] (m : (ℓ : Loc Cert.MineValuesIdeal.nD Cert.MineValuesIdeal.τ Cert.MineValuesIdeal.sig) → Buf (Elt Ideal) ℓ) : Prop :=
  ∀ c : Dev Cert.MineValuesIdeal.nD,
    (Cert.Pre_losses_are_floats.fn (F := Ideal) (m ((c.tc : Thread Cert.MineValuesIdeal.nD Cert.MineValuesIdeal.τ).loc Cert.MineValuesIdeal.main_arg0)) (m ((c.tc : Thread Cert.MineValuesIdeal.nD Cert.MineValuesIdeal.τ).loc Cert.MineValuesIdeal.main_arg1)) (m ((c.tc : Thread Cert.MineValuesIdeal.nD Cert.MineValuesIdeal.τ).loc Cert.MineValuesIdeal.main_arg2)) (m ((c.tc : Thread Cert.MineValuesIdeal.nD Cert.MineValuesIdeal.τ).loc Cert.MineValuesIdeal.main_arg3))) = (fun _ => 1#1)

def Pre_MineValuesReferenceIdeal (m : (ℓ : Loc Cert.MineValuesReferenceIdeal.nD Cert.MineValuesReferenceIdeal.τ Cert.MineValuesReferenceIdeal.sig) → Buf (Elt Ideal) ℓ) : Prop :=
  True

def Pre_MineValuesReferenceIdeal_losses_are_floats [hPre_losses_are_floats : Cert.Pre_losses_are_floats.Facts] (m : (ℓ : Loc Cert.MineValuesReferenceIdeal.nD Cert.MineValuesReferenceIdeal.τ Cert.MineValuesReferenceIdeal.sig) → Buf (Elt Ideal) ℓ) : Prop :=
  ∀ c : Dev Cert.MineValuesReferenceIdeal.nD,
    (Cert.Pre_losses_are_floats.fn (F := Ideal) (m ((c.tc : Thread Cert.MineValuesReferenceIdeal.nD Cert.MineValuesReferenceIdeal.τ).loc Cert.MineValuesReferenceIdeal.main_arg0)) (m ((c.tc : Thread Cert.MineValuesReferenceIdeal.nD Cert.MineValuesReferenceIdeal.τ).loc Cert.MineValuesReferenceIdeal.main_arg1)) (m ((c.tc : Thread Cert.MineValuesReferenceIdeal.nD Cert.MineValuesReferenceIdeal.τ).loc Cert.MineValuesReferenceIdeal.main_arg2)) (m ((c.tc : Thread Cert.MineValuesReferenceIdeal.nD Cert.MineValuesReferenceIdeal.τ).loc Cert.MineValuesReferenceIdeal.main_arg3))) = (fun _ => 1#1)

def quiescent_Ce [hCe : Cert.Ce.Facts] : Prop :=
  ∀ (m : (ℓ : Loc Cert.Ce.nD Cert.Ce.τ Cert.Ce.sig) → Buf (Elt Bits) ℓ) (g : Dev Cert.Ce.nD → PrngReg), Pre_Ce m →
    θ_run (Cert.Ce.defs (F := Bits)) (onTc (τ := Cert.Ce.τ) (Cert.Ce.main (F := Bits))) ⟨m, fun _ => 0, g⟩ (fun r => (∀ c : Dev Cert.Ce.nD,
      r.2.mem ((c.tc : Thread Cert.Ce.nD Cert.Ce.τ).loc Cert.Ce.main_arg0) = m ((c.tc : Thread Cert.Ce.nD Cert.Ce.τ).loc Cert.Ce.main_arg0)
      ∧ r.2.mem ((c.tc : Thread Cert.Ce.nD Cert.Ce.τ).loc Cert.Ce.main_arg1) = m ((c.tc : Thread Cert.Ce.nD Cert.Ce.τ).loc Cert.Ce.main_arg1))
      ∧ r.2.sem = fun _ => 0)

def quiescent_CeIdeal [hCeIdeal : Cert.CeIdeal.Facts] : Prop :=
  ∀ (m : (ℓ : Loc Cert.CeIdeal.nD Cert.CeIdeal.τ Cert.CeIdeal.sig) → Buf (Elt Ideal) ℓ) (g : Dev Cert.CeIdeal.nD → PrngReg), Pre_CeIdeal m →
    θ_run (Cert.CeIdeal.defs (F := Ideal)) (onTc (τ := Cert.CeIdeal.τ) (Cert.CeIdeal.main (F := Ideal))) ⟨m, fun _ => 0, g⟩ (fun r => (∀ c : Dev Cert.CeIdeal.nD,
      r.2.mem ((c.tc : Thread Cert.CeIdeal.nD Cert.CeIdeal.τ).loc Cert.CeIdeal.main_arg0) = m ((c.tc : Thread Cert.CeIdeal.nD Cert.CeIdeal.τ).loc Cert.CeIdeal.main_arg0)
      ∧ r.2.mem ((c.tc : Thread Cert.CeIdeal.nD Cert.CeIdeal.τ).loc Cert.CeIdeal.main_arg1) = m ((c.tc : Thread Cert.CeIdeal.nD Cert.CeIdeal.τ).loc Cert.CeIdeal.main_arg1))
      ∧ r.2.sem = fun _ => 0)

def quiescent_CeIdeal_pre_class_in_range [hCeIdeal : Cert.CeIdeal.Facts] [hPre_class_in_range : Cert.Pre_class_in_range.Facts] : Prop :=
  ∀ (m : (ℓ : Loc Cert.CeIdeal.nD Cert.CeIdeal.τ Cert.CeIdeal.sig) → Buf (Elt Ideal) ℓ) (g : Dev Cert.CeIdeal.nD → PrngReg), Pre_CeIdeal_class_in_range m →
    θ_run (Cert.CeIdeal.defs (F := Ideal)) (onTc (τ := Cert.CeIdeal.τ) (Cert.CeIdeal.main (F := Ideal))) ⟨m, fun _ => 0, g⟩ (fun r => (∀ c : Dev Cert.CeIdeal.nD,
      r.2.mem ((c.tc : Thread Cert.CeIdeal.nD Cert.CeIdeal.τ).loc Cert.CeIdeal.main_arg0) = m ((c.tc : Thread Cert.CeIdeal.nD Cert.CeIdeal.τ).loc Cert.CeIdeal.main_arg0)
      ∧ r.2.mem ((c.tc : Thread Cert.CeIdeal.nD Cert.CeIdeal.τ).loc Cert.CeIdeal.main_arg1) = m ((c.tc : Thread Cert.CeIdeal.nD Cert.CeIdeal.τ).loc Cert.CeIdeal.main_arg1))
      ∧ r.2.sem = fun _ => 0)

def quiescent_CeReferenceIdeal [hCeReferenceIdeal : Cert.CeReferenceIdeal.Facts] : Prop :=
  ∀ (m : (ℓ : Loc Cert.CeReferenceIdeal.nD Cert.CeReferenceIdeal.τ Cert.CeReferenceIdeal.sig) → Buf (Elt Ideal) ℓ) (g : Dev Cert.CeReferenceIdeal.nD → PrngReg), Pre_CeReferenceIdeal m →
    θ_run (Cert.CeReferenceIdeal.defs (F := Ideal)) (onTc (τ := Cert.CeReferenceIdeal.τ) (Cert.CeReferenceIdeal.main (F := Ideal))) ⟨m, fun _ => 0, g⟩ (fun r => (∀ c : Dev Cert.CeReferenceIdeal.nD,
      r.2.mem ((c.tc : Thread Cert.CeReferenceIdeal.nD Cert.CeReferenceIdeal.τ).loc Cert.CeReferenceIdeal.main_arg0) = m ((c.tc : Thread Cert.CeReferenceIdeal.nD Cert.CeReferenceIdeal.τ).loc Cert.CeReferenceIdeal.main_arg0)
      ∧ r.2.mem ((c.tc : Thread Cert.CeReferenceIdeal.nD Cert.CeReferenceIdeal.τ).loc Cert.CeReferenceIdeal.main_arg1) = m ((c.tc : Thread Cert.CeReferenceIdeal.nD Cert.CeReferenceIdeal.τ).loc Cert.CeReferenceIdeal.main_arg1))
      ∧ r.2.sem = fun _ => 0)

def quiescent_CeReferenceIdeal_pre_class_in_range [hCeReferenceIdeal : Cert.CeReferenceIdeal.Facts] [hPre_class_in_range : Cert.Pre_class_in_range.Facts] : Prop :=
  ∀ (m : (ℓ : Loc Cert.CeReferenceIdeal.nD Cert.CeReferenceIdeal.τ Cert.CeReferenceIdeal.sig) → Buf (Elt Ideal) ℓ) (g : Dev Cert.CeReferenceIdeal.nD → PrngReg), Pre_CeReferenceIdeal_class_in_range m →
    θ_run (Cert.CeReferenceIdeal.defs (F := Ideal)) (onTc (τ := Cert.CeReferenceIdeal.τ) (Cert.CeReferenceIdeal.main (F := Ideal))) ⟨m, fun _ => 0, g⟩ (fun r => (∀ c : Dev Cert.CeReferenceIdeal.nD,
      r.2.mem ((c.tc : Thread Cert.CeReferenceIdeal.nD Cert.CeReferenceIdeal.τ).loc Cert.CeReferenceIdeal.main_arg0) = m ((c.tc : Thread Cert.CeReferenceIdeal.nD Cert.CeReferenceIdeal.τ).loc Cert.CeReferenceIdeal.main_arg0)
      ∧ r.2.mem ((c.tc : Thread Cert.CeReferenceIdeal.nD Cert.CeReferenceIdeal.τ).loc Cert.CeReferenceIdeal.main_arg1) = m ((c.tc : Thread Cert.CeReferenceIdeal.nD Cert.CeReferenceIdeal.τ).loc Cert.CeReferenceIdeal.main_arg1))
      ∧ r.2.sem = fun _ => 0)

def quiescent_Match [hMatch : Cert.Match.Facts] : Prop :=
  ∀ (m : (ℓ : Loc Cert.Match.nD Cert.Match.τ Cert.Match.sig) → Buf (Elt Bits) ℓ) (g : Dev Cert.Match.nD → PrngReg), Pre_Match m →
    θ_run (Cert.Match.defs (F := Bits)) (onTc (τ := Cert.Match.τ) (Cert.Match.main (F := Bits))) ⟨m, fun _ => 0, g⟩ (fun r => (∀ c : Dev Cert.Match.nD,
      r.2.mem ((c.tc : Thread Cert.Match.nD Cert.Match.τ).loc Cert.Match.main_arg0) = m ((c.tc : Thread Cert.Match.nD Cert.Match.τ).loc Cert.Match.main_arg0)
      ∧ r.2.mem ((c.tc : Thread Cert.Match.nD Cert.Match.τ).loc Cert.Match.main_arg1) = m ((c.tc : Thread Cert.Match.nD Cert.Match.τ).loc Cert.Match.main_arg1)
      ∧ r.2.mem ((c.tc : Thread Cert.Match.nD Cert.Match.τ).loc Cert.Match.main_arg2) = m ((c.tc : Thread Cert.Match.nD Cert.Match.τ).loc Cert.Match.main_arg2))
      ∧ r.2.sem = fun _ => 0)

def quiescent_MatchIdeal [hMatchIdeal : Cert.MatchIdeal.Facts] : Prop :=
  ∀ (m : (ℓ : Loc Cert.MatchIdeal.nD Cert.MatchIdeal.τ Cert.MatchIdeal.sig) → Buf (Elt Ideal) ℓ) (g : Dev Cert.MatchIdeal.nD → PrngReg), Pre_MatchIdeal m →
    θ_run (Cert.MatchIdeal.defs (F := Ideal)) (onTc (τ := Cert.MatchIdeal.τ) (Cert.MatchIdeal.main (F := Ideal))) ⟨m, fun _ => 0, g⟩ (fun r => (∀ c : Dev Cert.MatchIdeal.nD,
      r.2.mem ((c.tc : Thread Cert.MatchIdeal.nD Cert.MatchIdeal.τ).loc Cert.MatchIdeal.main_arg0) = m ((c.tc : Thread Cert.MatchIdeal.nD Cert.MatchIdeal.τ).loc Cert.MatchIdeal.main_arg0)
      ∧ r.2.mem ((c.tc : Thread Cert.MatchIdeal.nD Cert.MatchIdeal.τ).loc Cert.MatchIdeal.main_arg1) = m ((c.tc : Thread Cert.MatchIdeal.nD Cert.MatchIdeal.τ).loc Cert.MatchIdeal.main_arg1)
      ∧ r.2.mem ((c.tc : Thread Cert.MatchIdeal.nD Cert.MatchIdeal.τ).loc Cert.MatchIdeal.main_arg2) = m ((c.tc : Thread Cert.MatchIdeal.nD Cert.MatchIdeal.τ).loc Cert.MatchIdeal.main_arg2))
      ∧ r.2.sem = fun _ => 0)

def quiescent_MatchReferenceIdeal [hMatchReferenceIdeal : Cert.MatchReferenceIdeal.Facts] : Prop :=
  ∀ (m : (ℓ : Loc Cert.MatchReferenceIdeal.nD Cert.MatchReferenceIdeal.τ Cert.MatchReferenceIdeal.sig) → Buf (Elt Ideal) ℓ) (g : Dev Cert.MatchReferenceIdeal.nD → PrngReg), Pre_MatchReferenceIdeal m →
    θ_run (Cert.MatchReferenceIdeal.defs (F := Ideal)) (onTc (τ := Cert.MatchReferenceIdeal.τ) (Cert.MatchReferenceIdeal.main (F := Ideal))) ⟨m, fun _ => 0, g⟩ (fun r => (∀ c : Dev Cert.MatchReferenceIdeal.nD,
      r.2.mem ((c.tc : Thread Cert.MatchReferenceIdeal.nD Cert.MatchReferenceIdeal.τ).loc Cert.MatchReferenceIdeal.main_arg0) = m ((c.tc : Thread Cert.MatchReferenceIdeal.nD Cert.MatchReferenceIdeal.τ).loc Cert.MatchReferenceIdeal.main_arg0)
      ∧ r.2.mem ((c.tc : Thread Cert.MatchReferenceIdeal.nD Cert.MatchReferenceIdeal.τ).loc Cert.MatchReferenceIdeal.main_arg1) = m ((c.tc : Thread Cert.MatchReferenceIdeal.nD Cert.MatchReferenceIdeal.τ).loc Cert.MatchReferenceIdeal.main_arg1)
      ∧ r.2.mem ((c.tc : Thread Cert.MatchReferenceIdeal.nD Cert.MatchReferenceIdeal.τ).loc Cert.MatchReferenceIdeal.main_arg2) = m ((c.tc : Thread Cert.MatchReferenceIdeal.nD Cert.MatchReferenceIdeal.τ).loc Cert.MatchReferenceIdeal.main_arg2))
      ∧ r.2.sem = fun _ => 0)

def quiescent_Mine [hMine : Cert.Mine.Facts] : Prop :=
  ∀ (m : (ℓ : Loc Cert.Mine.nD Cert.Mine.τ Cert.Mine.sig) → Buf (Elt Bits) ℓ) (g : Dev Cert.Mine.nD → PrngReg), Pre_Mine m →
    θ_run (Cert.Mine.defs (F := Bits)) (onTc (τ := Cert.Mine.τ) (Cert.Mine.main (F := Bits))) ⟨m, fun _ => 0, g⟩ (fun r => (∀ c : Dev Cert.Mine.nD,
      r.2.mem ((c.tc : Thread Cert.Mine.nD Cert.Mine.τ).loc Cert.Mine.main_arg0) = m ((c.tc : Thread Cert.Mine.nD Cert.Mine.τ).loc Cert.Mine.main_arg0)
      ∧ r.2.mem ((c.tc : Thread Cert.Mine.nD Cert.Mine.τ).loc Cert.Mine.main_arg1) = m ((c.tc : Thread Cert.Mine.nD Cert.Mine.τ).loc Cert.Mine.main_arg1)
      ∧ r.2.mem ((c.tc : Thread Cert.Mine.nD Cert.Mine.τ).loc Cert.Mine.main_arg2) = m ((c.tc : Thread Cert.Mine.nD Cert.Mine.τ).loc Cert.Mine.main_arg2)
      ∧ r.2.mem ((c.tc : Thread Cert.Mine.nD Cert.Mine.τ).loc Cert.Mine.main_arg3) = m ((c.tc : Thread Cert.Mine.nD Cert.Mine.τ).loc Cert.Mine.main_arg3))
      ∧ r.2.sem = fun _ => 0)

def quiescent_MineReference [hMineReference : Cert.MineReference.Facts] : Prop :=
  ∀ (m : (ℓ : Loc Cert.MineReference.nD Cert.MineReference.τ Cert.MineReference.sig) → Buf (Elt Bits) ℓ) (g : Dev Cert.MineReference.nD → PrngReg), Pre_MineReference m →
    θ_run (Cert.MineReference.defs (F := Bits)) (onTc (τ := Cert.MineReference.τ) (Cert.MineReference.main (F := Bits))) ⟨m, fun _ => 0, g⟩ (fun r => (∀ c : Dev Cert.MineReference.nD,
      r.2.mem ((c.tc : Thread Cert.MineReference.nD Cert.MineReference.τ).loc Cert.MineReference.main_arg0) = m ((c.tc : Thread Cert.MineReference.nD Cert.MineReference.τ).loc Cert.MineReference.main_arg0)
      ∧ r.2.mem ((c.tc : Thread Cert.MineReference.nD Cert.MineReference.τ).loc Cert.MineReference.main_arg1) = m ((c.tc : Thread Cert.MineReference.nD Cert.MineReference.τ).loc Cert.MineReference.main_arg1)
      ∧ r.2.mem ((c.tc : Thread Cert.MineReference.nD Cert.MineReference.τ).loc Cert.MineReference.main_arg2) = m ((c.tc : Thread Cert.MineReference.nD Cert.MineReference.τ).loc Cert.MineReference.main_arg2)
      ∧ r.2.mem ((c.tc : Thread Cert.MineReference.nD Cert.MineReference.τ).loc Cert.MineReference.main_arg3) = m ((c.tc : Thread Cert.MineReference.nD Cert.MineReference.τ).loc Cert.MineReference.main_arg3))
      ∧ r.2.sem = fun _ => 0)

def quiescent_MineValues [hMineValues : Cert.MineValues.Facts] : Prop :=
  ∀ (m : (ℓ : Loc Cert.MineValues.nD Cert.MineValues.τ Cert.MineValues.sig) → Buf (Elt Bits) ℓ) (g : Dev Cert.MineValues.nD → PrngReg), Pre_MineValues m →
    θ_run (Cert.MineValues.defs (F := Bits)) (onTc (τ := Cert.MineValues.τ) (Cert.MineValues.main (F := Bits))) ⟨m, fun _ => 0, g⟩ (fun r => (∀ c : Dev Cert.MineValues.nD,
      r.2.mem ((c.tc : Thread Cert.MineValues.nD Cert.MineValues.τ).loc Cert.MineValues.main_arg0) = m ((c.tc : Thread Cert.MineValues.nD Cert.MineValues.τ).loc Cert.MineValues.main_arg0)
      ∧ r.2.mem ((c.tc : Thread Cert.MineValues.nD Cert.MineValues.τ).loc Cert.MineValues.main_arg1) = m ((c.tc : Thread Cert.MineValues.nD Cert.MineValues.τ).loc Cert.MineValues.main_arg1)
      ∧ r.2.mem ((c.tc : Thread Cert.MineValues.nD Cert.MineValues.τ).loc Cert.MineValues.main_arg2) = m ((c.tc : Thread Cert.MineValues.nD Cert.MineValues.τ).loc Cert.MineValues.main_arg2)
      ∧ r.2.mem ((c.tc : Thread Cert.MineValues.nD Cert.MineValues.τ).loc Cert.MineValues.main_arg3) = m ((c.tc : Thread Cert.MineValues.nD Cert.MineValues.τ).loc Cert.MineValues.main_arg3))
      ∧ r.2.sem = fun _ => 0)

def quiescent_MineValuesIdeal [hMineValuesIdeal : Cert.MineValuesIdeal.Facts] : Prop :=
  ∀ (m : (ℓ : Loc Cert.MineValuesIdeal.nD Cert.MineValuesIdeal.τ Cert.MineValuesIdeal.sig) → Buf (Elt Ideal) ℓ) (g : Dev Cert.MineValuesIdeal.nD → PrngReg), Pre_MineValuesIdeal m →
    θ_run (Cert.MineValuesIdeal.defs (F := Ideal)) (onTc (τ := Cert.MineValuesIdeal.τ) (Cert.MineValuesIdeal.main (F := Ideal))) ⟨m, fun _ => 0, g⟩ (fun r => (∀ c : Dev Cert.MineValuesIdeal.nD,
      r.2.mem ((c.tc : Thread Cert.MineValuesIdeal.nD Cert.MineValuesIdeal.τ).loc Cert.MineValuesIdeal.main_arg0) = m ((c.tc : Thread Cert.MineValuesIdeal.nD Cert.MineValuesIdeal.τ).loc Cert.MineValuesIdeal.main_arg0)
      ∧ r.2.mem ((c.tc : Thread Cert.MineValuesIdeal.nD Cert.MineValuesIdeal.τ).loc Cert.MineValuesIdeal.main_arg1) = m ((c.tc : Thread Cert.MineValuesIdeal.nD Cert.MineValuesIdeal.τ).loc Cert.MineValuesIdeal.main_arg1)
      ∧ r.2.mem ((c.tc : Thread Cert.MineValuesIdeal.nD Cert.MineValuesIdeal.τ).loc Cert.MineValuesIdeal.main_arg2) = m ((c.tc : Thread Cert.MineValuesIdeal.nD Cert.MineValuesIdeal.τ).loc Cert.MineValuesIdeal.main_arg2)
      ∧ r.2.mem ((c.tc : Thread Cert.MineValuesIdeal.nD Cert.MineValuesIdeal.τ).loc Cert.MineValuesIdeal.main_arg3) = m ((c.tc : Thread Cert.MineValuesIdeal.nD Cert.MineValuesIdeal.τ).loc Cert.MineValuesIdeal.main_arg3))
      ∧ r.2.sem = fun _ => 0)

def quiescent_MineValuesIdeal_pre_losses_are_floats [hMineValuesIdeal : Cert.MineValuesIdeal.Facts] [hPre_losses_are_floats : Cert.Pre_losses_are_floats.Facts] : Prop :=
  ∀ (m : (ℓ : Loc Cert.MineValuesIdeal.nD Cert.MineValuesIdeal.τ Cert.MineValuesIdeal.sig) → Buf (Elt Ideal) ℓ) (g : Dev Cert.MineValuesIdeal.nD → PrngReg), Pre_MineValuesIdeal_losses_are_floats m →
    θ_run (Cert.MineValuesIdeal.defs (F := Ideal)) (onTc (τ := Cert.MineValuesIdeal.τ) (Cert.MineValuesIdeal.main (F := Ideal))) ⟨m, fun _ => 0, g⟩ (fun r => (∀ c : Dev Cert.MineValuesIdeal.nD,
      r.2.mem ((c.tc : Thread Cert.MineValuesIdeal.nD Cert.MineValuesIdeal.τ).loc Cert.MineValuesIdeal.main_arg0) = m ((c.tc : Thread Cert.MineValuesIdeal.nD Cert.MineValuesIdeal.τ).loc Cert.MineValuesIdeal.main_arg0)
      ∧ r.2.mem ((c.tc : Thread Cert.MineValuesIdeal.nD Cert.MineValuesIdeal.τ).loc Cert.MineValuesIdeal.main_arg1) = m ((c.tc : Thread Cert.MineValuesIdeal.nD Cert.MineValuesIdeal.τ).loc Cert.MineValuesIdeal.main_arg1)
      ∧ r.2.mem ((c.tc : Thread Cert.MineValuesIdeal.nD Cert.MineValuesIdeal.τ).loc Cert.MineValuesIdeal.main_arg2) = m ((c.tc : Thread Cert.MineValuesIdeal.nD Cert.MineValuesIdeal.τ).loc Cert.MineValuesIdeal.main_arg2)
      ∧ r.2.mem ((c.tc : Thread Cert.MineValuesIdeal.nD Cert.MineValuesIdeal.τ).loc Cert.MineValuesIdeal.main_arg3) = m ((c.tc : Thread Cert.MineValuesIdeal.nD Cert.MineValuesIdeal.τ).loc Cert.MineValuesIdeal.main_arg3))
      ∧ r.2.sem = fun _ => 0)

def quiescent_MineValuesReferenceIdeal [hMineValuesReferenceIdeal : Cert.MineValuesReferenceIdeal.Facts] : Prop :=
  ∀ (m : (ℓ : Loc Cert.MineValuesReferenceIdeal.nD Cert.MineValuesReferenceIdeal.τ Cert.MineValuesReferenceIdeal.sig) → Buf (Elt Ideal) ℓ) (g : Dev Cert.MineValuesReferenceIdeal.nD → PrngReg), Pre_MineValuesReferenceIdeal m →
    θ_run (Cert.MineValuesReferenceIdeal.defs (F := Ideal)) (onTc (τ := Cert.MineValuesReferenceIdeal.τ) (Cert.MineValuesReferenceIdeal.main (F := Ideal))) ⟨m, fun _ => 0, g⟩ (fun r => (∀ c : Dev Cert.MineValuesReferenceIdeal.nD,
      r.2.mem ((c.tc : Thread Cert.MineValuesReferenceIdeal.nD Cert.MineValuesReferenceIdeal.τ).loc Cert.MineValuesReferenceIdeal.main_arg0) = m ((c.tc : Thread Cert.MineValuesReferenceIdeal.nD Cert.MineValuesReferenceIdeal.τ).loc Cert.MineValuesReferenceIdeal.main_arg0)
      ∧ r.2.mem ((c.tc : Thread Cert.MineValuesReferenceIdeal.nD Cert.MineValuesReferenceIdeal.τ).loc Cert.MineValuesReferenceIdeal.main_arg1) = m ((c.tc : Thread Cert.MineValuesReferenceIdeal.nD Cert.MineValuesReferenceIdeal.τ).loc Cert.MineValuesReferenceIdeal.main_arg1)
      ∧ r.2.mem ((c.tc : Thread Cert.MineValuesReferenceIdeal.nD Cert.MineValuesReferenceIdeal.τ).loc Cert.MineValuesReferenceIdeal.main_arg2) = m ((c.tc : Thread Cert.MineValuesReferenceIdeal.nD Cert.MineValuesReferenceIdeal.τ).loc Cert.MineValuesReferenceIdeal.main_arg2)
      ∧ r.2.mem ((c.tc : Thread Cert.MineValuesReferenceIdeal.nD Cert.MineValuesReferenceIdeal.τ).loc Cert.MineValuesReferenceIdeal.main_arg3) = m ((c.tc : Thread Cert.MineValuesReferenceIdeal.nD Cert.MineValuesReferenceIdeal.τ).loc Cert.MineValuesReferenceIdeal.main_arg3))
      ∧ r.2.sem = fun _ => 0)

def quiescent_MineValuesReferenceIdeal_pre_losses_are_floats [hMineValuesReferenceIdeal : Cert.MineValuesReferenceIdeal.Facts] [hPre_losses_are_floats : Cert.Pre_losses_are_floats.Facts] : Prop :=
  ∀ (m : (ℓ : Loc Cert.MineValuesReferenceIdeal.nD Cert.MineValuesReferenceIdeal.τ Cert.MineValuesReferenceIdeal.sig) → Buf (Elt Ideal) ℓ) (g : Dev Cert.MineValuesReferenceIdeal.nD → PrngReg), Pre_MineValuesReferenceIdeal_losses_are_floats m →
    θ_run (Cert.MineValuesReferenceIdeal.defs (F := Ideal)) (onTc (τ := Cert.MineValuesReferenceIdeal.τ) (Cert.MineValuesReferenceIdeal.main (F := Ideal))) ⟨m, fun _ => 0, g⟩ (fun r => (∀ c : Dev Cert.MineValuesReferenceIdeal.nD,
      r.2.mem ((c.tc : Thread Cert.MineValuesReferenceIdeal.nD Cert.MineValuesReferenceIdeal.τ).loc Cert.MineValuesReferenceIdeal.main_arg0) = m ((c.tc : Thread Cert.MineValuesReferenceIdeal.nD Cert.MineValuesReferenceIdeal.τ).loc Cert.MineValuesReferenceIdeal.main_arg0)
      ∧ r.2.mem ((c.tc : Thread Cert.MineValuesReferenceIdeal.nD Cert.MineValuesReferenceIdeal.τ).loc Cert.MineValuesReferenceIdeal.main_arg1) = m ((c.tc : Thread Cert.MineValuesReferenceIdeal.nD Cert.MineValuesReferenceIdeal.τ).loc Cert.MineValuesReferenceIdeal.main_arg1)
      ∧ r.2.mem ((c.tc : Thread Cert.MineValuesReferenceIdeal.nD Cert.MineValuesReferenceIdeal.τ).loc Cert.MineValuesReferenceIdeal.main_arg2) = m ((c.tc : Thread Cert.MineValuesReferenceIdeal.nD Cert.MineValuesReferenceIdeal.τ).loc Cert.MineValuesReferenceIdeal.main_arg2)
      ∧ r.2.mem ((c.tc : Thread Cert.MineValuesReferenceIdeal.nD Cert.MineValuesReferenceIdeal.τ).loc Cert.MineValuesReferenceIdeal.main_arg3) = m ((c.tc : Thread Cert.MineValuesReferenceIdeal.nD Cert.MineValuesReferenceIdeal.τ).loc Cert.MineValuesReferenceIdeal.main_arg3))
      ∧ r.2.sem = fun _ => 0)

def preserves_Ce_CeIdeal : Prop :=
  True

def algebraic_CeIdeal_CeReferenceIdeal_pre_class_in_range [hCeIdeal : Cert.CeIdeal.Facts] [hCeReferenceIdeal : Cert.CeReferenceIdeal.Facts] [hPre_class_in_range : Cert.Pre_class_in_range.Facts] : Prop :=
  ∀ (m : (ℓ : Loc Cert.CeIdeal.nD Cert.CeIdeal.τ Cert.CeIdeal.sig) → Buf (Elt Ideal) ℓ) (g : Dev Cert.CeIdeal.nD → PrngReg)
    (m' : (ℓ : Loc Cert.CeReferenceIdeal.nD Cert.CeReferenceIdeal.τ Cert.CeReferenceIdeal.sig) → Buf (Elt Ideal) ℓ) (g' : Dev Cert.CeReferenceIdeal.nD → PrngReg), Pre_CeIdeal_class_in_range m →
    (∀ c : Dev Cert.CeIdeal.nD,
      m' ((c.tc : Thread Cert.CeReferenceIdeal.nD Cert.CeReferenceIdeal.τ).loc Cert.CeReferenceIdeal.main_arg0) = m ((c.tc : Thread Cert.CeIdeal.nD Cert.CeIdeal.τ).loc Cert.CeIdeal.main_arg0)
      ∧ m' ((c.tc : Thread Cert.CeReferenceIdeal.nD Cert.CeReferenceIdeal.τ).loc Cert.CeReferenceIdeal.main_arg1) = m ((c.tc : Thread Cert.CeIdeal.nD Cert.CeIdeal.τ).loc Cert.CeIdeal.main_arg1)) →
    ∃ (v0 : (c : Dev Cert.CeIdeal.nD) → Buf (Elt Ideal) ((c.tc : Thread Cert.CeIdeal.nD Cert.CeIdeal.τ).loc Cert.CeIdeal.main_v2_0)) (v1 : (c : Dev Cert.CeIdeal.nD) → Buf (Elt Ideal) ((c.tc : Thread Cert.CeIdeal.nD Cert.CeIdeal.τ).loc Cert.CeIdeal.main_v2_1)),
      θ_run (Cert.CeIdeal.defs (F := Ideal)) (onTc (τ := Cert.CeIdeal.τ) (Cert.CeIdeal.main (F := Ideal))) ⟨m, fun _ => 0, g⟩ (fun r => ∀ c : Dev Cert.CeIdeal.nD,
          r.2.mem ((c.tc : Thread Cert.CeIdeal.nD Cert.CeIdeal.τ).loc Cert.CeIdeal.main_v2_0) = v0 c
          ∧ r.2.mem ((c.tc : Thread Cert.CeIdeal.nD Cert.CeIdeal.τ).loc Cert.CeIdeal.main_v2_1) = v1 c
          ∧ r.2.mem ((c.tc : Thread Cert.CeIdeal.nD Cert.CeIdeal.τ).loc Cert.CeIdeal.main_arg0) = m ((c.tc : Thread Cert.CeIdeal.nD Cert.CeIdeal.τ).loc Cert.CeIdeal.main_arg0)
          ∧ r.2.mem ((c.tc : Thread Cert.CeIdeal.nD Cert.CeIdeal.τ).loc Cert.CeIdeal.main_arg1) = m ((c.tc : Thread Cert.CeIdeal.nD Cert.CeIdeal.τ).loc Cert.CeIdeal.main_arg1))
      ∧ θ_run (Cert.CeReferenceIdeal.defs (F := Ideal)) (onTc (τ := Cert.CeReferenceIdeal.τ) (Cert.CeReferenceIdeal.main (F := Ideal))) ⟨m', fun _ => 0, g'⟩ (fun r => ∀ c : Dev Cert.CeReferenceIdeal.nD,
          r.2.mem ((c.tc : Thread Cert.CeReferenceIdeal.nD Cert.CeReferenceIdeal.τ).loc Cert.CeReferenceIdeal.main_v26) = v0 c
          ∧ r.2.mem ((c.tc : Thread Cert.CeReferenceIdeal.nD Cert.CeReferenceIdeal.τ).loc Cert.CeReferenceIdeal.main_v27) = v1 c
          ∧ r.2.mem ((c.tc : Thread Cert.CeReferenceIdeal.nD Cert.CeReferenceIdeal.τ).loc Cert.CeReferenceIdeal.main_arg0) = m' ((c.tc : Thread Cert.CeReferenceIdeal.nD Cert.CeReferenceIdeal.τ).loc Cert.CeReferenceIdeal.main_arg0)
          ∧ r.2.mem ((c.tc : Thread Cert.CeReferenceIdeal.nD Cert.CeReferenceIdeal.τ).loc Cert.CeReferenceIdeal.main_arg1) = m' ((c.tc : Thread Cert.CeReferenceIdeal.nD Cert.CeReferenceIdeal.τ).loc Cert.CeReferenceIdeal.main_arg1))

def preserves_Match_MatchIdeal : Prop :=
  True

def algebraic_MatchIdeal_MatchReferenceIdeal [hMatchIdeal : Cert.MatchIdeal.Facts] [hMatchReferenceIdeal : Cert.MatchReferenceIdeal.Facts] : Prop :=
  ∀ (m : (ℓ : Loc Cert.MatchIdeal.nD Cert.MatchIdeal.τ Cert.MatchIdeal.sig) → Buf (Elt Ideal) ℓ) (g : Dev Cert.MatchIdeal.nD → PrngReg)
    (m' : (ℓ : Loc Cert.MatchReferenceIdeal.nD Cert.MatchReferenceIdeal.τ Cert.MatchReferenceIdeal.sig) → Buf (Elt Ideal) ℓ) (g' : Dev Cert.MatchReferenceIdeal.nD → PrngReg), Pre_MatchIdeal m →
    (∀ c : Dev Cert.MatchIdeal.nD,
      m' ((c.tc : Thread Cert.MatchReferenceIdeal.nD Cert.MatchReferenceIdeal.τ).loc Cert.MatchReferenceIdeal.main_arg0) = m ((c.tc : Thread Cert.MatchIdeal.nD Cert.MatchIdeal.τ).loc Cert.MatchIdeal.main_arg0)
      ∧ m' ((c.tc : Thread Cert.MatchReferenceIdeal.nD Cert.MatchReferenceIdeal.τ).loc Cert.MatchReferenceIdeal.main_arg1) = m ((c.tc : Thread Cert.MatchIdeal.nD Cert.MatchIdeal.τ).loc Cert.MatchIdeal.main_arg1)
      ∧ m' ((c.tc : Thread Cert.MatchReferenceIdeal.nD Cert.MatchReferenceIdeal.τ).loc Cert.MatchReferenceIdeal.main_arg2) = m ((c.tc : Thread Cert.MatchIdeal.nD Cert.MatchIdeal.τ).loc Cert.MatchIdeal.main_arg2)) →
    ∃ (v0 : (c : Dev Cert.MatchIdeal.nD) → Buf (Elt Ideal) ((c.tc : Thread Cert.MatchIdeal.nD Cert.MatchIdeal.τ).loc Cert.MatchIdeal.main_v2_0)) (v1 : (c : Dev Cert.MatchIdeal.nD) → Buf (Elt Ideal) ((c.tc : Thread Cert.MatchIdeal.nD Cert.MatchIdeal.τ).loc Cert.MatchIdeal.main_v2_1)) (v2 : (c : Dev Cert.MatchIdeal.nD) → Buf (Elt Ideal) ((c.tc : Thread Cert.MatchIdeal.nD Cert.MatchIdeal.τ).loc Cert.MatchIdeal.main_v2_2)),
      θ_run (Cert.MatchIdeal.defs (F := Ideal)) (onTc (τ := Cert.MatchIdeal.τ) (Cert.MatchIdeal.main (F := Ideal))) ⟨m, fun _ => 0, g⟩ (fun r => ∀ c : Dev Cert.MatchIdeal.nD,
          r.2.mem ((c.tc : Thread Cert.MatchIdeal.nD Cert.MatchIdeal.τ).loc Cert.MatchIdeal.main_v2_0) = v0 c
          ∧ r.2.mem ((c.tc : Thread Cert.MatchIdeal.nD Cert.MatchIdeal.τ).loc Cert.MatchIdeal.main_v2_1) = v1 c
          ∧ r.2.mem ((c.tc : Thread Cert.MatchIdeal.nD Cert.MatchIdeal.τ).loc Cert.MatchIdeal.main_v2_2) = v2 c
          ∧ r.2.mem ((c.tc : Thread Cert.MatchIdeal.nD Cert.MatchIdeal.τ).loc Cert.MatchIdeal.main_arg0) = m ((c.tc : Thread Cert.MatchIdeal.nD Cert.MatchIdeal.τ).loc Cert.MatchIdeal.main_arg0)
          ∧ r.2.mem ((c.tc : Thread Cert.MatchIdeal.nD Cert.MatchIdeal.τ).loc Cert.MatchIdeal.main_arg1) = m ((c.tc : Thread Cert.MatchIdeal.nD Cert.MatchIdeal.τ).loc Cert.MatchIdeal.main_arg1)
          ∧ r.2.mem ((c.tc : Thread Cert.MatchIdeal.nD Cert.MatchIdeal.τ).loc Cert.MatchIdeal.main_arg2) = m ((c.tc : Thread Cert.MatchIdeal.nD Cert.MatchIdeal.τ).loc Cert.MatchIdeal.main_arg2))
      ∧ θ_run (Cert.MatchReferenceIdeal.defs (F := Ideal)) (onTc (τ := Cert.MatchReferenceIdeal.τ) (Cert.MatchReferenceIdeal.main (F := Ideal))) ⟨m', fun _ => 0, g'⟩ (fun r => ∀ c : Dev Cert.MatchReferenceIdeal.nD,
          r.2.mem ((c.tc : Thread Cert.MatchReferenceIdeal.nD Cert.MatchReferenceIdeal.τ).loc Cert.MatchReferenceIdeal.main_v172) = v0 c
          ∧ r.2.mem ((c.tc : Thread Cert.MatchReferenceIdeal.nD Cert.MatchReferenceIdeal.τ).loc Cert.MatchReferenceIdeal.main_v173) = v1 c
          ∧ r.2.mem ((c.tc : Thread Cert.MatchReferenceIdeal.nD Cert.MatchReferenceIdeal.τ).loc Cert.MatchReferenceIdeal.main_v174) = v2 c
          ∧ r.2.mem ((c.tc : Thread Cert.MatchReferenceIdeal.nD Cert.MatchReferenceIdeal.τ).loc Cert.MatchReferenceIdeal.main_arg0) = m' ((c.tc : Thread Cert.MatchReferenceIdeal.nD Cert.MatchReferenceIdeal.τ).loc Cert.MatchReferenceIdeal.main_arg0)
          ∧ r.2.mem ((c.tc : Thread Cert.MatchReferenceIdeal.nD Cert.MatchReferenceIdeal.τ).loc Cert.MatchReferenceIdeal.main_arg1) = m' ((c.tc : Thread Cert.MatchReferenceIdeal.nD Cert.MatchReferenceIdeal.τ).loc Cert.MatchReferenceIdeal.main_arg1)
          ∧ r.2.mem ((c.tc : Thread Cert.MatchReferenceIdeal.nD Cert.MatchReferenceIdeal.τ).loc Cert.MatchReferenceIdeal.main_arg2) = m' ((c.tc : Thread Cert.MatchReferenceIdeal.nD Cert.MatchReferenceIdeal.τ).loc Cert.MatchReferenceIdeal.main_arg2))

def bitexact_Mine_MineReference [hMine : Cert.Mine.Facts] [hMineReference : Cert.MineReference.Facts] : Prop :=
  ∀ (m : (ℓ : Loc Cert.Mine.nD Cert.Mine.τ Cert.Mine.sig) → Buf (Elt Bits) ℓ) (g : Dev Cert.Mine.nD → PrngReg)
    (m' : (ℓ : Loc Cert.MineReference.nD Cert.MineReference.τ Cert.MineReference.sig) → Buf (Elt Bits) ℓ) (g' : Dev Cert.MineReference.nD → PrngReg), Pre_Mine m →
    (∀ c : Dev Cert.Mine.nD,
      m' ((c.tc : Thread Cert.MineReference.nD Cert.MineReference.τ).loc Cert.MineReference.main_arg0) = m ((c.tc : Thread Cert.Mine.nD Cert.Mine.τ).loc Cert.Mine.main_arg0)
      ∧ m' ((c.tc : Thread Cert.MineReference.nD Cert.MineReference.τ).loc Cert.MineReference.main_arg1) = m ((c.tc : Thread Cert.Mine.nD Cert.Mine.τ).loc Cert.Mine.main_arg1)
      ∧ m' ((c.tc : Thread Cert.MineReference.nD Cert.MineReference.τ).loc Cert.MineReference.main_arg2) = m ((c.tc : Thread Cert.Mine.nD Cert.Mine.τ).loc Cert.Mine.main_arg2)
      ∧ m' ((c.tc : Thread Cert.MineReference.nD Cert.MineReference.τ).loc Cert.MineReference.main_arg3) = m ((c.tc : Thread Cert.Mine.nD Cert.Mine.τ).loc Cert.Mine.main_arg3)) →
    ∃ (v0 : (c : Dev Cert.Mine.nD) → Buf (Elt Bits) ((c.tc : Thread Cert.Mine.nD Cert.Mine.τ).loc Cert.Mine.main_v2_0)),
      θ_run (Cert.Mine.defs (F := Bits)) (onTc (τ := Cert.Mine.τ) (Cert.Mine.main (F := Bits))) ⟨m, fun _ => 0, g⟩ (fun r => ∀ c : Dev Cert.Mine.nD,
          r.2.mem ((c.tc : Thread Cert.Mine.nD Cert.Mine.τ).loc Cert.Mine.main_v2_0) = v0 c
          ∧ r.2.mem ((c.tc : Thread Cert.Mine.nD Cert.Mine.τ).loc Cert.Mine.main_arg0) = m ((c.tc : Thread Cert.Mine.nD Cert.Mine.τ).loc Cert.Mine.main_arg0)
          ∧ r.2.mem ((c.tc : Thread Cert.Mine.nD Cert.Mine.τ).loc Cert.Mine.main_arg1) = m ((c.tc : Thread Cert.Mine.nD Cert.Mine.τ).loc Cert.Mine.main_arg1)
          ∧ r.2.mem ((c.tc : Thread Cert.Mine.nD Cert.Mine.τ).loc Cert.Mine.main_arg2) = m ((c.tc : Thread Cert.Mine.nD Cert.Mine.τ).loc Cert.Mine.main_arg2)
          ∧ r.2.mem ((c.tc : Thread Cert.Mine.nD Cert.Mine.τ).loc Cert.Mine.main_arg3) = m ((c.tc : Thread Cert.Mine.nD Cert.Mine.τ).loc Cert.Mine.main_arg3))
      ∧ θ_run (Cert.MineReference.defs (F := Bits)) (onTc (τ := Cert.MineReference.τ) (Cert.MineReference.main (F := Bits))) ⟨m', fun _ => 0, g'⟩ (fun r => ∀ c : Dev Cert.MineReference.nD,
          r.2.mem ((c.tc : Thread Cert.MineReference.nD Cert.MineReference.τ).loc Cert.MineReference.main_v0) = v0 c
          ∧ r.2.mem ((c.tc : Thread Cert.MineReference.nD Cert.MineReference.τ).loc Cert.MineReference.main_arg0) = m' ((c.tc : Thread Cert.MineReference.nD Cert.MineReference.τ).loc Cert.MineReference.main_arg0)
          ∧ r.2.mem ((c.tc : Thread Cert.MineReference.nD Cert.MineReference.τ).loc Cert.MineReference.main_arg1) = m' ((c.tc : Thread Cert.MineReference.nD Cert.MineReference.τ).loc Cert.MineReference.main_arg1)
          ∧ r.2.mem ((c.tc : Thread Cert.MineReference.nD Cert.MineReference.τ).loc Cert.MineReference.main_arg2) = m' ((c.tc : Thread Cert.MineReference.nD Cert.MineReference.τ).loc Cert.MineReference.main_arg2)
          ∧ r.2.mem ((c.tc : Thread Cert.MineReference.nD Cert.MineReference.τ).loc Cert.MineReference.main_arg3) = m' ((c.tc : Thread Cert.MineReference.nD Cert.MineReference.τ).loc Cert.MineReference.main_arg3))

def preserves_MineValues_MineValuesIdeal : Prop :=
  True

def algebraic_MineValuesIdeal_MineValuesReferenceIdeal_pre_losses_are_floats [hMineValuesIdeal : Cert.MineValuesIdeal.Facts] [hMineValuesReferenceIdeal : Cert.MineValuesReferenceIdeal.Facts] [hPre_losses_are_floats : Cert.Pre_losses_are_floats.Facts] : Prop :=
  ∀ (m : (ℓ : Loc Cert.MineValuesIdeal.nD Cert.MineValuesIdeal.τ Cert.MineValuesIdeal.sig) → Buf (Elt Ideal) ℓ) (g : Dev Cert.MineValuesIdeal.nD → PrngReg)
    (m' : (ℓ : Loc Cert.MineValuesReferenceIdeal.nD Cert.MineValuesReferenceIdeal.τ Cert.MineValuesReferenceIdeal.sig) → Buf (Elt Ideal) ℓ) (g' : Dev Cert.MineValuesReferenceIdeal.nD → PrngReg), Pre_MineValuesIdeal_losses_are_floats m →
    (∀ c : Dev Cert.MineValuesIdeal.nD,
      m' ((c.tc : Thread Cert.MineValuesReferenceIdeal.nD Cert.MineValuesReferenceIdeal.τ).loc Cert.MineValuesReferenceIdeal.main_arg0) = m ((c.tc : Thread Cert.MineValuesIdeal.nD Cert.MineValuesIdeal.τ).loc Cert.MineValuesIdeal.main_arg0)
      ∧ m' ((c.tc : Thread Cert.MineValuesReferenceIdeal.nD Cert.MineValuesReferenceIdeal.τ).loc Cert.MineValuesReferenceIdeal.main_arg1) = m ((c.tc : Thread Cert.MineValuesIdeal.nD Cert.MineValuesIdeal.τ).loc Cert.MineValuesIdeal.main_arg1)
      ∧ m' ((c.tc : Thread Cert.MineValuesReferenceIdeal.nD Cert.MineValuesReferenceIdeal.τ).loc Cert.MineValuesReferenceIdeal.main_arg2) = m ((c.tc : Thread Cert.MineValuesIdeal.nD Cert.MineValuesIdeal.τ).loc Cert.MineValuesIdeal.main_arg2)
      ∧ m' ((c.tc : Thread Cert.MineValuesReferenceIdeal.nD Cert.MineValuesReferenceIdeal.τ).loc Cert.MineValuesReferenceIdeal.main_arg3) = m ((c.tc : Thread Cert.MineValuesIdeal.nD Cert.MineValuesIdeal.τ).loc Cert.MineValuesIdeal.main_arg3)) →
    ∃ (v0 : (c : Dev Cert.MineValuesIdeal.nD) → Buf (Elt Ideal) ((c.tc : Thread Cert.MineValuesIdeal.nD Cert.MineValuesIdeal.τ).loc Cert.MineValuesIdeal.main_v2_0)) (v1 : (c : Dev Cert.MineValuesIdeal.nD) → Buf (Elt Ideal) ((c.tc : Thread Cert.MineValuesIdeal.nD Cert.MineValuesIdeal.τ).loc Cert.MineValuesIdeal.main_v2_1)),
      θ_run (Cert.MineValuesIdeal.defs (F := Ideal)) (onTc (τ := Cert.MineValuesIdeal.τ) (Cert.MineValuesIdeal.main (F := Ideal))) ⟨m, fun _ => 0, g⟩ (fun r => ∀ c : Dev Cert.MineValuesIdeal.nD,
          r.2.mem ((c.tc : Thread Cert.MineValuesIdeal.nD Cert.MineValuesIdeal.τ).loc Cert.MineValuesIdeal.main_v2_0) = v0 c
          ∧ r.2.mem ((c.tc : Thread Cert.MineValuesIdeal.nD Cert.MineValuesIdeal.τ).loc Cert.MineValuesIdeal.main_v2_1) = v1 c
          ∧ r.2.mem ((c.tc : Thread Cert.MineValuesIdeal.nD Cert.MineValuesIdeal.τ).loc Cert.MineValuesIdeal.main_arg0) = m ((c.tc : Thread Cert.MineValuesIdeal.nD Cert.MineValuesIdeal.τ).loc Cert.MineValuesIdeal.main_arg0)
          ∧ r.2.mem ((c.tc : Thread Cert.MineValuesIdeal.nD Cert.MineValuesIdeal.τ).loc Cert.MineValuesIdeal.main_arg1) = m ((c.tc : Thread Cert.MineValuesIdeal.nD Cert.MineValuesIdeal.τ).loc Cert.MineValuesIdeal.main_arg1)
          ∧ r.2.mem ((c.tc : Thread Cert.MineValuesIdeal.nD Cert.MineValuesIdeal.τ).loc Cert.MineValuesIdeal.main_arg2) = m ((c.tc : Thread Cert.MineValuesIdeal.nD Cert.MineValuesIdeal.τ).loc Cert.MineValuesIdeal.main_arg2)
          ∧ r.2.mem ((c.tc : Thread Cert.MineValuesIdeal.nD Cert.MineValuesIdeal.τ).loc Cert.MineValuesIdeal.main_arg3) = m ((c.tc : Thread Cert.MineValuesIdeal.nD Cert.MineValuesIdeal.τ).loc Cert.MineValuesIdeal.main_arg3))
      ∧ θ_run (Cert.MineValuesReferenceIdeal.defs (F := Ideal)) (onTc (τ := Cert.MineValuesReferenceIdeal.τ) (Cert.MineValuesReferenceIdeal.main (F := Ideal))) ⟨m', fun _ => 0, g'⟩ (fun r => ∀ c : Dev Cert.MineValuesReferenceIdeal.nD,
          r.2.mem ((c.tc : Thread Cert.MineValuesReferenceIdeal.nD Cert.MineValuesReferenceIdeal.τ).loc Cert.MineValuesReferenceIdeal.main_v18) = v0 c
          ∧ r.2.mem ((c.tc : Thread Cert.MineValuesReferenceIdeal.nD Cert.MineValuesReferenceIdeal.τ).loc Cert.MineValuesReferenceIdeal.main_v20) = v1 c
          ∧ r.2.mem ((c.tc : Thread Cert.MineValuesReferenceIdeal.nD Cert.MineValuesReferenceIdeal.τ).loc Cert.MineValuesReferenceIdeal.main_arg0) = m' ((c.tc : Thread Cert.MineValuesReferenceIdeal.nD Cert.MineValuesReferenceIdeal.τ).loc Cert.MineValuesReferenceIdeal.main_arg0)
          ∧ r.2.mem ((c.tc : Thread Cert.MineValuesReferenceIdeal.nD Cert.MineValuesReferenceIdeal.τ).loc Cert.MineValuesReferenceIdeal.main_arg1) = m' ((c.tc : Thread Cert.MineValuesReferenceIdeal.nD Cert.MineValuesReferenceIdeal.τ).loc Cert.MineValuesReferenceIdeal.main_arg1)
          ∧ r.2.mem ((c.tc : Thread Cert.MineValuesReferenceIdeal.nD Cert.MineValuesReferenceIdeal.τ).loc Cert.MineValuesReferenceIdeal.main_arg2) = m' ((c.tc : Thread Cert.MineValuesReferenceIdeal.nD Cert.MineValuesReferenceIdeal.τ).loc Cert.MineValuesReferenceIdeal.main_arg2)
          ∧ r.2.mem ((c.tc : Thread Cert.MineValuesReferenceIdeal.nD Cert.MineValuesReferenceIdeal.τ).loc Cert.MineValuesReferenceIdeal.main_arg3) = m' ((c.tc : Thread Cert.MineValuesReferenceIdeal.nD Cert.MineValuesReferenceIdeal.τ).loc Cert.MineValuesReferenceIdeal.main_arg3))

def Claim : Prop :=
  ∃ (hCe : Cert.Ce.Facts) (hCeIdeal : Cert.CeIdeal.Facts) (hCeReferenceIdeal : Cert.CeReferenceIdeal.Facts) (hMatch : Cert.Match.Facts) (hMatchIdeal : Cert.MatchIdeal.Facts) (hMatchReferenceIdeal : Cert.MatchReferenceIdeal.Facts) (hMine : Cert.Mine.Facts) (hMineReference : Cert.MineReference.Facts) (hMineValues : Cert.MineValues.Facts) (hMineValuesIdeal : Cert.MineValuesIdeal.Facts) (hMineValuesReferenceIdeal : Cert.MineValuesReferenceIdeal.Facts) (hPre_class_in_range : Cert.Pre_class_in_range.Facts) (hPre_losses_are_floats : Cert.Pre_losses_are_floats.Facts),
    quiescent_Ce (hCe := hCe)
    ∧ quiescent_CeIdeal (hCeIdeal := hCeIdeal)
    ∧ quiescent_CeIdeal_pre_class_in_range (hCeIdeal := hCeIdeal) (hPre_class_in_range := hPre_class_in_range)
    ∧ quiescent_CeReferenceIdeal (hCeReferenceIdeal := hCeReferenceIdeal)
    ∧ quiescent_CeReferenceIdeal_pre_class_in_range (hCeReferenceIdeal := hCeReferenceIdeal) (hPre_class_in_range := hPre_class_in_range)
    ∧ quiescent_Match (hMatch := hMatch)
    ∧ quiescent_MatchIdeal (hMatchIdeal := hMatchIdeal)
    ∧ quiescent_MatchReferenceIdeal (hMatchReferenceIdeal := hMatchReferenceIdeal)
    ∧ quiescent_Mine (hMine := hMine)
    ∧ quiescent_MineReference (hMineReference := hMineReference)
    ∧ quiescent_MineValues (hMineValues := hMineValues)
    ∧ quiescent_MineValuesIdeal (hMineValuesIdeal := hMineValuesIdeal)
    ∧ quiescent_MineValuesIdeal_pre_losses_are_floats (hMineValuesIdeal := hMineValuesIdeal) (hPre_losses_are_floats := hPre_losses_are_floats)
    ∧ quiescent_MineValuesReferenceIdeal (hMineValuesReferenceIdeal := hMineValuesReferenceIdeal)
    ∧ quiescent_MineValuesReferenceIdeal_pre_losses_are_floats (hMineValuesReferenceIdeal := hMineValuesReferenceIdeal) (hPre_losses_are_floats := hPre_losses_are_floats)
    ∧ preserves_Ce_CeIdeal
    ∧ algebraic_CeIdeal_CeReferenceIdeal_pre_class_in_range (hCeIdeal := hCeIdeal) (hCeReferenceIdeal := hCeReferenceIdeal) (hPre_class_in_range := hPre_class_in_range)
    ∧ preserves_Match_MatchIdeal
    ∧ algebraic_MatchIdeal_MatchReferenceIdeal (hMatchIdeal := hMatchIdeal) (hMatchReferenceIdeal := hMatchReferenceIdeal)
    ∧ bitexact_Mine_MineReference (hMine := hMine) (hMineReference := hMineReference)
    ∧ preserves_MineValues_MineValuesIdeal
    ∧ algebraic_MineValuesIdeal_MineValuesReferenceIdeal_pre_losses_are_floats (hMineValuesIdeal := hMineValuesIdeal) (hMineValuesReferenceIdeal := hMineValuesReferenceIdeal) (hPre_losses_are_floats := hPre_losses_are_floats)
-- ==== Pre_class_in_range.lean ====
abbrev S16x24564x81 : Shape := ⟨3, ![16, 24564, 81]⟩
abbrev S16x1x24564 : Shape := ⟨3, ![16, 1, 24564]⟩
abbrev S_ : Shape := ⟨0, ![]⟩

class Facts : Prop where
  bcast_S_S16x1x24564 : S_.BroadcastsInDim S16x1x24564 (![] : Fin 0 → Fin S16x1x24564.rank)

variable [Facts]

def fn {F : FTy → Type} [FloatOps F] (main_arg0 : FVec F S16x24564x81 .f32) (main_arg1 : IVec S16x1x24564 32) : IVec S16x1x24564 1 :=
  let main_c : IVec S_ 32 := constantI S_ 32 0#32
  let main_v0 : IVec S16x1x24564 32 := broadcastInDim S16x1x24564 ![] bcast_S_S16x1x24564 main_c
  let main_v1 : IVec S16x1x24564 1 := cmpi .sge main_arg1 main_v0
  let main_c_0 : IVec S_ 32 := constantI S_ 32 81#32
  let main_v2 : IVec S16x1x24564 32 := broadcastInDim S16x1x24564 ![] bcast_S_S16x1x24564 main_c_0
  let main_v3 : IVec S16x1x24564 1 := cmpi .slt main_arg1 main_v2
  let main_v4 : IVec S16x1x24564 1 := andi main_v1 main_v3
  main_v4
-- ==== Pre_losses_are_floats.lean ====
abbrev S16x6141x4 : Shape := ⟨3, ![16, 6141, 4]⟩
abbrev S16x1x1 : Shape := ⟨3, ![16, 1, 1]⟩
abbrev S1x1 : Shape := ⟨2, ![1, 1]⟩
abbrev S_ : Shape := ⟨0, ![]⟩

class Facts : Prop where
  bcast_S_S16x6141x4 : S_.BroadcastsInDim S16x6141x4 (![] : Fin 0 → Fin S16x6141x4.rank)

variable [Facts]

def fn_where {F : FTy → Type} [FloatOps F] (arg0 : IVec S16x6141x4 1) (arg1 : FVec F S16x6141x4 .f32) (arg2 : FVec F S16x6141x4 .f32) : FVec F S16x6141x4 .f32 :=
  let v0 : FVec F S16x6141x4 .f32 := select arg0 arg1 arg2
  v0

def fn_where_0 {F : FTy → Type} [FloatOps F] (arg0 : IVec S16x6141x4 1) (arg1 : IVec S16x6141x4 32) (arg2 : IVec S16x6141x4 32) : IVec S16x6141x4 32 :=
  let v0 : IVec S16x6141x4 32 := select arg0 arg1 arg2
  v0

def fn_where_1 {F : FTy → Type} [FloatOps F] (arg0 : IVec S16x6141x4 1) (arg1 : FVec F S16x6141x4 .f32) (arg2 : FVec F S16x6141x4 .f32) : FVec F S16x6141x4 .f32 :=
  let v0 : FVec F S16x6141x4 .f32 := select arg0 arg1 arg2
  v0

def fn_where_2 {F : FTy → Type} [FloatOps F] (arg0 : IVec S16x6141x4 1) (arg1 : IVec S_ 32) (arg2 : IVec S16x6141x4 32) : IVec S16x6141x4 32 :=
  let v0 : IVec S_ 32 := id arg1
  let v1 : IVec S16x6141x4 32 := broadcastInDim S16x6141x4 ![] bcast_S_S16x6141x4 v0
  let v2 : IVec S16x6141x4 32 := select arg0 v1 arg2
  v2

def fn_where_3 {F : FTy → Type} [FloatOps F] (arg0 : IVec S16x6141x4 1) (arg1 : FVec F S_ .f32) (arg2 : FVec F S16x6141x4 .f32) : FVec F S16x6141x4 .f32 :=
  let v0 : FVec F S_ .f32 := id arg1
  let v1 : FVec F S16x6141x4 .f32 := broadcastInDim S16x6141x4 ![] bcast_S_S16x6141x4 v0
  let v2 : FVec F S16x6141x4 .f32 := select arg0 v1 arg2
  v2

def fn_part14 {F : FTy → Type} [FloatOps F] (main_arg0 : FVec F S16x6141x4 .f32) (main_v123 : IVec S16x6141x4 32) (main_v128 : IVec S16x6141x4 1) (main_v239 : FVec F S16x6141x4 .f32) (main_v242 : IVec S16x6141x4 32) : IVec S16x6141x4 1 :=
  let main_c_91 : IVec S_ 32 := constantI S_ 32 126#32
  let main_v243 : IVec S16x6141x4 32 := broadcastInDim S16x6141x4 ![] bcast_S_S16x6141x4 main_c_91
  let main_v244 : IVec S16x6141x4 1 := cmpi .sle main_v242 main_v243
  let main_cst_92 : FVec F S_ .f32 := constant S_ .f32 0x3F000000#32
  let main_v245 : FVec F S16x6141x4 .f32 := broadcastInDim S16x6141x4 ![] bcast_S_S16x6141x4 main_cst_92
  let main_v246 : FVec F S16x6141x4 .f32 := mulf main_v239 main_v245
  let main_v247 : FVec F S16x6141x4 .f32 := fn_where_1 (F := F) main_v244 main_v246 main_v239
  let main_c_93 : IVec S_ 32 := constantI S_ 32 1#32
  let main_v248 : IVec S16x6141x4 32 := broadcastInDim S16x6141x4 ![] bcast_S_S16x6141x4 main_c_93
  let main_v249 : IVec S16x6141x4 32 := addi main_v242 main_v248
  let main_v250 : IVec S16x6141x4 32 := fn_where_0 (F := F) main_v244 main_v249 main_v242
  let main_c_94 : IVec S_ 32 := constantI S_ 32 8388608#32
  let main_v251 : IVec S16x6141x4 32 := broadcastInDim S16x6141x4 ![] bcast_S_S16x6141x4 main_c_94
  let main_v252 : IVec S16x6141x4 1 := cmpi .slt main_v123 main_v251
  let main_cst_95 : FVec F S_ .f32 := constant S_ .f32 0x00000000#32
  let main_v253 : FVec F S16x6141x4 .f32 := fn_where_3 (F := F) main_v252 main_cst_95 main_v247
  let main_v254 : IVec S16x6141x4 1 := cmpf .oeq main_v253 main_arg0
  let main_v255 : IVec S16x6141x4 1 := andi main_v128 main_v254
  main_v255

def fn_part13 {F : FTy → Type} [FloatOps F] (main_arg0 : FVec F S16x6141x4 .f32) (main_v123 : IVec S16x6141x4 32) (main_v128 : IVec S16x6141x4 1) (main_v218 : IVec S16x6141x4 32) (main_v220 : IVec S16x6141x4 1) (main_v223 : FVec F S16x6141x4 .f32) (main_v224 : IVec S16x6141x4 32) : IVec S16x6141x4 1 :=
  let main_v225 : IVec S16x6141x4 32 := addi main_v218 main_v224
  let main_v226 : IVec S16x6141x4 32 := fn_where_0 (F := F) main_v220 main_v225 main_v218
  let main_c_85 : IVec S_ 32 := constantI S_ 32 123#32
  let main_v227 : IVec S16x6141x4 32 := broadcastInDim S16x6141x4 ![] bcast_S_S16x6141x4 main_c_85
  let main_v228 : IVec S16x6141x4 1 := cmpi .sle main_v226 main_v227
  let main_cst_86 : FVec F S_ .f32 := constant S_ .f32 0x3D800000#32
  let main_v229 : FVec F S16x6141x4 .f32 := broadcastInDim S16x6141x4 ![] bcast_S_S16x6141x4 main_cst_86
  let main_v230 : FVec F S16x6141x4 .f32 := mulf main_v223 main_v229
  let main_v231 : FVec F S16x6141x4 .f32 := fn_where_1 (F := F) main_v228 main_v230 main_v223
  let main_c_87 : IVec S_ 32 := constantI S_ 32 4#32
  let main_v232 : IVec S16x6141x4 32 := broadcastInDim S16x6141x4 ![] bcast_S_S16x6141x4 main_c_87
  let main_v233 : IVec S16x6141x4 32 := addi main_v226 main_v232
  let main_v234 : IVec S16x6141x4 32 := fn_where_0 (F := F) main_v228 main_v233 main_v226
  let main_c_88 : IVec S_ 32 := constantI S_ 32 125#32
  let main_v235 : IVec S16x6141x4 32 := broadcastInDim S16x6141x4 ![] bcast_S_S16x6141x4 main_c_88
  let main_v236 : IVec S16x6141x4 1 := cmpi .sle main_v234 main_v235
  let main_cst_89 : FVec F S_ .f32 := constant S_ .f32 0x3E800000#32
  let main_v237 : FVec F S16x6141x4 .f32 := broadcastInDim S16x6141x4 ![] bcast_S_S16x6141x4 main_cst_89
  let main_v238 : FVec F S16x6141x4 .f32 := mulf main_v231 main_v237
  let main_v239 : FVec F S16x6141x4 .f32 := fn_where_1 (F := F) main_v236 main_v238 main_v231
  let main_c_90 : IVec S_ 32 := constantI S_ 32 2#32
  let main_v240 : IVec S16x6141x4 32 := broadcastInDim S16x6141x4 ![] bcast_S_S16x6141x4 main_c_90
  let main_v241 : IVec S16x6141x4 32 := addi main_v234 main_v240
  let main_v242 : IVec S16x6141x4 32 := fn_where_0 (F := F) main_v236 main_v241 main_v234
  fn_part14 (F := F) main_arg0 main_v123 main_v128 main_v239 main_v242

def fn_part12 {F : FTy → Type} [FloatOps F] (main_arg0 : FVec F S16x6141x4 .f32) (main_v123 : IVec S16x6141x4 32) (main_v128 : IVec S16x6141x4 1) (main_v202 : IVec S16x6141x4 32) (main_v204 : IVec S16x6141x4 1) (main_v207 : FVec F S16x6141x4 .f32) : IVec S16x6141x4 1 :=
  let main_c_78 : IVec S_ 32 := constantI S_ 32 32#32
  let main_v208 : IVec S16x6141x4 32 := broadcastInDim S16x6141x4 ![] bcast_S_S16x6141x4 main_c_78
  let main_v209 : IVec S16x6141x4 32 := addi main_v202 main_v208
  let main_v210 : IVec S16x6141x4 32 := fn_where_0 (F := F) main_v204 main_v209 main_v202
  let main_c_79 : IVec S_ 32 := constantI S_ 32 111#32
  let main_v211 : IVec S16x6141x4 32 := broadcastInDim S16x6141x4 ![] bcast_S_S16x6141x4 main_c_79
  let main_v212 : IVec S16x6141x4 1 := cmpi .sle main_v210 main_v211
  let main_cst_80 : FVec F S_ .f32 := constant S_ .f32 0x37800000#32
  let main_v213 : FVec F S16x6141x4 .f32 := broadcastInDim S16x6141x4 ![] bcast_S_S16x6141x4 main_cst_80
  let main_v214 : FVec F S16x6141x4 .f32 := mulf main_v207 main_v213
  let main_v215 : FVec F S16x6141x4 .f32 := fn_where_1 (F := F) main_v212 main_v214 main_v207
  let main_c_81 : IVec S_ 32 := constantI S_ 32 16#32
  let main_v216 : IVec S16x6141x4 32 := broadcastInDim S16x6141x4 ![] bcast_S_S16x6141x4 main_c_81
  let main_v217 : IVec S16x6141x4 32 := addi main_v210 main_v216
  let main_v218 : IVec S16x6141x4 32 := fn_where_0 (F := F) main_v212 main_v217 main_v210
  let main_c_82 : IVec S_ 32 := constantI S_ 32 119#32
  let main_v219 : IVec S16x6141x4 32 := broadcastInDim S16x6141x4 ![] bcast_S_S16x6141x4 main_c_82
  let main_v220 : IVec S16x6141x4 1 := cmpi .sle main_v218 main_v219
  let main_cst_83 : FVec F S_ .f32 := constant S_ .f32 0x3B800000#32
  let main_v221 : FVec F S16x6141x4 .f32 := broadcastInDim S16x6141x4 ![] bcast_S_S16x6141x4 main_cst_83
  let main_v222 : FVec F S16x6141x4 .f32 := mulf main_v215 main_v221
  let main_v223 : FVec F S16x6141x4 .f32 := fn_where_1 (F := F) main_v220 main_v222 main_v215
  let main_c_84 : IVec S_ 32 := constantI S_ 32 8#32
  let main_v224 : IVec S16x6141x4 32 := broadcastInDim S16x6141x4 ![] bcast_S_S16x6141x4 main_c_84
  fn_part13 (F := F) main_arg0 main_v123 main_v128 main_v218 main_v220 main_v223 main_v224

def fn_part11 {F : FTy → Type} [FloatOps F] (main_arg0 : FVec F S16x6141x4 .f32) (main_v123 : IVec S16x6141x4 32) (main_v128 : IVec S16x6141x4 1) (main_v183 : FVec F S16x6141x4 .f32) (main_v186 : IVec S16x6141x4 32) (main_v188 : IVec S16x6141x4 1) (main_v189 : FVec F S16x6141x4 .f32) : IVec S16x6141x4 1 :=
  let main_v190 : FVec F S16x6141x4 .f32 := mulf main_v183 main_v189
  let main_v191 : FVec F S16x6141x4 .f32 := fn_where_1 (F := F) main_v188 main_v190 main_v183
  let main_c_72 : IVec S_ 32 := constantI S_ 32 1#32
  let main_v192 : IVec S16x6141x4 32 := broadcastInDim S16x6141x4 ![] bcast_S_S16x6141x4 main_c_72
  let main_v193 : IVec S16x6141x4 32 := subi main_v186 main_v192
  let main_v194 : IVec S16x6141x4 32 := fn_where_0 (F := F) main_v188 main_v193 main_v186
  let main_c_73 : IVec S_ 32 := constantI S_ 32 63#32
  let main_v195 : IVec S16x6141x4 32 := broadcastInDim S16x6141x4 ![] bcast_S_S16x6141x4 main_c_73
  let main_v196 : IVec S16x6141x4 1 := cmpi .sle main_v194 main_v195
  let main_cst_74 : FVec F S_ .f32 := constant S_ .f32 0x1F800000#32
  let main_v197 : FVec F S16x6141x4 .f32 := broadcastInDim S16x6141x4 ![] bcast_S_S16x6141x4 main_cst_74
  let main_v198 : FVec F S16x6141x4 .f32 := mulf main_v191 main_v197
  let main_v199 : FVec F S16x6141x4 .f32 := fn_where_1 (F := F) main_v196 main_v198 main_v191
  let main_c_75 : IVec S_ 32 := constantI S_ 32 64#32
  let main_v200 : IVec S16x6141x4 32 := broadcastInDim S16x6141x4 ![] bcast_S_S16x6141x4 main_c_75
  let main_v201 : IVec S16x6141x4 32 := addi main_v194 main_v200
  let main_v202 : IVec S16x6141x4 32 := fn_where_0 (F := F) main_v196 main_v201 main_v194
  let main_c_76 : IVec S_ 32 := constantI S_ 32 95#32
  let main_v203 : IVec S16x6141x4 32 := broadcastInDim S16x6141x4 ![] bcast_S_S16x6141x4 main_c_76
  let main_v204 : IVec S16x6141x4 1 := cmpi .sle main_v202 main_v203
  let main_cst_77 : FVec F S_ .f32 := constant S_ .f32 0x2F800000#32
  let main_v205 : FVec F S16x6141x4 .f32 := broadcastInDim S16x6141x4 ![] bcast_S_S16x6141x4 main_cst_77
  let main_v206 : FVec F S16x6141x4 .f32 := mulf main_v199 main_v205
  let main_v207 : FVec F S16x6141x4 .f32 := fn_where_1 (F := F) main_v204 main_v206 main_v199
  fn_part12 (F := F) main_arg0 main_v123 main_v128 main_v202 main_v204 main_v207

def fn_part10 {F : FTy → Type} [FloatOps F] (main_arg0 : FVec F S16x6141x4 .f32) (main_v123 : IVec S16x6141x4 32) (main_v128 : IVec S16x6141x4 1) (main_v167 : FVec F S16x6141x4 .f32) (main_v170 : IVec S16x6141x4 32) (main_v172 : IVec S16x6141x4 1) : IVec S16x6141x4 1 :=
  let main_cst_65 : FVec F S_ .f32 := constant S_ .f32 0x41800000#32
  let main_v173 : FVec F S16x6141x4 .f32 := broadcastInDim S16x6141x4 ![] bcast_S_S16x6141x4 main_cst_65
  let main_v174 : FVec F S16x6141x4 .f32 := mulf main_v167 main_v173
  let main_v175 : FVec F S16x6141x4 .f32 := fn_where_1 (F := F) main_v172 main_v174 main_v167
  let main_c_66 : IVec S_ 32 := constantI S_ 32 4#32
  let main_v176 : IVec S16x6141x4 32 := broadcastInDim S16x6141x4 ![] bcast_S_S16x6141x4 main_c_66
  let main_v177 : IVec S16x6141x4 32 := subi main_v170 main_v176
  let main_v178 : IVec S16x6141x4 32 := fn_where_0 (F := F) main_v172 main_v177 main_v170
  let main_c_67 : IVec S_ 32 := constantI S_ 32 129#32
  let main_v179 : IVec S16x6141x4 32 := broadcastInDim S16x6141x4 ![] bcast_S_S16x6141x4 main_c_67
  let main_v180 : IVec S16x6141x4 1 := cmpi .sge main_v178 main_v179
  let main_cst_68 : FVec F S_ .f32 := constant S_ .f32 0x40800000#32
  let main_v181 : FVec F S16x6141x4 .f32 := broadcastInDim S16x6141x4 ![] bcast_S_S16x6141x4 main_cst_68
  let main_v182 : FVec F S16x6141x4 .f32 := mulf main_v175 main_v181
  let main_v183 : FVec F S16x6141x4 .f32 := fn_where_1 (F := F) main_v180 main_v182 main_v175
  let main_c_69 : IVec S_ 32 := constantI S_ 32 2#32
  let main_v184 : IVec S16x6141x4 32 := broadcastInDim S16x6141x4 ![] bcast_S_S16x6141x4 main_c_69
  let main_v185 : IVec S16x6141x4 32 := subi main_v178 main_v184
  let main_v186 : IVec S16x6141x4 32 := fn_where_0 (F := F) main_v180 main_v185 main_v178
  let main_c_70 : IVec S_ 32 := constantI S_ 32 128#32
  let main_v187 : IVec S16x6141x4 32 := broadcastInDim S16x6141x4 ![] bcast_S_S16x6141x4 main_c_70
  let main_v188 : IVec S16x6141x4 1 := cmpi .sge main_v186 main_v187
  let main_cst_71 : FVec F S_ .f32 := constant S_ .f32 0x40000000#32
  let main_v189 : FVec F S16x6141x4 .f32 := broadcastInDim S16x6141x4 ![] bcast_S_S16x6141x4 main_cst_71
  fn_part11 (F := F) main_arg0 main_v123 main_v128 main_v183 main_v186 main_v188 main_v189

def fn_part9 {F : FTy → Type} [FloatOps F] (main_arg0 : FVec F S16x6141x4 .f32) (main_v123 : IVec S16x6141x4 32) (main_v128 : IVec S16x6141x4 1) (main_v151 : FVec F S16x6141x4 .f32) (main_v154 : IVec S16x6141x4 32) (main_c_58 : IVec S_ 32) : IVec S16x6141x4 1 :=
  let main_v155 : IVec S16x6141x4 32 := broadcastInDim S16x6141x4 ![] bcast_S_S16x6141x4 main_c_58
  let main_v156 : IVec S16x6141x4 1 := cmpi .sge main_v154 main_v155
  let main_cst_59 : FVec F S_ .f32 := constant S_ .f32 0x47800000#32
  let main_v157 : FVec F S16x6141x4 .f32 := broadcastInDim S16x6141x4 ![] bcast_S_S16x6141x4 main_cst_59
  let main_v158 : FVec F S16x6141x4 .f32 := mulf main_v151 main_v157
  let main_v159 : FVec F S16x6141x4 .f32 := fn_where_1 (F := F) main_v156 main_v158 main_v151
  let main_c_60 : IVec S_ 32 := constantI S_ 32 16#32
  let main_v160 : IVec S16x6141x4 32 := broadcastInDim S16x6141x4 ![] bcast_S_S16x6141x4 main_c_60
  let main_v161 : IVec S16x6141x4 32 := subi main_v154 main_v160
  let main_v162 : IVec S16x6141x4 32 := fn_where_0 (F := F) main_v156 main_v161 main_v154
  let main_c_61 : IVec S_ 32 := constantI S_ 32 135#32
  let main_v163 : IVec S16x6141x4 32 := broadcastInDim S16x6141x4 ![] bcast_S_S16x6141x4 main_c_61
  let main_v164 : IVec S16x6141x4 1 := cmpi .sge main_v162 main_v163
  let main_cst_62 : FVec F S_ .f32 := constant S_ .f32 0x43800000#32
  let main_v165 : FVec F S16x6141x4 .f32 := broadcastInDim S16x6141x4 ![] bcast_S_S16x6141x4 main_cst_62
  let main_v166 : FVec F S16x6141x4 .f32 := mulf main_v159 main_v165
  let main_v167 : FVec F S16x6141x4 .f32 := fn_where_1 (F := F) main_v164 main_v166 main_v159
  let main_c_63 : IVec S_ 32 := constantI S_ 32 8#32
  let main_v168 : IVec S16x6141x4 32 := broadcastInDim S16x6141x4 ![] bcast_S_S16x6141x4 main_c_63
  let main_v169 : IVec S16x6141x4 32 := subi main_v162 main_v168
  let main_v170 : IVec S16x6141x4 32 := fn_where_0 (F := F) main_v164 main_v169 main_v162
  let main_c_64 : IVec S_ 32 := constantI S_ 32 131#32
  let main_v171 : IVec S16x6141x4 32 := broadcastInDim S16x6141x4 ![] bcast_S_S16x6141x4 main_c_64
  let main_v172 : IVec S16x6141x4 1 := cmpi .sge main_v170 main_v171
  fn_part10 (F := F) main_arg0 main_v123 main_v128 main_v167 main_v170 main_v172

def fn_part8 {F : FTy → Type} [FloatOps F] (main_arg0 : FVec F S16x6141x4 .f32) (main_v123 : IVec S16x6141x4 32) (main_v128 : IVec S16x6141x4 1) (main_v130 : IVec S16x6141x4 32) (main_v136 : FVec F S16x6141x4 .f32) (main_v137 : FVec F S16x6141x4 .f32) : IVec S16x6141x4 1 :=
  let main_v138 : FVec F S16x6141x4 .f32 := mulf main_v136 main_v137
  let main_c_52 : IVec S_ 32 := constantI S_ 32 191#32
  let main_v139 : IVec S16x6141x4 32 := broadcastInDim S16x6141x4 ![] bcast_S_S16x6141x4 main_c_52
  let main_v140 : IVec S16x6141x4 1 := cmpi .sge main_v130 main_v139
  let main_cst_53 : FVec F S_ .f32 := constant S_ .f32 0x5F800000#32
  let main_v141 : FVec F S16x6141x4 .f32 := broadcastInDim S16x6141x4 ![] bcast_S_S16x6141x4 main_cst_53
  let main_v142 : FVec F S16x6141x4 .f32 := mulf main_v138 main_v141
  let main_v143 : FVec F S16x6141x4 .f32 := fn_where_1 (F := F) main_v140 main_v142 main_v138
  let main_c_54 : IVec S_ 32 := constantI S_ 32 64#32
  let main_v144 : IVec S16x6141x4 32 := broadcastInDim S16x6141x4 ![] bcast_S_S16x6141x4 main_c_54
  let main_v145 : IVec S16x6141x4 32 := subi main_v130 main_v144
  let main_v146 : IVec S16x6141x4 32 := fn_where_0 (F := F) main_v140 main_v145 main_v130
  let main_c_55 : IVec S_ 32 := constantI S_ 32 159#32
  let main_v147 : IVec S16x6141x4 32 := broadcastInDim S16x6141x4 ![] bcast_S_S16x6141x4 main_c_55
  let main_v148 : IVec S16x6141x4 1 := cmpi .sge main_v146 main_v147
  let main_cst_56 : FVec F S_ .f32 := constant S_ .f32 0x4F800000#32
  let main_v149 : FVec F S16x6141x4 .f32 := broadcastInDim S16x6141x4 ![] bcast_S_S16x6141x4 main_cst_56
  let main_v150 : FVec F S16x6141x4 .f32 := mulf main_v143 main_v149
  let main_v151 : FVec F S16x6141x4 .f32 := fn_where_1 (F := F) main_v148 main_v150 main_v143
  let main_c_57 : IVec S_ 32 := constantI S_ 32 32#32
  let main_v152 : IVec S16x6141x4 32 := broadcastInDim S16x6141x4 ![] bcast_S_S16x6141x4 main_c_57
  let main_v153 : IVec S16x6141x4 32 := subi main_v146 main_v152
  let main_v154 : IVec S16x6141x4 32 := fn_where_0 (F := F) main_v148 main_v153 main_v146
  let main_c_58 : IVec S_ 32 := constantI S_ 32 143#32
  fn_part9 (F := F) main_arg0 main_v123 main_v128 main_v151 main_v154 main_c_58

def fn_part7 {F : FTy → Type} [FloatOps F] (main_arg0 : FVec F S16x6141x4 .f32) (main_v112 : IVec S16x6141x4 32) (main_v117 : IVec S16x6141x4 32) (main_v119 : IVec S16x6141x4 1) (main_v120 : IVec S16x6141x4 32) : IVec S16x6141x4 1 :=
  let main_v121 : IVec S16x6141x4 32 := muli main_v112 main_v120
  let main_v122 : IVec S16x6141x4 32 := addi main_v121 main_v117
  let main_c_45 : IVec S_ 32 := constantI S_ 32 0#32
  let main_v123 : IVec S16x6141x4 32 := fn_where_2 (F := F) main_v119 main_c_45 main_v122
  let main_c_46 : IVec S_ 32 := constantI S_ 32 0#32
  let main_v124 : IVec S16x6141x4 32 := broadcastInDim S16x6141x4 ![] bcast_S_S16x6141x4 main_c_46
  let main_v125 : IVec S16x6141x4 1 := cmpi .sge main_v123 main_v124
  let main_c_47 : IVec S_ 32 := constantI S_ 32 2139095040#32
  let main_v126 : IVec S16x6141x4 32 := broadcastInDim S16x6141x4 ![] bcast_S_S16x6141x4 main_c_47
  let main_v127 : IVec S16x6141x4 1 := cmpi .slt main_v123 main_v126
  let main_v128 : IVec S16x6141x4 1 := andi main_v125 main_v127
  let main_c_48 : IVec S_ 32 := constantI S_ 32 23#32
  let main_v129 : IVec S16x6141x4 32 := broadcastInDim S16x6141x4 ![] bcast_S_S16x6141x4 main_c_48
  let main_v130 : IVec S16x6141x4 32 := Host.shrsi main_v123 main_v129
  let main_c_49 : IVec S_ 32 := constantI S_ 32 8388608#32
  let main_v131 : IVec S16x6141x4 32 := broadcastInDim S16x6141x4 ![] bcast_S_S16x6141x4 main_c_49
  let main_v132 : IVec S16x6141x4 32 := muli main_v130 main_v131
  let main_v133 : IVec S16x6141x4 32 := subi main_v123 main_v132
  let main_c_50 : IVec S_ 32 := constantI S_ 32 8388608#32
  let main_v134 : IVec S16x6141x4 32 := broadcastInDim S16x6141x4 ![] bcast_S_S16x6141x4 main_c_50
  let main_v135 : IVec S16x6141x4 32 := addi main_v133 main_v134
  let main_v136 : FVec F S16x6141x4 .f32 := sitofp .f32 main_v135
  let main_cst_51 : FVec F S_ .f32 := constant S_ .f32 0x34000000#32
  let main_v137 : FVec F S16x6141x4 .f32 := broadcastInDim S16x6141x4 ![] bcast_S_S16x6141x4 main_cst_51
  fn_part8 (F := F) main_arg0 main_v123 main_v128 main_v130 main_v136 main_v137

def fn_part6 {F : FTy → Type} [FloatOps F] (main_arg0 : FVec F S16x6141x4 .f32) (main_v96 : IVec S16x6141x4 32) (main_v98 : IVec S16x6141x4 1) (main_v101 : FVec F S16x6141x4 .f32) (main_v103 : IVec S16x6141x4 32) : IVec S16x6141x4 1 :=
  let main_v104 : IVec S16x6141x4 32 := fn_where_0 (F := F) main_v98 main_v103 main_v96
  let main_cst_38 : FVec F S_ .f32 := constant S_ .f32 0x3F800000#32
  let main_v105 : FVec F S16x6141x4 .f32 := broadcastInDim S16x6141x4 ![] bcast_S_S16x6141x4 main_cst_38
  let main_v106 : IVec S16x6141x4 1 := cmpf .olt main_v101 main_v105
  let main_cst_39 : FVec F S_ .f32 := constant S_ .f32 0x40000000#32
  let main_v107 : FVec F S16x6141x4 .f32 := broadcastInDim S16x6141x4 ![] bcast_S_S16x6141x4 main_cst_39
  let main_v108 : FVec F S16x6141x4 .f32 := mulf main_v101 main_v107
  let main_v109 : FVec F S16x6141x4 .f32 := fn_where_1 (F := F) main_v106 main_v108 main_v101
  let main_c_40 : IVec S_ 32 := constantI S_ 32 1#32
  let main_v110 : IVec S16x6141x4 32 := broadcastInDim S16x6141x4 ![] bcast_S_S16x6141x4 main_c_40
  let main_v111 : IVec S16x6141x4 32 := subi main_v104 main_v110
  let main_v112 : IVec S16x6141x4 32 := fn_where_0 (F := F) main_v106 main_v111 main_v104
  let main_cst_41 : FVec F S_ .f32 := constant S_ .f32 0x3F800000#32
  let main_v113 : FVec F S16x6141x4 .f32 := broadcastInDim S16x6141x4 ![] bcast_S_S16x6141x4 main_cst_41
  let main_v114 : FVec F S16x6141x4 .f32 := subf main_v109 main_v113
  let main_cst_42 : FVec F S_ .f32 := constant S_ .f32 0x4B000000#32
  let main_v115 : FVec F S16x6141x4 .f32 := broadcastInDim S16x6141x4 ![] bcast_S_S16x6141x4 main_cst_42
  let main_v116 : FVec F S16x6141x4 .f32 := mulf main_v114 main_v115
  let main_v117 : IVec S16x6141x4 32 := fptosi 32 main_v116
  let main_cst_43 : FVec F S_ .f32 := constant S_ .f32 0x00800000#32
  let main_v118 : FVec F S16x6141x4 .f32 := broadcastInDim S16x6141x4 ![] bcast_S_S16x6141x4 main_cst_43
  let main_v119 : IVec S16x6141x4 1 := cmpf .olt main_arg0 main_v118
  let main_c_44 : IVec S_ 32 := constantI S_ 32 8388608#32
  let main_v120 : IVec S16x6141x4 32 := broadcastInDim S16x6141x4 ![] bcast_S_S16x6141x4 main_c_44
  fn_part7 (F := F) main_arg0 main_v112 main_v117 main_v119 main_v120

def fn_part5 {F : FTy → Type} [FloatOps F] (main_arg0 : FVec F S16x6141x4 .f32) (main_v80 : IVec S16x6141x4 32) (main_v82 : IVec S16x6141x4 1) (main_v85 : FVec F S16x6141x4 .f32) (main_c_31 : IVec S_ 32) : IVec S16x6141x4 1 :=
  let main_v86 : IVec S16x6141x4 32 := broadcastInDim S16x6141x4 ![] bcast_S_S16x6141x4 main_c_31
  let main_v87 : IVec S16x6141x4 32 := subi main_v80 main_v86
  let main_v88 : IVec S16x6141x4 32 := fn_where_0 (F := F) main_v82 main_v87 main_v80
  let main_cst_32 : FVec F S_ .f32 := constant S_ .f32 0x3E000000#32
  let main_v89 : FVec F S16x6141x4 .f32 := broadcastInDim S16x6141x4 ![] bcast_S_S16x6141x4 main_cst_32
  let main_v90 : IVec S16x6141x4 1 := cmpf .olt main_v85 main_v89
  let main_cst_33 : FVec F S_ .f32 := constant S_ .f32 0x41800000#32
  let main_v91 : FVec F S16x6141x4 .f32 := broadcastInDim S16x6141x4 ![] bcast_S_S16x6141x4 main_cst_33
  let main_v92 : FVec F S16x6141x4 .f32 := mulf main_v85 main_v91
  let main_v93 : FVec F S16x6141x4 .f32 := fn_where_1 (F := F) main_v90 main_v92 main_v85
  let main_c_34 : IVec S_ 32 := constantI S_ 32 4#32
  let main_v94 : IVec S16x6141x4 32 := broadcastInDim S16x6141x4 ![] bcast_S_S16x6141x4 main_c_34
  let main_v95 : IVec S16x6141x4 32 := subi main_v88 main_v94
  let main_v96 : IVec S16x6141x4 32 := fn_where_0 (F := F) main_v90 main_v95 main_v88
  let main_cst_35 : FVec F S_ .f32 := constant S_ .f32 0x3F000000#32
  let main_v97 : FVec F S16x6141x4 .f32 := broadcastInDim S16x6141x4 ![] bcast_S_S16x6141x4 main_cst_35
  let main_v98 : IVec S16x6141x4 1 := cmpf .olt main_v93 main_v97
  let main_cst_36 : FVec F S_ .f32 := constant S_ .f32 0x40800000#32
  let main_v99 : FVec F S16x6141x4 .f32 := broadcastInDim S16x6141x4 ![] bcast_S_S16x6141x4 main_cst_36
  let main_v100 : FVec F S16x6141x4 .f32 := mulf main_v93 main_v99
  let main_v101 : FVec F S16x6141x4 .f32 := fn_where_1 (F := F) main_v98 main_v100 main_v93
  let main_c_37 : IVec S_ 32 := constantI S_ 32 2#32
  let main_v102 : IVec S16x6141x4 32 := broadcastInDim S16x6141x4 ![] bcast_S_S16x6141x4 main_c_37
  let main_v103 : IVec S16x6141x4 32 := subi main_v96 main_v102
  fn_part6 (F := F) main_arg0 main_v96 main_v98 main_v101 main_v103

def fn_part4 {F : FTy → Type} [FloatOps F] (main_arg0 : FVec F S16x6141x4 .f32) (main_v61 : FVec F S16x6141x4 .f32) (main_v64 : IVec S16x6141x4 32) (main_v66 : IVec S16x6141x4 1) (main_v68 : FVec F S16x6141x4 .f32) : IVec S16x6141x4 1 :=
  let main_v69 : FVec F S16x6141x4 .f32 := fn_where_1 (F := F) main_v66 main_v68 main_v61
  let main_c_25 : IVec S_ 32 := constantI S_ 32 32#32
  let main_v70 : IVec S16x6141x4 32 := broadcastInDim S16x6141x4 ![] bcast_S_S16x6141x4 main_c_25
  let main_v71 : IVec S16x6141x4 32 := subi main_v64 main_v70
  let main_v72 : IVec S16x6141x4 32 := fn_where_0 (F := F) main_v66 main_v71 main_v64
  let main_cst_26 : FVec F S_ .f32 := constant S_ .f32 0x38000000#32
  let main_v73 : FVec F S16x6141x4 .f32 := broadcastInDim S16x6141x4 ![] bcast_S_S16x6141x4 main_cst_26
  let main_v74 : IVec S16x6141x4 1 := cmpf .olt main_v69 main_v73
  let main_cst_27 : FVec F S_ .f32 := constant S_ .f32 0x47800000#32
  let main_v75 : FVec F S16x6141x4 .f32 := broadcastInDim S16x6141x4 ![] bcast_S_S16x6141x4 main_cst_27
  let main_v76 : FVec F S16x6141x4 .f32 := mulf main_v69 main_v75
  let main_v77 : FVec F S16x6141x4 .f32 := fn_where_1 (F := F) main_v74 main_v76 main_v69
  let main_c_28 : IVec S_ 32 := constantI S_ 32 16#32
  let main_v78 : IVec S16x6141x4 32 := broadcastInDim S16x6141x4 ![] bcast_S_S16x6141x4 main_c_28
  let main_v79 : IVec S16x6141x4 32 := subi main_v72 main_v78
  let main_v80 : IVec S16x6141x4 32 := fn_where_0 (F := F) main_v74 main_v79 main_v72
  let main_cst_29 : FVec F S_ .f32 := constant S_ .f32 0x3C000000#32
  let main_v81 : FVec F S16x6141x4 .f32 := broadcastInDim S16x6141x4 ![] bcast_S_S16x6141x4 main_cst_29
  let main_v82 : IVec S16x6141x4 1 := cmpf .olt main_v77 main_v81
  let main_cst_30 : FVec F S_ .f32 := constant S_ .f32 0x43800000#32
  let main_v83 : FVec F S16x6141x4 .f32 := broadcastInDim S16x6141x4 ![] bcast_S_S16x6141x4 main_cst_30
  let main_v84 : FVec F S16x6141x4 .f32 := mulf main_v77 main_v83
  let main_v85 : FVec F S16x6141x4 .f32 := fn_where_1 (F := F) main_v82 main_v84 main_v77
  let main_c_31 : IVec S_ 32 := constantI S_ 32 8#32
  fn_part5 (F := F) main_arg0 main_v80 main_v82 main_v85 main_c_31

def fn_part3 {F : FTy → Type} [FloatOps F] (main_arg0 : FVec F S16x6141x4 .f32) (main_v45 : FVec F S16x6141x4 .f32) (main_v48 : IVec S16x6141x4 32) (main_v50 : IVec S16x6141x4 1) (main_cst_18 : FVec F S_ .f32) : IVec S16x6141x4 1 :=
  let main_v51 : FVec F S16x6141x4 .f32 := broadcastInDim S16x6141x4 ![] bcast_S_S16x6141x4 main_cst_18
  let main_v52 : FVec F S16x6141x4 .f32 := mulf main_v45 main_v51
  let main_v53 : FVec F S16x6141x4 .f32 := fn_where_1 (F := F) main_v50 main_v52 main_v45
  let main_c_19 : IVec S_ 32 := constantI S_ 32 1#32
  let main_v54 : IVec S16x6141x4 32 := broadcastInDim S16x6141x4 ![] bcast_S_S16x6141x4 main_c_19
  let main_v55 : IVec S16x6141x4 32 := addi main_v48 main_v54
  let main_v56 : IVec S16x6141x4 32 := fn_where_0 (F := F) main_v50 main_v55 main_v48
  let main_cst_20 : FVec F S_ .f32 := constant S_ .f32 0x20000000#32
  let main_v57 : FVec F S16x6141x4 .f32 := broadcastInDim S16x6141x4 ![] bcast_S_S16x6141x4 main_cst_20
  let main_v58 : IVec S16x6141x4 1 := cmpf .olt main_v53 main_v57
  let main_cst_21 : FVec F S_ .f32 := constant S_ .f32 0x5F800000#32
  let main_v59 : FVec F S16x6141x4 .f32 := broadcastInDim S16x6141x4 ![] bcast_S_S16x6141x4 main_cst_21
  let main_v60 : FVec F S16x6141x4 .f32 := mulf main_v53 main_v59
  let main_v61 : FVec F S16x6141x4 .f32 := fn_where_1 (F := F) main_v58 main_v60 main_v53
  let main_c_22 : IVec S_ 32 := constantI S_ 32 64#32
  let main_v62 : IVec S16x6141x4 32 := broadcastInDim S16x6141x4 ![] bcast_S_S16x6141x4 main_c_22
  let main_v63 : IVec S16x6141x4 32 := subi main_v56 main_v62
  let main_v64 : IVec S16x6141x4 32 := fn_where_0 (F := F) main_v58 main_v63 main_v56
  let main_cst_23 : FVec F S_ .f32 := constant S_ .f32 0x30000000#32
  let main_v65 : FVec F S16x6141x4 .f32 := broadcastInDim S16x6141x4 ![] bcast_S_S16x6141x4 main_cst_23
  let main_v66 : IVec S16x6141x4 1 := cmpf .olt main_v61 main_v65
  let main_cst_24 : FVec F S_ .f32 := constant S_ .f32 0x4F800000#32
  let main_v67 : FVec F S16x6141x4 .f32 := broadcastInDim S16x6141x4 ![] bcast_S_S16x6141x4 main_cst_24
  let main_v68 : FVec F S16x6141x4 .f32 := mulf main_v61 main_v67
  fn_part4 (F := F) main_arg0 main_v61 main_v64 main_v66 main_v68

def fn_part2 {F : FTy → Type} [FloatOps F] (main_arg0 : FVec F S16x6141x4 .f32) (main_v29 : FVec F S16x6141x4 .f32) (main_v32 : IVec S16x6141x4 32) (main_v33 : FVec F S16x6141x4 .f32) : IVec S16x6141x4 1 :=
  let main_v34 : IVec S16x6141x4 1 := cmpf .oge main_v29 main_v33
  let main_cst_12 : FVec F S_ .f32 := constant S_ .f32 0x3D800000#32
  let main_v35 : FVec F S16x6141x4 .f32 := broadcastInDim S16x6141x4 ![] bcast_S_S16x6141x4 main_cst_12
  let main_v36 : FVec F S16x6141x4 .f32 := mulf main_v29 main_v35
  let main_v37 : FVec F S16x6141x4 .f32 := fn_where_1 (F := F) main_v34 main_v36 main_v29
  let main_c_13 : IVec S_ 32 := constantI S_ 32 4#32
  let main_v38 : IVec S16x6141x4 32 := broadcastInDim S16x6141x4 ![] bcast_S_S16x6141x4 main_c_13
  let main_v39 : IVec S16x6141x4 32 := addi main_v32 main_v38
  let main_v40 : IVec S16x6141x4 32 := fn_where_0 (F := F) main_v34 main_v39 main_v32
  let main_cst_14 : FVec F S_ .f32 := constant S_ .f32 0x40800000#32
  let main_v41 : FVec F S16x6141x4 .f32 := broadcastInDim S16x6141x4 ![] bcast_S_S16x6141x4 main_cst_14
  let main_v42 : IVec S16x6141x4 1 := cmpf .oge main_v37 main_v41
  let main_cst_15 : FVec F S_ .f32 := constant S_ .f32 0x3E800000#32
  let main_v43 : FVec F S16x6141x4 .f32 := broadcastInDim S16x6141x4 ![] bcast_S_S16x6141x4 main_cst_15
  let main_v44 : FVec F S16x6141x4 .f32 := mulf main_v37 main_v43
  let main_v45 : FVec F S16x6141x4 .f32 := fn_where_1 (F := F) main_v42 main_v44 main_v37
  let main_c_16 : IVec S_ 32 := constantI S_ 32 2#32
  let main_v46 : IVec S16x6141x4 32 := broadcastInDim S16x6141x4 ![] bcast_S_S16x6141x4 main_c_16
  let main_v47 : IVec S16x6141x4 32 := addi main_v40 main_v46
  let main_v48 : IVec S16x6141x4 32 := fn_where_0 (F := F) main_v42 main_v47 main_v40
  let main_cst_17 : FVec F S_ .f32 := constant S_ .f32 0x40000000#32
  let main_v49 : FVec F S16x6141x4 .f32 := broadcastInDim S16x6141x4 ![] bcast_S_S16x6141x4 main_cst_17
  let main_v50 : IVec S16x6141x4 1 := cmpf .oge main_v45 main_v49
  let main_cst_18 : FVec F S_ .f32 := constant S_ .f32 0x3F000000#32
  fn_part3 (F := F) main_arg0 main_v45 main_v48 main_v50 main_cst_18

def fn_part1 {F : FTy → Type} [FloatOps F] (main_arg0 : FVec F S16x6141x4 .f32) (main_v13 : FVec F S16x6141x4 .f32) (main_v16 : IVec S16x6141x4 32) : IVec S16x6141x4 1 :=
  let main_cst_5 : FVec F S_ .f32 := constant S_ .f32 0x47800000#32
  let main_v17 : FVec F S16x6141x4 .f32 := broadcastInDim S16x6141x4 ![] bcast_S_S16x6141x4 main_cst_5
  let main_v18 : IVec S16x6141x4 1 := cmpf .oge main_v13 main_v17
  let main_cst_6 : FVec F S_ .f32 := constant S_ .f32 0x37800000#32
  let main_v19 : FVec F S16x6141x4 .f32 := broadcastInDim S16x6141x4 ![] bcast_S_S16x6141x4 main_cst_6
  let main_v20 : FVec F S16x6141x4 .f32 := mulf main_v13 main_v19
  let main_v21 : FVec F S16x6141x4 .f32 := fn_where_1 (F := F) main_v18 main_v20 main_v13
  let main_c_7 : IVec S_ 32 := constantI S_ 32 16#32
  let main_v22 : IVec S16x6141x4 32 := broadcastInDim S16x6141x4 ![] bcast_S_S16x6141x4 main_c_7
  let main_v23 : IVec S16x6141x4 32 := addi main_v16 main_v22
  let main_v24 : IVec S16x6141x4 32 := fn_where_0 (F := F) main_v18 main_v23 main_v16
  let main_cst_8 : FVec F S_ .f32 := constant S_ .f32 0x43800000#32
  let main_v25 : FVec F S16x6141x4 .f32 := broadcastInDim S16x6141x4 ![] bcast_S_S16x6141x4 main_cst_8
  let main_v26 : IVec S16x6141x4 1 := cmpf .oge main_v21 main_v25
  let main_cst_9 : FVec F S_ .f32 := constant S_ .f32 0x3B800000#32
  let main_v27 : FVec F S16x6141x4 .f32 := broadcastInDim S16x6141x4 ![] bcast_S_S16x6141x4 main_cst_9
  let main_v28 : FVec F S16x6141x4 .f32 := mulf main_v21 main_v27
  let main_v29 : FVec F S16x6141x4 .f32 := fn_where_1 (F := F) main_v26 main_v28 main_v21
  let main_c_10 : IVec S_ 32 := constantI S_ 32 8#32
  let main_v30 : IVec S16x6141x4 32 := broadcastInDim S16x6141x4 ![] bcast_S_S16x6141x4 main_c_10
  let main_v31 : IVec S16x6141x4 32 := addi main_v24 main_v30
  let main_v32 : IVec S16x6141x4 32 := fn_where_0 (F := F) main_v26 main_v31 main_v24
  let main_cst_11 : FVec F S_ .f32 := constant S_ .f32 0x41800000#32
  let main_v33 : FVec F S16x6141x4 .f32 := broadcastInDim S16x6141x4 ![] bcast_S_S16x6141x4 main_cst_11
  fn_part2 (F := F) main_arg0 main_v29 main_v32 main_v33

def fn {F : FTy → Type} [FloatOps F] (main_arg0 : FVec F S16x6141x4 .f32) (main_arg1 : IVec S16x1x1 32) (main_arg2 : FVec F S1x1 .f32) (main_arg3 : FVec F S1x1 .f32) : IVec S16x6141x4 1 :=
  let main_c : IVec S_ 32 := constantI S_ 32 127#32
  let main_v0 : IVec S16x6141x4 32 := broadcastInDim S16x6141x4 ![] bcast_S_S16x6141x4 main_c
  let main_cst : FVec F S_ .f32 := constant S_ .f32 0x5F800000#32
  let main_v1 : FVec F S16x6141x4 .f32 := broadcastInDim S16x6141x4 ![] bcast_S_S16x6141x4 main_cst
  let main_v2 : IVec S16x6141x4 1 := cmpf .oge main_arg0 main_v1
  let main_cst_0 : FVec F S_ .f32 := constant S_ .f32 0x1F800000#32
  let main_v3 : FVec F S16x6141x4 .f32 := broadcastInDim S16x6141x4 ![] bcast_S_S16x6141x4 main_cst_0
  let main_v4 : FVec F S16x6141x4 .f32 := mulf main_arg0 main_v3
  let main_v5 : FVec F S16x6141x4 .f32 := fn_where (F := F) main_v2 main_v4 main_arg0
  let main_c_1 : IVec S_ 32 := constantI S_ 32 64#32
  let main_v6 : IVec S16x6141x4 32 := broadcastInDim S16x6141x4 ![] bcast_S_S16x6141x4 main_c_1
  let main_v7 : IVec S16x6141x4 32 := addi main_v0 main_v6
  let main_v8 : IVec S16x6141x4 32 := fn_where_0 (F := F) main_v2 main_v7 main_v0
  let main_cst_2 : FVec F S_ .f32 := constant S_ .f32 0x4F800000#32
  let main_v9 : FVec F S16x6141x4 .f32 := broadcastInDim S16x6141x4 ![] bcast_S_S16x6141x4 main_cst_2
  let main_v10 : IVec S16x6141x4 1 := cmpf .oge main_v5 main_v9
  let main_cst_3 : FVec F S_ .f32 := constant S_ .f32 0x2F800000#32
  let main_v11 : FVec F S16x6141x4 .f32 := broadcastInDim S16x6141x4 ![] bcast_S_S16x6141x4 main_cst_3
  let main_v12 : FVec F S16x6141x4 .f32 := mulf main_v5 main_v11
  let main_v13 : FVec F S16x6141x4 .f32 := fn_where_1 (F := F) main_v10 main_v12 main_v5
  let main_c_4 : IVec S_ 32 := constantI S_ 32 32#32
  let main_v14 : IVec S16x6141x4 32 := broadcastInDim S16x6141x4 ![] bcast_S_S16x6141x4 main_c_4
  let main_v15 : IVec S16x6141x4 32 := addi main_v8 main_v14
  let main_v16 : IVec S16x6141x4 32 := fn_where_0 (F := F) main_v10 main_v15 main_v8
  fn_part1 (F := F) main_arg0 main_v13 main_v16
-- ==== Ce.lean ====
abbrev S16x24564x81 : Shape := ⟨3, ![16, 24564, 81]⟩
abbrev S16x1x24564 : Shape := ⟨3, ![16, 1, 24564]⟩
abbrev S16x6141x324 : Shape := ⟨3, ![16, 6141, 324]⟩
abbrev S16x6141x4 : Shape := ⟨3, ![16, 6141, 4]⟩
abbrev S1x1 : Shape := ⟨2, ![1, 1]⟩
abbrev S1x6141x324 : Shape := ⟨3, ![1, 6141, 324]⟩
abbrev S1x6141x4 : Shape := ⟨3, ![1, 6141, 4]⟩
abbrev S6141x324 : Shape := ⟨2, ![6141, 324]⟩
abbrev S6141x4 : Shape := ⟨2, ![6141, 4]⟩
abbrev S6141x1 : Shape := ⟨2, ![6141, 1]⟩
abbrev S324x128 : Shape := ⟨2, ![324, 128]⟩
abbrev S6141x128 : Shape := ⟨2, ![6141, 128]⟩
abbrev S1 : Shape := ⟨1, ![1]⟩
abbrev S1x1x1 : Shape := ⟨3, ![1, 1, 1]⟩

abbrev nBuf : Space → Nat
  | .hbm => 6
  | .vmem => 7
  | .smem => 0
  | _ => 0

abbrev bufTy : (tb : Table) → Fin (tcTables nBuf tb) → BufTy
  | .hbm, ⟨0, _⟩ => ⟨S16x24564x81, .f32⟩
  | .hbm, ⟨1, _⟩ => ⟨S16x1x24564, .i32⟩
  | .hbm, ⟨2, _⟩ => ⟨S16x6141x324, .f32⟩
  | .hbm, ⟨3, _⟩ => ⟨S16x6141x4, .i32⟩
  | .hbm, ⟨4, _⟩ => ⟨S16x6141x4, .f32⟩
  | .hbm, ⟨5, _⟩ => ⟨S1x1, .f32⟩
  | .local _ .vmem, ⟨0, _⟩ => ⟨S1x6141x324, .f32⟩
  | .local _ .vmem, ⟨1, _⟩ => ⟨S1x6141x324, .f32⟩
  | .local _ .vmem, ⟨2, _⟩ => ⟨S1x6141x4, .i32⟩
  | .local _ .vmem, ⟨3, _⟩ => ⟨S1x6141x4, .i32⟩
  | .local _ .vmem, ⟨4, _⟩ => ⟨S1x6141x4, .f32⟩
  | .local _ .vmem, ⟨5, _⟩ => ⟨S1x6141x4, .f32⟩
  | .local _ .vmem, ⟨6, _⟩ => ⟨S1x1, .f32⟩
  | _, _ => ⟨S16x24564x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x6141x324 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6141x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6141x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== CeReferenceIdeal.lean ====
abbrev S16x24564x81 : Shape := ⟨3, ![16, 24564, 81]⟩
abbrev S16x1x24564 : Shape := ⟨3, ![16, 1, 24564]⟩
abbrev S393024x81 : Shape := ⟨2, ![393024, 81]⟩
abbrev S_ : Shape := ⟨0, ![]⟩
abbrev S393024 : Shape := ⟨1, ![393024]⟩
abbrev S393024x1 : Shape := ⟨2, ![393024, 1]⟩
abbrev S393024x1x1 : Shape := ⟨3, ![393024, 1, 1]⟩
abbrev S1 : Shape := ⟨1, ![1]⟩
abbrev S1x1x1 : Shape := ⟨3, ![1, 1, 1]⟩
abbrev S16x24564 : Shape := ⟨2, ![16, 24564]⟩
abbrev S16x6141x4 : Shape := ⟨3, ![16, 6141, 4]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S16x24564x81, .f32⟩
  | .hbm, ⟨1, _⟩ => ⟨S16x1x24564, .i32⟩
  | .hbm, ⟨2, _⟩ => ⟨S393024x81, .f32⟩
  | .hbm, ⟨3, _⟩ => ⟨S_, .f32⟩
  | .hbm, ⟨4, _⟩ => ⟨S393024, .f32⟩
  | .hbm, ⟨5, _⟩ => ⟨S393024x1, .f32⟩
  | .hbm, ⟨6, _⟩ => ⟨S393024x1, .f32⟩
  | .hbm, ⟨7, _⟩ => ⟨S_, .f32⟩
  | .hbm, ⟨8, _⟩ => ⟨S393024x1, .f32⟩
  | .hbm, ⟨9, _⟩ => ⟨S393024x1, .i1⟩
  | .hbm, ⟨10, _⟩ => ⟨S_, .f32⟩
  | .hbm, ⟨11, _⟩ => ⟨S_, .f32⟩
  | .hbm, ⟨12, _⟩ => ⟨S393024x1, .f32⟩
  | .hbm, ⟨13, _⟩ => ⟨S393024x1, .f32⟩
  | .hbm, ⟨14, _⟩ => ⟨S393024x81, .f32⟩
  | .hbm, ⟨15, _⟩ => ⟨S393024x81, .f32⟩
  | .hbm, ⟨16, _⟩ => ⟨S393024x81, .f32⟩
  | .hbm, ⟨17, _⟩ => ⟨S_, .f32⟩
  | .hbm, ⟨18, _⟩ => ⟨S393024, .f32⟩
  | .hbm, ⟨19, _⟩ => ⟨S393024x1, .f32⟩
  | .hbm, ⟨20, _⟩ => ⟨S393024x1, .f32⟩
  | .hbm, ⟨21, _⟩ => ⟨S393024x1, .f32⟩
  | .hbm, ⟨22, _⟩ => ⟨S393024, .f32⟩
  | .hbm, ⟨23, _⟩ => ⟨S393024x1, .i32⟩
  | .hbm, ⟨24, _⟩ => ⟨S_, .i32⟩
  | .hbm, ⟨25, _⟩ => ⟨S393024x1, .i32⟩
  | .hbm, ⟨26, _⟩ => ⟨S393024x1, .i1⟩
  | .hbm, ⟨27, _⟩ => ⟨S_, .i32⟩
  | .hbm, ⟨28, _⟩ => ⟨S393024x1, .i32⟩
  | .hbm, ⟨29, _⟩ => ⟨S393024x1, .i32⟩
  | .hbm, ⟨30, _⟩ => ⟨S393024x1, .i32⟩
  | .hbm, ⟨31, _⟩ => ⟨S393024x1x1, .i32⟩
  | .hbm, ⟨32, _⟩ => ⟨S1, .i32⟩
  | .hbm, ⟨33, _⟩ => ⟨S_, .i32⟩
  | .hbm, ⟨34, _⟩ => ⟨S393024x1x1, .i32⟩
  | .hbm, ⟨35, _⟩ => ⟨S393024x1x1, .i1⟩
  | .hbm, ⟨36, _⟩ => ⟨S1x1x1, .i32⟩
  | .hbm, ⟨37, _⟩ => ⟨S393024x1x1, .i32⟩
  | .hbm, ⟨38, _⟩ => ⟨S393024x1x1, .i1⟩
  | .hbm, ⟨39, _⟩ => ⟨S393024x1x1, .i1⟩
  | .hbm, ⟨40, _⟩ => ⟨S_, .i1⟩
  | .hbm, ⟨41, _⟩ => ⟨S393024x1, .i1⟩
  | .hbm, ⟨42, _⟩ => ⟨S393024x1, .f32⟩
  | .hbm, ⟨43, _⟩ => ⟨S_, .f32⟩
  | .hbm, ⟨44, _⟩ => ⟨S393024x1, .f32⟩
  | .hbm, ⟨45, _⟩ => ⟨S393024x1, .f32⟩
  | .hbm, ⟨46, _⟩ => ⟨S393024, .f32⟩
  | .hbm, ⟨47, _⟩ => ⟨S393024, .f32⟩
  | .hbm, ⟨48, _⟩ => ⟨S16x24564, .f32⟩
  | .hbm, ⟨49, _⟩ => ⟨S16x24564, .i32⟩
  | .hbm, ⟨50, _⟩ => ⟨S_, .i32⟩
  | .hbm, ⟨51, _⟩ => ⟨S16x24564, .i32⟩
  | .hbm, ⟨52, _⟩ => ⟨S16x24564, .i1⟩
  | .hbm, ⟨53, _⟩ => ⟨S_, .f32⟩
  | .hbm, ⟨54, _⟩ => ⟨S_, .f32⟩
  | .hbm, ⟨55, _⟩ => ⟨S16x24564, .f32⟩
  | .hbm, ⟨56, _⟩ => ⟨S16x24564, .f32⟩
  | .hbm, ⟨57, _⟩ => ⟨S_, .f32⟩
  | .hbm, ⟨58, _⟩ => ⟨S_, .f32⟩
  | .hbm, ⟨59, _⟩ => ⟨S16x24564, .f32⟩
  | .hbm, ⟨60, _⟩ => ⟨S16x24564, .f32⟩
  | .hbm, ⟨61, _⟩ => ⟨S_, .f32⟩
  | .hbm, ⟨62, _⟩ => ⟨S_, .f32⟩
  | .hbm, ⟨63, _⟩ => ⟨S16x6141x4, .f32⟩
  | .hbm, ⟨64, _⟩ => ⟨S1x1, .f32⟩
  | _, _ => ⟨S16x24564x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v23 : Ref sig .tc := ⟨.hbm, 56, rfl⟩
abbrev main_cst_4 : Ref sig .tc := ⟨.hbm, 57, rfl⟩
abbrev main_call3_v0 : Ref sig .tc := ⟨.hbm, 58, rfl⟩
abbrev main_call3_v1 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩

abbrev nD : Nat := 1
abbrev τ : Topo := Topo.v7x

variable {F : FTy → Type} [FloatOps F]
-- ==== Match.lean ====
abbrev S16x24564x4 : Shape := ⟨3, ![16, 24564, 4]⟩
abbrev S24564x4 : Shape := ⟨2, ![24564, 4]⟩
abbrev S16x16x5 : Shape := ⟨3, ![16, 16, 5]⟩
abbrev S16x4x24564 : Shape := ⟨3, ![16, 4, 24564]⟩
abbrev S4x24564 : Shape := ⟨2, ![4, 24564]⟩
abbrev S16x1x24564 : Shape := ⟨3, ![16, 1, 24564]⟩
abbrev S16x1x1 : Shape := ⟨3, ![16, 1, 1]⟩
abbrev S1x1 : Shape := ⟨2, ![1, 1]⟩
abbrev S1x16x5 : Shape := ⟨3, ![1, 16, 5]⟩
abbrev S1x4x24564 : Shape := ⟨3, ![1, 4, 24564]⟩
abbrev S1x1x24564 : Shape := ⟨3, ![1, 1, 24564]⟩
abbrev S1x1x1 : Shape := ⟨3, ![1, 1, 1]⟩
abbrev S16x5 : Shape := ⟨2, ![16, 5]⟩
abbrev S16x1 : Shape := ⟨2, ![16, 1]⟩
abbrev S1x24564 : Shape := ⟨2, ![1, 24564]⟩
abbrev S16x24564 : Shape := ⟨2, ![16, 24564]⟩
abbrev S16 : Shape := ⟨1, ![16]⟩
abbrev S24564 : Shape := ⟨1, ![24564]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S16x24564x4, .f32⟩
  | .hbm, ⟨1, _⟩ => ⟨S24564x4, .f32⟩
  | .hbm, ⟨2, _⟩ => ⟨S16x16x5, .f32⟩
  | .hbm, ⟨3, _⟩ => ⟨S16x4x24564, .f32⟩
  | .hbm, ⟨4, _⟩ => ⟨S4x24564, .f32⟩
  | .hbm, ⟨5, _⟩ => ⟨S16x1x24564, .i32⟩
  | .hbm, ⟨6, _⟩ => ⟨S16x1x1, .i32⟩
  | .hbm, ⟨7, _⟩ => ⟨S1x1, .f32⟩
  | .local _ .vmem, ⟨0, _⟩ => ⟨S1x16x5, .f32⟩
  | .local _ .vmem, ⟨1, _⟩ => ⟨S1x16x5, .f32⟩
  | .local _ .vmem, ⟨2, _⟩ => ⟨S4x24564, .f32⟩
  | .local _ .vmem, ⟨3, _⟩ => ⟨S1x4x24564, .f32⟩
  | .local _ .vmem, ⟨4, _⟩ => ⟨S1x4x24564, .f32⟩
  | .local _ .vmem, ⟨5, _⟩ => ⟨S1x1x24564, .i32⟩
  | .local _ .vmem, ⟨6, _⟩ => ⟨S1x1x24564, .i32⟩
  | .local _ .vmem, ⟨7, _⟩ => ⟨S1x1x1, .i32⟩
  | .local _ .vmem, ⟨8, _⟩ => ⟨S1x1x1, .i32⟩
  | .local _ .vmem, ⟨9, _⟩ => ⟨S1x1, .f32⟩
  | _, _ => ⟨S16x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x24564 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x24564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x24564 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MatchReferenceIdeal.lean ====
abbrev S16x24564x4 : Shape := ⟨3, ![16, 24564, 4]⟩
abbrev S24564x4 : Shape := ⟨2, ![24564, 4]⟩
abbrev S16x16x5 : Shape := ⟨3, ![16, 16, 5]⟩
abbrev S16x16x4 : Shape := ⟨3, ![16, 16, 4]⟩
abbrev S16x16x1 : Shape := ⟨3, ![16, 16, 1]⟩
abbrev S16x16 : Shape := ⟨2, ![16, 16]⟩
abbrev S24564x2 : Shape := ⟨2, ![24564, 2]⟩
abbrev S_ : Shape := ⟨0, ![]⟩
abbrev S16x16x2 : Shape := ⟨3, ![16, 16, 2]⟩
abbrev S16x16x1x2 : Shape := ⟨4, ![16, 16, 1, 2]⟩
abbrev S1x24564x2 : Shape := ⟨3, ![1, 24564, 2]⟩
abbrev S1x1x24564x2 : Shape := ⟨4, ![1, 1, 24564, 2]⟩
abbrev S16x16x24564x2 : Shape := ⟨4, ![16, 16, 24564, 2]⟩
abbrev S16x16x24564x1 : Shape := ⟨4, ![16, 16, 24564, 1]⟩
abbrev S16x16x24564 : Shape := ⟨3, ![16, 16, 24564]⟩
abbrev S24564x1 : Shape := ⟨2, ![24564, 1]⟩
abbrev S24564 : Shape := ⟨1, ![24564]⟩
abbrev S1x24564 : Shape := ⟨2, ![1, 24564]⟩
abbrev S1x1x24564 : Shape := ⟨3, ![1, 1, 24564]⟩
abbrev S16x24564 : Shape := ⟨2, ![16, 24564]⟩
abbrev S16 : Shape := ⟨1, ![16]⟩
abbrev S16x1 : Shape := ⟨2, ![16, 1]⟩
abbrev S1x16 : Shape := ⟨2, ![1, 16]⟩
abbrev S16x24564x1 : Shape := ⟨3, ![16, 24564, 1]⟩
abbrev S16x24564x2 : Shape := ⟨3, ![16, 24564, 2]⟩
abbrev S16x1x24564 : Shape := ⟨3, ![16, 1, 24564]⟩
abbrev S16x1x1 : Shape := ⟨3, ![16, 1, 1]⟩
abbrev S1x1 : Shape := ⟨2, ![1, 1]⟩

abbrev nBuf : Space → Nat
  | .hbm => 220
  | .vmem => 0
  | .smem => 0
  | _ => 0

abbrev hbmTy0_0 (i : Nat) : BufTy := match i % 128 with
  | 0 => ⟨S16x24564x4, .f32⟩
  | 1 => ⟨S24564x4, .f32⟩
  | 2 => ⟨S16x16x5, .f32⟩
  | 3 => ⟨S16x16x4, .f32⟩
  | 4 => ⟨S16x16x1, .f32⟩
  | 5 => ⟨S16x16, .f32⟩
  | 6 => ⟨S24564x2, .f32⟩
  | 7 => ⟨S24564x2, .f32⟩
  | 8 => ⟨S_, .f32⟩
  | 9 => ⟨S24564x2, .f32⟩
  | 10 => ⟨S24564x2, .f32⟩
  | 11 => ⟨S24564x2, .f32⟩
  | 12 => ⟨S24564x2, .f32⟩
  | 13 => ⟨S24564x2, .f32⟩
  | 14 => ⟨S_, .f32⟩
  | 15 => ⟨S24564x2, .f32⟩
  | 16 => ⟨S24564x2, .f32⟩
  | 17 => ⟨S24564x2, .f32⟩
  | 18 => ⟨S24564x4, .f32⟩
  | 19 => ⟨S16x16x2, .f32⟩
  | 20 => ⟨S16x16x1x2, .f32⟩
  | 21 => ⟨S24564x2, .f32⟩
  | 22 => ⟨S1x24564x2, .f32⟩
  | 23 => ⟨S1x1x24564x2, .f32⟩
  | 24 => ⟨S16x16x24564x2, .f32⟩
  | 25 => ⟨S16x16x24564x2, .f32⟩
  | 26 => ⟨S16x16x24564x2, .f32⟩
  | 27 => ⟨S16x16x2, .f32⟩
  | 28 => ⟨S16x16x1x2, .f32⟩
  | 29 => ⟨S24564x2, .f32⟩
  | 30 => ⟨S1x24564x2, .f32⟩
  | 31 => ⟨S1x1x24564x2, .f32⟩
  | 32 => ⟨S16x16x24564x2, .f32⟩
  | 33 => ⟨S16x16x24564x2, .f32⟩
  | 34 => ⟨S16x16x24564x2, .f32⟩
  | 35 => ⟨S16x16x24564x2, .f32⟩
  | 36 => ⟨S_, .f32⟩
  | 37 => ⟨S_, .f32⟩
  | 38 => ⟨S16x16x24564x2, .f32⟩
  | 39 => ⟨S16x16x24564x2, .f32⟩
  | 40 => ⟨S16x16x24564x1, .f32⟩
  | 41 => ⟨S16x16x24564, .f32⟩
  | 42 => ⟨S16x16x24564x1, .f32⟩
  | 43 => ⟨S16x16x24564, .f32⟩
  | 44 => ⟨S16x16x24564, .f32⟩
  | 45 => ⟨S16x16x1, .f32⟩
  | 46 => ⟨S16x16, .f32⟩
  | 47 => ⟨S16x16x1, .f32⟩
  | 48 => ⟨S16x16, .f32⟩
  | 49 => ⟨S16x16, .f32⟩
  | 50 => ⟨S16x16x1, .f32⟩
  | 51 => ⟨S16x16, .f32⟩
  | 52 => ⟨S16x16x1, .f32⟩
  | 53 => ⟨S16x16, .f32⟩
  | 54 => ⟨S16x16, .f32⟩
  | 55 => ⟨S16x16, .f32⟩
  | 56 => ⟨S16x16x1, .f32⟩
  | 57 => ⟨S24564x1, .f32⟩
  | 58 => ⟨S24564, .f32⟩
  | 59 => ⟨S24564x1, .f32⟩
  | 60 => ⟨S24564, .f32⟩
  | 61 => ⟨S24564, .f32⟩
  | 62 => ⟨S24564x1, .f32⟩
  | 63 => ⟨S24564, .f32⟩
  | 64 => ⟨S24564x1, .f32⟩
  | 65 => ⟨S24564, .f32⟩
  | 66 => ⟨S24564, .f32⟩
  | 67 => ⟨S24564, .f32⟩
  | 68 => ⟨S1x24564, .f32⟩
  | 69 => ⟨S1x1x24564, .f32⟩
  | 70 => ⟨S16x16x24564, .f32⟩
  | 71 => ⟨S16x16x24564, .f32⟩
  | 72 => ⟨S16x16x24564, .f32⟩
  | 73 => ⟨S16x16x24564, .f32⟩
  | 74 => ⟨S16x16x24564, .f32⟩
  | 75 => ⟨S16x16x24564, .i32⟩
  | 76 => ⟨S_, .f32⟩
  | 77 => ⟨S_, .i32⟩
  | 78 => ⟨S16x16, .f32⟩
  | 79 => ⟨S16x16, .i32⟩
  | 80 => ⟨S_, .f32⟩
  | 81 => ⟨S16x24564, .f32⟩
  | 82 => ⟨S16x16x24564, .i32⟩
  | 83 => ⟨S_, .f32⟩
  | 84 => ⟨S_, .i32⟩
  | 85 => ⟨S16x24564, .f32⟩
  | 86 => ⟨S16x24564, .i32⟩
  | 87 => ⟨S16, .i32⟩
  | 88 => ⟨S16x1, .i32⟩
  | 89 => ⟨S_, .i32⟩
  | 90 => ⟨S16x1, .i32⟩
  | 91 => ⟨S16x1, .i1⟩
  | 92 => ⟨S_, .i32⟩
  | 93 => ⟨S16x1, .i32⟩
  | 94 => ⟨S16x1, .i32⟩
  | 95 => ⟨S16x1, .i32⟩
  | 96 => ⟨S_, .i32⟩
  | 97 => ⟨S16x16, .i32⟩
  | 98 => ⟨S16x16, .i1⟩
  | 99 => ⟨S_, .i32⟩
  | 100 => ⟨S16x16, .i32⟩
  | 101 => ⟨S16x16, .i32⟩
  | 102 => ⟨S16x16, .i32⟩
  | 103 => ⟨S16x16, .i32⟩
  | 104 => ⟨S16x16x1, .i32⟩
  | 105 => ⟨S16x16x1, .i32⟩
  | 106 => ⟨S16x16x2, .i32⟩
  | 107 => ⟨S_, .f32⟩
  | 108 => ⟨S16x16, .f32⟩
  | 109 => ⟨S16x24564, .f32⟩
  | 110 => ⟨S16, .i32⟩
  | 111 => ⟨S1x16, .i32⟩
  | 112 => ⟨S_, .i32⟩
  | 113 => ⟨S16x1, .i32⟩
  | 114 => ⟨S16x1, .i1⟩
  | 115 => ⟨S_, .i32⟩
  | 116 => ⟨S16x1, .i32⟩
  | 117 => ⟨S16x1, .i32⟩
  | 118 => ⟨S16x1, .i32⟩
  | 119 => ⟨S_, .i32⟩
  | 120 => ⟨S16x16, .i32⟩
  | 121 => ⟨S16x16, .i1⟩
  | 122 => ⟨S_, .i32⟩
  | 123 => ⟨S16x16, .i32⟩
  | 124 => ⟨S16x16, .i32⟩
  | 125 => ⟨S16x16, .i32⟩
  | 126 => ⟨S16x16, .i32⟩
  | 127 => ⟨S16x16x1, .i32⟩
  | _ => ⟨S16x24564x4, .f32⟩

abbrev hbmTy0_1 (i : Nat) : BufTy := match i % 128 with
  | 0 => ⟨S16x16x1, .i32⟩
  | 1 => ⟨S16x16x2, .i32⟩
  | 2 => ⟨S16x16, .i32⟩
  | 3 => ⟨S16x24564, .i32⟩
  | 4 => ⟨S_, .i32⟩
  | 5 => ⟨S16x24564, .i32⟩
  | 6 => ⟨S16x24564, .i1⟩
  | 7 => ⟨S_, .i32⟩
  | 8 => ⟨S16x24564, .i32⟩
  | 9 => ⟨S16x24564, .i32⟩
  | 10 => ⟨S16x24564, .i32⟩
  | 11 => ⟨S16x24564x1, .i32⟩
  | 12 => ⟨S16x24564x4, .f32⟩
  | 13 => ⟨S_, .i32⟩
  | 14 => ⟨S16x24564, .i32⟩
  | 15 => ⟨S16x24564, .i1⟩
  | 16 => ⟨S_, .i32⟩
  | 17 => ⟨S16x24564, .i32⟩
  | 18 => ⟨S16x24564, .i32⟩
  | 19 => ⟨S16x24564, .i32⟩
  | 20 => ⟨S16x24564x1, .i32⟩
  | 21 => ⟨S16x24564, .f32⟩
  | 22 => ⟨S16x24564, .i32⟩
  | 23 => ⟨S_, .i32⟩
  | 24 => ⟨S16x24564, .i32⟩
  | 25 => ⟨S16x24564, .i32⟩
  | 26 => ⟨S_, .f32⟩
  | 27 => ⟨S16x24564, .f32⟩
  | 28 => ⟨S16x24564, .i1⟩
  | 29 => ⟨S_, .i32⟩
  | 30 => ⟨S_, .i32⟩
  | 31 => ⟨S24564, .i32⟩
  | 32 => ⟨S16x24564, .i32⟩
  | 33 => ⟨S16x24564, .i32⟩
  | 34 => ⟨S16x24564x2, .f32⟩
  | 35 => ⟨S16x24564x2, .f32⟩
  | 36 => ⟨S16x24564x2, .f32⟩
  | 37 => ⟨S_, .f32⟩
  | 38 => ⟨S16x24564x2, .f32⟩
  | 39 => ⟨S16x24564x2, .f32⟩
  | 40 => ⟨S24564x2, .f32⟩
  | 41 => ⟨S1x24564x2, .f32⟩
  | 42 => ⟨S16x24564x2, .f32⟩
  | 43 => ⟨S16x24564x2, .f32⟩
  | 44 => ⟨S24564x2, .f32⟩
  | 45 => ⟨S_, .f32⟩
  | 46 => ⟨S24564x2, .f32⟩
  | 47 => ⟨S24564x2, .f32⟩
  | 48 => ⟨S1x24564x2, .f32⟩
  | 49 => ⟨S16x24564x2, .f32⟩
  | 50 => ⟨S16x24564x2, .f32⟩
  | 51 => ⟨S16x24564x2, .f32⟩
  | 52 => ⟨S16x24564x2, .f32⟩
  | 53 => ⟨S16x24564x2, .f32⟩
  | 54 => ⟨S24564x2, .f32⟩
  | 55 => ⟨S1x24564x2, .f32⟩
  | 56 => ⟨S16x24564x2, .f32⟩
  | 57 => ⟨S16x24564x2, .f32⟩
  | 58 => ⟨S16x24564x2, .f32⟩
  | 59 => ⟨S_, .f32⟩
  | 60 => ⟨S16x24564x2, .f32⟩
  | 61 => ⟨S16x24564x2, .f32⟩
  | 62 => ⟨S16x24564x4, .f32⟩
  | 63 => ⟨S_, .i32⟩
  | 64 => ⟨S16x24564, .i32⟩
  | 65 => ⟨S16x24564, .i1⟩
  | 66 => ⟨S16x24564x4, .f32⟩
  | 67 => ⟨S16x24564x4, .f32⟩
  | 68 => ⟨S_, .f32⟩
  | 69 => ⟨S16x24564x4, .f32⟩
  | 70 => ⟨S16x24564x4, .i1⟩
  | 71 => ⟨S_, .f32⟩
  | 72 => ⟨S16x24564x4, .f32⟩
  | 73 => ⟨S16x24564x4, .f32⟩
  | 74 => ⟨S16x24564x4, .f32⟩
  | 75 => ⟨S_, .f32⟩
  | 76 => ⟨S16x24564x4, .f32⟩
  | 77 => ⟨S16x24564x4, .f32⟩
  | 78 => ⟨S16x24564x4, .f32⟩
  | 79 => ⟨S16x24564x1, .i1⟩
  | 80 => ⟨S16x24564x1, .f32⟩
  | 81 => ⟨S16x24564x4, .f32⟩
  | 82 => ⟨S16x24564x4, .f32⟩
  | 83 => ⟨S_, .f32⟩
  | 84 => ⟨S_, .f32⟩
  | 85 => ⟨S16x24564, .i32⟩
  | 86 => ⟨S_, .i32⟩
  | 87 => ⟨S16, .i32⟩
  | 88 => ⟨S16x1, .i32⟩
  | 89 => ⟨S16x1x24564, .i32⟩
  | 90 => ⟨S16x1x1, .i32⟩
  | 91 => ⟨S1x1, .f32⟩
  | _ => ⟨S16x24564x4, .f32⟩

abbrev hbmTy (i : Nat) : BufTy := match i / 128 with
  | 0 => hbmTy0_0 i
  | 1 => hbmTy0_1 i
  | _ => ⟨S16x24564x4, .f32⟩

abbrev bufTy : (tb : Table) → Fin (tcTables nBuf tb) → BufTy
  | .hbm, ⟨i, _⟩ => hbmTy i
  | _, _ => ⟨S16x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_call1_v0 : Ref sig .tc := ⟨.hbm, 75, rfl⟩
abbrev main_call1_cst : Ref sig .tc := ⟨.hbm, 76, rfl⟩
abbrev main_call1_c : Ref sig .tc := ⟨.hbm, 77, rfl⟩
abbrev main_call1_v1_0 : Ref sig .tc := ⟨.hbm, 78, rfl⟩
abbrev main_v67 : Ref sig .tc := ⟨.hbm, 79, rfl⟩
abbrev main_cst_2 : Ref sig .tc := ⟨.hbm, 80, rfl⟩
abbrev main_v68 : Ref sig .tc := ⟨.hbm, 81, rfl⟩
abbrev main_call2_v0 : Ref sig .tc := ⟨.hbm, 82, rfl⟩
abbrev main_call2_cst : Ref sig .tc := ⟨.hbm, 83, rfl⟩
abbrev main_call2_c : Ref sig .tc := ⟨.hbm, 84, rfl⟩
abbrev main_call2_v1_0 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c : Ref sig .tc := ⟨.hbm, 89, rfl⟩
abbrev main_v72 : Ref sig .tc := ⟨.hbm, 90, rfl⟩
abbrev main_v73 : Ref sig .tc := ⟨.hbm, 91, rfl⟩
abbrev main_c_3 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_c_4 : Ref sig .tc := ⟨.hbm, 96, rfl⟩
abbrev main_v77 : Ref sig .tc := ⟨.hbm, 97, rfl⟩
abbrev main_v78 : Ref sig .tc := ⟨.hbm, 98, rfl⟩
abbrev main_c_5 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_6 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c_7 : Ref sig .tc := ⟨.hbm, 112, rfl⟩
abbrev main_v90 : Ref sig .tc := ⟨.hbm, 113, rfl⟩
abbrev main_v91 : Ref sig .tc := ⟨.hbm, 114, rfl⟩
abbrev main_c_8 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_9 : Ref sig .tc := ⟨.hbm, 119, rfl⟩
abbrev main_v95 : Ref sig .tc := ⟨.hbm, 120, rfl⟩
abbrev main_v96 : Ref sig .tc := ⟨.hbm, 121, rfl⟩
abbrev main_c_10 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_11 : Ref sig .tc := ⟨.hbm, 132, rfl⟩
abbrev main_v106 : Ref sig .tc := ⟨.hbm, 133, rfl⟩
abbrev main_v107 : Ref sig .tc := ⟨.hbm, 134, rfl⟩
abbrev main_c_12 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_c_13 : Ref sig .tc := ⟨.hbm, 141, rfl⟩
abbrev main_v113 : Ref sig .tc := ⟨.hbm, 142, rfl⟩
abbrev main_v114 : Ref sig .tc := ⟨.hbm, 143, rfl⟩
abbrev main_c_14 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_15 : Ref sig .tc := ⟨.hbm, 151, rfl⟩
abbrev main_v121 : Ref sig .tc := ⟨.hbm, 152, rfl⟩
abbrev main_v122 : Ref sig .tc := ⟨.hbm, 153, rfl⟩
abbrev main_cst_16 : Ref sig .tc := ⟨.hbm, 154, rfl⟩
abbrev main_v123 : Ref sig .tc := ⟨.hbm, 155, rfl⟩
abbrev main_v124 : Ref sig .tc := ⟨.hbm, 156, rfl⟩
abbrev main_c_17 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_18 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_19 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_20 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_c_21 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_22 : Ref sig .tc := ⟨.hbm, 196, rfl⟩
abbrev main_v156 : Ref sig .tc := ⟨.hbm, 197, rfl⟩
abbrev main_v157 : Ref sig .tc := ⟨.hbm, 198, rfl⟩
abbrev main_cst_23 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_24 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_25 : Ref sig .tc := ⟨.hbm, 211, rfl⟩
abbrev main_v168 : Ref sig .tc := ⟨.hbm, 212, rfl⟩
abbrev main_v169 : Ref sig .tc := ⟨.hbm, 213, rfl⟩
abbrev main_c_26 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩

abbrev nD : Nat := 1
abbrev τ : Topo := Topo.v7x

variable {F : FTy → Type} [FloatOps F]
-- ==== Mine.lean ====
abbrev S16x6141x4 : Shape := ⟨3, ![16, 6141, 4]⟩
abbrev S16x1x1 : Shape := ⟨3, ![16, 1, 1]⟩
abbrev S1x1 : Shape := ⟨2, ![1, 1]⟩
abbrev S16x1x24564 : Shape := ⟨3, ![16, 1, 24564]⟩
abbrev S16x1 : Shape := ⟨2, ![16, 1]⟩
abbrev S16x24564 : Shape := ⟨2, ![16, 24564]⟩
abbrev S16x12 : Shape := ⟨2, ![16, 12]⟩
abbrev S16x24576 : Shape := ⟨2, ![16, 24576]⟩
abbrev S16x128 : Shape := ⟨2, ![16, 128]⟩
abbrev S16 : Shape := ⟨1, ![16]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x6141x4, .f32⟩
  | .hbm, ⟨1, _⟩ => ⟨S16x1x1, .i32⟩
  | .hbm, ⟨2, _⟩ => ⟨S1x1, .f32⟩
  | .hbm, ⟨3, _⟩ => ⟨S1x1, .f32⟩
  | .hbm, ⟨4, _⟩ => ⟨S16x1x24564, .f32⟩
  | .hbm, ⟨5, _⟩ => ⟨S16x1, .i32⟩
  | .hbm, ⟨6, _⟩ => ⟨S1x1, .f32⟩
  | .hbm, ⟨7, _⟩ => ⟨S1x1, .f32⟩
  | .local _ .vmem, ⟨0, _⟩ => ⟨S16x1x24564, .f32⟩
  | .local _ .vmem, ⟨1, _⟩ => ⟨S16x1, .i32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S16x6141x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

@[reducible] def k0_t1_loop : Scf.Loop 32 :=
  let c0_i32_4 : BitVec 32 := 0#32
  let c31_i32 : BitVec 32 := 31#32
  let v12 : BitVec 32 := Scalar.addi c0_i32_4 c31_i32
  let c1_i32 : BitVec 32 := 1#32
  ⟨c0_i32_4, v12, c1_i32⟩
abbrev stage0_0 : Fin 1 → Memref sig .tc .vmem S16x1x24564 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MineReference.lean ====
abbrev S16x6141x4 : Shape := ⟨3, ![16, 6141, 4]⟩
abbrev S16x1x1 : Shape := ⟨3, ![16, 1, 1]⟩
abbrev S1x1 : Shape := ⟨2, ![1, 1]⟩
abbrev S1x16x1x1 : Shape := ⟨4, ![1, 16, 1, 1]⟩
abbrev S1 : Shape := ⟨1, ![1]⟩
abbrev S1x1x1x1 : Shape := ⟨4, ![1, 1, 1, 1]⟩

abbrev nBuf : Space → Nat
  | .hbm => 5
  | .vmem => 3
  | .smem => 0
  | _ => 0

abbrev bufTy : (tb : Table) → Fin (tcTables nBuf tb) → BufTy
  | .hbm, ⟨0, _⟩ => ⟨S16x6141x4, .f32⟩
  | .hbm, ⟨1, _⟩ => ⟨S16x1x1, .i32⟩
  | .hbm, ⟨2, _⟩ => ⟨S1x1, .f32⟩
  | .hbm, ⟨3, _⟩ => ⟨S1x1, .f32⟩
  | .hbm, ⟨4, _⟩ => ⟨S1x1, .f32⟩
  | .local _ .vmem, ⟨0, _⟩ => ⟨S16x1x1, .i32⟩
  | .local _ .vmem, ⟨1, _⟩ => ⟨S1x1, .f32⟩
  | .local _ .vmem, ⟨2, _⟩ => ⟨S1x1, .f32⟩
  | _, _ => ⟨S16x6141x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MineValues.lean ====
abbrev S16x6141x4 : Shape := ⟨3, ![16, 6141, 4]⟩
abbrev S16x1x1 : Shape := ⟨3, ![16, 1, 1]⟩
abbrev S1x1 : Shape := ⟨2, ![1, 1]⟩
abbrev S16x1x24564 : Shape := ⟨3, ![16, 1, 24564]⟩
abbrev S16x1 : Shape := ⟨2, ![16, 1]⟩
abbrev S16x24564 : Shape := ⟨2, ![16, 24564]⟩
abbrev S16x12 : Shape := ⟨2, ![16, 12]⟩
abbrev S16x24576 : Shape := ⟨2, ![16, 24576]⟩
abbrev S16x128 : Shape := ⟨2, ![16, 128]⟩
abbrev S16 : Shape := ⟨1, ![16]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x6141x4, .f32⟩
  | .hbm, ⟨1, _⟩ => ⟨S16x1x1, .i32⟩
  | .hbm, ⟨2, _⟩ => ⟨S1x1, .f32⟩
  | .hbm, ⟨3, _⟩ => ⟨S1x1, .f32⟩
  | .hbm, ⟨4, _⟩ => ⟨S16x1x24564, .f32⟩
  | .hbm, ⟨5, _⟩ => ⟨S16x1, .i32⟩
  | .hbm, ⟨6, _⟩ => ⟨S1x1, .f32⟩
  | .hbm, ⟨7, _⟩ => ⟨S1x1, .f32⟩
  | .local _ .vmem, ⟨0, _⟩ => ⟨S16x1x24564, .f32⟩
  | .local _ .vmem, ⟨1, _⟩ => ⟨S16x1, .i32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S16x6141x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_43 : BitVec 32 := 0#32
  let c31_i32 : BitVec 32 := 31#32
  let v136 : BitVec 32 := Scalar.addi c0_i32_43 c31_i32
  let c1_i32_44 : BitVec 32 := 1#32
  ⟨c0_i32_43, v136, c1_i32_44⟩
abbrev stage0_0 : Fin 1 → Memref sig .tc .vmem S16x1x24564 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MineValuesReferenceIdeal.lean ====
abbrev S16x6141x4 : Shape := ⟨3, ![16, 6141, 4]⟩
abbrev S16x1x1 : Shape := ⟨3, ![16, 1, 1]⟩
abbrev S1x1 : Shape := ⟨2, ![1, 1]⟩
abbrev S16x24564 : Shape := ⟨2, ![16, 24564]⟩
abbrev S16x1 : Shape := ⟨2, ![16, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S16x6141x4, .f32⟩
  | .hbm, ⟨1, _⟩ => ⟨S16x1x1, .i32⟩
  | .hbm, ⟨2, _⟩ => ⟨S1x1, .f32⟩
  | .hbm, ⟨3, _⟩ => ⟨S1x1, .f32⟩
  | .hbm, ⟨4, _⟩ => ⟨S16x24564, .f32⟩
  | .hbm, ⟨5, _⟩ => ⟨S16x1, .i32⟩
  | .hbm, ⟨6, _⟩ => ⟨S16x24564, .f32⟩
  | .hbm, ⟨7, _⟩ => ⟨S16x24564, .i32⟩
  | .hbm, ⟨8, _⟩ => ⟨S16x24564, .f32⟩
  | .hbm, ⟨9, _⟩ => ⟨S16x24564, .i32⟩
  | .hbm, ⟨10, _⟩ => ⟨S16x24564, .i32⟩
  | .hbm, ⟨11, _⟩ => ⟨S16x24564, .i32⟩
  | .hbm, ⟨12, _⟩ => ⟨S16x24564, .i32⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S_, .i32⟩
  | .hbm, ⟨17, _⟩ => ⟨S16x1, .i32⟩
  | .hbm, ⟨18, _⟩ => ⟨S16x1, .i32⟩
  | .hbm, ⟨19, _⟩ => ⟨S16x24564, .i32⟩
  | .hbm, ⟨20, _⟩ => ⟨S16x24564, .i1⟩
  | .hbm, ⟨21, _⟩ => ⟨S_, .f32⟩
  | .hbm, ⟨22, _⟩ => ⟨S_, .f32⟩
  | .hbm, ⟨23, _⟩ => ⟨S16x24564, .f32⟩
  | .hbm, ⟨24, _⟩ => ⟨S16x24564, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S1x1, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S1x1, .f32⟩
  | .hbm, ⟨35, _⟩ => ⟨S1x1, .f32⟩
  | _, _ => ⟨S16x6141x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1_0 : Ref sig .tc := ⟨.hbm, 8, rfl⟩
abbrev main_v3 : Ref sig .tc := ⟨.hbm, 9, rfl⟩
abbrev main_call1_v0 : Ref sig .tc := ⟨.hbm, 10, rfl⟩
abbrev main_call1_v1_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call2_v0 : Ref sig .tc := ⟨.hbm, 22, rfl⟩
abbrev main_call2_v1 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.CeBlock.lean ====
/-
  What one grid point of the cross-entropy call leaves in its two output buffers, as the body's own
  terms over the point's input blocks: the block of losses (`lossBlk`), and the running sum, which the first
  point starts at zero and every point adds its block's positive losses to (`accBlk`).
-/
module

public import proofs.«01_k».proof.Proof.Gen.CeIdeal.Value

@[expose] public section

set_option maxRecDepth 16384

noncomputable section

open Idealize.ShloMosaic Idealize.ShloMosaic.TcCoe Idealize.SL.Sem
open Idealize.ShloMosaic.Pipeline (Dat)

namespace Cert.CeIdeal.Block

open Cert.CeIdeal Cert.CeIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- The block of masked losses the body stores, from a block of scores and a block of targets. -/
abbrev lossBlk (x : Vec F S1x6141x324 .f32) (t : Vec F S1x6141x4 .i32) : Vec F S1x6141x4 .f32 :=
  k0_pay10 (k0_pay3 x) (k0_pay4 (F := F) t) k0_pay6 (k0_pay7 (F := F) t)

/-- The running sum after a block, from the sum before it. -/
abbrev accBlk (x : Vec F S1x6141x324 .f32) (t : Vec F S1x6141x4 .i32) (acc : Vec F S1x1 .f32) : Vec F S1x1 .f32 :=
  k0_pay2 (k0_pay11 (k0_pay3 x) (k0_pay4 (F := F) t) k0_pay6 (k0_pay7 (F := F) t)) acc

/-- The first point leaves the block of losses in the first output. -/
theorem first_loss (c : Dev nD) (i : grid0.Coords) (a1 : Memref sig .tc .vmem S1x6141x324 .f32) (h1 : a1.IsWhole)
    (a2 : Memref sig .tc .vmem S1x6141x4 .i32) (h2 : a2.IsWhole) (a3 : Memref sig .tc .vmem S1x6141x4 .f32) (h3 : a3.IsWhole)
    (a4 : Memref sig .tc .vmem S1x1 .f32) (h4 : a4.IsWhole) (hc : cond0_0 i)
    (x : Vec F S1x6141x324 .f32) (t : Vec F S1x6141x4 .i32) :
    out0_A_2 c i a1 h1 a2 h2 a3 h3 a4 h4 hc x t = lossBlk x t := by
  unfold out0_A_2
  rw [View.read_writes_eq_canon _ _ _ (cover0_A_2 c i a1 h1 a2 h2 a3 h3 a4 h4 hc x t)]
  unfold kernelRun0_A
  dsimp only
  sl_unfold_words
  rw [View.canon_unit_zero z3]
  simp only [View.readAt_eq_ld, h1.read_unread, h2.read_unread, View.ld_unit_zero (S := S1x6141x324) z3,
    View.ld_unit_zero (S := S1x6141x4) z3]

/-- The first point leaves, in the second output, its block's sum added to zero. -/
theorem first_acc (c : Dev nD) (i : grid0.Coords) (a1 : Memref sig .tc .vmem S1x6141x324 .f32) (h1 : a1.IsWhole)
    (a2 : Memref sig .tc .vmem S1x6141x4 .i32) (h2 : a2.IsWhole) (a3 : Memref sig .tc .vmem S1x6141x4 .f32) (h3 : a3.IsWhole)
    (a4 : Memref sig .tc .vmem S1x1 .f32) (h4 : a4.IsWhole) (hc : cond0_0 i)
    (x : Vec F S1x6141x324 .f32) (t : Vec F S1x6141x4 .i32) :
    out0_A_3 c i a1 h1 a2 h2 a3 h3 a4 h4 hc x t = accBlk x t (k0_pay1 (F := F)) := by
  unfold out0_A_3
  rw [View.read_writes_eq_canon _ _ _ (cover0_A_3 c i a1 h1 a2 h2 a3 h3 a4 h4 hc x t)]
  unfold kernelRun0_A
  dsimp only
  sl_unfold_words
  rw [View.canon_cons_unit_zero (S := S1x1) z2, View.readCov_unit_zero (S := S1x1) _ z2]
  simp only [View.readAt_eq_ld, h1.read_unread, h2.read_unread, View.ld_unit_zero (S := S1x6141x324) z3,
    View.ld_unit_zero (S := S1x6141x4) z3]

/-- Every later point leaves its block of losses in the first output. -/
theorem later_loss (c : Dev nD) (i : grid0.Coords) (a1 : Memref sig .tc .vmem S1x6141x324 .f32) (h1 : a1.IsWhole)
    (a2 : Memref sig .tc .vmem S1x6141x4 .i32) (h2 : a2.IsWhole) (a3 : Memref sig .tc .vmem S1x6141x4 .f32) (h3 : a3.IsWhole)
    (a4 : Memref sig .tc .vmem S1x1 .f32) (h4 : a4.IsWhole) (hc : ¬cond0_0 i)
    (x : Vec F S1x6141x324 .f32) (t : Vec F S1x6141x4 .i32) (acc : Vec F S1x1 .f32) :
    out0_B_2 c i a1 h1 a2 h2 a3 h3 a4 h4 hc x t acc = lossBlk x t := by
  unfold out0_B_2
  rw [View.read_writes_eq_canon _ _ _ (cover0_B_2 c i a1 h1 a2 h2 a3 h3 a4 h4 hc x t acc)]
  unfold kernelRun0_B
  dsimp only
  sl_unfold_words
  rw [View.canon_unit_zero z3]
  simp only [View.readAt_eq_ld, h1.read_unread, h2.read_unread, View.ld_unit_zero (S := S1x6141x324) z3,
    View.ld_unit_zero (S := S1x6141x4) z3]

/-- Every later point adds its block's sum to what the point before left in the second output. -/
theorem later_acc (c : Dev nD) (i : grid0.Coords) (a1 : Memref sig .tc .vmem S1x6141x324 .f32) (h1 : a1.IsWhole)
    (a2 : Memref sig .tc .vmem S1x6141x4 .i32) (h2 : a2.IsWhole) (a3 : Memref sig .tc .vmem S1x6141x4 .f32) (h3 : a3.IsWhole)
    (a4 : Memref sig .tc .vmem S1x1 .f32) (h4 : a4.IsWhole) (hc : ¬cond0_0 i)
    (x : Vec F S1x6141x324 .f32) (t : Vec F S1x6141x4 .i32) (acc : Vec F S1x1 .f32) :
    out0_B_3 c i a1 h1 a2 h2 a3 h3 a4 h4 hc x t acc = accBlk x t acc := by
  unfold out0_B_3
  rw [View.read_writes_eq_canon _ _ _ (cover0_B_3 c i a1 h1 a2 h2 a3 h3 a4 h4 hc x t acc)]
  unfold kernelRun0_B
  dsimp only
  sl_unfold_words
  rw [View.canon_unit_zero z2]
  simp only [View.readAt_eq_ld, h1.read_unread, h2.read_unread, h4.read_unread,
    View.ld_unit_zero (S := S1x6141x324) z3, View.ld_unit_zero (S := S1x6141x4) z3, View.ld_unit_zero (S := S1x1) z2]

variable (m : (ℓ : Loc nD τ sig) → Buf (Elt F) ℓ)

/-- Whatever the point, the first output's buffer holds that point's block of losses after it. -/
theorem outs_loss (c : Dev nD) (t : Fin cfg0.N) :
    (outsAt0 m c t.val t.isLt).1 = lossBlk (iblk m c 0 t) (iblk m c 1 t) := by
  by_cases h : t.val % 16 = 0
  · rw [outsAt0_A m c t h]; dsimp only; rw [first_loss]
  · rw [outsAt0_B m c t h]; dsimp only; rw [later_loss]

/-- The running sum of the blocks 0 … n, added in the order of the points. -/
def chain (c : Dev nD) : (n : ℕ) → n < cfg0.N → Vec F S1x1 .f32
  | 0, h => accBlk (iblk m c 0 ⟨0, h⟩) (iblk m c 1 ⟨0, h⟩) (k0_pay1 (F := F))
  | n + 1, h => accBlk (iblk m c 0 ⟨n + 1, h⟩) (iblk m c 1 ⟨n + 1, h⟩) (chain c n (Nat.lt_of_succ_lt h))

/-- The second output's buffer holds the running sum after each point. -/
theorem outs_acc (c : Dev nD) : ∀ (n : ℕ) (h : n < cfg0.N), (outsAt0 m c n h).2 = chain m c n h
  | 0, h => by
    rw [outsAt0_A m c ⟨0, h⟩ rfl]; dsimp only; rw [first_acc]; rfl
  | n + 1, h => by
    have hN : cfg0.N = 16 := N_0
    have hB : ¬(⟨n + 1, h⟩ : Fin cfg0.N).val % 16 = 0 := by dsimp only; omega
    rw [outsAt0_B m c ⟨n + 1, h⟩ hB]; dsimp only; rw [later_acc]
    show accBlk _ _ (outsAt0 m c n _).2 = accBlk _ _ (chain m c n _)
    rw [outs_acc c n]

end Cert.CeIdeal.Block

end
-- ==== Proof.CeScore.lean ====
/-
  The cross-entropy of one row of 81 scores against a target class (`score`), and the proof that a block of the
  call's body is that: the body lays four rows side by side in 324 lanes, sums each group of 81 lanes by a product
  with a 0/1 matrix, and takes the target's score by masking the lanes whose class is the target.
-/
module

public import proofs.«01_k».proof.Proof.CeBlock
public import Idealize.ShloMosaic.Lib.Pointwise

@[expose] public section

set_option maxRecDepth 16384

noncomputable section

open Idealize.ShloMosaic Idealize.ShloMosaic.TcCoe Idealize.SL.Sem
open scoped BigOperators

namespace Cert.CeIdeal.Score

open Cert.CeIdeal Cert.CeIdeal.Gen Cert.CeIdeal.Block

/-- The cross-entropy of a row of scores at a target: the logarithm of the sum of exponentials, less the target's
    score (picked out by a sum over the classes of which at most one term is not zero). -/
def score (f : Fin 81 → EReal) (w : BitVec 32) : EReal :=
  Ideal.log (∑ k : Fin 81, Ideal.exp (f k)) - ∑ k : Fin 81, if BitVec.ofNat 32 k.val = w then f k else 0

/-- The lane a class of a row group lies in. -/
abbrev lane (g : Fin 4) (k : Fin 81) : Fin 324 := ⟨81 * g.val + k.val, by omega⟩

/-- Which of the four rows a lane belongs to, as the chain of comparisons the body computes it by. -/
theorem group_word : ∀ l : Fin 324,
    Scalar.select (IntOp.cmpi CmpIPredicate.slt (BitVec.ofNat 32 l.val) 81#32) (0#32)
      (Scalar.select (IntOp.cmpi CmpIPredicate.slt (BitVec.ofNat 32 l.val) 162#32) (1#32)
        (Scalar.select (IntOp.cmpi CmpIPredicate.slt (BitVec.ofNat 32 l.val) 243#32) 2#32 3#32)) =
    BitVec.ofNat 32 (l.val / 81) := by decide +kernel

theorem pay5_apply (R : Fin 6141) (l : Fin 324) : k0_pay5 (ix2 R l) = BitVec.ofNat 32 (l.val / 81) := by
  pointwise [k0_pay5]
  exact group_word l

theorem class_word : ∀ l : Fin 324,
    IntOp.subi (BitVec.ofNat 32 l.val) (IntOp.muli (BitVec.ofNat 32 (l.val / 81)) 81#32) = BitVec.ofNat 32 (l.val % 81) := by
  decide +kernel

/-- The class a lane holds the score of. -/
theorem pay6_apply (R : Fin 6141) (l : Fin 324) : k0_pay6 (ix2 R l) = BitVec.ofNat 32 (l.val % 81) := by
  pointwise [k0_pay6]
  rw [pay5_apply, class_word]

/-- Every lane of a row's group holds the row's target. -/
theorem pay7_apply (t : Vec Ideal S1x6141x4 .i32) (R : Fin 6141) (g : Fin 4) (k : Fin 81) :
    k0_pay7 (F := Ideal) t (ix2 R (lane g k)) = t (ix3 0 R g) := by
  pointwise [k0_pay7, k0_pay4]
  rw [pay5_apply]
  have hd : (lane g k).val / 81 = g.val := by
    have := k.isLt; dsimp only [lane]; omega
  rw [hd]
  fin_cases g <;> rfl

theorem pay6_lane (R : Fin 6141) (g : Fin 4) (k : Fin 81) : k0_pay6 (ix2 R (lane g k)) = BitVec.ofNat 32 k.val := by
  rw [pay6_apply]
  have hd : (lane g k).val % 81 = k.val := by
    have := k.isLt; dsimp only [lane]; omega
  rw [hd]

/-- The 0/1 matrix's entry: one where the lane belongs to the column's row. -/
theorem weight : ∀ (a g : Fin 4),
    (FloatOps.sitofp (F := Ideal) FTy.f32 (BitVec.setWidth 32
      (IntOp.cmpi CmpIPredicate.eq (BitVec.ofNat 32 a.val) (BitVec.ofNat 32 g.val))) : EReal) = if a = g then 1 else 0 := by
  intro a g
  have h : BitVec.setWidth 32 (IntOp.cmpi CmpIPredicate.eq (BitVec.ofNat 32 a.val) (BitVec.ofNat 32 g.val))
      = if a = g then 1#32 else 0#32 := by revert a g; decide
  rw [h]
  split
  · show (((1#32 : BitVec 32).toInt : ℝ) : EReal) = 1
    rw [show (1#32 : BitVec 32).toInt = 1 from by decide]; norm_num
  · show (((0#32 : BitVec 32).toInt : ℝ) : EReal) = 0
    rw [show (0#32 : BitVec 32).toInt = 0 from by decide]; norm_num

/-- A sum over the 324 lanes is a sum over four groups of 81. -/
theorem sum_lanes (F : Fin 324 → EReal) : ∑ l, F l = ∑ a : Fin 4, ∑ k : Fin 81, F (lane a k) := by
  rw [← Fintype.sum_prod_type', ← (finProdFinEquiv (m := 4) (n := 81)).sum_comp F]
  refine Finset.sum_congr rfl fun p _ => congrArg F (Fin.ext ?_)
  show p.2.val + 81 * p.1.val = 81 * p.1.val + p.2.val
  omega

/-- A product with the 0/1 matrix sums the lanes of one group. -/
theorem sum_group (F : Fin 324 → EReal) (g : Fin 4) :
    ∑ l : Fin 324, F l * FloatOps.sitofp (F := Ideal) FTy.f32 (BitVec.setWidth 32
      (IntOp.cmpi CmpIPredicate.eq (BitVec.ofNat 32 (l.val / 81)) (BitVec.ofNat 32 g.val)))
    = ∑ k : Fin 81, F (lane g k) := by
  rw [sum_lanes]
  have hw : ∀ (a : Fin 4) (k : Fin 81), (lane a k).val / 81 = a.val := fun a k => by
    have := k.isLt; dsimp only [lane]; omega
  simp only [hw, weight]
  rw [Finset.sum_eq_single g (fun a _ ha => by simp [ha]) (fun h => absurd (Finset.mem_univ g) h)]
  simp

/-- A choice by an equality of words is a choice by the equality. -/
theorem select_eq (u w : BitVec 32) (a b : EReal) :
    Scalar.select (IntOp.cmpi CmpIPredicate.eq u w) a b = if u = w then a else b := by
  by_cases h : u = w
  · subst h; simp [Scalar.select, IntOp.cmpi]
  · have hb : (u == w) = false := beq_eq_false_iff_ne.mpr h
    simp [Scalar.select, IntOp.cmpi, h, hb]

/-- The body's cross-entropy of row `4 R + g` of its block. -/
theorem pay8_apply (x : Vec Ideal S1x6141x324 .f32) (t : Vec Ideal S1x6141x4 .i32) (R : Fin 6141) (g : Fin 4) :
    k0_pay8 (F := Ideal) (k0_pay3 x) k0_pay6 (k0_pay7 (F := Ideal) t) (ix2 R g)
      = score (fun k => x (ix3 0 R (lane g k))) (t (ix3 0 R g)) := by
  have hv : ∀ l : Fin 324, k0_pay3 x (ix2 R l) = x (ix3 0 R l) := fun l => by pointwise [k0_pay3]
  pointwise [k0_pay8]
  simp only [group_word, hv, select_eq]
  have hz : ∀ (c : Prop) [Decidable c] (a b : EReal), (if c then a * b else 0) = (if c then a else 0) * b := by
    intro c _ a b; split <;> simp
  simp only [hz]
  rw [sum_group (fun l => Ideal.exp (x (ix3 0 R l))) g,
    sum_group (fun l => if k0_pay6 (ix2 R l) = k0_pay7 (F := Ideal) t (ix2 R l) then x (ix3 0 R l) else 0) g]
  simp only [pay6_lane, pay7_apply, score]

/-- The loss the body stores for a row: nothing at a positive target, else the cross-entropy. -/
def negLoss (f : Fin 81 → EReal) (w : BitVec 32) : EReal := Scalar.select (IntOp.cmpi CmpIPredicate.sgt w 0#32) 0 (score f w)

/-- What the body adds to the running sum for a row: the cross-entropy at a positive target, else nothing. -/
def posLoss (f : Fin 81 → EReal) (w : BitVec 32) : EReal := Scalar.select (IntOp.cmpi CmpIPredicate.sgt w 0#32) (score f w) 0

theorem lossBlk_apply (x : Vec Ideal S1x6141x324 .f32) (t : Vec Ideal S1x6141x4 .i32) (b : Fin 1) (R : Fin 6141) (g : Fin 4) :
    lossBlk x t (ix3 b R g) = negLoss (fun k => x (ix3 0 R (lane g k))) (t (ix3 0 R g)) := by
  pointwise [lossBlk, k0_pay10, k0_pay9, k0_pay4]
  rw [pay8_apply, negLoss]

theorem accBlk_apply (x : Vec Ideal S1x6141x324 .f32) (t : Vec Ideal S1x6141x4 .i32) (a : Vec Ideal S1x1 .f32) (j : S1x1.Idx) :
    accBlk x t a j
      = a j + ∑ R : Fin 6141, ∑ g : Fin 4, posLoss (fun k => x (ix3 0 R (lane g k))) (t (ix3 0 R g)) := by
  have h : ∀ (R : Fin 6141) (g : Fin 4), k0_pay9 (k0_pay4 (F := Ideal) t) (ix2 R g) = IntOp.cmpi CmpIPredicate.sgt (t (ix3 0 R g)) 0#32 :=
    fun R g => by pointwise [k0_pay9, k0_pay4]
  unfold accBlk
  generalize hp : k0_pay4 (F := Ideal) t = p at h ⊢
  pointwise [k0_pay2, k0_pay11]
  refine congrArg _ (Finset.sum_congr rfl fun R _ => Finset.sum_congr rfl fun g _ => ?_)
  rw [h, pay8_apply, posLoss]

theorem zero_apply (j : S1x1.Idx) : k0_pay1 (F := Ideal) j = 0 := by pointwise [k0_pay1]

end Cert.CeIdeal.Score

end
-- ==== Proof.CeLse.lean ====
/-
  The stabilised log-sum-exp on extended reals: subtracting a real number from every score before exponentiating, and
  adding it back after the logarithm, leaves the logarithm of the sum of exponentials as it was.
-/
module

public import proofs.«01_k».proof.Proof.CeScore

@[expose] public section

set_option maxRecDepth 16384

noncomputable section

open Idealize.ShloMosaic Idealize.ShloMosaic.TcCoe Idealize.SL.Sem
open scoped BigOperators

namespace Cert.CeIdeal.Lse

/-- An exponential is not negative. -/
theorem exp_nonneg (x : EReal) : 0 ≤ Ideal.exp x := by
  induction x with
  | bot => exact le_rfl
  | top => exact le_top
  | coe r => exact EReal.coe_nonneg.mpr (Real.exp_pos r).le

/-- The exponential of a shifted score is the score's exponential scaled. -/
theorem exp_shift (x : EReal) (c : ℝ) : Ideal.exp (x - (c : EReal)) = Ideal.exp x * ((Real.exp (-c) : ℝ) : EReal) := by
  induction x with
  | bot =>
    rw [EReal.bot_sub, Ideal.exp_bot, zero_mul]
  | top =>
    rw [EReal.top_sub_coe, Ideal.exp_top, EReal.top_mul_coe_of_pos (Real.exp_pos _)]
  | coe r =>
    rw [← EReal.coe_sub, Ideal.exp_coe, Ideal.exp_coe, ← EReal.coe_mul, ← Real.exp_add, sub_eq_add_neg]

/-- A real factor comes out of a sum of terms that are not negative. -/
theorem sum_scale {ι : Type} (s : Finset ι) (f : ι → EReal) (hf : ∀ k, 0 ≤ f k) (a : EReal) :
    ∑ k ∈ s, f k * a = (∑ k ∈ s, f k) * a := by
  classical
  induction s using Finset.induction_on with
  | empty => simp
  | insert k s hk ih =>
    rw [Finset.sum_insert hk, Finset.sum_insert hk, ih,
      EReal.right_distrib_of_nonneg (hf k) (Finset.sum_nonneg fun j _ => hf j)]

/-- Scaling a nonnegative number by `exp (-c)` and adding `c` to the logarithm gives the logarithm. -/
theorem log_scale (S : EReal) (hS : 0 ≤ S) (c : ℝ) :
    Ideal.log (S * ((Real.exp (-c) : ℝ) : EReal)) + (c : EReal) = Ideal.log S := by
  induction S with
  | bot => exact absurd hS (by simp)
  | top => rw [EReal.top_mul_coe_of_pos (Real.exp_pos _), Ideal.log_top, EReal.top_add_coe]
  | coe r =>
    have hr : 0 ≤ r := EReal.coe_nonneg.mp hS
    rw [← EReal.coe_mul, Ideal.log_coe, Ideal.log_coe]
    rcases hr.eq_or_lt with h | h
    · subst h
      rw [zero_mul, if_pos le_rfl, EReal.bot_add]
    · rw [if_neg (not_le.mpr (mul_pos h (Real.exp_pos _))), if_neg (not_le.mpr h),
        Real.log_mul h.ne' (Real.exp_pos _).ne', Real.log_exp, ← EReal.coe_add]
      congr 1; ring

/-- The stabilised log-sum-exp with any real shift is the plain one. -/
theorem lse_shift (f : Fin 81 → EReal) (c : ℝ) :
    Ideal.log (∑ k : Fin 81, Ideal.exp (f k - (c : EReal))) + (c : EReal) = Ideal.log (∑ k : Fin 81, Ideal.exp (f k)) := by
  rw [Finset.sum_congr rfl fun k _ => exp_shift (f k) c, sum_scale _ _ (fun k => exp_nonneg (f k)),
    log_scale _ (Finset.sum_nonneg fun k _ => exp_nonneg (f k))]

/-- A sum over the classes that keeps one class's term is that term. -/
theorem pick (f : Fin 81 → EReal) (w : BitVec 32) (hw : w.toNat < 81) :
    (∑ k : Fin 81, if BitVec.ofNat 32 k.val = w then f k else 0) = f ⟨w.toNat, hw⟩ := by
  rw [Finset.sum_eq_single_of_mem ⟨w.toNat, hw⟩ (Finset.mem_univ _)]
  · exact if_pos (by simp)
  · intro k _ hk
    refine if_neg fun h => hk (Fin.ext ?_)
    have h' := congrArg BitVec.toNat h
    rw [BitVec.toNat_ofNat, Nat.mod_eq_of_lt (by omega)] at h'
    exact h'

end Cert.CeIdeal.Lse

end
-- ==== Proof.CeArrays.lean ====
/-
  The two arrays the cross-entropy call ends with, as functions of its two arguments: entry (b, R, g) of the first
  is the loss of prior 4 R + g of image b (`lossArr`), the second is the sum of the positive priors' cross-entropies
  over every image and prior (`sumArr`).
-/
module

public import proofs.«01_k».proof.Proof.CeScore
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.CeIdeal.Arrays

open Cert.CeIdeal Cert.CeIdeal.Gen Cert.CeIdeal.Block Cert.CeIdeal.Score

/-- The prior a row and a group of the folded layout stand for. -/
abbrev prior (R : Fin 6141) (g : Fin 4) : Fin 24564 := ⟨4 * R.val + g.val, by omega⟩

/-- The scores of one prior of one image. -/
abbrev row (X : S16x24564x81.Idx → EReal) (b : Fin 16) (p : Fin 24564) : Fin 81 → EReal := fun k => X (ix3 b p k)

/-- The losses, in the folded layout. -/
def lossArr (X : S16x24564x81.Idx → EReal) (T : S16x1x24564.Idx → BitVec 32) : S16x6141x4.Idx → EReal :=
  fun i => negLoss (row X (i 0) (prior (i 1) (i 2))) (T (ix3 (i 0) 0 (prior (i 1) (i 2))))

/-- One image's positive losses, summed. -/
def imageSum (X : S16x24564x81.Idx → EReal) (T : S16x1x24564.Idx → BitVec 32) (b : Fin 16) : EReal :=
  ∑ R : Fin 6141, ∑ g : Fin 4, posLoss (row X b (prior R g)) (T (ix3 b 0 (prior R g)))

/-- All images' positive losses, summed. -/
def sumArr (X : S16x24564x81.Idx → EReal) (T : S16x1x24564.Idx → BitVec 32) : S1x1.Idx → EReal :=
  fun _ => ∑ b : Fin 16, imageSum X T b

variable (m : (ℓ : Loc nD τ sig) → Buf (Elt Ideal) ℓ)

/-- The scores the call is given. -/
abbrev argX (c : Dev nD) : S16x24564x81.Idx → EReal := m ((c : Thread nD τ).loc main_arg0)
/-- The targets the call is given. -/
abbrev argT (c : Dev nD) : S16x1x24564.Idx → BitVec 32 := m ((c : Thread nD τ).loc main_arg1)

theorem V_scores (c : Dev nD) :
    (V m c main_v0 : S16x6141x324.Idx → EReal) = shapeCast S16x6141x324 (argX m c) shapeCasts_S16x24564x81_S16x6141x324 := by
  show StableHlo.after hostOps0 _ (Proc.devRef .tc main_v0) = _
  after_results
  rfl

theorem V_targets (c : Dev nD) :
    (V m c main_v1 : S16x6141x4.Idx → BitVec 32) = shapeCast S16x6141x4 (argT m c) shapeCasts_S16x1x24564_S16x6141x4 := by
  show StableHlo.after hostOps0 _ (Proc.devRef .tc main_v1) = _
  after_results
  rfl

/-- The image a grid point works on. -/
abbrev image (t : Fin cfg0.N) : Fin 16 := ⟨t.val, lt_of_lt_of_eq t.isLt N_0⟩

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Where a point's block of scores lies in its array. -/
theorem emb0 (t : Fin cfg0.N) (R : Fin 6141) (l : Fin 324) :
    (((cfg0.win 0).blk t).view.emb (ix3 0 R l) : S16x6141x324.Idx) = ix3 (image t) R l := by
  obtain ⟨h0, h1, h2⟩ := index0 t
  funext a
  apply Fin.ext
  match a with
  | ⟨0, _⟩ => show win0_0.index t 0 * 1 + 1 * 0 = t.val; rw [h0]; omega
  | ⟨1, _⟩ => show win0_0.index t 1 * 6141 + 1 * R.val = R.val; rw [h1]; omega
  | ⟨2, _⟩ => show win0_0.index t 2 * 324 + 1 * l.val = l.val; rw [h2]; omega

/-- Where a point's block of targets lies in its array. -/
theorem emb1 (t : Fin cfg0.N) (R : Fin 6141) (g : Fin 4) :
    (((cfg0.win 1).blk t).view.emb (ix3 0 R g) : S16x6141x4.Idx) = ix3 (image t) R g := by
  obtain ⟨h0, h1, h2⟩ := index1 t
  funext a
  apply Fin.ext
  match a with
  | ⟨0, _⟩ => show win0_1.index t 0 * 1 + 1 * 0 = t.val; rw [h0]; omega
  | ⟨1, _⟩ => show win0_1.index t 1 * 6141 + 1 * R.val = R.val; rw [h1]; omega
  | ⟨2, _⟩ => show win0_1.index t 2 * 4 + 1 * g.val = g.val; rw [h2]; omega

/-- Where a point's block of losses lies in its array. -/
theorem emb2 (t : Fin cfg0.N) (b : Fin 1) (R : Fin 6141) (g : Fin 4) :
    (((cfg0.win 2).blk t).view.emb (ix3 b R g) : S16x6141x4.Idx) = ix3 (image t) R g := by
  obtain ⟨h0, h1, h2⟩ := index2 t
  funext a
  apply Fin.ext
  match a with
  | ⟨0, _⟩ => show win0_2.index t 0 * 1 + 1 * b.val = t.val; rw [h0]; omega
  | ⟨1, _⟩ => show win0_2.index t 1 * 6141 + 1 * R.val = R.val; rw [h1]; omega
  | ⟨2, _⟩ => show win0_2.index t 2 * 4 + 1 * g.val = g.val; rw [h2]; omega

/-- A point's block of scores, read: lane `81 g + k` of row `R` is class `k` of prior `4 R + g`. -/
theorem scores_apply (c : Dev nD) (t : Fin cfg0.N) (R : Fin 6141) (g : Fin 4) (k : Fin 81) :
    (iblk m c 0 t : Vec Ideal S1x6141x324 .f32) (ix3 0 R (lane g k)) = argX m c (ix3 (image t) (prior R g) k) := by
  show (V m c main_v0 : S16x6141x324.Idx → EReal) (((cfg0.win 0).blk t).view.emb (ix3 0 R (lane g k))) = _
  rw [V_scores, emb0]
  refine shapeCast_apply _ _ _ _ ?_
  rw [Shape.rowMajor_val_three, Shape.rowMajor_val_three]
  show (t.val * 24564 + (4 * R.val + g.val)) * 81 + k.val = (t.val * 6141 + R.val) * 324 + (81 * g.val + k.val)
  omega

/-- A point's block of targets, read. -/
theorem targets_apply (c : Dev nD) (t : Fin cfg0.N) (R : Fin 6141) (g : Fin 4) :
    (iblk m c 1 t : Vec Ideal S1x6141x4 .i32) (ix3 0 R g) = argT m c (ix3 (image t) 0 (prior R g)) := by
  show (V m c main_v1 : S16x6141x4.Idx → BitVec 32) (((cfg0.win 1).blk t).view.emb (ix3 0 R g)) = _
  rw [V_targets, emb1]
  refine shapeCast_apply _ _ _ _ ?_
  rw [Shape.rowMajor_val_three, Shape.rowMajor_val_three]
  show (t.val * 1 + 0) * 24564 + (4 * R.val + g.val) = (t.val * 6141 + R.val) * 4 + g.val
  omega

/-- Every point writes its own image's slab of the losses. -/
theorem flushed_loss (c : Dev nD) (t : Fin cfg0.N) (_hf : (cfg0.win 2).flush t = true) :
    (dats m 0 c).flushed 2 t = ((cfg0.win 2).blk t).view.read (Elt Ideal) (lossArr (argX m c) (argT m c)) := by
  rw [Value.flushed2, outs_loss]
  have key : ∀ j : S1x6141x4.Idx, lossBlk (F := Ideal) (iblk m c 0 t) (iblk m c 1 t) j
      = lossArr (argX m c) (argT m c) (((cfg0.win 2).blk t).view.emb j) := by
    intro j
    obtain ⟨b, R, g, rfl⟩ : ∃ b R g, j = ix3 b R g := ⟨_, _, _, eq_ix3 j⟩
    rw [lossBlk_apply, emb2]
    simp only [scores_apply, targets_apply, lossArr]
    rfl
  exact funext key

/-- The first result: every loss, each slab written by its image's point. -/
theorem final_loss (c : Dev nD) : (dats m 0 c).arrAt 2 cfg0.N = lossArr (argX m c) (argT m c) :=
  (dats m 0 c).arrAt_eq_of_cover 2 (lossArr (argX m c) (argT m c)) (flushed_loss m c) fun i => by
    have hN : cfg0.N = 16 := N_0
    refine ⟨⟨((i : S16x6141x4.Idx) 0).val, by rw [hN]; exact ((i : S16x6141x4.Idx) 0).isLt⟩, flush0_2 _, ?_⟩
    generalize ht : (⟨((i : S16x6141x4.Idx) 0).val, _⟩ : Fin cfg0.N) = t
    obtain ⟨h0, h1, h2⟩ := index2 t
    show i ∈ ((View.whole main_v2_0).slice (win0_2.rect t)).set
    rw [View.set_slice_whole, Rect.mem_set_unit]
    have hv : t.val = ((i : S16x6141x4.Idx) 0).val := by rw [← ht]
    intro a
    match a with
    | ⟨0, _⟩ =>
      show win0_2.index t 0 * 1 ≤ ((i : S16x6141x4.Idx) 0).val ∧ ((i : S16x6141x4.Idx) 0).val < win0_2.index t 0 * 1 + 1
      rw [h0]; omega
    | ⟨1, _⟩ =>
      show win0_2.index t 1 * 6141 ≤ ((i : S16x6141x4.Idx) 1).val ∧ ((i : S16x6141x4.Idx) 1).val < win0_2.index t 1 * 6141 + 6141
      have hi : ((i : S16x6141x4.Idx) 1).val < 6141 := ((i : S16x6141x4.Idx) 1).isLt
      rw [h1]; omega
    | ⟨2, _⟩ =>
      show win0_2.index t 2 * 4 ≤ ((i : S16x6141x4.Idx) 2).val ∧ ((i : S16x6141x4.Idx) 2).val < win0_2.index t 2 * 4 + 4
      have hi : ((i : S16x6141x4.Idx) 2).val < 4 := ((i : S16x6141x4.Idx) 2).isLt
      rw [h2]; omega

/-- The running sum after point `n` is the sum of the first `n + 1` images. -/
theorem chain_apply (c : Dev nD) (j : S1x1.Idx) : ∀ (n : ℕ) (h : n < cfg0.N),
    chain m c n h j = ∑ b ∈ Finset.range (n + 1), if hb : b < 16 then imageSum (argX m c) (argT m c) ⟨b, hb⟩ else 0
  | 0, h => by
    rw [chain, accBlk_apply, zero_apply, zero_add, Finset.sum_range_one, dif_pos (by decide)]
    simp only [scores_apply, targets_apply]
    rfl
  | n + 1, h => by
    have hN : cfg0.N = 16 := N_0
    rw [chain, accBlk_apply, chain_apply c j n, Finset.sum_range_succ _ (n + 1), dif_pos (by omega : n + 1 < 16)]
    simp only [scores_apply, targets_apply]
    rfl

/-- After the last point: the sum of all sixteen. -/
theorem chain_last (c : Dev nD) (h : 15 < cfg0.N) : chain m c 15 h = sumArr (argX m c) (argT m c) := by
  funext j
  rw [chain_apply, sumArr, Finset.sum_range]
  exact Finset.sum_congr rfl fun b _ => dif_pos b.isLt

/-- The one write-back of the sum, after the last point. -/
theorem flushed_acc (c : Dev nD) (t : Fin cfg0.N) (hf : (cfg0.win 3).flush t = true) :
    (dats m 0 c).flushed 3 t = ((cfg0.win 3).blk t).view.read (Elt Ideal) (sumArr (argX m c) (argT m c)) := by
  have hN : cfg0.N = 16 := N_0
  have h3 : t.val = 15 := by have := (flush0_3 t).mp hf; have := t.isLt; omega
  obtain rfl : t = t0_15 := Fin.ext h3
  rw [Value.flushed3]
  have e : (outsAt0 m c t0_15.val t0_15.isLt).2 = sumArr (argX m c) (argT m c) :=
    (outs_acc m c _ _).trans (chain_last m c _)
  rw [e]
  have hz' : (fun a => win0_3.index t0_15 a * main_v2_1.ty.shape.size a) = fun _ => 0 := funext fun a => by fin_cases a <;> decide
  exact (Memref.read_access_unit_zero (Elt Ideal) main_v2_1 hz' (fun a => by rw [congrFun hz' a]; simp) (sumArr (argX m c) (argT m c))).symm

/-- The second result: the sum over every image and prior. -/
theorem final_acc (c : Dev nD) : (dats m 0 c).arrAt 3 cfg0.N = sumArr (argX m c) (argT m c) :=
  (dats m 0 c).arrAt_eq_of_cover 3 (sumArr (argX m c) (argT m c)) (flushed_acc m c) fun i =>
    ⟨t0_15, (flush0_3 t0_15).mpr rfl, by
      show i ∈ ((View.whole main_v2_1).slice (win0_3.rect t0_15)).set
      rw [View.set_slice_whole, Rect.mem_set_unit]
      intro a
      have e0 : win0_3.index t0_15 0 = 0 := by decide +kernel
      have e1 : win0_3.index t0_15 1 = 0 := by decide +kernel
      have b0 : ((i : S1x1.Idx) 0).val < 1 := ((i : S1x1.Idx) 0).isLt
      have b1 : ((i : S1x1.Idx) 1).val < 1 := ((i : S1x1.Idx) 1).isLt
      match a with
      | ⟨0, _⟩ =>
        show win0_3.index t0_15 0 * 1 ≤ ((i : S1x1.Idx) 0).val ∧ ((i : S1x1.Idx) 0).val < win0_3.index t0_15 0 * 1 + 1
        rw [e0]; omega
      | ⟨1, _⟩ =>
        show win0_3.index t0_15 1 * 1 ≤ ((i : S1x1.Idx) 1).val ∧ ((i : S1x1.Idx) 1).val < win0_3.index t0_15 1 * 1 + 1
        rw [e1]; omega⟩

end Cert.CeIdeal.Arrays

end
-- ==== Proof.CeRefValue.lean ====
/-
  What the cross-entropy's reference computes on the extended reals, where every target is one of the 81 classes:
  its two results are the losses `lossArr` and the sum `sumArr`.
-/
module

public import proofs.«01_k».proof.Proof.CeLse
public import proofs.«01_k».proof.Proof.CeArrays
public import proofs.«01_k».proof.Proof.Gen.CeReferenceIdeal.Read

@[expose] public section

set_option maxRecDepth 16384

noncomputable section

open Idealize.ShloMosaic Idealize.ShloMosaic.TcCoe Idealize.SL.Sem
open scoped BigOperators

namespace Cert.CeReferenceIdeal.RefValue

open Cert.CeReferenceIdeal Cert.CeReferenceIdeal.Gen Cert.CeReferenceIdeal.Read
open Cert.CeIdeal.Score Cert.CeIdeal.Arrays

variable (X : S16x24564x81.Idx → EReal) (T : S16x1x24564.Idx → BitVec 32)

/-- The place of an image's prior among all images' priors. -/
def flat (b : Fin 16) (p : Fin 24564) : Fin 393024 := ⟨b.val * 24564 + p.val, by omega⟩

theorem flat_val (b : Fin 16) (p : Fin 24564) : (flat b p).val = b.val * 24564 + p.val := rfl

/-- The scores as one matrix: its rows are the images' rows in order. -/
theorem scores_at (b : Fin 16) (p : Fin 24564) (k : Fin 81) :
    val_main_v0 (F := Ideal) X (ix2 (flat b p) k) = row X b p k := by
  rw [val_main_v0_apply]
  refine congrArg X (funext fun a => Fin.ext ?_)
  have hb := b.isLt; have hp := p.isLt; have hk := k.isLt
  match a with
  | ⟨0, _⟩ => show ((b.val * 24564 + p.val) * 81 + k.val) / 1989684 = b.val; omega
  | ⟨1, _⟩ => show ((b.val * 24564 + p.val) * 81 + k.val) / 81 % 24564 = p.val; omega
  | ⟨2, _⟩ => show ((b.val * 24564 + p.val) * 81 + k.val) % 81 = k.val; omega

/-- A number whose absolute value is below infinity is real; the shift is such a number, or zero. -/
theorem guarded_real (x : EReal) : ∃ c : ℝ,
    Scalar.select (Ideal.cmp .olt (max x (-x)) (Ideal.ofBits .f32 0x7F800000#32)) x (Ideal.ofBits .f32 0x00000000#32)
      = (c : EReal) := by
  have htop : Ideal.ofBits .f32 0x7F800000#32 = ⊤ := by simp [Ideal.ofBits, Ideal.ieee]
  rw [htop, Ideal.ofBits_zero_f32]
  unfold Ideal.cmp
  induction x with
  | bot => exact ⟨0, by simp [Scalar.select]⟩
  | top => exact ⟨0, by simp [Scalar.select]⟩
  | coe r =>
    refine ⟨r, ?_⟩
    have h : max ((r : ℝ) : EReal) (-(r : EReal)) < ⊤ := max_lt (EReal.coe_lt_top r) (by
      rw [← EReal.coe_neg]; exact EReal.coe_lt_top _)
    simp [h, Scalar.select]

/-- The shift of every row is a real number. -/
theorem shift_real (r : Fin 393024) : ∃ c : ℝ, val_main_v6 (F := Ideal) X (ix2 r 0) = (c : EReal) := by
  rw [val_main_v6_apply, val_main_v5_apply, val_main_v3_apply, val_main_v4_apply, val_main_call0_v1_apply]
  exact guarded_real (val_main_v2 (F := Ideal) X (ix2 r 0))

/-- The reference's log-sum-exp of a row is the logarithm of the row's sum of exponentials. -/
theorem lse_at (b : Fin 16) (p : Fin 24564) :
    val_main_v14 (F := Ideal) X (ix1 (flat b p)) = Ideal.log (∑ k : Fin 81, Ideal.exp (row X b p k)) := by
  obtain ⟨c, hc⟩ := shift_real X (flat b p)
  have e14 : idx_main_v14 (ix1 (flat b p)) = ix2 (flat b p) 0 := by
    funext a
    match a with
    | ⟨0, _⟩ => exact Fin.ext (Nat.div_one _)
    | ⟨1, _⟩ => rfl
  have e11 : idx_main_v11 (ix2 (flat b p) 0) = ix1 (flat b p) := by
    funext a
    match a with
    | ⟨0, _⟩ => rfl
  rw [val_main_v14_apply, e14, val_main_v13_apply, val_main_v12_apply, hc, val_main_v11_apply, e11, val_main_v10_apply]
  rw [← Cert.CeIdeal.Lse.lse_shift (row X b p) c]
  have hz : val_main_cst_2 (F := Ideal) (Shape.Idx.first h_S_) = 0 := Ideal.ofBits_zero_f32
  rw [hz, zero_add]
  show Ideal.log (∑ k : Fin 81, val_main_v9 (F := Ideal) X (idx_main_v10 (ix1 (flat b p)) k)) + (c : EReal) = _
  refine congrArg (fun s => Ideal.log s + (c : EReal)) (Finset.sum_congr rfl fun k _ => ?_)
  have e10 : idx_main_v10 (ix1 (flat b p)) k = ix2 (flat b p) k := by
    funext a
    match a with
    | ⟨0, _⟩ => rfl
    | ⟨1, _⟩ => rfl
  have e7 : idx_main_v7 (ix2 (flat b p) k) = ix2 (flat b p) 0 := by
    funext a
    match a with
    | ⟨0, _⟩ => rfl
    | ⟨1, _⟩ => rfl
  rw [e10, val_main_v9_apply, val_main_v8_apply, val_main_v7_apply, e7, hc, scores_at]
  rfl

/-- The targets as one column. -/
theorem targets_at (b : Fin 16) (p : Fin 24564) :
    val_main_v15 (F := Ideal) T (ix2 (flat b p) 0) = T (ix3 b 0 p) := by
  rw [val_main_v15_apply]
  refine congrArg T (funext fun a => Fin.ext ?_)
  have hb := b.isLt; have hp := p.isLt
  match a with
  | ⟨0, _⟩ => show ((b.val * 24564 + p.val) * 1 + 0) / 24564 = b.val; omega
  | ⟨1, _⟩ => rfl
  | ⟨2, _⟩ => show ((b.val * 24564 + p.val) * 1 + 0) % 24564 = p.val; omega

/-- Every place of the column is some image's prior. -/
theorem flat_surj (r : Fin 393024) : ∃ b p, r = flat b p :=
  ⟨⟨r.val / 24564, by omega⟩, ⟨r.val % 24564, by omega⟩, Fin.ext (by
    show r.val = r.val / 24564 * 24564 + r.val % 24564; omega)⟩

/-- A class number is not negative, so the gather's start index is the class itself. -/
theorem start_word (w : BitVec 32) (hw : w.toNat < 81) :
    Scalar.select (IntOp.cmpi .slt w 0#32) (IntOp.addi w 81#32) w = w := by
  have h : IntOp.cmpi .slt w 0#32 = 0#1 := by
    have : w.slt 0#32 = false := by
      rw [BitVec.slt_eq_decide, decide_eq_false_iff_not, BitVec.toInt_eq_toNat_of_lt (by omega)]
      simp
    simp [IntOp.cmpi, this]
  rw [h]; rfl

theorem starts_at (hT : ∀ i, (T i).toNat < 81) (b : Fin 16) (p : Fin 24564) :
    val_main_call1_v5 (F := Ideal) T (ix3 (flat b p) 0 0) = T (ix3 b 0 p) := by
  have e5 : idx_main_call1_v5 (ix3 (flat b p) 0 0) = ix2 (flat b p) 0 := by
    funext a
    match a with
    | ⟨0, _⟩ =>
      refine Fin.ext ?_
      show (((flat b p).val * 1 + 0) * 1 + 0) / 1 = (flat b p).val
      omega
    | ⟨1, _⟩ => rfl
  rw [val_main_call1_v5_apply, e5, val_main_call1_v4_apply, val_main_call1_v3_apply, val_main_call1_v1_apply, targets_at,
    val_main_call1_v0_apply, val_main_call1_v2_apply]
  exact start_word _ (hT _)

/-- The place the gather reads for a row: the row's score at the class its start index names. -/
theorem gather_place (idx : IVec S393024x1x1 32) (r : Fin 393024) (w : BitVec 32) (hw : w.toNat < 81)
    (h : idx (ix3 r 0 0) = w) :
    gather_S393024x81_S393024x1x1_S393024x1_n_1_0_0_1_2_11.operandIdx (ix2 r 0) idx = ix2 r ⟨w.toNat, hw⟩ := by
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S393024x81_S393024x1x1_S393024x1_n_1_0_0_1_2_11.operandBatchingDims from
      List.mem_singleton.mpr rfl)]
    rfl
  · rw [GatherDims.batchCoord_eq_zero _ _ _ (fun h => by
        have := List.mem_singleton.mp h; exact absurd (congrArg Fin.val this) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S393024x81_S393024x1x1_S393024x1_n_1_0_0_1_2_11.startIndexMap from
      List.mem_singleton.mpr rfl)]
    have hsi : gather_S393024x81_S393024x1x1_S393024x1_n_1_0_0_1_2_11.siIdx (ix2 r 0)
        ⟨List.idxOf (1 : Fin 2) gather_S393024x81_S393024x1x1_S393024x1_n_1_0_0_1_2_11.startIndexMap,
          List.idxOf_lt_length_iff.2 (List.mem_singleton.mpr rfl)⟩ = ix3 r 0 0 := by
      funext d
      refine Fin.ext ?_
      match d with
      | ⟨0, _⟩ => rfl
      | ⟨1, _⟩ => rfl
      | ⟨2, _⟩ => rfl
    rw [hsi, h, BitVec.toInt_eq_toNat_of_lt (by omega), Int.toNat_natCast]
    show min w.toNat 80 = w.toNat
    omega

/-- Combining ones by `and` leaves one. -/
theorem all_ones {ι : Type} (l : List ι) (x : ι → BitVec 1) (h : ∀ i, x i = 1#1) :
    l.foldl (fun r n => IntOp.andi r (x n)) 1#1 = 1#1 := by
  induction l with
  | nil => rfl
  | cons a l ih => rw [List.foldl_cons, h a]; exact ih

theorem in_range_word (w : BitVec 32) (hw : w.toNat < 81) :
    IntOp.andi (IntOp.cmpi .sge w 0#32) (IntOp.cmpi .sle w 80#32) = 1#1 := by
  have h1 : (0#32 : BitVec 32).sle w = true := by
    rw [BitVec.sle_eq_decide, decide_eq_true_iff, BitVec.toInt_eq_toNat_of_lt (x := w) (by omega)]
    simp
  have h2 : w.sle 80#32 = true := by
    rw [BitVec.sle_eq_decide, decide_eq_true_iff, BitVec.toInt_eq_toNat_of_lt (x := w) (by omega)]
    show (w.toNat : Int) ≤ 80
    omega
  simp [IntOp.cmpi, IntOp.andi, h1, h2]

/-- The bounds test passes at every place. -/
theorem in_range_at (hT : ∀ i, (T i).toNat < 81) (i : S393024x1x1.Idx) :
    val_main_call1_v11 (F := Ideal) T i = 1#1 := by
  obtain ⟨b, p, hr⟩ := flat_surj (i 0)
  have hi : i = ix3 (flat b p) 0 0 := by
    rw [← hr]
    funext a
    match a with
    | ⟨0, _⟩ => rfl
    | ⟨1, _⟩ => exact Subsingleton.elim (α := Fin 1) _ _
    | ⟨2, _⟩ => exact Subsingleton.elim (α := Fin 1) _ _
  rw [hi, val_main_call1_v11_apply, val_main_call1_v7_apply, val_main_call1_v10_apply, starts_at T hT,
    val_main_call1_v6_apply, val_main_call1_v9_apply, val_main_call1_v8_apply]
  exact in_range_word _ (hT _)

/-- The gathered score of a row is its score at its target. -/
theorem gathered_at (hT : ∀ i, (T i).toNat < 81) (b : Fin 16) (p : Fin 24564) :
    val_main_v17 (F := Ideal) X T (ix1 (flat b p)) = row X b p ⟨(T (ix3 b 0 p)).toNat, hT _⟩ := by
  have e17 : idx_main_v17 (ix1 (flat b p)) = ix2 (flat b p) 0 := by
    funext a
    match a with
    | ⟨0, _⟩ => exact Fin.ext (Nat.div_one _)
    | ⟨1, _⟩ => rfl
  have h12 : val_main_call1_v12 (F := Ideal) T (ix2 (flat b p) 0) = 1#1 := by
    unfold val_main_call1_v12 Host.reduce
    exact all_ones _ _ fun n => in_range_at T hT _
  rw [val_main_v17_apply, e17, val_main_v16_apply, h12]
  show Host.gather _ (val_main_v0 (F := Ideal) X) (val_main_call1_v5 (F := Ideal) T) (ix2 (flat b p) 0) = _
  unfold Host.gather
  rw [gather_place _ _ _ (hT _) (starts_at T hT b p), scores_at]

/-- The reference's cross-entropy of one row. -/
theorem ce_at (hT : ∀ i, (T i).toNat < 81) (b : Fin 16) (p : Fin 24564) :
    val_main_v19 (F := Ideal) X T (ix2 b p) = score (row X b p) (T (ix3 b 0 p)) := by
  have e19 : idx_main_v19 (ix2 b p) = ix1 (flat b p) := by
    funext a
    match a with
    | ⟨0, _⟩ => rfl
  rw [val_main_v19_apply, e19, val_main_v18_apply, lse_at, gathered_at X T hT]
  unfold score
  rw [Cert.CeIdeal.Lse.pick _ _ (hT _)]
  rfl

theorem positive_at (b : Fin 16) (p : Fin 24564) :
    val_main_v22 (F := Ideal) T (ix2 b p) = IntOp.cmpi .sgt (T (ix3 b 0 p)) 0#32 := by
  rw [val_main_v22_apply, val_main_v21_apply, val_main_v20_apply]
  refine congrArg (fun i => IntOp.cmpi .sgt (T i) 0#32) (funext fun a => Fin.ext ?_)
  have hb := b.isLt; have hp := p.isLt
  match a with
  | ⟨0, _⟩ => show (b.val * 24564 + p.val) / 24564 = b.val; omega
  | ⟨1, _⟩ => rfl
  | ⟨2, _⟩ => show (b.val * 24564 + p.val) % 24564 = p.val; omega

theorem neg_at (hT : ∀ i, (T i).toNat < 81) (b : Fin 16) (p : Fin 24564) :
    val_main_v23 (F := Ideal) X T (ix2 b p) = negLoss (row X b p) (T (ix3 b 0 p)) := by
  rw [val_main_v23_apply, positive_at, ce_at X T hT, val_main_call2_v1_apply, val_main_call2_v0_apply,
    val_main_cst_3_apply]
  show Scalar.select _ (Ideal.ofBits .f32 0x00000000#32) _ = _
  rw [Ideal.ofBits_zero_f32]
  rfl

theorem pos_at (hT : ∀ i, (T i).toNat < 81) (b : Fin 16) (p : Fin 24564) :
    val_main_v24 (F := Ideal) X T (ix2 b p) = posLoss (row X b p) (T (ix3 b 0 p)) := by
  rw [val_main_v24_apply, positive_at, ce_at X T hT, val_main_call3_v1_apply, val_main_call3_v0_apply,
    val_main_cst_4_apply]
  show Scalar.select _ _ (Ideal.ofBits .f32 0x00000000#32) = _
  rw [Ideal.ofBits_zero_f32]
  rfl

/-- THE REFERENCE'S FIRST RESULT: the losses. -/
theorem losses (hT : ∀ i, (T i).toNat < 81) : val_main_v26 (F := Ideal) X T = lossArr X T := by
  funext i
  have e26 : idx_main_v26 i = ix2 (i 0) (prior (i 1) (i 2)) := by
    have h0 : (i 0).val < 16 := (i 0).isLt
    have h1 : (i 1).val < 6141 := (i 1).isLt
    have h2 : (i 2).val < 4 := (i 2).isLt
    funext a
    refine Fin.ext ?_
    match a with
    | ⟨0, _⟩ => show (((i 0).val * 6141 + (i 1).val) * 4 + (i 2).val) / 24564 = (i 0).val; omega
    | ⟨1, _⟩ =>
      show (((i 0).val * 6141 + (i 1).val) * 4 + (i 2).val) % 24564 = 4 * (i 1).val + (i 2).val
      omega
  rw [val_main_v26_apply, e26]
  exact neg_at X T hT (i 0) (prior (i 1) (i 2))

/-- A sum over an image's priors, four at a time. -/
theorem sum_priors (f : Fin 24564 → EReal) : ∑ p, f p = ∑ R : Fin 6141, ∑ g : Fin 4, f (prior R g) := by
  rw [← Fintype.sum_prod_type', ← (finProdFinEquiv (m := 6141) (n := 4)).sum_comp f]
  refine Finset.sum_congr rfl fun q _ => congrArg f (Fin.ext ?_)
  show q.2.val + 4 * q.1.val = 4 * q.1.val + q.2.val
  omega

/-- The indices of a matrix of 16 rows are pairs. -/
def pairs : Fin 16 × Fin 24564 ≃ S16x24564.Idx where
  toFun q := ix2 q.1 q.2
  invFun i := (i 0, i 1)
  left_inv _ := rfl
  right_inv i := (eq_ix2 i).symm

/-- THE REFERENCE'S SECOND RESULT: the positive losses' sum. -/
theorem total (hT : ∀ i, (T i).toNat < 81) : val_main_v27 (F := Ideal) X T = sumArr X T := by
  funext i
  have hz : val_main_cst_5 (F := Ideal) (Shape.Idx.first h_S_) = 0 := Ideal.ofBits_zero_f32
  rw [val_main_v27_apply, val_main_v25_apply, hz, zero_add, ← pairs.sum_comp, Fintype.sum_prod_type]
  show _ = ∑ b : Fin 16, imageSum X T b
  refine Finset.sum_congr rfl fun b _ => ?_
  unfold imageSum
  rw [← sum_priors fun p => posLoss (row X b p) (T (ix3 b 0 p))]
  exact Finset.sum_congr rfl fun p _ => pos_at X T hT b p

end Cert.CeReferenceIdeal.RefValue

end
-- ==== Proof.CeClaim.lean ====
/-
  The cross-entropy call's claims: its reference's frame, and that where every target is one of the 81 classes the call
  and the reference leave the same two arrays.
-/
module

public import proofs.«01_k».proof.Defs
public import proofs.«01_k».proof.Proof.CeRefValue
public import Idealize.ShloMosaic.Lib.Quiescent

@[expose] public section

set_option maxRecDepth 16384

noncomputable section

open Idealize.ShloMosaic Idealize.ShloMosaic.TcCoe Idealize.SL.Sem

namespace Cert.CeClaim

/-- The precondition's one side condition. -/
theorem pre_facts : Cert.Pre_class_in_range.Facts := ⟨by decide⟩

/-- Every target names one of the 81 classes, read off the precondition. -/
theorem target_lt [Cert.Pre_class_in_range.Facts] (X : Cert.Pre_class_in_range.S16x24564x81.Idx → EReal)
    (T : Cert.Pre_class_in_range.S16x1x24564.Idx → BitVec 32)
    (h : Cert.Pre_class_in_range.fn (F := Ideal) X T = fun _ => 1#1) (i : Cert.Pre_class_in_range.S16x1x24564.Idx) :
    (T i).toNat < 81 := by
  have hi := congrFun h i
  have hv : IntOp.andi (IntOp.cmpi .sge (T i) 0#32) (IntOp.cmpi .slt (T i) 81#32) = 1#1 := hi
  generalize T i = w at hv
  have h0 : (0#32 : BitVec 32).sle w = true ∧ w.slt 81#32 = true := by
    revert hv
    simp only [IntOp.andi, IntOp.cmpi]
    cases (0#32 : BitVec 32).sle w <;> cases w.slt 81#32 <;> decide
  obtain ⟨ha, hb⟩ := h0
  rw [BitVec.sle_eq_decide, decide_eq_true_iff] at ha
  rw [BitVec.slt_eq_decide, decide_eq_true_iff] at hb
  have e0 : (0#32 : BitVec 32).toInt = 0 := by decide
  have e81 : (81#32 : BitVec 32).toInt = 81 := by decide
  rw [e0] at ha
  rw [e81] at hb
  have hn : w.toInt = (w.toNat : Int) := by
    rw [BitVec.toInt_eq_toNat_cond] at ha ⊢
    have := w.isLt
    split at ha <;> split <;> omega
  omega

/-- The reference's frame. -/
theorem frame_reference : Cert.quiescent_CeReferenceIdeal := fun m ρ _ =>
  (θ_run Cert.CeReferenceIdeal.defs _ _).mono (fun r h => ⟨fun c => ⟨(h c).2.2.1, (h c).2.2.2⟩,
      Idealize.ShloMosaic.sem_eq_zero_of_no_sems (by decide) r.2⟩)
    (Cert.CeReferenceIdeal.Value.run (F := Ideal) m ρ)

/-- THE CALL COMPUTES THE CROSS-ENTROPY: from arguments that agree, its two result arrays and the reference's are the
    losses and the positive losses' sum. -/
theorem equal [Cert.Pre_class_in_range.Facts] : Cert.algebraic_CeIdeal_CeReferenceIdeal_pre_class_in_range := by
  intro m ρ m' ρ' hpre hargs
  refine ⟨fun c => Cert.CeIdeal.Arrays.lossArr (Cert.CeIdeal.Arrays.argX m c) (Cert.CeIdeal.Arrays.argT m c),
    fun c => Cert.CeIdeal.Arrays.sumArr (Cert.CeIdeal.Arrays.argX m c) (Cert.CeIdeal.Arrays.argT m c), ?_, ?_⟩
  · exact (θ_run Cert.CeIdeal.defs _ _).mono (fun r h c => ⟨(h c).1.trans (Cert.CeIdeal.Arrays.final_loss m c),
      (h c).2.1.trans (Cert.CeIdeal.Arrays.final_acc m c), (h c).2.2.1, (h c).2.2.2⟩)
      (Cert.CeIdeal.Value.run_blocks (F := Ideal) m ρ)
  · refine (θ_run Cert.CeReferenceIdeal.defs _ _).mono (fun r h c => ⟨(h c).1.trans ?_, (h c).2.1.trans ?_,
      (h c).2.2.1, (h c).2.2.2⟩) (Cert.CeReferenceIdeal.Value.run (F := Ideal) m' ρ')
    · rw [Cert.CeReferenceIdeal.Read.val_main_v26_eq, (hargs c).1, (hargs c).2]
      exact Cert.CeReferenceIdeal.RefValue.losses _ _ (target_lt _ _ (hpre c))
    · rw [Cert.CeReferenceIdeal.Read.val_main_v27_eq, (hargs c).1, (hargs c).2]
      exact Cert.CeReferenceIdeal.RefValue.total _ _ (target_lt _ _ (hpre c))

end Cert.CeClaim

end
-- ==== Proof.MatchBlock.lean ====
/-
  What one grid point of the matching call leaves in its three output buffers, as the body's own terms over the
  point's input blocks: the block of class targets (`confBlk`), the count of positive priors (`countBlk`), and the
  running loss, which the first point starts at zero and every point adds its image's loss to (`accBlk`).
-/
module

public import proofs.«01_k».proof.Proof.Gen.MatchIdeal.Value
public import Idealize.ShloMosaic.Lib.Pointwise
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.MatchIdeal.Block

open Cert.MatchIdeal Cert.MatchIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- One row of the block of priors. -/
def rowOf (y : Vec F S4x24564 .f32) (r : Fin 4) : Vec F S1x24564 .f32 := fun i => y (ix2 r (i 1))

/-- Reading one row of the block of priors. -/
theorem ld_row (y : Vec F S4x24564 .f32) (r : Fin 4) (n : ℕ) (hn : n = r.val)
    (h : ∀ a, (![n, 0] : Fin 2 → Nat) a + S1x24564.size a ≤ S4x24564.size a) :
    View.ld (S := S4x24564) y (Rect.unit ![n, 0] S1x24564.size h) = rowOf y r := by
  subst hn
  funext i
  refine View.ld_unit_apply_of _ _ _ _ _ _ fun a => ?_
  match a with
  | ⟨0, _⟩ => show r.val = r.val + (i 0).val; have h0 : (i 0).val < 1 := (i 0).isLt; omega
  | ⟨1, _⟩ => show (i 1).val = 0 + (i 1).val; omega

/-! The body's terms over the block of truth boxes `x`, the block of priors `y` and the block of predictions `z`. -/

/-- The numbers of the truth boxes, down each column. -/
abbrev boxes  : IVec S16x24564 32 :=
  iota .tc S16x24564 32 [0] iota_S16x24564_d0_w32
/-- The truth box each prior overlaps most. -/
abbrev ownBlk (x : Vec F S1x16x5 .f32) (y : Vec F S4x24564 .f32) : IVec S1x24564 32 :=
  k0_pay23 (k0_pay6 x) (k0_pay7 x) (k0_pay8 x) (k0_pay9 x) (k0_pay15 (rowOf y 0) (rowOf y 2)) (k0_pay16 (rowOf y 1) (rowOf y 3))
    (k0_pay17 (rowOf y 0) (rowOf y 2)) (k0_pay18 (rowOf y 1) (rowOf y 3)) (k0_pay19 x (rowOf y 0) (rowOf y 2)) (k0_pay20 x (rowOf y 1) (rowOf y 3))
/-- The overlap each prior is credited with. -/
abbrev overBlk (x : Vec F S1x16x5 .f32) (y : Vec F S4x24564 .f32) : FVec F S1x24564 .f32 :=
  k0_pay25 (k0_pay6 x) (k0_pay7 x) (k0_pay8 x) (k0_pay9 x) (k0_pay15 (rowOf y 0) (rowOf y 2)) (k0_pay16 (rowOf y 1) (rowOf y 3))
    (k0_pay17 (rowOf y 0) (rowOf y 2)) (k0_pay18 (rowOf y 1) (rowOf y 3)) (k0_pay19 x (rowOf y 0) (rowOf y 2)) (k0_pay20 x (rowOf y 1) (rowOf y 3))
/-- The last truth box that claims each prior. -/
abbrev lastBlk (x : Vec F S1x16x5 .f32) (y : Vec F S4x24564 .f32) : IVec S1x24564 32 :=
  k0_pay26 (k0_pay6 x) (k0_pay7 x) (k0_pay8 x) (k0_pay9 x) (k0_pay15 (rowOf y 0) (rowOf y 2)) (k0_pay16 (rowOf y 1) (rowOf y 3))
    (k0_pay17 (rowOf y 0) (rowOf y 2)) (k0_pay18 (rowOf y 1) (rowOf y 3)) (k0_pay19 x (rowOf y 0) (rowOf y 2)) (k0_pay20 x (rowOf y 1) (rowOf y 3))
/-- Whether any truth box claims each prior. -/
abbrev someBlk (x : Vec F S1x16x5 .f32) (y : Vec F S4x24564 .f32) : IVec S1x24564 1 :=
  k0_pay27 (k0_pay6 x) (k0_pay7 x) (k0_pay8 x) (k0_pay9 x) (k0_pay15 (rowOf y 0) (rowOf y 2)) (k0_pay16 (rowOf y 1) (rowOf y 3))
    (k0_pay17 (rowOf y 0) (rowOf y 2)) (k0_pay18 (rowOf y 1) (rowOf y 3)) (k0_pay19 x (rowOf y 0) (rowOf y 2)) (k0_pay20 x (rowOf y 1) (rowOf y 3))
/-- One corner of the truth box each prior answers to. -/
abbrev x1Blk (x : Vec F S1x16x5 .f32) (y : Vec F S4x24564 .f32) : FVec F S1x24564 .f32 :=
  k0_pay29 (k0_pay6 x) boxes (ownBlk x y) (lastBlk x y) (someBlk x y)
/-- One corner of the truth box each prior answers to. -/
abbrev y1Blk (x : Vec F S1x16x5 .f32) (y : Vec F S4x24564 .f32) : FVec F S1x24564 .f32 :=
  k0_pay30 (k0_pay7 x) boxes (ownBlk x y) (lastBlk x y) (someBlk x y)
/-- One corner of the truth box each prior answers to. -/
abbrev x2Blk (x : Vec F S1x16x5 .f32) (y : Vec F S4x24564 .f32) : FVec F S1x24564 .f32 :=
  k0_pay31 (k0_pay8 x) boxes (ownBlk x y) (lastBlk x y) (someBlk x y)
/-- One corner of the truth box each prior answers to. -/
abbrev y2Blk (x : Vec F S1x16x5 .f32) (y : Vec F S4x24564 .f32) : FVec F S1x24564 .f32 :=
  k0_pay32 (k0_pay9 x) boxes (ownBlk x y) (lastBlk x y) (someBlk x y)
/-- The class targets. -/
abbrev rowConf (x : Vec F S1x16x5 .f32) (y : Vec F S4x24564 .f32) : IVec S1x24564 32 :=
  k0_pay33 (k0_pay10 x) boxes (ownBlk x y) (overBlk x y) (lastBlk x y) (someBlk x y)
/-- The positive priors. -/
abbrev rowPos (x : Vec F S1x16x5 .f32) (y : Vec F S4x24564 .f32) : IVec S1x24564 1 :=
  k0_pay34 (k0_pay10 x) boxes (ownBlk x y) (overBlk x y) (lastBlk x y) (someBlk x y)
/-- The first coordinate of the centre of the truth box each prior answers to. -/
abbrev midBlk (x : Vec F S1x16x5 .f32) (y : Vec F S4x24564 .f32) : FVec F S1x24564 .f32 :=
  k0_pay35 (k0_pay6 x) (k0_pay8 x) boxes (ownBlk x y) (lastBlk x y) (someBlk x y)
/-- The block of class targets the body stores. -/
abbrev confBlk (x : Vec F S1x16x5 .f32) (y : Vec F S4x24564 .f32) : IVec S1x1x24564 32 :=
  k0_pay1 (k0_pay37 (rowConf x y))
/-- The count of positive priors the body stores. -/
abbrev countBlk (x : Vec F S1x16x5 .f32) (y : Vec F S4x24564 .f32) : IVec S1x1x1 32 :=
  k0_pay2 (rowPos x y)
/-- The image's loss. -/
abbrev lossBlk (x : Vec F S1x16x5 .f32) (y : Vec F S4x24564 .f32) (z : Vec F S1x4x24564 .f32) : F .f32 :=
  k0_pay36 (k0_pay11 (rowOf y 0)) (k0_pay12 (rowOf y 1)) (k0_pay13 (rowOf y 2)) (k0_pay14 (rowOf y 3)) (x1Blk x y) (y1Blk x y) (x2Blk x y) (y2Blk x y)
    (rowPos x y) (midBlk x y) z
/-- The running loss after a block, from the loss before it. -/
abbrev accBlk (x : Vec F S1x16x5 .f32) (y : Vec F S4x24564 .f32) (z : Vec F S1x4x24564 .f32) (acc : Vec F S1x1 .f32) : Vec F S1x1 .f32 :=
  k0_pay4 (lossBlk x y z) acc

/-- The first point leaves its class targets in the first output. -/
theorem first_conf (c : Dev nD) (i : grid0.Coords) (a1 : Memref sig .tc .vmem S1x16x5 .f32) (h1 : a1.IsWhole)
    (a2 : Memref sig .tc .vmem S4x24564 .f32) (h2 : a2.IsWhole) (a3 : Memref sig .tc .vmem S1x4x24564 .f32) (h3 : a3.IsWhole)
    (a4 : Memref sig .tc .vmem S1x1x24564 .i32) (h4 : a4.IsWhole) (a5 : Memref sig .tc .vmem S1x1x1 .i32) (h5 : a5.IsWhole)
    (a6 : Memref sig .tc .vmem S1x1 .f32) (h6 : a6.IsWhole)
    (hc : cond0_0 i) (x : Vec F S1x16x5 .f32) (y : Vec F S4x24564 .f32) (z : Vec F S1x4x24564 .f32) :
    out0_A_3 c i a1 h1 a2 h2 a3 h3 a4 h4 a5 h5 a6 h6 hc x y z = confBlk x y := by
  unfold out0_A_3
  rw [View.read_writes_eq_canon _ _ _ (cover0_A_3 c i a1 h1 a2 h2 a3 h3 a4 h4 a5 h5 a6 h6 hc x y z)]
  unfold kernelRun0_A
  dsimp only
  sl_unfold_words
  rw [View.canon_unit_zero z3]
  simp only [View.readAt_eq_ld, h1.read_unread, h2.read_unread,
    View.ld_unit_zero (S := S1x16x5) z3,
    ld_row y 0 0 rfl, ld_row y 1 1 rfl, ld_row y 2 2 rfl, ld_row y 3 3 rfl]

/-- The first point leaves its count in the second output. -/
theorem first_count (c : Dev nD) (i : grid0.Coords) (a1 : Memref sig .tc .vmem S1x16x5 .f32) (h1 : a1.IsWhole)
    (a2 : Memref sig .tc .vmem S4x24564 .f32) (h2 : a2.IsWhole) (a3 : Memref sig .tc .vmem S1x4x24564 .f32) (h3 : a3.IsWhole)
    (a4 : Memref sig .tc .vmem S1x1x24564 .i32) (h4 : a4.IsWhole) (a5 : Memref sig .tc .vmem S1x1x1 .i32) (h5 : a5.IsWhole)
    (a6 : Memref sig .tc .vmem S1x1 .f32) (h6 : a6.IsWhole)
    (hc : cond0_0 i) (x : Vec F S1x16x5 .f32) (y : Vec F S4x24564 .f32) (z : Vec F S1x4x24564 .f32) :
    out0_A_4 c i a1 h1 a2 h2 a3 h3 a4 h4 a5 h5 a6 h6 hc x y z = countBlk x y := by
  unfold out0_A_4
  rw [View.read_writes_eq_canon _ _ _ (cover0_A_4 c i a1 h1 a2 h2 a3 h3 a4 h4 a5 h5 a6 h6 hc x y z)]
  unfold kernelRun0_A
  dsimp only
  sl_unfold_words
  rw [View.canon_unit_zero z3]
  simp only [View.readAt_eq_ld, h1.read_unread, h2.read_unread,
    View.ld_unit_zero (S := S1x16x5) z3,
    ld_row y 0 0 rfl, ld_row y 1 1 rfl, ld_row y 2 2 rfl, ld_row y 3 3 rfl]

/-- The first point leaves, in the third output, its loss added to zero. -/
theorem first_acc (c : Dev nD) (i : grid0.Coords) (a1 : Memref sig .tc .vmem S1x16x5 .f32) (h1 : a1.IsWhole)
    (a2 : Memref sig .tc .vmem S4x24564 .f32) (h2 : a2.IsWhole) (a3 : Memref sig .tc .vmem S1x4x24564 .f32) (h3 : a3.IsWhole)
    (a4 : Memref sig .tc .vmem S1x1x24564 .i32) (h4 : a4.IsWhole) (a5 : Memref sig .tc .vmem S1x1x1 .i32) (h5 : a5.IsWhole)
    (a6 : Memref sig .tc .vmem S1x1 .f32) (h6 : a6.IsWhole)
    (hc : cond0_0 i) (x : Vec F S1x16x5 .f32) (y : Vec F S4x24564 .f32) (z : Vec F S1x4x24564 .f32) :
    out0_A_5 c i a1 h1 a2 h2 a3 h3 a4 h4 a5 h5 a6 h6 hc x y z = accBlk x y z (k0_pay3 (F := F)) := by
  unfold out0_A_5
  rw [View.read_writes_eq_canon _ _ _ (cover0_A_5 c i a1 h1 a2 h2 a3 h3 a4 h4 a5 h5 a6 h6 hc x y z)]
  unfold kernelRun0_A
  dsimp only
  sl_unfold_words
  rw [View.canon_cons_unit_zero (S := S1x1) z2, View.readCov_unit_zero (S := S1x1) _ z2]
  simp only [View.readAt_eq_ld, h1.read_unread, h2.read_unread, h3.read_unread,
    View.ld_unit_zero (S := S1x16x5) z3, View.ld_unit_zero (S := S1x4x24564) z3,
    ld_row y 0 0 rfl, ld_row y 1 1 rfl, ld_row y 2 2 rfl, ld_row y 3 3 rfl]

/-- Every later point leaves its class targets in the first output. -/
theorem later_conf (c : Dev nD) (i : grid0.Coords) (a1 : Memref sig .tc .vmem S1x16x5 .f32) (h1 : a1.IsWhole)
    (a2 : Memref sig .tc .vmem S4x24564 .f32) (h2 : a2.IsWhole) (a3 : Memref sig .tc .vmem S1x4x24564 .f32) (h3 : a3.IsWhole)
    (a4 : Memref sig .tc .vmem S1x1x24564 .i32) (h4 : a4.IsWhole) (a5 : Memref sig .tc .vmem S1x1x1 .i32) (h5 : a5.IsWhole)
    (a6 : Memref sig .tc .vmem S1x1 .f32) (h6 : a6.IsWhole)
    (hc : ¬cond0_0 i) (x : Vec F S1x16x5 .f32) (y : Vec F S4x24564 .f32) (z : Vec F S1x4x24564 .f32) (acc : Vec F S1x1 .f32) :
    out0_B_3 c i a1 h1 a2 h2 a3 h3 a4 h4 a5 h5 a6 h6 hc x y z acc = confBlk x y := by
  unfold out0_B_3
  rw [View.read_writes_eq_canon _ _ _ (cover0_B_3 c i a1 h1 a2 h2 a3 h3 a4 h4 a5 h5 a6 h6 hc x y z acc)]
  unfold kernelRun0_B
  dsimp only
  sl_unfold_words
  rw [View.canon_unit_zero z3]
  simp only [View.readAt_eq_ld, h1.read_unread, h2.read_unread,
    View.ld_unit_zero (S := S1x16x5) z3,
    ld_row y 0 0 rfl, ld_row y 1 1 rfl, ld_row y 2 2 rfl, ld_row y 3 3 rfl]

/-- Every later point leaves its count in the second output. -/
theorem later_count (c : Dev nD) (i : grid0.Coords) (a1 : Memref sig .tc .vmem S1x16x5 .f32) (h1 : a1.IsWhole)
    (a2 : Memref sig .tc .vmem S4x24564 .f32) (h2 : a2.IsWhole) (a3 : Memref sig .tc .vmem S1x4x24564 .f32) (h3 : a3.IsWhole)
    (a4 : Memref sig .tc .vmem S1x1x24564 .i32) (h4 : a4.IsWhole) (a5 : Memref sig .tc .vmem S1x1x1 .i32) (h5 : a5.IsWhole)
    (a6 : Memref sig .tc .vmem S1x1 .f32) (h6 : a6.IsWhole)
    (hc : ¬cond0_0 i) (x : Vec F S1x16x5 .f32) (y : Vec F S4x24564 .f32) (z : Vec F S1x4x24564 .f32) (acc : Vec F S1x1 .f32) :
    out0_B_4 c i a1 h1 a2 h2 a3 h3 a4 h4 a5 h5 a6 h6 hc x y z acc = countBlk x y := by
  unfold out0_B_4
  rw [View.read_writes_eq_canon _ _ _ (cover0_B_4 c i a1 h1 a2 h2 a3 h3 a4 h4 a5 h5 a6 h6 hc x y z acc)]
  unfold kernelRun0_B
  dsimp only
  sl_unfold_words
  rw [View.canon_unit_zero z3]
  simp only [View.readAt_eq_ld, h1.read_unread, h2.read_unread,
    View.ld_unit_zero (S := S1x16x5) z3,
    ld_row y 0 0 rfl, ld_row y 1 1 rfl, ld_row y 2 2 rfl, ld_row y 3 3 rfl]

/-- Every later point adds its loss to what the point before left in the third output. -/
theorem later_acc (c : Dev nD) (i : grid0.Coords) (a1 : Memref sig .tc .vmem S1x16x5 .f32) (h1 : a1.IsWhole)
    (a2 : Memref sig .tc .vmem S4x24564 .f32) (h2 : a2.IsWhole) (a3 : Memref sig .tc .vmem S1x4x24564 .f32) (h3 : a3.IsWhole)
    (a4 : Memref sig .tc .vmem S1x1x24564 .i32) (h4 : a4.IsWhole) (a5 : Memref sig .tc .vmem S1x1x1 .i32) (h5 : a5.IsWhole)
    (a6 : Memref sig .tc .vmem S1x1 .f32) (h6 : a6.IsWhole)
    (hc : ¬cond0_0 i) (x : Vec F S1x16x5 .f32) (y : Vec F S4x24564 .f32) (z : Vec F S1x4x24564 .f32) (acc : Vec F S1x1 .f32) :
    out0_B_5 c i a1 h1 a2 h2 a3 h3 a4 h4 a5 h5 a6 h6 hc x y z acc = accBlk x y z acc := by
  unfold out0_B_5
  rw [View.read_writes_eq_canon _ _ _ (cover0_B_5 c i a1 h1 a2 h2 a3 h3 a4 h4 a5 h5 a6 h6 hc x y z acc)]
  unfold kernelRun0_B
  dsimp only
  sl_unfold_words
  rw [View.canon_unit_zero z2]
  simp only [View.readAt_eq_ld, h1.read_unread, h2.read_unread, h3.read_unread, h6.read_unread,
    View.ld_unit_zero (S := S1x16x5) z3, View.ld_unit_zero (S := S1x4x24564) z3, View.ld_unit_zero (S := S1x1) z2,
    ld_row y 0 0 rfl, ld_row y 1 1 rfl, ld_row y 2 2 rfl, ld_row y 3 3 rfl]

variable (m : (ℓ : Loc nD τ sig) → Buf (Elt F) ℓ)

/-- Whatever the point, the first output's buffer holds that point's class targets after it. -/
theorem outs_conf (c : Dev nD) (t : Fin cfg0.N) :
    (outsAt0 m c t.val t.isLt).1 = confBlk (F := F) (iblk m c 0 t) (iblk m c 1 t) := by
  by_cases h : t.val % 16 = 0
  · rw [outsAt0_A m c t h]; dsimp only; rw [first_conf]
  · rw [outsAt0_B m c t h]; dsimp only; rw [later_conf]

/-- Whatever the point, the second output's buffer holds that point's count after it. -/
theorem outs_count (c : Dev nD) (t : Fin cfg0.N) :
    (outsAt0 m c t.val t.isLt).2.1 = countBlk (F := F) (iblk m c 0 t) (iblk m c 1 t) := by
  by_cases h : t.val % 16 = 0
  · rw [outsAt0_A m c t h]; dsimp only; rw [first_count]
  · rw [outsAt0_B m c t h]; dsimp only; rw [later_count]

/-- The running loss of the blocks 0 … n, added in the order of the points. -/
def chain (c : Dev nD) : (n : ℕ) → n < cfg0.N → Vec F S1x1 .f32
  | 0, h => accBlk (iblk m c 0 ⟨0, h⟩) (iblk m c 1 ⟨0, h⟩) (iblk m c 2 ⟨0, h⟩) (k0_pay3 (F := F))
  | n + 1, h => accBlk (iblk m c 0 ⟨n + 1, h⟩) (iblk m c 1 ⟨n + 1, h⟩) (iblk m c 2 ⟨n + 1, h⟩) (chain c n (Nat.lt_of_succ_lt h))

/-- The third output's buffer holds the running loss after each point. -/
theorem outs_acc (c : Dev nD) : ∀ (n : ℕ) (h : n < cfg0.N), (outsAt0 m c n h).2.2 = chain m c n h
  | 0, h => by
    rw [outsAt0_A m c ⟨0, h⟩ rfl]; dsimp only; rw [first_acc]; rfl
  | n + 1, h => by
    have hN : cfg0.N = 16 := N_0
    have hB : ¬(⟨n + 1, h⟩ : Fin cfg0.N).val % 16 = 0 := by dsimp only; omega
    rw [outsAt0_B m c ⟨n + 1, h⟩ hB]; dsimp only; rw [later_acc]
    show accBlk _ _ _ (outsAt0 m c n _).2.2 = accBlk _ _ _ (chain m c n _)
    rw [outs_acc c n]

end Cert.MatchIdeal.Block

end
-- ==== Proof.MatchSpec.lean ====
/-
  What matching means, for one image: the overlap of a truth box and a prior, the prior each truth box claims, the
  truth box each prior answers to, its class target and encoded box, and its localisation loss. Both programs are
  read against these definitions.

  `T j` is a truth box: corners 0 … 3 and label 4; `P p` a prior: centre 0, 1 and size 2, 3; `L p` a predicted box.
-/
module

public import Idealize.ShloMosaic.PureOps.Ideal.Laws
public import Idealize.ShloMosaic.Lib.SortNet.Extract

@[expose] public section

noncomputable section

open Idealize.ShloMosaic Idealize.ShloMosaic.TcCoe
open scoped BigOperators

namespace Cert.MatchSpec

/-- Every family on a nonempty index range has a first greatest entry. -/
theorem exists_first {n : ℕ} (f : Fin (n + 1) → EReal) : ∃ i, (∀ k, f k ≤ f i) ∧ ∀ k, f k = f i → i ≤ k := by
  obtain ⟨m, hm⟩ := Finite.exists_max f
  have hne : (Finset.univ.filter fun k => f k = f m).Nonempty := ⟨m, by simp⟩
  have hmem := Finset.min'_mem _ hne
  have he : f (Finset.min' _ hne) = f m := (Finset.mem_filter.mp hmem).2
  refine ⟨Finset.min' _ hne, fun k => (hm k).trans_eq he.symm, fun k hk => Finset.min'_le _ _ ?_⟩
  exact Finset.mem_filter.mpr ⟨Finset.mem_univ _, hk.trans he⟩

/-- The index of the first greatest entry. -/
def argFirst {n : ℕ} (f : Fin (n + 1) → EReal) : Fin (n + 1) := Classical.choose (exists_first f)

theorem le_argFirst {n : ℕ} (f : Fin (n + 1) → EReal) (k : Fin (n + 1)) : f k ≤ f (argFirst f) :=
  (Classical.choose_spec (exists_first f)).1 k

theorem argFirst_le {n : ℕ} (f : Fin (n + 1) → EReal) (k : Fin (n + 1)) (h : f k = f (argFirst f)) : argFirst f ≤ k :=
  (Classical.choose_spec (exists_first f)).2 k h

/-- An index that is greatest, and no later than any other that is, is the first greatest. -/
theorem eq_argFirst {n : ℕ} (f : Fin (n + 1) → EReal) (i : Fin (n + 1)) (h : ∀ k, f k ≤ f i) (h' : ∀ k, f k = f i → i ≤ k) :
    i = argFirst f := by
  have e : f (argFirst f) = f i := le_antisymm (h _) (le_argFirst f i)
  exact le_antisymm (h' _ e) (argFirst_le f i e.symm)

/-- The running maximum from −∞ is the greatest entry. -/
theorem fold_max_eq {n : ℕ} (f : Fin (n + 1) → EReal) :
    Finset.univ.fold max (⊥ : EReal) f = f (argFirst f) := by
  apply le_antisymm
  · exact Finset.fold_max_le _ |>.mpr ⟨bot_le, fun k _ => le_argFirst f k⟩
  · exact Finset.le_fold_max _ |>.mpr (Or.inr ⟨_, Finset.mem_univ _, le_refl _⟩)

/-- The word of −∞. -/
theorem negInf : Ideal.ofBits .f32 0xFF800000#32 = ⊥ := by simp [Ideal.ofBits, Ideal.ieee]

section Matching

variable (T : Fin 16 → Fin 5 → EReal) (P L : Fin 24564 → Fin 4 → EReal)

/-- 0.5, 2, 1, 0.1 and 0.2 at single precision. -/
abbrev half : EReal := Ideal.ofBits .f32 0x3F000000#32
abbrev two : EReal := Ideal.ofBits .f32 0x40000000#32
abbrev var0 : EReal := Ideal.ofBits .f32 0x3DCCCCCD#32
abbrev var1 : EReal := Ideal.ofBits .f32 0x3E4CCCCD#32

/-- A prior's corners. -/
def left (p : Fin 24564) : EReal := P p 0 - Ideal.div (P p 2) two
def top (p : Fin 24564) : EReal := P p 1 - Ideal.div (P p 3) two
def right (p : Fin 24564) : EReal := P p 0 + Ideal.div (P p 2) two
def bottom (p : Fin 24564) : EReal := P p 1 + Ideal.div (P p 3) two

/-- The area a truth box and a prior share. -/
def inter (j : Fin 16) (p : Fin 24564) : EReal :=
  max 0 (min (T j 2) (right P p) - max (T j 0) (left P p)) * max 0 (min (T j 3) (bottom P p) - max (T j 1) (top P p))

/-- Their overlap: the area shared over the area of the union. -/
def ov (j : Fin 16) (p : Fin 24564) : EReal :=
  Ideal.div (inter T P j p)
    ((T j 2 - T j 0) * (T j 3 - T j 1) + (right P p - left P p) * (bottom P p - top P p) - inter T P j p)

/-- The prior a truth box claims: the first it overlaps most. -/
def best (j : Fin 16) : Fin 24564 := argFirst (ov T P j)

/-- The truth box a prior overlaps most, the first of them. -/
def own (p : Fin 24564) : Fin 16 := argFirst fun j => ov T P j p

/-- The truth boxes that claim a prior. -/
def claims (p : Fin 24564) : Finset (Fin 16) := Finset.univ.filter fun j => best T P j = p

/-- The truth box a prior answers to: the last that claims it, otherwise the one it overlaps most. -/
def idx (p : Fin 24564) : Fin 16 := if h : (claims T P p).Nonempty then (claims T P p).max' h else own T P p

/-- The overlap a prior is credited with: 2 where it is claimed. -/
def over (p : Fin 24564) : EReal := if (claims T P p).Nonempty then two else ov T P (own T P p) p

/-- A prior's class target: background below the threshold, otherwise its truth box's label plus one. -/
def conf (p : Fin 24564) : BitVec 32 :=
  if over T P p < half then 0#32 else IntOp.addi (FloatOps.fptosi (F := Ideal) (φ := .f32) 32 (T (idx T P p) 4)) 1#32

/-- A box encoded against a prior. -/
def enc (B : Fin 5 → EReal) (Q : Fin 4 → EReal) : Fin 4 → EReal :=
  ![Ideal.div (Ideal.div (B 0 + B 2) two - Q 0) (var0 * Q 2),
    Ideal.div (Ideal.div (B 1 + B 3) two - Q 1) (var0 * Q 3),
    Ideal.div (Ideal.log (Ideal.div (B 2 - B 0) (Q 2))) var1,
    Ideal.div (Ideal.log (Ideal.div (B 3 - B 1) (Q 3))) var1]

/-- The smooth absolute value. -/
def smooth (x : EReal) : EReal :=
  if FloatOps.absf (F := Ideal) (φ := .f32) x < 1 then
    half * FloatOps.absf (F := Ideal) (φ := .f32) x * FloatOps.absf (F := Ideal) (φ := .f32) x
  else FloatOps.absf (F := Ideal) (φ := .f32) x - half

/-- One coordinate's localisation loss. -/
def coordLoss (p : Fin 24564) (k : Fin 4) : EReal := smooth (L p k - enc (T (idx T P p)) (P p) k)

/-- Whether a prior is positive, as a bit. -/
def pos (p : Fin 24564) : BitVec 1 := IntOp.cmpi .sgt (conf T P p) 0#32

/-- An image's localisation loss: the positive priors' coordinates, summed. -/
def imageLoss : EReal := ∑ p, if pos T P p = 1#1 then ∑ k, coordLoss T P L p k else 0

/-- How many priors of an image are positive. -/
def count : BitVec 32 := Finset.univ.fold IntOp.addi 0#32 fun p => BitVec.setWidth 32 (pos T P p)

end Matching

/-! Small numbers as words. -/

theorem toInt_ofNat (n : ℕ) (h : n < 100000) : (BitVec.ofNat 32 n).toInt = n := by
  rw [BitVec.toInt_eq_toNat_of_lt, BitVec.toNat_ofNat]
  · omega
  · rw [BitVec.toNat_ofNat]; omega

theorem ofNat_eq_iff (a b : ℕ) (ha : a < 100000) (hb : b < 100000) : BitVec.ofNat 32 a = BitVec.ofNat 32 b ↔ a = b := by
  constructor
  · intro h
    have := congrArg BitVec.toInt h
    rw [toInt_ofNat a ha, toInt_ofNat b hb] at this
    omega
  · rintro rfl; rfl

/-- Comparing two small numbers' words for equality. -/
theorem cmpi_eq_ofNat (a b : ℕ) (ha : a < 100000) (hb : b < 100000) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · rw [if_neg h]
    have : BitVec.ofNat 32 a ≠ BitVec.ofNat 32 b := fun e => h ((ofNat_eq_iff a b ha hb).mp e)
    rw [beq_eq_false_iff_ne.mpr this]; rfl

/-- A fold of signed minima is at most its start and every entry, and is one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  obtain ⟨h2, h3⟩ := ih
  rw [Finset.fold_insert has]
  have hm := SortNet.toInt_minsi (g a) (s.fold IntOp.minsi init g)
  constructor
  · intro i hi
    rw [hm]
    rcases Finset.mem_insert.mp hi with rfl | hi
    · exact min_le_left _ _
    · exact (min_le_right _ _).trans (h2 i hi)
  · have : IntOp.minsi (g a) (s.fold IntOp.minsi init g) = g a ∨
        IntOp.minsi (g a) (s.fold IntOp.minsi init g) = s.fold IntOp.minsi init g := by
      unfold IntOp.minsi; split
      · exact Or.inl rfl
      · exact Or.inr rfl
    rcases this with e | e
    · exact Or.inr ⟨a, Finset.mem_insert_self a s, e⟩
    · rw [e]
      rcases h3 with h | ⟨i, hi, h⟩
      · exact Or.inl h
      · exact Or.inr ⟨i, Finset.mem_insert_of_mem hi, h⟩

/-- The least index at which the greatest value stands, taken as a minimum of words, is the first greatest. -/
theorem fold_minsi_first {n : ℕ} (hn : n + 1 < 100000) (f : Fin (n + 1) → EReal) :
    Finset.univ.fold IntOp.minsi 2147483647#32
        (fun x => if f x = f (argFirst f) then BitVec.ofNat 32 x.val else BitVec.ofNat 32 (n + 1))
      = BitVec.ofNat 32 (argFirst f).val := by
  obtain ⟨h2, h3⟩ := fold_minsi_spec
    (fun x : Fin (n + 1) => if f x = f (argFirst f) then BitVec.ofNat 32 x.val else BitVec.ofNat 32 (n + 1)) Finset.univ
    2147483647#32
  have hle := h2 (argFirst f) (Finset.mem_univ _)
  rw [if_pos rfl] at hle
  have hlt := (argFirst f).isLt
  rw [toInt_ofNat (argFirst f).val (by omega)] at hle
  rcases h3 with h | ⟨i, _, h⟩
  · rw [h] at hle
    have : (2147483647#32 : BitVec 32).toInt = 2147483647 := by decide
    omega
  · have hi := i.isLt
    rw [h] at hle ⊢
    by_cases he : f i = f (argFirst f)
    · rw [if_pos he] at hle ⊢
      rw [toInt_ofNat i.val (by omega)] at hle
      have := argFirst_le f i he
      have : i = argFirst f := le_antisymm (Fin.le_def.mpr (by omega)) this
      rw [← this]
    · rw [if_neg he, toInt_ofNat (n + 1) hn] at hle
      omega

/-- The one-hot bits of the claims, as words: their maximum is above zero exactly where there is a claim. -/
theorem fold_maxsi_bits (C : Fin 16 → Prop) [DecidablePred C] :
    IntOp.cmpi .sgt (Finset.univ.fold IntOp.maxsi 2147483648#32
        (fun j => BitVec.setWidth 32 (if C j then 1#1 else 0#1))) 0#32
      = if (Finset.univ.filter C).Nonempty then 1#1 else 0#1 := by
  obtain ⟨_, h2, h3⟩ := SortNet.fold_maxsi_spec
    (fun j : Fin 16 => BitVec.setWidth 32 (if C j then 1#1 else 0#1)) Finset.univ 2147483648#32
  generalize Finset.univ.fold IntOp.maxsi 2147483648#32
    (fun j : Fin 16 => BitVec.setWidth 32 (if C j then 1#1 else 0#1)) = r at h2 h3 ⊢
  show BitVec.ofBool ((0#32 : BitVec 32).slt r) = _
  have z : (0#32 : BitVec 32).toInt = 0 := by decide
  have o : (BitVec.setWidth 32 (1#1)).toInt = 1 := by decide
  have o' : (BitVec.setWidth 32 (0#1)).toInt = 0 := by decide
  have e : (2147483648#32 : BitVec 32).toInt = -2147483648 := by decide
  by_cases h : (Finset.univ.filter C).Nonempty
  · obtain ⟨j, hj⟩ := h
    have hC : C j := (Finset.mem_filter.mp hj).2
    have := h2 j (Finset.mem_univ _)
    rw [if_pos hC, o] at this
    rw [if_pos ⟨j, hj⟩, BitVec.slt_eq_decide, z, decide_eq_true (by omega)]; rfl
  · rw [if_neg h, BitVec.slt_eq_decide, z, decide_eq_false]; · rfl
    rcases h3 with h3 | ⟨j, _, h3⟩
    · rw [h3, e]; omega
    · have hC : ¬C j := fun hC => h ⟨j, Finset.mem_filter.mpr ⟨Finset.mem_univ _, hC⟩⟩
      rw [h3, if_neg hC, o']; omega

/-- The claiming indices' maximum as words, −1 standing for no claim, is the last claim. -/
theorem fold_maxsi_last (C : Fin 16 → Prop) [DecidablePred C] :
    Finset.univ.fold IntOp.maxsi 2147483648#32
        (fun j => Scalar.select (if C j then 1#1 else 0#1) (BitVec.ofNat 32 j.val) 4294967295#32)
      = if h : (Finset.univ.filter C).Nonempty then BitVec.ofNat 32 ((Finset.univ.filter C).max' h).val else 4294967295#32 := by
  obtain ⟨_, h2, h3⟩ := SortNet.fold_maxsi_spec
    (fun j : Fin 16 => Scalar.select (if C j then 1#1 else 0#1) (BitVec.ofNat 32 j.val) 4294967295#32) Finset.univ 2147483648#32
  generalize Finset.univ.fold IntOp.maxsi 2147483648#32
    (fun j : Fin 16 => Scalar.select (if C j then 1#1 else 0#1) (BitVec.ofNat 32 j.val) 4294967295#32) = r at h2 h3 ⊢
  have hval : ∀ j : Fin 16, Scalar.select (if C j then 1#1 else 0#1) (BitVec.ofNat 32 j.val) (4294967295#32 : BitVec 32)
      = if C j then BitVec.ofNat 32 j.val else 4294967295#32 := by
    intro j; by_cases hC : C j
    · rw [if_pos hC, if_pos hC]; rfl
    · rw [if_neg hC, if_neg hC]; rfl
  simp only [hval] at h2 h3
  have e : (2147483648#32 : BitVec 32).toInt = -2147483648 := by decide
  have e1 : (4294967295#32 : BitVec 32).toInt = -1 := by decide
  have hr : r ≠ 2147483648#32 := by
    intro hr
    have := h2 0 (Finset.mem_univ _)
    rw [hr, e] at this
    split at this
    · rw [toInt_ofNat _ (by decide)] at this; omega
    · rw [e1] at this; omega
  by_cases h : (Finset.univ.filter C).Nonempty
  · rw [dif_pos h]
    have hm := Finset.max'_mem _ h
    have hC : C ((Finset.univ.filter C).max' h) := (Finset.mem_filter.mp hm).2
    have hge := h2 _ (Finset.mem_univ ((Finset.univ.filter C).max' h))
    rw [if_pos hC, toInt_ofNat _ (by have := ((Finset.univ.filter C).max' h).isLt; omega)] at hge
    rcases h3 with h3 | ⟨j, _, h3⟩
    · exact absurd h3 hr
    · by_cases hj : C j
      · rw [if_pos hj] at h3
        have hle : j ≤ (Finset.univ.filter C).max' h := Finset.le_max' _ _ (Finset.mem_filter.mpr ⟨Finset.mem_univ _, hj⟩)
        rw [h3, toInt_ofNat _ (by have := j.isLt; omega)] at hge
        have : j = (Finset.univ.filter C).max' h := le_antisymm hle (Fin.le_def.mpr (by omega))
        rw [h3, ← this]
      · rw [if_neg hj] at h3; rw [h3, e1] at hge; omega
  · rw [dif_neg h]
    rcases h3 with h3 | ⟨j, _, h3⟩
    · exact absurd h3 hr
    · rw [if_neg fun hC => h ⟨j, Finset.mem_filter.mpr ⟨Finset.mem_univ _, hC⟩⟩] at h3; exact h3

/-- A sum one term of which is let through is that term. -/
theorem sum_onehot (i : Fin 16) (g : Fin 16 → EReal) :
    (∑ x : Fin 16, Scalar.select (IntOp.cmpi .eq (BitVec.ofNat 32 x.val) (BitVec.ofNat 32 i.val)) (g x) 0) = g i := by
  rw [Finset.sum_eq_single i]
  · rw [cmpi_eq_ofNat _ _ (by have := i.isLt; omega) (by have := i.isLt; omega), if_pos rfl]; rfl
  · intro x _ hx
    rw [cmpi_eq_ofNat _ _ (by have := x.isLt; omega) (by have := i.isLt; omega), if_neg fun e => hx (Fin.ext e)]; rfl
  · intro h; exact absurd (Finset.mem_univ i) h

end Cert.MatchSpec

end
-- ==== Proof.MatchPay.lean ====
/-
  What the matching call's body computes from one image's blocks, at the ideal instance: the class targets, the count
  of positive priors and the localisation loss of the matching of the image's truth boxes to the priors.
-/
module

public import proofs.«01_k».proof.Proof.MatchBlock
public import proofs.«01_k».proof.Proof.MatchSpec

@[expose] public section

set_option maxRecDepth 16384

noncomputable section

open Idealize.ShloMosaic Idealize.ShloMosaic.TcCoe Idealize.SL.Sem
open scoped BigOperators

namespace Cert.MatchIdeal.Pay

open Cert.MatchIdeal Cert.MatchIdeal.Gen Cert.MatchIdeal.Block Cert.MatchSpec

/-! The parts of the matching, from the overlaps. -/

section Overlaps

variable (v2 v3 v4 v5 : FVec Ideal S16x1 .f32) (v17 v20 v23 v26 : FVec Ideal S1x24564 .f32) (v35 v42 : FVec Ideal S16x24564 .f32)
  (O : Fin 16 → Fin 24564 → EReal)
  (hO : ∀ j p, @Eq EReal (k0_pay21 v2 v3 v4 v5 v17 v20 v23 v26 v35 v42 (ix2 j p)) (O j p))

include hO

/-- A prior's greatest overlap. -/
theorem greatest (p : Fin 24564) : @Eq EReal (k0_pay22 v2 v3 v4 v5 v17 v20 v23 v26 v35 v42 (ix2 0 p))
    (O (argFirst fun j => O j p) p) := by
  pointwise [k0_pay22]
  simp only [hO]
  rw [negInf]
  exact fold_max_eq fun j : Fin 16 => O j p

/-- The truth box a prior overlaps most. -/
theorem own_word (p : Fin 24564) : k0_pay23 v2 v3 v4 v5 v17 v20 v23 v26 v35 v42 (ix2 0 p)
    = BitVec.ofNat 32 (argFirst fun j => O j p).val := by
  pointwise [k0_pay23]
  rw [greatest v2 v3 v4 v5 v17 v20 v23 v26 v35 v42 O hO]
  simp only [hO]
  exact fold_minsi_first (by decide) fun j : Fin 16 => O j p

/-- Whether a truth box claims a prior. -/
theorem claim_bit (j : Fin 16) (p : Fin 24564) : k0_pay24 v2 v3 v4 v5 v17 v20 v23 v26 v35 v42 (ix2 j p)
    = if argFirst (O j) = p then 1#1 else 0#1 := by
  pointwise [k0_pay24]
  simp only [hO]
  rw [negInf, fold_max_eq (O j)]
  have e : (24564#32 : BitVec 32) = BitVec.ofNat 32 (24563 + 1) := rfl
  rw [e, fold_minsi_first (by decide) (O j), cmpi_eq_ofNat _ _ (by have := p.isLt; omega) (by have := (argFirst (O j)).isLt; omega)]
  by_cases h : argFirst (O j) = p
  · rw [if_pos h, if_pos (congrArg Fin.val h.symm)]
  · rw [if_neg h, if_neg fun e => h (Fin.ext e.symm)]

/-- The overlap a prior is credited with. -/
theorem credit (p : Fin 24564) : @Eq EReal (k0_pay25 v2 v3 v4 v5 v17 v20 v23 v26 v35 v42 (ix2 0 p))
    (if (Finset.univ.filter fun j => argFirst (O j) = p).Nonempty then two else O (argFirst fun j => O j p) p) := by
  pointwise [k0_pay25]
  rw [greatest v2 v3 v4 v5 v17 v20 v23 v26 v35 v42 O hO]
  simp only [claim_bit v2 v3 v4 v5 v17 v20 v23 v26 v35 v42 O hO]
  rw [fold_maxsi_bits fun j : Fin 16 => argFirst (O j) = p]
  split
  · rfl
  · rfl

/-- The last truth box that claims a prior, or −1. -/
theorem last_word (p : Fin 24564) : k0_pay26 v2 v3 v4 v5 v17 v20 v23 v26 v35 v42 (ix2 0 p)
    = if h : (Finset.univ.filter fun j => argFirst (O j) = p).Nonempty
      then BitVec.ofNat 32 ((Finset.univ.filter fun j => argFirst (O j) = p).max' h).val else 4294967295#32 := by
  pointwise [k0_pay26]
  simp only [claim_bit v2 v3 v4 v5 v17 v20 v23 v26 v35 v42 O hO]
  exact fold_maxsi_last fun j : Fin 16 => argFirst (O j) = p

/-- Whether any truth box claims a prior. -/
theorem some_bit (p : Fin 24564) : k0_pay27 v2 v3 v4 v5 v17 v20 v23 v26 v35 v42 (ix2 0 p)
    = if (Finset.univ.filter fun j => argFirst (O j) = p).Nonempty then 1#1 else 0#1 := by
  pointwise [k0_pay27]
  rw [last_word v2 v3 v4 v5 v17 v20 v23 v26 v35 v42 O hO]
  by_cases h : (Finset.univ.filter fun j : Fin 16 => argFirst (O j) = p).Nonempty
  · rw [dif_pos h, if_pos h]
    show BitVec.ofBool ((0#32 : BitVec 32).sle _) = _
    have hz : (0#32 : BitVec 32).toInt = 0 := by decide
    rw [BitVec.sle_eq_decide, hz, toInt_ofNat _ (by have := ((Finset.univ.filter fun j : Fin 16 => argFirst (O j) = p).max' h).isLt; omega),
      decide_eq_true (by omega)]
    rfl
  · rw [dif_neg h, if_neg h]
    decide

end Overlaps

/-! The truth box a prior answers to, and its numbers. -/

section Chosen

variable (v58 : IVec S16x24564 32) (v74 v87 : IVec S1x24564 32) (v89 : IVec S1x24564 1) (i : Fin 24564 → Fin 16)
  (h58 : ∀ j p, v58 (ix2 j p) = BitVec.ofNat 32 j.val)
  (hi : ∀ p, Scalar.select (v89 (ix2 0 p)) (v87 (ix2 0 p)) (v74 (ix2 0 p)) = BitVec.ofNat 32 (i p).val)

include h58 hi

/-- The first corner's first coordinate. -/
theorem pick29 (v : FVec Ideal S16x1 .f32) (p : Fin 24564) :
    @Eq EReal (k0_pay29 v v58 v74 v87 v89 (ix2 0 p)) (v (ix2 (i p) 0)) := by
  pointwise [k0_pay29, k0_pay28]
  simp only [h58, hi]
  exact sum_onehot (i p) fun j => v (ix2 j 0)

/-- The first corner's second coordinate. -/
theorem pick30 (v : FVec Ideal S16x1 .f32) (p : Fin 24564) :
    @Eq EReal (k0_pay30 v v58 v74 v87 v89 (ix2 0 p)) (v (ix2 (i p) 0)) := by
  pointwise [k0_pay30, k0_pay28]
  simp only [h58, hi]
  exact sum_onehot (i p) fun j => v (ix2 j 0)

/-- The second corner's first coordinate. -/
theorem pick31 (v : FVec Ideal S16x1 .f32) (p : Fin 24564) :
    @Eq EReal (k0_pay31 v v58 v74 v87 v89 (ix2 0 p)) (v (ix2 (i p) 0)) := by
  pointwise [k0_pay31, k0_pay28]
  simp only [h58, hi]
  exact sum_onehot (i p) fun j => v (ix2 j 0)

/-- The second corner's second coordinate. -/
theorem pick32 (v : FVec Ideal S16x1 .f32) (p : Fin 24564) :
    @Eq EReal (k0_pay32 v v58 v74 v87 v89 (ix2 0 p)) (v (ix2 (i p) 0)) := by
  pointwise [k0_pay32, k0_pay28]
  simp only [h58, hi]
  exact sum_onehot (i p) fun j => v (ix2 j 0)

/-- The class target: background below the threshold, otherwise the label plus one. -/
theorem class_word (v : FVec Ideal S16x1 .f32) (v83 : FVec Ideal S1x24564 .f32) (p : Fin 24564) :
    k0_pay33 v v58 v74 v83 v87 v89 (ix2 0 p)
      = if @LT.lt EReal _ (v83 (ix2 0 p)) half then 0#32
        else IntOp.addi (FloatOps.fptosi (F := Ideal) (φ := .f32) 32 (v (ix2 (i p) 0))) 1#32 := by
  pointwise [k0_pay33, k0_pay28]
  simp only [h58, hi]
  rw [sum_onehot (i p) fun j => v (ix2 j 0)]

/-- Whether a prior is positive. -/
theorem pos_bit (v : FVec Ideal S16x1 .f32) (v83 : FVec Ideal S1x24564 .f32) (p : Fin 24564) :
    k0_pay34 v v58 v74 v83 v87 v89 (ix2 0 p) = IntOp.cmpi .sgt (k0_pay33 v v58 v74 v83 v87 v89 (ix2 0 p)) 0#32 := by
  pointwise [k0_pay34]

/-- The centre's first coordinate. -/
theorem middle (v v' : FVec Ideal S16x1 .f32) (p : Fin 24564) :
    @Eq EReal (k0_pay35 v v' v58 v74 v87 v89 (ix2 0 p)) (Ideal.div (v (ix2 (i p) 0) + v' (ix2 (i p) 0) : EReal) two) := by
  pointwise [k0_pay35]
  rw [pick29 v58 v74 v87 v89 i h58 hi, pick31 v58 v74 v87 v89 i h58 hi]

end Chosen

/-! The count and the loss, from the positive priors. -/

/-- The stored class targets. -/
theorem stored_conf (v : IVec S1x24564 32) (p : Fin 24564) : k0_pay1 (k0_pay37 v) (ix3 0 0 p) = v (ix2 0 p) := by
  pointwise [k0_pay1, k0_pay37]

/-- The stored count. -/
theorem stored_count (v : IVec S1x24564 1) :
    k0_pay2 v (ix3 0 0 0) = Finset.univ.fold IntOp.addi 0#32 fun p : Fin 24564 => BitVec.setWidth 32 (v (ix2 0 p)) := by
  pointwise [k0_pay2]
  have e : (Finset.univ : Finset (Fin 1 × Fin 24564)) = Finset.univ.map ⟨fun p => ((0 : Fin 1), p), fun a b h => (Prod.mk.inj h).2⟩ := by
    ext ⟨a, b⟩
    simp only [Finset.mem_univ, Finset.mem_map, Function.Embedding.coeFn_mk, true_and, true_iff]
    exact ⟨b, Prod.ext (Subsingleton.elim _ _) rfl⟩
  rw [e, Finset.fold_map]
  rfl

/-- The running loss after a point. -/
theorem stored_acc (l : EReal) (acc : FVec Ideal S1x1 .f32) :
    @Eq EReal (k0_pay4 (F := Ideal) l acc (ix2 0 0)) (acc (ix2 0 0) + l : EReal) := by
  pointwise [k0_pay4]

/-- A choice by a bit, the chosen number named. -/
theorem choose_congr (w : BitVec 1) (a b : EReal) (h : a = b) : Scalar.select w a 0 = if w = 1#1 then b else 0 := by
  rw [h]; rfl

/-- The stored loss: every positive prior's four smooth differences, summed. -/
theorem stored_loss (v8 v10 v12 v14 v98 v104 v110 v116 : FVec Ideal S1x24564 .f32) (v131 : IVec S1x24564 1)
    (v134 : FVec Ideal S1x24564 .f32) (z : FVec Ideal S1x4x24564 .f32) :
    @Eq EReal (k0_pay36 v8 v10 v12 v14 v98 v104 v110 v116 v131 v134 z)
      (∑ p : Fin 24564, if v131 (ix2 0 p) = 1#1 then
        ∑ k : Fin 4, smooth ((z (ix3 0 k p) : EReal) - (![
          Ideal.div ((v134 (ix2 0 p) : EReal) - v8 (ix2 0 p)) (var0 * v12 (ix2 0 p)),
          Ideal.div (Ideal.div ((v104 (ix2 0 p) : EReal) + v116 (ix2 0 p)) two - v10 (ix2 0 p)) (var0 * v14 (ix2 0 p)),
          Ideal.div (Ideal.log (Ideal.div ((v110 (ix2 0 p) : EReal) - v98 (ix2 0 p)) (v12 (ix2 0 p)))) var1,
          Ideal.div (Ideal.log (Ideal.div ((v116 (ix2 0 p) : EReal) - v104 (ix2 0 p)) (v14 (ix2 0 p)))) var1] : Fin 4 → EReal) k)
        else 0) := by
  pointwise [k0_pay36]
  refine (Fin.sum_univ_one _).trans (Finset.sum_congr rfl fun p _ => ?_)
  refine choose_congr _ _ _ (Finset.sum_congr rfl fun k _ => ?_)
  fin_cases k <;> rfl

end Cert.MatchIdeal.Pay

end
-- ==== Proof.MatchImage.lean ====
/-
  One grid point of the matching call, at the ideal instance: from an image's truth boxes, the priors and the image's
  predictions, the body's stored blocks are the image's class targets, its count of positive priors and its loss.
-/
module

public import proofs.«01_k».proof.Proof.MatchPay

@[expose] public section

set_option maxRecDepth 16384

noncomputable section

open Idealize.ShloMosaic Idealize.ShloMosaic.TcCoe Idealize.SL.Sem
open scoped BigOperators

namespace Cert.MatchIdeal.Image

open Cert.MatchIdeal Cert.MatchIdeal.Gen Cert.MatchIdeal.Block Cert.MatchIdeal.Pay Cert.MatchSpec

variable (x : Vec Ideal S1x16x5 .f32) (y : Vec Ideal S4x24564 .f32) (z : Vec Ideal S1x4x24564 .f32)

/-- The truth boxes, the priors and the predictions the blocks hold. -/
abbrev boxT : Fin 16 → Fin 5 → EReal := fun j c => x (ix3 0 j c)
abbrev boxP : Fin 24564 → Fin 4 → EReal := fun p a => y (ix2 a p)
abbrev boxL : Fin 24564 → Fin 4 → EReal := fun p k => z (ix3 0 k p)

/-! A truth box's five numbers. -/

theorem col0 (j : Fin 16) : @Eq EReal (k0_pay6 x (ix2 j 0)) (boxT x j 0) := by pointwise [k0_pay6, k0_pay5]
theorem col1 (j : Fin 16) : @Eq EReal (k0_pay7 x (ix2 j 0)) (boxT x j 1) := by pointwise [k0_pay7, k0_pay5]
theorem col2 (j : Fin 16) : @Eq EReal (k0_pay8 x (ix2 j 0)) (boxT x j 2) := by pointwise [k0_pay8, k0_pay5]
theorem col3 (j : Fin 16) : @Eq EReal (k0_pay9 x (ix2 j 0)) (boxT x j 3) := by pointwise [k0_pay9, k0_pay5]
theorem col4 (j : Fin 16) : @Eq EReal (k0_pay10 x (ix2 j 0)) (boxT x j 4) := by pointwise [k0_pay10, k0_pay5]

/-! A prior's four numbers and its corners. -/

theorem row_apply (r : Fin 4) (p : Fin 24564) : @Eq EReal (rowOf y r (ix2 0 p)) (boxP y p r) := rfl

theorem row0 (p : Fin 24564) : @Eq EReal (k0_pay11 (rowOf y 0) (ix2 0 p)) (boxP y p 0) := by pointwise [k0_pay11]; rfl
theorem row1 (p : Fin 24564) : @Eq EReal (k0_pay12 (rowOf y 1) (ix2 0 p)) (boxP y p 1) := by pointwise [k0_pay12]; rfl
theorem row2 (p : Fin 24564) : @Eq EReal (k0_pay13 (rowOf y 2) (ix2 0 p)) (boxP y p 2) := by pointwise [k0_pay13]; rfl
theorem row3 (p : Fin 24564) : @Eq EReal (k0_pay14 (rowOf y 3) (ix2 0 p)) (boxP y p 3) := by pointwise [k0_pay14]; rfl

theorem left_apply (p : Fin 24564) : @Eq EReal (k0_pay15 (rowOf y 0) (rowOf y 2) (ix2 0 p)) (left (boxP y) p) := by
  pointwise [k0_pay15]
  rw [row0, row2]
  rfl
theorem top_apply (p : Fin 24564) : @Eq EReal (k0_pay16 (rowOf y 1) (rowOf y 3) (ix2 0 p)) (top (boxP y) p) := by
  pointwise [k0_pay16]
  rw [row1, row3]
  rfl
theorem right_apply (p : Fin 24564) : @Eq EReal (k0_pay17 (rowOf y 0) (rowOf y 2) (ix2 0 p)) (right (boxP y) p) := by
  pointwise [k0_pay17]
  rw [row0, row2]
  rfl
theorem bottom_apply (p : Fin 24564) : @Eq EReal (k0_pay18 (rowOf y 1) (rowOf y 3) (ix2 0 p)) (bottom (boxP y) p) := by
  pointwise [k0_pay18]
  rw [row1, row3]
  rfl

/-- The width shared. -/
theorem width_apply (j : Fin 16) (p : Fin 24564) : @Eq EReal (k0_pay19 x (rowOf y 0) (rowOf y 2) (ix2 j p))
    (max 0 (min (boxT x j 2) (right (boxP y) p) - max (boxT x j 0) (left (boxP y) p))) := by
  pointwise [k0_pay19]
  rw [col0, col2, left_apply, right_apply]

/-- The height shared, before it is held at zero. -/
theorem height_apply (j : Fin 16) (p : Fin 24564) : @Eq EReal (k0_pay20 x (rowOf y 1) (rowOf y 3) (ix2 j p))
    (min (boxT x j 3) (bottom (boxP y) p) - max (boxT x j 1) (top (boxP y) p)) := by
  pointwise [k0_pay20]
  rw [col1, col3, top_apply, bottom_apply]

/-- The overlaps. -/
theorem overlap_apply (j : Fin 16) (p : Fin 24564) :
    @Eq EReal (k0_pay21 (k0_pay6 x) (k0_pay7 x) (k0_pay8 x) (k0_pay9 x) (k0_pay15 (rowOf y 0) (rowOf y 2)) (k0_pay16 (rowOf y 1) (rowOf y 3))
      (k0_pay17 (rowOf y 0) (rowOf y 2)) (k0_pay18 (rowOf y 1) (rowOf y 3)) (k0_pay19 x (rowOf y 0) (rowOf y 2)) (k0_pay20 x (rowOf y 1) (rowOf y 3)) (ix2 j p))
      (ov (boxT x) (boxP y) j p) := by
  pointwise [k0_pay21]
  rw [col0, col1, col2, col3, left_apply, top_apply, right_apply, bottom_apply, width_apply, height_apply]
  rfl

/-- The overlap a prior is credited with. -/
theorem over_apply (p : Fin 24564) : @Eq EReal (overBlk x y (ix2 0 p)) (over (boxT x) (boxP y) p) :=
  credit _ _ _ _ _ _ _ _ _ _ _ (overlap_apply x y) p

/-- Whether any truth box claims a prior. -/
theorem some_apply (p : Fin 24564) : someBlk x y (ix2 0 p) = if (claims (boxT x) (boxP y) p).Nonempty then 1#1 else 0#1 :=
  some_bit _ _ _ _ _ _ _ _ _ _ _ (overlap_apply x y) p

/-- The last truth box that claims a prior, or −1. -/
theorem last_apply (p : Fin 24564) : lastBlk x y (ix2 0 p)
    = if h : (claims (boxT x) (boxP y) p).Nonempty then BitVec.ofNat 32 ((claims (boxT x) (boxP y) p).max' h).val else 4294967295#32 :=
  last_word _ _ _ _ _ _ _ _ _ _ _ (overlap_apply x y) p

/-- The truth box a prior overlaps most. -/
theorem own_apply (p : Fin 24564) : ownBlk x y (ix2 0 p) = BitVec.ofNat 32 (own (boxT x) (boxP y) p).val :=
  own_word _ _ _ _ _ _ _ _ _ _ _ (overlap_apply x y) p

/-- The truth box a prior answers to, as the body chooses it. -/
theorem chosen_apply (p : Fin 24564) :
    Scalar.select (someBlk x y (ix2 0 p)) (lastBlk x y (ix2 0 p)) (ownBlk x y (ix2 0 p))
      = BitVec.ofNat 32 (idx (boxT x) (boxP y) p).val := by
  rw [some_apply, last_apply, own_apply]
  unfold idx
  by_cases h : (claims (boxT x) (boxP y) p).Nonempty
  · rw [if_pos h, dif_pos h, dif_pos h]; rfl
  · rw [if_neg h, dif_neg h, dif_neg h]; rfl

theorem boxes_apply (j : Fin 16) (p : Fin 24564) : boxes (ix2 j p) = BitVec.ofNat 32 j.val := by
  pointwise []

/-- The class targets. -/
theorem conf_apply (p : Fin 24564) : rowConf x y (ix2 0 p) = conf (boxT x) (boxP y) p := by
  refine (class_word _ _ _ _ _ boxes_apply (chosen_apply x y) _ _ p).trans ?_
  rw [over_apply, col4]
  rfl

/-- The positive priors. -/
theorem pos_apply (p : Fin 24564) : rowPos x y (ix2 0 p) = pos (boxT x) (boxP y) p := by
  refine (pos_bit _ _ _ _ (fun p => idx (boxT x) (boxP y) p) boxes_apply (chosen_apply x y) _ _ p).trans ?_
  exact congrArg (fun w => IntOp.cmpi .sgt w 0#32) (conf_apply x y p)

/-! The numbers of the truth box a prior answers to. -/

theorem x1Blk_apply (p : Fin 24564) : @Eq EReal (x1Blk x y (ix2 0 p)) (boxT x (idx (boxT x) (boxP y) p) 0) :=
  (pick29 _ _ _ _ _ boxes_apply (chosen_apply x y) _ p).trans (col0 x _)
theorem y1Blk_apply (p : Fin 24564) : @Eq EReal (y1Blk x y (ix2 0 p)) (boxT x (idx (boxT x) (boxP y) p) 1) :=
  (pick30 _ _ _ _ _ boxes_apply (chosen_apply x y) _ p).trans (col1 x _)
theorem x2Blk_apply (p : Fin 24564) : @Eq EReal (x2Blk x y (ix2 0 p)) (boxT x (idx (boxT x) (boxP y) p) 2) :=
  (pick31 _ _ _ _ _ boxes_apply (chosen_apply x y) _ p).trans (col2 x _)
theorem y2Blk_apply (p : Fin 24564) : @Eq EReal (y2Blk x y (ix2 0 p)) (boxT x (idx (boxT x) (boxP y) p) 3) :=
  (pick32 _ _ _ _ _ boxes_apply (chosen_apply x y) _ p).trans (col3 x _)
theorem midBlk_apply (p : Fin 24564) : @Eq EReal (midBlk x y (ix2 0 p))
    (Ideal.div (boxT x (idx (boxT x) (boxP y) p) 0 + boxT x (idx (boxT x) (boxP y) p) 2) two) := by
  refine (middle _ _ _ _ _ boxes_apply (chosen_apply x y) _ _ p).trans ?_
  rw [col0, col2]

/-- The block of class targets. -/
theorem confBlk_apply (p : Fin 24564) : confBlk x y (ix3 0 0 p) = conf (boxT x) (boxP y) p :=
  (stored_conf _ p).trans (conf_apply x y p)

/-- The count. -/
theorem countBlk_apply : countBlk x y (ix3 0 0 0) = count (boxT x) (boxP y) := by
  refine (stored_count _).trans ?_
  exact congrArg (Finset.univ.fold IntOp.addi 0#32) (funext fun p => congrArg (BitVec.setWidth 32) (pos_apply x y p))

/-- The loss. -/
theorem lossBlk_eq : @Eq EReal (lossBlk x y z) (imageLoss (boxT x) (boxP y) (boxL z)) := by
  refine (stored_loss _ _ _ _ _ _ _ _ _ _ _).trans (Finset.sum_congr rfl fun p _ => ?_)
  rw [pos_apply]
  by_cases h : pos (boxT x) (boxP y) p = 1#1
  · rw [if_pos h, if_pos h]
    refine Finset.sum_congr rfl fun k _ => ?_
    rw [row0, row1, row2, row3, x1Blk_apply, y1Blk_apply, x2Blk_apply, y2Blk_apply, midBlk_apply]
    rfl
  · rw [if_neg h, if_neg h]

/-- The running loss. -/
theorem accBlk_apply (acc : Vec Ideal S1x1 .f32) :
    @Eq EReal (accBlk x y z acc (ix2 0 0)) (acc (ix2 0 0) + imageLoss (boxT x) (boxP y) (boxL z) : EReal) :=
  (stored_acc _ _).trans (congrArg (fun l : EReal => (acc (ix2 0 0) + l : EReal)) (lossBlk_eq x y z))

/-- The running loss starts at zero. -/
theorem zero_apply : @Eq EReal (k0_pay3 (F := Ideal) (ix2 0 0)) (0 : EReal) := by
  pointwise [k0_pay3]

end Cert.MatchIdeal.Image

end
-- ==== Proof.MatchArrays.lean ====
/-
  The three arrays the matching call ends with, as functions of its three arguments: the class target of every prior of
  every image (`confArr`), how many priors of each image are positive (`countArr`), and the localisation loss of all the
  images (`lossArr`).
-/
module

public import proofs.«01_k».proof.Proof.MatchImage
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MatchIdeal.Arrays

open Cert.MatchIdeal Cert.MatchIdeal.Gen Cert.MatchIdeal.Block Cert.MatchIdeal.Image Cert.MatchSpec

/-- An image's truth boxes, the priors, and an image's predictions, in the arguments. -/
abbrev truths (X2 : S16x16x5.Idx → EReal) (b : Fin 16) : Fin 16 → Fin 5 → EReal := fun j c => X2 (ix3 b j c)
abbrev priors (X1 : S24564x4.Idx → EReal) : Fin 24564 → Fin 4 → EReal := fun p a => X1 (ix2 p a)
abbrev preds (X0 : S16x24564x4.Idx → EReal) (b : Fin 16) : Fin 24564 → Fin 4 → EReal := fun p k => X0 (ix3 b p k)

/-- The class targets. -/
def confArr (X1 : S24564x4.Idx → EReal) (X2 : S16x16x5.Idx → EReal) : S16x1x24564.Idx → BitVec 32 :=
  fun i => conf (truths X2 (i 0)) (priors X1) (i 2)

/-- The counts of positive priors. -/
def countArr (X1 : S24564x4.Idx → EReal) (X2 : S16x16x5.Idx → EReal) : S16x1x1.Idx → BitVec 32 :=
  fun i => count (truths X2 (i 0)) (priors X1)

/-- The loss. -/
def lossArr (X0 : S16x24564x4.Idx → EReal) (X1 : S24564x4.Idx → EReal) (X2 : S16x16x5.Idx → EReal) : S1x1.Idx → EReal :=
  fun _ => ∑ b : Fin 16, imageLoss (truths X2 b) (priors X1) (preds X0 b)

variable (m : (ℓ : Loc nD τ sig) → Buf (Elt Ideal) ℓ)

/-- The arguments the call is given. -/
abbrev arg0 (c : Dev nD) : S16x24564x4.Idx → EReal := m ((c : Thread nD τ).loc main_arg0)
abbrev arg1 (c : Dev nD) : S24564x4.Idx → EReal := m ((c : Thread nD τ).loc main_arg1)
abbrev arg2 (c : Dev nD) : S16x16x5.Idx → EReal := m ((c : Thread nD τ).loc main_arg2)

theorem V_preds (c : Dev nD) :
    (V m c main_v0 : S16x4x24564.Idx → EReal) = transpose S16x4x24564 [0, 2, 1] (arg0 m c) transposes_S16x24564x4_S16x4x24564_0_2_1 := by
  show StableHlo.after hostOps0 _ (Proc.devRef .tc main_v0) = _
  after_results

theorem V_priors (c : Dev nD) :
    (V m c main_v1 : S4x24564.Idx → EReal) = transpose S4x24564 [1, 0] (arg1 m c) transposes_S24564x4_S4x24564_1_0 := by
  show StableHlo.after hostOps0 _ (Proc.devRef .tc main_v1) = _
  after_results

/-- The image a grid point works on. -/
abbrev image (t : Fin cfg0.N) : Fin 16 := ⟨t.val, lt_of_lt_of_eq t.isLt N_0⟩

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- Where a point's block of truth boxes lies in its array. -/
theorem emb0 (t : Fin cfg0.N) (b : Fin 1) (c : Fin 16) (d : Fin 5) :
    (((cfg0.win 0).blk t).view.emb (ix3 b c d) : S16x16x5.Idx) = ix3 (image t) c d := by
  obtain ⟨h0, h1, h2⟩ := index0 t
  funext a
  apply Fin.ext
  match a with
  | ⟨0, _⟩ => show win0_0.index t 0 * 1 + 1 * b.val = t.val; rw [h0]; omega
  | ⟨1, _⟩ => show win0_0.index t 1 * 16 + 1 * c.val = c.val; rw [h1]; omega
  | ⟨2, _⟩ => show win0_0.index t 2 * 5 + 1 * d.val = d.val; rw [h2]; omega

/-- The block of priors is all of them. -/
theorem emb1 (t : Fin cfg0.N) (b : Fin 4) (c : Fin 24564) :
    (((cfg0.win 1).blk t).view.emb (ix2 b c) : S4x24564.Idx) = ix2 b c := by
  obtain ⟨h0, h1⟩ := index1 t
  funext a
  apply Fin.ext
  match a with
  | ⟨0, _⟩ => show win0_1.index t 0 * 4 + 1 * b.val = b.val; rw [h0]; omega
  | ⟨1, _⟩ => show win0_1.index t 1 * 24564 + 1 * c.val = c.val; rw [h1]; omega

/-- Where a point's block of predictions lies in its array. -/
theorem emb2 (t : Fin cfg0.N) (b : Fin 1) (c : Fin 4) (d : Fin 24564) :
    (((cfg0.win 2).blk t).view.emb (ix3 b c d) : S16x4x24564.Idx) = ix3 (image t) c d := by
  obtain ⟨h0, h1, h2⟩ := index2 t
  funext a
  apply Fin.ext
  match a with
  | ⟨0, _⟩ => show win0_2.index t 0 * 1 + 1 * b.val = t.val; rw [h0]; omega
  | ⟨1, _⟩ => show win0_2.index t 1 * 4 + 1 * c.val = c.val; rw [h1]; omega
  | ⟨2, _⟩ => show win0_2.index t 2 * 24564 + 1 * d.val = d.val; rw [h2]; omega

/-- Where a point's block of class targets lies in its array. -/
theorem emb3 (t : Fin cfg0.N) (b : Fin 1) (c : Fin 1) (d : Fin 24564) :
    (((cfg0.win 3).blk t).view.emb (ix3 b c d) : S16x1x24564.Idx) = ix3 (image t) c d := by
  obtain ⟨h0, h1, h2⟩ := index3 t
  funext a
  apply Fin.ext
  match a with
  | ⟨0, _⟩ => show win0_3.index t 0 * 1 + 1 * b.val = t.val; rw [h0]; omega
  | ⟨1, _⟩ => show win0_3.index t 1 * 1 + 1 * c.val = c.val; rw [h1]; omega
  | ⟨2, _⟩ => show win0_3.index t 2 * 24564 + 1 * d.val = d.val; rw [h2]; omega

/-- Where a point's count lies in its array. -/
theorem emb4 (t : Fin cfg0.N) (b : Fin 1) (c : Fin 1) (d : Fin 1) :
    (((cfg0.win 4).blk t).view.emb (ix3 b c d) : S16x1x1.Idx) = ix3 (image t) c d := by
  obtain ⟨h0, h1, h2⟩ := index4 t
  funext a
  apply Fin.ext
  match a with
  | ⟨0, _⟩ => show win0_4.index t 0 * 1 + 1 * b.val = t.val; rw [h0]; omega
  | ⟨1, _⟩ => show win0_4.index t 1 * 1 + 1 * c.val = c.val; rw [h1]; omega
  | ⟨2, _⟩ => show win0_4.index t 2 * 1 + 1 * d.val = d.val; rw [h2]; omega

/-- A point's truth boxes. -/
theorem truths_block (c : Dev nD) (t : Fin cfg0.N) : boxT (iblk m c 0 t) = truths (arg2 m c) (image t) := by
  funext j k
  show (V m c main_arg2 : S16x16x5.Idx → EReal) (((cfg0.win 0).blk t).view.emb (ix3 0 j k)) = _
  rw [V_main_arg2, emb0]

/-- A point's priors. -/
theorem priors_block (c : Dev nD) (t : Fin cfg0.N) : boxP (iblk m c 1 t) = priors (arg1 m c) := by
  funext p a
  show (V m c main_v1 : S4x24564.Idx → EReal) (((cfg0.win 1).blk t).view.emb (ix2 a p)) = _
  rw [V_priors, emb1]
  pointwise []

/-- A point's predictions. -/
theorem preds_block (c : Dev nD) (t : Fin cfg0.N) : boxL (iblk m c 2 t) = preds (arg0 m c) (image t) := by
  funext p k
  show (V m c main_v0 : S16x4x24564.Idx → EReal) (((cfg0.win 2).blk t).view.emb (ix3 0 k p)) = _
  rw [V_preds, emb2]
  pointwise []
  rfl

/-- Every point writes its own image's slab of the class targets. -/
theorem flushed_conf (c : Dev nD) (t : Fin cfg0.N) (_hf : (cfg0.win 3).flush t = true) :
    (dats m 0 c).flushed 3 t = ((cfg0.win 3).blk t).view.read (Elt Ideal) (confArr (arg1 m c) (arg2 m c)) := by
  rw [Value.flushed3, outs_conf]
  have key : ∀ j : S1x1x24564.Idx, confBlk (F := Ideal) (iblk m c 0 t) (iblk m c 1 t) j
      = confArr (arg1 m c) (arg2 m c) (((cfg0.win 3).blk t).view.emb j) := by
    intro j
    obtain ⟨b, k, p, rfl⟩ : ∃ b k p, j = ix3 b k p := ⟨_, _, _, eq_ix3 j⟩
    obtain rfl : b = 0 := Subsingleton.elim _ _
    obtain rfl : k = 0 := Subsingleton.elim _ _
    rw [confBlk_apply, truths_block, priors_block, emb3]
    rfl
  exact funext key

/-- The first result: every class target, each written by its image's point. -/
theorem final_conf (c : Dev nD) : (dats m 0 c).arrAt 3 cfg0.N = confArr (arg1 m c) (arg2 m c) :=
  (dats m 0 c).arrAt_eq_of_cover 3 (confArr (arg1 m c) (arg2 m c)) (flushed_conf m c) fun i => by
    have hN : cfg0.N = 16 := N_0
    refine ⟨⟨((i : S16x1x24564.Idx) 0).val, by rw [hN]; exact ((i : S16x1x24564.Idx) 0).isLt⟩, flush0_3 _, ?_⟩
    generalize ht : (⟨((i : S16x1x24564.Idx) 0).val, _⟩ : Fin cfg0.N) = t
    obtain ⟨h0, h1, h2⟩ := index3 t
    show i ∈ ((View.whole main_v2_0).slice (win0_3.rect t)).set
    rw [View.set_slice_whole, Rect.mem_set_unit]
    have hv : t.val = ((i : S16x1x24564.Idx) 0).val := by rw [← ht]
    intro a
    match a with
    | ⟨0, _⟩ =>
      show win0_3.index t 0 * 1 ≤ ((i : S16x1x24564.Idx) 0).val ∧ ((i : S16x1x24564.Idx) 0).val < win0_3.index t 0 * 1 + 1
      rw [h0]; omega
    | ⟨1, _⟩ =>
      show win0_3.index t 1 * 1 ≤ ((i : S16x1x24564.Idx) 1).val ∧ ((i : S16x1x24564.Idx) 1).val < win0_3.index t 1 * 1 + 1
      have hi : ((i : S16x1x24564.Idx) 1).val < 1 := ((i : S16x1x24564.Idx) 1).isLt
      rw [h1]; omega
    | ⟨2, _⟩ =>
      show win0_3.index t 2 * 24564 ≤ ((i : S16x1x24564.Idx) 2).val ∧ ((i : S16x1x24564.Idx) 2).val < win0_3.index t 2 * 24564 + 24564
      have hi : ((i : S16x1x24564.Idx) 2).val < 24564 := ((i : S16x1x24564.Idx) 2).isLt
      rw [h2]; omega

/-- Every point writes its own image's count. -/
theorem flushed_count (c : Dev nD) (t : Fin cfg0.N) (_hf : (cfg0.win 4).flush t = true) :
    (dats m 0 c).flushed 4 t = ((cfg0.win 4).blk t).view.read (Elt Ideal) (countArr (arg1 m c) (arg2 m c)) := by
  rw [Value.flushed4, outs_count]
  have key : ∀ j : S1x1x1.Idx, countBlk (F := Ideal) (iblk m c 0 t) (iblk m c 1 t) j
      = countArr (arg1 m c) (arg2 m c) (((cfg0.win 4).blk t).view.emb j) := by
    intro j
    obtain ⟨b, k, p, rfl⟩ : ∃ b k p, j = ix3 b k p := ⟨_, _, _, eq_ix3 j⟩
    obtain rfl : b = 0 := Subsingleton.elim _ _
    obtain rfl : k = 0 := Subsingleton.elim _ _
    obtain rfl : p = 0 := Subsingleton.elim _ _
    rw [countBlk_apply, truths_block, priors_block, emb4]
    rfl
  generalize countBlk (F := Ideal) (iblk m c 0 t) (iblk m c 1 t) = z at key ⊢
  generalize countArr (arg1 m c) (arg2 m c) = w at key ⊢
  exact funext key

/-- The second result: every count, each written by its image's point. -/
theorem final_count (c : Dev nD) : (dats m 0 c).arrAt 4 cfg0.N = countArr (arg1 m c) (arg2 m c) :=
  (dats m 0 c).arrAt_eq_of_cover 4 (countArr (arg1 m c) (arg2 m c)) (flushed_count m c) fun i => by
    have hN : cfg0.N = 16 := N_0
    refine ⟨⟨((i : S16x1x1.Idx) 0).val, by rw [hN]; exact ((i : S16x1x1.Idx) 0).isLt⟩, flush0_4 _, ?_⟩
    generalize ht : (⟨((i : S16x1x1.Idx) 0).val, _⟩ : Fin cfg0.N) = t
    obtain ⟨h0, h1, h2⟩ := index4 t
    show i ∈ ((View.whole main_v2_1).slice (win0_4.rect t)).set
    rw [View.set_slice_whole, Rect.mem_set_unit]
    have hv : t.val = ((i : S16x1x1.Idx) 0).val := by rw [← ht]
    intro a
    match a with
    | ⟨0, _⟩ =>
      show win0_4.index t 0 * 1 ≤ ((i : S16x1x1.Idx) 0).val ∧ ((i : S16x1x1.Idx) 0).val < win0_4.index t 0 * 1 + 1
      rw [h0]; omega
    | ⟨1, _⟩ =>
      show win0_4.index t 1 * 1 ≤ ((i : S16x1x1.Idx) 1).val ∧ ((i : S16x1x1.Idx) 1).val < win0_4.index t 1 * 1 + 1
      have hi : ((i : S16x1x1.Idx) 1).val < 1 := ((i : S16x1x1.Idx) 1).isLt
      rw [h1]; omega
    | ⟨2, _⟩ =>
      show win0_4.index t 2 * 1 ≤ ((i : S16x1x1.Idx) 2).val ∧ ((i : S16x1x1.Idx) 2).val < win0_4.index t 2 * 1 + 1
      have hi : ((i : S16x1x1.Idx) 2).val < 1 := ((i : S16x1x1.Idx) 2).isLt
      rw [h2]; omega

/-- One image's loss, of the arguments. -/
abbrev lossOf (c : Dev nD) (b : Fin 16) : EReal := imageLoss (truths (arg2 m c) b) (priors (arg1 m c)) (preds (arg0 m c) b)

/-- The running loss after point `n` is the sum of the first `n + 1` images' losses. -/
theorem chain_apply (c : Dev nD) : ∀ (n : ℕ) (h : n < cfg0.N),
    @Eq EReal (chain m c n h (ix2 0 0)) (∑ b ∈ Finset.range (n + 1), if hb : b < 16 then lossOf m c ⟨b, hb⟩ else 0)
  | 0, h => by
    rw [chain, accBlk_apply, zero_apply, zero_add, Finset.sum_range_one, dif_pos (by decide),
      truths_block, priors_block, preds_block]
  | n + 1, h => by
    have hN : cfg0.N = 16 := N_0
    rw [chain, accBlk_apply, chain_apply c n, Finset.sum_range_succ _ (n + 1), dif_pos (by omega : n + 1 < 16),
      truths_block, priors_block, preds_block]

/-- After the last point: the sum of all sixteen. -/
theorem chain_last (c : Dev nD) (h : 15 < cfg0.N) : chain m c 15 h = lossArr (arg0 m c) (arg1 m c) (arg2 m c) := by
  funext j
  have hj : j = ix2 0 0 := (eq_ix2 j).trans (congrArg₂ ix2 (Subsingleton.elim _ _) (Subsingleton.elim _ _))
  rw [hj]
  refine (chain_apply m c 15 h).trans ?_
  rw [Finset.sum_range]
  exact Finset.sum_congr rfl fun b _ => dif_pos b.isLt

/-- The one write-back of the loss, after the last point. -/
theorem flushed_acc (c : Dev nD) (t : Fin cfg0.N) (hf : (cfg0.win 5).flush t = true) :
    (dats m 0 c).flushed 5 t = ((cfg0.win 5).blk t).view.read (Elt Ideal) (lossArr (arg0 m c) (arg1 m c) (arg2 m c)) := by
  have hN : cfg0.N = 16 := N_0
  have h3 : t.val = 15 := by have := (flush0_5 t).mp hf; have := t.isLt; omega
  obtain rfl : t = t0_15 := Fin.ext h3
  rw [Value.flushed5]
  have e : (outsAt0 m c t0_15.val t0_15.isLt).2.2 = lossArr (arg0 m c) (arg1 m c) (arg2 m c) :=
    (outs_acc m c _ _).trans (chain_last m c _)
  rw [e]
  have hz' : (fun a => win0_5.index t0_15 a * main_v2_2.ty.shape.size a) = fun _ => 0 := funext fun a => by fin_cases a <;> decide
  exact (Memref.read_access_unit_zero (Elt Ideal) main_v2_2 hz' (fun a => by rw [congrFun hz' a]; simp) (lossArr (arg0 m c) (arg1 m c) (arg2 m c))).symm

/-- The third result: the loss of all the images. -/
theorem final_acc (c : Dev nD) : (dats m 0 c).arrAt 5 cfg0.N = lossArr (arg0 m c) (arg1 m c) (arg2 m c) :=
  (dats m 0 c).arrAt_eq_of_cover 5 (lossArr (arg0 m c) (arg1 m c) (arg2 m c)) (flushed_acc m c) fun i =>
    ⟨t0_15, (flush0_5 t0_15).mpr rfl, by
      show i ∈ ((View.whole main_v2_2).slice (win0_5.rect t0_15)).set
      rw [View.set_slice_whole, Rect.mem_set_unit]
      intro a
      have e0 : win0_5.index t0_15 0 = 0 := by decide +kernel
      have e1 : win0_5.index t0_15 1 = 0 := by decide +kernel
      have b0 : ((i : S1x1.Idx) 0).val < 1 := ((i : S1x1.Idx) 0).isLt
      have b1 : ((i : S1x1.Idx) 1).val < 1 := ((i : S1x1.Idx) 1).isLt
      match a with
      | ⟨0, _⟩ =>
        show win0_5.index t0_15 0 * 1 ≤ ((i : S1x1.Idx) 0).val ∧ ((i : S1x1.Idx) 0).val < win0_5.index t0_15 0 * 1 + 1
        rw [e0]; omega
      | ⟨1, _⟩ =>
        show win0_5.index t0_15 1 * 1 ≤ ((i : S1x1.Idx) 1).val ∧ ((i : S1x1.Idx) 1).val < win0_5.index t0_15 1 * 1 + 1
        rw [e1]; omega⟩

end Cert.MatchIdeal.Arrays

end
-- ==== Proof.MatchRefRun.lean ====
/-
  The matching reference's operations in order, in thirteen parts, and what the program ends with: every buffer at the
  operations' effect on the starting contents.
-/
module

public import proofs.«01_k».proof.Proof.Gen.MatchReferenceIdeal
public import Idealize.ShloMosaic.Lib.StableHlo.Run
public import Idealize.ShloMosaic.Lib.StableHlo.RunRead

@[expose] public section

noncomputable section

open Idealize.ShloMosaic Idealize.ShloMosaic.TcCoe Idealize.SL.Sem Idealize.ShloMosaic.StableHlo

namespace Cert.MatchReferenceIdeal.Run

open Cert.MatchReferenceIdeal Cert.MatchReferenceIdeal.Gen

variable {F : FTy → Type} [FloatOps F]

/-- The operations for the truth boxes, their labels, and the corners of the priors. -/
abbrev opsCorners : List (HloOp τ sig (Elt F)) :=
  [ unary main_arg2 main_v0 ((extractStridedSlice S16x16x4 ![0, 0, 0] · slices_S16x16x5_S16x16x4_0_0_0) : (⟨S16x16x5, .f32⟩ : BufTy).Contents (Elt F) → (⟨S16x16x4, .f32⟩ : BufTy).Contents (Elt F)),
    unary main_arg2 main_v1 ((extractStridedSlice S16x16x1 ![0, 0, 4] · slices_S16x16x5_S16x16x1_0_0_4) : (⟨S16x16x5, .f32⟩ : BufTy).Contents (Elt F) → (⟨S16x16x1, .f32⟩ : BufTy).Contents (Elt F)),
    reshape main_v1 main_v2 (rfl : (.f32 : EltTy) = .f32) shapeCasts_S16x16x1_S16x16,
    unary main_arg1 main_v3 ((extractStridedSlice S24564x2 ![0, 0] · slices_S24564x4_S24564x2_0_0) : (⟨S24564x4, .f32⟩ : BufTy).Contents (Elt F) → (⟨S24564x2, .f32⟩ : BufTy).Contents (Elt F)),
    unary main_arg1 main_v4 ((extractStridedSlice S24564x2 ![0, 2] · slices_S24564x4_S24564x2_0_2) : (⟨S24564x4, .f32⟩ : BufTy).Contents (Elt F) → (⟨S24564x2, .f32⟩ : BufTy).Contents (Elt F)),
    nullary main_cst (constant S_ .f32 0x40000000#32),
    unary main_cst main_v5 (broadcastInDim S24564x2 ![] bcast_S_S24564x2 : (⟨S_, .f32⟩ : BufTy).Contents (Elt F) → (⟨S24564x2, .f32⟩ : BufTy).Contents (Elt F)),
    binary main_v4 main_v5 main_v6 (Host.divf : (⟨S24564x2, .f32⟩ : BufTy).Contents (Elt F) → (⟨S24564x2, .f32⟩ : BufTy).Contents (Elt F) → (⟨S24564x2, .f32⟩ : BufTy).Contents (Elt F)),
    binary main_v3 main_v6 main_v7 (subf : (⟨S24564x2, .f32⟩ : BufTy).Contents (Elt F) → (⟨S24564x2, .f32⟩ : BufTy).Contents (Elt F) → (⟨S24564x2, .f32⟩ : BufTy).Contents (Elt F)),
    unary main_arg1 main_v8 ((extractStridedSlice S24564x2 ![0, 0] · slices_S24564x4_S24564x2_0_0) : (⟨S24564x4, .f32⟩ : BufTy).Contents (Elt F) → (⟨S24564x2, .f32⟩ : BufTy).Contents (Elt F)),
    unary main_arg1 main_v9 ((extractStridedSlice S24564x2 ![0, 2] · slices_S24564x4_S24564x2_0_2) : (⟨S24564x4, .f32⟩ : BufTy).Contents (Elt F) → (⟨S24564x2, .f32⟩ : BufTy).Contents (Elt F)),
    nullary main_cst_0 (constant S_ .f32 0x40000000#32),
    unary main_cst_0 main_v10 (broadcastInDim S24564x2 ![] bcast_S_S24564x2 : (⟨S_, .f32⟩ : BufTy).Contents (Elt F) → (⟨S24564x2, .f32⟩ : BufTy).Contents (Elt F)),
    binary main_v9 main_v10 main_v11 (Host.divf : (⟨S24564x2, .f32⟩ : BufTy).Contents (Elt F) → (⟨S24564x2, .f32⟩ : BufTy).Contents (Elt F) → (⟨S24564x2, .f32⟩ : BufTy).Contents (Elt F)),
    binary main_v8 main_v11 main_v12 (addf : (⟨S24564x2, .f32⟩ : BufTy).Contents (Elt F) → (⟨S24564x2, .f32⟩ : BufTy).Contents (Elt F) → (⟨S24564x2, .f32⟩ : BufTy).Contents (Elt F)) ]

/-- The operations for the area every truth box and prior share. -/
abbrev opsInter : List (HloOp τ sig (Elt F)) :=
  [ binary main_v7 main_v12 main_v13 ((fun a b => concatenate S24564x4 1 [⟨S24564x2, a⟩, ⟨S24564x2, b⟩] concatenates_S24564x2_S24564x2_S24564x4_d1) : (⟨S24564x2, .f32⟩ : BufTy).Contents (Elt F) → (⟨S24564x2, .f32⟩ : BufTy).Contents (Elt F) → (⟨S24564x4, .f32⟩ : BufTy).Contents (Elt F)),
    unary main_v0 main_v14 ((extractStridedSlice S16x16x2 ![0, 0, 2] · slices_S16x16x4_S16x16x2_0_0_2) : (⟨S16x16x4, .f32⟩ : BufTy).Contents (Elt F) → (⟨S16x16x2, .f32⟩ : BufTy).Contents (Elt F)),
    unary main_v14 main_v15 (broadcastInDim S16x16x1x2 ![0, 1, 3] bcast_S16x16x2_S16x16x1x2_0_1_3 : (⟨S16x16x2, .f32⟩ : BufTy).Contents (Elt F) → (⟨S16x16x1x2, .f32⟩ : BufTy).Contents (Elt F)),
    unary main_v13 main_v16 ((extractStridedSlice S24564x2 ![0, 2] · slices_S24564x4_S24564x2_0_2) : (⟨S24564x4, .f32⟩ : BufTy).Contents (Elt F) → (⟨S24564x2, .f32⟩ : BufTy).Contents (Elt F)),
    unary main_v16 main_v17 (broadcastInDim S1x24564x2 ![1, 2] bcast_S24564x2_S1x24564x2_1_2 : (⟨S24564x2, .f32⟩ : BufTy).Contents (Elt F) → (⟨S1x24564x2, .f32⟩ : BufTy).Contents (Elt F)),
    unary main_v17 main_v18 (broadcastInDim S1x1x24564x2 ![1, 2, 3] bcast_S1x24564x2_S1x1x24564x2_1_2_3 : (⟨S1x24564x2, .f32⟩ : BufTy).Contents (Elt F) → (⟨S1x1x24564x2, .f32⟩ : BufTy).Contents (Elt F)),
    unary main_v15 main_v19 (broadcastInDim S16x16x24564x2 ![0, 1, 2, 3] bcast_S16x16x1x2_S16x16x24564x2_0_1_2_3 : (⟨S16x16x1x2, .f32⟩ : BufTy).Contents (Elt F) → (⟨S16x16x24564x2, .f32⟩ : BufTy).Contents (Elt F)),
    unary main_v18 main_v20 (broadcastInDim S16x16x24564x2 ![0, 1, 2, 3] bcast_S1x1x24564x2_S16x16x24564x2_0_1_2_3 : (⟨S1x1x24564x2, .f32⟩ : BufTy).Contents (Elt F) → (⟨S16x16x24564x2, .f32⟩ : BufTy).Contents (Elt F)),
    binary main_v19 main_v20 main_v21 (minimumf : (⟨S16x16x24564x2, .f32⟩ : BufTy).Contents (Elt F) → (⟨S16x16x24564x2, .f32⟩ : BufTy).Contents (Elt F) → (⟨S16x16x24564x2, .f32⟩ : BufTy).Contents (Elt F)),
    unary main_v0 main_v22 ((extractStridedSlice S16x16x2 ![0, 0, 0] · slices_S16x16x4_S16x16x2_0_0_0) : (⟨S16x16x4, .f32⟩ : BufTy).Contents (Elt F) → (⟨S16x16x2, .f32⟩ : BufTy).Contents (Elt F)),
    unary main_v22 main_v23 (broadcastInDim S16x16x1x2 ![0, 1, 3] bcast_S16x16x2_S16x16x1x2_0_1_3 : (⟨S16x16x2, .f32⟩ : BufTy).Contents (Elt F) → (⟨S16x16x1x2, .f32⟩ : BufTy).Contents (Elt F)),
    unary main_v13 main_v24 ((extractStridedSlice S24564x2 ![0, 0] · slices_S24564x4_S24564x2_0_0) : (⟨S24564x4, .f32⟩ : BufTy).Contents (Elt F) → (⟨S24564x2, .f32⟩ : BufTy).Contents (Elt F)),
    unary main_v24 main_v25 (broadcastInDim S1x24564x2 ![1, 2] bcast_S24564x2_S1x24564x2_1_2 : (⟨S24564x2, .f32⟩ : BufTy).Contents (Elt F) → (⟨S1x24564x2, .f32⟩ : BufTy).Contents (Elt F)),
    unary main_v25 main_v26 (broadcastInDim S1x1x24564x2 ![1, 2, 3] bcast_S1x24564x2_S1x1x24564x2_1_2_3 : (⟨S1x24564x2, .f32⟩ : BufTy).Contents (Elt F) → (⟨S1x1x24564x2, .f32⟩ : BufTy).Contents (Elt F)),
    unary main_v23 main_v27 (broadcastInDim S16x16x24564x2 ![0, 1, 2, 3] bcast_S16x16x1x2_S16x16x24564x2_0_1_2_3 : (⟨S16x16x1x2, .f32⟩ : BufTy).Contents (Elt F) → (⟨S16x16x24564x2, .f32⟩ : BufTy).Contents (Elt F)),
    unary main_v26 main_v28 (broadcastInDim S16x16x24564x2 ![0, 1, 2, 3] bcast_S1x1x24564x2_S16x16x24564x2_0_1_2_3 : (⟨S1x1x24564x2, .f32⟩ : BufTy).Contents (Elt F) → (⟨S16x16x24564x2, .f32⟩ : BufTy).Contents (Elt F)),
    binary main_v27 main_v28 main_v29 (maximumf : (⟨S16x16x24564x2, .f32⟩ : BufTy).Contents (Elt F) → (⟨S16x16x24564x2, .f32⟩ : BufTy).Contents (Elt F) → (⟨S16x16x24564x2, .f32⟩ : BufTy).Contents (Elt F)),
    binary main_v21 main_v29 main_v30 (subf : (⟨S16x16x24564x2, .f32⟩ : BufTy).Contents (Elt F) → (⟨S16x16x24564x2, .f32⟩ : BufTy).Contents (Elt F) → (⟨S16x16x24564x2, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S16x16x24564x2, .f32⟩) main_call0_v1) (broadcastInDim S16x16x24564x2 ![] bcast_S_S16x16x24564x2),
    TRef.binary (TRef.of (T := ⟨S16x16x24564x2, .f32⟩) main_call0_v1) (TRef.of (T := ⟨S16x16x24564x2, .f32⟩) main_v30) (TRef.of (T := ⟨S16x16x24564x2, .f32⟩) main_v31) maximumf,
    unary main_v31 main_v32 ((extractStridedSlice S16x16x24564x1 ![0, 0, 0, 0] · slices_S16x16x24564x2_S16x16x24564x1_0_0_0_0) : (⟨S16x16x24564x2, .f32⟩ : BufTy).Contents (Elt F) → (⟨S16x16x24564x1, .f32⟩ : BufTy).Contents (Elt F)),
    reshape main_v32 main_v33 (rfl : (.f32 : EltTy) = .f32) shapeCasts_S16x16x24564x1_S16x16x24564,
    unary main_v31 main_v34 ((extractStridedSlice S16x16x24564x1 ![0, 0, 0, 1] · slices_S16x16x24564x2_S16x16x24564x1_0_0_0_1) : (⟨S16x16x24564x2, .f32⟩ : BufTy).Contents (Elt F) → (⟨S16x16x24564x1, .f32⟩ : BufTy).Contents (Elt F)),
    reshape main_v34 main_v35 (rfl : (.f32 : EltTy) = .f32) shapeCasts_S16x16x24564x1_S16x16x24564,
    binary main_v33 main_v35 main_v36 (mulf : (⟨S16x16x24564, .f32⟩ : BufTy).Contents (Elt F) → (⟨S16x16x24564, .f32⟩ : BufTy).Contents (Elt F) → (⟨S16x16x24564, .f32⟩ : BufTy).Contents (Elt F)) ]

/-- The operations for the overlap of every truth box with every prior. -/
abbrev opsOverlap : List (HloOp τ sig (Elt F)) :=
  [ unary main_v0 main_v37 ((extractStridedSlice S16x16x1 ![0, 0, 2] · slices_S16x16x4_S16x16x1_0_0_2) : (⟨S16x16x4, .f32⟩ : BufTy).Contents (Elt F) → (⟨S16x16x1, .f32⟩ : BufTy).Contents (Elt F)),
    reshape main_v37 main_v38 (rfl : (.f32 : EltTy) = .f32) shapeCasts_S16x16x1_S16x16,
    unary main_v0 main_v39 ((extractStridedSlice S16x16x1 ![0, 0, 0] · slices_S16x16x4_S16x16x1_0_0_0) : (⟨S16x16x4, .f32⟩ : BufTy).Contents (Elt F) → (⟨S16x16x1, .f32⟩ : BufTy).Contents (Elt F)),
    reshape main_v39 main_v40 (rfl : (.f32 : EltTy) = .f32) shapeCasts_S16x16x1_S16x16,
    binary main_v38 main_v40 main_v41 (subf : (⟨S16x16, .f32⟩ : BufTy).Contents (Elt F) → (⟨S16x16, .f32⟩ : BufTy).Contents (Elt F) → (⟨S16x16, .f32⟩ : BufTy).Contents (Elt F)),
    unary main_v0 main_v42 ((extractStridedSlice S16x16x1 ![0, 0, 3] · slices_S16x16x4_S16x16x1_0_0_3) : (⟨S16x16x4, .f32⟩ : BufTy).Contents (Elt F) → (⟨S16x16x1, .f32⟩ : BufTy).Contents (Elt F)),
    reshape main_v42 main_v43 (rfl : (.f32 : EltTy) = .f32) shapeCasts_S16x16x1_S16x16,
    unary main_v0 main_v44 ((extractStridedSlice S16x16x1 ![0, 0, 1] · slices_S16x16x4_S16x16x1_0_0_1) : (⟨S16x16x4, .f32⟩ : BufTy).Contents (Elt F) → (⟨S16x16x1, .f32⟩ : BufTy).Contents (Elt F)),
    reshape main_v44 main_v45 (rfl : (.f32 : EltTy) = .f32) shapeCasts_S16x16x1_S16x16,
    binary main_v43 main_v45 main_v46 (subf : (⟨S16x16, .f32⟩ : BufTy).Contents (Elt F) → (⟨S16x16, .f32⟩ : BufTy).Contents (Elt F) → (⟨S16x16, .f32⟩ : BufTy).Contents (Elt F)),
    binary main_v41 main_v46 main_v47 (mulf : (⟨S16x16, .f32⟩ : BufTy).Contents (Elt F) → (⟨S16x16, .f32⟩ : BufTy).Contents (Elt F) → (⟨S16x16, .f32⟩ : BufTy).Contents (Elt F)),
    unary main_v47 main_v48 (broadcastInDim S16x16x1 ![0, 1] bcast_S16x16_S16x16x1_0_1 : (⟨S16x16, .f32⟩ : BufTy).Contents (Elt F) → (⟨S16x16x1, .f32⟩ : BufTy).Contents (Elt F)),
    unary main_v13 main_v49 ((extractStridedSlice S24564x1 ![0, 2] · slices_S24564x4_S24564x1_0_2) : (⟨S24564x4, .f32⟩ : BufTy).Contents (Elt F) → (⟨S24564x1, .f32⟩ : BufTy).Contents (Elt F)),
    reshape main_v49 main_v50 (rfl : (.f32 : EltTy) = .f32) shapeCasts_S24564x1_S24564,
    unary main_v13 main_v51 ((extractStridedSlice S24564x1 ![0, 0] · slices_S24564x4_S24564x1_0_0) : (⟨S24564x4, .f32⟩ : BufTy).Contents (Elt F) → (⟨S24564x1, .f32⟩ : BufTy).Contents (Elt F)),
    reshape main_v51 main_v52 (rfl : (.f32 : EltTy) = .f32) shapeCasts_S24564x1_S24564,
    binary main_v50 main_v52 main_v53 (subf : (⟨S24564, .f32⟩ : BufTy).Contents (Elt F) → (⟨S24564, .f32⟩ : BufTy).Contents (Elt F) → (⟨S24564, .f32⟩ : BufTy).Contents (Elt F)),
    unary main_v13 main_v54 ((extractStridedSlice S24564x1 ![0, 3] · slices_S24564x4_S24564x1_0_3) : (⟨S24564x4, .f32⟩ : BufTy).Contents (Elt F) → (⟨S24564x1, .f32⟩ : BufTy).Contents (Elt F)),
    reshape main_v54 main_v55 (rfl : (.f32 : EltTy) = .f32) shapeCasts_S24564x1_S24564,
    unary main_v13 main_v56 ((extractStridedSlice S24564x1 ![0, 1] · slices_S24564x4_S24564x1_0_1) : (⟨S24564x4, .f32⟩ : BufTy).Contents (Elt F) → (⟨S24564x1, .f32⟩ : BufTy).Contents (Elt F)),
    reshape main_v56 main_v57 (rfl : (.f32 : EltTy) = .f32) shapeCasts_S24564x1_S24564,
    binary main_v55 main_v57 main_v58 (subf : (⟨S24564, .f32⟩ : BufTy).Contents (Elt F) → (⟨S24564, .f32⟩ : BufTy).Contents (Elt F) → (⟨S24564, .f32⟩ : BufTy).Contents (Elt F)),
    binary main_v53 main_v58 main_v59 (mulf : (⟨S24564, .f32⟩ : BufTy).Contents (Elt F) → (⟨S24564, .f32⟩ : BufTy).Contents (Elt F) → (⟨S24564, .f32⟩ : BufTy).Contents (Elt F)),
    unary main_v59 main_v60 (broadcastInDim S1x24564 ![1] bcast_S24564_S1x24564_1 : (⟨S24564, .f32⟩ : BufTy).Contents (Elt F) → (⟨S1x24564, .f32⟩ : BufTy).Contents (Elt F)),
    unary main_v60 main_v61 (broadcastInDim S1x1x24564 ![1, 2] bcast_S1x24564_S1x1x24564_1_2 : (⟨S1x24564, .f32⟩ : BufTy).Contents (Elt F) → (⟨S1x1x24564, .f32⟩ : BufTy).Contents (Elt F)),
    unary main_v48 main_v62 (broadcastInDim S16x16x24564 ![0, 1, 2] bcast_S16x16x1_S16x16x24564_0_1_2 : (⟨S16x16x1, .f32⟩ : BufTy).Contents (Elt F) → (⟨S16x16x24564, .f32⟩ : BufTy).Contents (Elt F)),
    unary main_v61 main_v63 (broadcastInDim S16x16x24564 ![0, 1, 2] bcast_S1x1x24564_S16x16x24564_0_1_2 : (⟨S1x1x24564, .f32⟩ : BufTy).Contents (Elt F) → (⟨S16x16x24564, .f32⟩ : BufTy).Contents (Elt F)),
    binary main_v62 main_v63 main_v64 (addf : (⟨S16x16x24564, .f32⟩ : BufTy).Contents (Elt F) → (⟨S16x16x24564, .f32⟩ : BufTy).Contents (Elt F) → (⟨S16x16x24564, .f32⟩ : BufTy).Contents (Elt F)),
    binary main_v64 main_v36 main_v65 (subf : (⟨S16x16x24564, .f32⟩ : BufTy).Contents (Elt F) → (⟨S16x16x24564, .f32⟩ : BufTy).Contents (Elt F) → (⟨S16x16x24564, .f32⟩ : BufTy).Contents (Elt F)),
    binary main_v36 main_v65 main_v66 (Host.divf : (⟨S16x16x24564, .f32⟩ : BufTy).Contents (Elt F) → (⟨S16x16x24564, .f32⟩ : BufTy).Contents (Elt F) → (⟨S16x16x24564, .f32⟩ : BufTy).Contents (Elt F)) ]

/-- The operations for each truth box's best prior, each prior's best truth box and its overlap. -/
abbrev opsBest : List (HloOp τ sig (Elt F)) :=
  [ TRef.nullary (TRef.of (T := ⟨S16x16x24564, .i32⟩) main_call1_v0) (iotaInDim S16x16x24564 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x16x24564, .f32⟩) main_v66) (TRef.of (T := ⟨S16x16x24564, .i32⟩) main_call1_v0) (TRef.of (T := ⟨S_, .f32⟩) main_call1_cst) (TRef.of (T := ⟨S_, .i32⟩) main_call1_c) (TRef.of (T := ⟨S16x16, .f32⟩) main_call1_v1_0) (fun x y u v j => (Host.argReduce reducer_argmax_f32_i32 x y u v reducesTo_S16x16x24564_S16x16_d2 h_S_ j).1),
    TRef.quaternary (TRef.of (T := ⟨S16x16x24564, .f32⟩) main_v66) (TRef.of (T := ⟨S16x16x24564, .i32⟩) main_call1_v0) (TRef.of (T := ⟨S_, .f32⟩) main_call1_cst) (TRef.of (T := ⟨S_, .i32⟩) main_call1_c) (TRef.of (T := ⟨S16x16, .i32⟩) main_v67) (fun x y u v j => (Host.argReduce reducer_argmax_f32_i32 x y u v reducesTo_S16x16x24564_S16x16_d2 h_S_ j).2),
    nullary main_cst_2 (constant S_ .f32 0xFF800000#32),
    binary main_v66 main_cst_2 main_v68 ((fun x v => Host.reduce FloatOps.maximumf x v reducesTo_S16x16x24564_S16x24564_d1 h_S_) : (⟨S16x16x24564, .f32⟩ : BufTy).Contents (Elt F) → (⟨S_, .f32⟩ : BufTy).Contents (Elt F) → (⟨S16x24564, .f32⟩ : BufTy).Contents (Elt F)),
    TRef.nullary (TRef.of (T := ⟨S16x16x24564, .i32⟩) main_call2_v0) (iotaInDim S16x16x24564 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x16x24564, .f32⟩) main_v66) (TRef.of (T := ⟨S16x16x24564, .i32⟩) main_call2_v0) (TRef.of (T := ⟨S_, .f32⟩) main_call2_cst) (TRef.of (T := ⟨S_, .i32⟩) main_call2_c) (TRef.of (T := ⟨S16x24564, .f32⟩) main_call2_v1_0) (fun x y u v j => (Host.argReduce reducer_argmax_f32_i32 x y u v reducesTo_S16x16x24564_S16x24564_d1 h_S_ j).1),
    TRef.quaternary (TRef.of (T := ⟨S16x16x24564, .f32⟩) main_v66) (TRef.of (T := ⟨S16x16x24564, .i32⟩) main_call2_v0) (TRef.of (T := ⟨S_, .f32⟩) main_call2_cst) (TRef.of (T := ⟨S_, .i32⟩) main_call2_c) (TRef.of (T := ⟨S16x24564, .i32⟩) main_v69) (fun x y u v j => (Host.argReduce reducer_argmax_f32_i32 x y u v reducesTo_S16x16x24564_S16x24564_d1 h_S_ j).2) ]

/-- The operations for the image and the prior of every claim. -/
abbrev opsSpot : List (HloOp τ sig (Elt F)) :=
  [ nullary main_v70 (iotaInDim S16 32 0),
    unary main_v70 main_v71 (broadcastInDim S16x1 ![0] bcast_S16_S16x1_0 : (⟨S16, .i32⟩ : BufTy).Contents (Elt F) → (⟨S16x1, .i32⟩ : BufTy).Contents (Elt F)),
    nullary main_c (constantI S_ 32 0#32),
    unary main_c main_v72 (broadcastInDim S16x1 ![] bcast_S_S16x1 : (⟨S_, .i32⟩ : BufTy).Contents (Elt F) → (⟨S16x1, .i32⟩ : BufTy).Contents (Elt F)),
    binary main_v71 main_v72 main_v73 (cmpi .slt : (⟨S16x1, .i32⟩ : BufTy).Contents (Elt F) → (⟨S16x1, .i32⟩ : BufTy).Contents (Elt F) → (⟨S16x1, .i1⟩ : BufTy).Contents (Elt F)),
    nullary main_c_3 (constantI S_ 32 16#32),
    unary main_c_3 main_v74 (broadcastInDim S16x1 ![] bcast_S_S16x1 : (⟨S_, .i32⟩ : BufTy).Contents (Elt F) → (⟨S16x1, .i32⟩ : BufTy).Contents (Elt F)),
    binary main_v71 main_v74 main_v75 (addi : (⟨S16x1, .i32⟩ : BufTy).Contents (Elt F) → (⟨S16x1, .i32⟩ : BufTy).Contents (Elt F) → (⟨S16x1, .i32⟩ : BufTy).Contents (Elt F)),
    ternary main_v73 main_v75 main_v71 main_v76 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_4 (constantI S_ 32 0#32),
    unary main_c_4 main_v77 (broadcastInDim S16x16 ![] bcast_S_S16x16 : (⟨S_, .i32⟩ : BufTy).Contents (Elt F) → (⟨S16x16, .i32⟩ : BufTy).Contents (Elt F)),
    binary main_v67 main_v77 main_v78 (cmpi .slt : (⟨S16x16, .i32⟩ : BufTy).Contents (Elt F) → (⟨S16x16, .i32⟩ : BufTy).Contents (Elt F) → (⟨S16x16, .i1⟩ : BufTy).Contents (Elt F)),
    nullary main_c_5 (constantI S_ 32 24564#32),
    unary main_c_5 main_v79 (broadcastInDim S16x16 ![] bcast_S_S16x16 : (⟨S_, .i32⟩ : BufTy).Contents (Elt F) → (⟨S16x16, .i32⟩ : BufTy).Contents (Elt F)),
    binary main_v67 main_v79 main_v80 (addi : (⟨S16x16, .i32⟩ : BufTy).Contents (Elt F) → (⟨S16x16, .i32⟩ : BufTy).Contents (Elt F) → (⟨S16x16, .i32⟩ : BufTy).Contents (Elt F)),
    ternary main_v78 main_v80 main_v67 main_v81 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    unary main_v76 main_v82 (broadcastInDim S16x16 ![0, 1] bcast_S16x1_S16x16_0_1 : (⟨S16x1, .i32⟩ : BufTy).Contents (Elt F) → (⟨S16x16, .i32⟩ : BufTy).Contents (Elt F)),
    unary main_v82 main_v83 (broadcastInDim S16x16x1 ![0, 1] bcast_S16x16_S16x16x1_0_1 : (⟨S16x16, .i32⟩ : BufTy).Contents (Elt F) → (⟨S16x16x1, .i32⟩ : BufTy).Contents (Elt F)),
    unary main_v81 main_v84 (broadcastInDim S16x16x1 ![0, 1] bcast_S16x16_S16x16x1_0_1 : (⟨S16x16, .i32⟩ : BufTy).Contents (Elt F) → (⟨S16x16x1, .i32⟩ : BufTy).Contents (Elt F)) ]

/-- The operations for the overlap a prior is credited with. -/
abbrev opsCredit : List (HloOp τ sig (Elt F)) :=
  [ binary main_v83 main_v84 main_v85 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
    nullary main_cst_6 (constant S_ .f32 0x40000000#32),
    unary main_cst_6 main_v86 (broadcastInDim S16x16 ![] bcast_S_S16x16 : (⟨S_, .f32⟩ : BufTy).Contents (Elt F) → (⟨S16x16, .f32⟩ : BufTy).Contents (Elt F)),
    ternary main_v68 main_v85 main_v86 main_v87 ((fun x i u => Host.scatter scatter_S16x24564_S16x16x2_S16x16_n_01_01_2 (fun _ b => b) x i u) : (⟨S16x24564, .f32⟩ : BufTy).Contents (Elt F) → (⟨S16x16x2, .i32⟩ : BufTy).Contents (Elt F) → (⟨S16x16, .f32⟩ : BufTy).Contents (Elt F) → (⟨S16x24564, .f32⟩ : BufTy).Contents (Elt F)) ]

/-- The operations for the image and the prior of every claim, again. -/
abbrev opsSpot2 : List (HloOp τ sig (Elt F)) :=
  [ nullary main_v88 (iotaInDim S16 32 0),
    unary main_v88 main_v89 (broadcastInDim S1x16 ![1] bcast_S16_S1x16_1 : (⟨S16, .i32⟩ : BufTy).Contents (Elt F) → (⟨S1x16, .i32⟩ : BufTy).Contents (Elt F)),
    nullary main_c_7 (constantI S_ 32 0#32),
    unary main_c_7 main_v90 (broadcastInDim S16x1 ![] bcast_S_S16x1 : (⟨S_, .i32⟩ : BufTy).Contents (Elt F) → (⟨S16x1, .i32⟩ : BufTy).Contents (Elt F)),
    binary main_v71 main_v90 main_v91 (cmpi .slt : (⟨S16x1, .i32⟩ : BufTy).Contents (Elt F) → (⟨S16x1, .i32⟩ : BufTy).Contents (Elt F) → (⟨S16x1, .i1⟩ : BufTy).Contents (Elt F)),
    nullary main_c_8 (constantI S_ 32 16#32),
    unary main_c_8 main_v92 (broadcastInDim S16x1 ![] bcast_S_S16x1 : (⟨S_, .i32⟩ : BufTy).Contents (Elt F) → (⟨S16x1, .i32⟩ : BufTy).Contents (Elt F)),
    binary main_v71 main_v92 main_v93 (addi : (⟨S16x1, .i32⟩ : BufTy).Contents (Elt F) → (⟨S16x1, .i32⟩ : BufTy).Contents (Elt F) → (⟨S16x1, .i32⟩ : BufTy).Contents (Elt F)),
    ternary main_v91 main_v93 main_v71 main_v94 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_9 (constantI S_ 32 0#32),
    unary main_c_9 main_v95 (broadcastInDim S16x16 ![] bcast_S_S16x16 : (⟨S_, .i32⟩ : BufTy).Contents (Elt F) → (⟨S16x16, .i32⟩ : BufTy).Contents (Elt F)),
    binary main_v67 main_v95 main_v96 (cmpi .slt : (⟨S16x16, .i32⟩ : BufTy).Contents (Elt F) → (⟨S16x16, .i32⟩ : BufTy).Contents (Elt F) → (⟨S16x16, .i1⟩ : BufTy).Contents (Elt F)),
    nullary main_c_10 (constantI S_ 32 24564#32),
    unary main_c_10 main_v97 (broadcastInDim S16x16 ![] bcast_S_S16x16 : (⟨S_, .i32⟩ : BufTy).Contents (Elt F) → (⟨S16x16, .i32⟩ : BufTy).Contents (Elt F)),
    binary main_v67 main_v97 main_v98 (addi : (⟨S16x16, .i32⟩ : BufTy).Contents (Elt F) → (⟨S16x16, .i32⟩ : BufTy).Contents (Elt F) → (⟨S16x16, .i32⟩ : BufTy).Contents (Elt F)),
    ternary main_v96 main_v98 main_v67 main_v99 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    unary main_v94 main_v100 (broadcastInDim S16x16 ![0, 1] bcast_S16x1_S16x16_0_1 : (⟨S16x1, .i32⟩ : BufTy).Contents (Elt F) → (⟨S16x16, .i32⟩ : BufTy).Contents (Elt F)),
    unary main_v100 main_v101 (broadcastInDim S16x16x1 ![0, 1] bcast_S16x16_S16x16x1_0_1 : (⟨S16x16, .i32⟩ : BufTy).Contents (Elt F) → (⟨S16x16x1, .i32⟩ : BufTy).Contents (Elt F)),
    unary main_v99 main_v102 (broadcastInDim S16x16x1 ![0, 1] bcast_S16x16_S16x16x1_0_1 : (⟨S16x16, .i32⟩ : BufTy).Contents (Elt F) → (⟨S16x16x1, .i32⟩ : BufTy).Contents (Elt F)) ]

/-- The operations for the truth box a prior answers to. -/
abbrev opsIndex : List (HloOp τ sig (Elt F)) :=
  [ binary main_v101 main_v102 main_v103 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
    unary main_v89 main_v104 (broadcastInDim S16x16 ![0, 1] bcast_S1x16_S16x16_0_1 : (⟨S1x16, .i32⟩ : BufTy).Contents (Elt F) → (⟨S16x16, .i32⟩ : BufTy).Contents (Elt F)),
    ternary main_v69 main_v103 main_v104 main_v105 ((fun x i u => Host.scatter scatter_S16x24564_S16x16x2_S16x16_n_01_01_2 (fun _ b => b) x i u) : (⟨S16x24564, .i32⟩ : BufTy).Contents (Elt F) → (⟨S16x16x2, .i32⟩ : BufTy).Contents (Elt F) → (⟨S16x16, .i32⟩ : BufTy).Contents (Elt F) → (⟨S16x24564, .i32⟩ : BufTy).Contents (Elt F)) ]

/-- The operations for that truth box's corners. -/
abbrev opsBox : List (HloOp τ sig (Elt F)) :=
  [ nullary main_c_11 (constantI S_ 32 0#32),
    unary main_c_11 main_v106 (broadcastInDim S16x24564 ![] bcast_S_S16x24564 : (⟨S_, .i32⟩ : BufTy).Contents (Elt F) → (⟨S16x24564, .i32⟩ : BufTy).Contents (Elt F)),
    binary main_v105 main_v106 main_v107 (cmpi .slt : (⟨S16x24564, .i32⟩ : BufTy).Contents (Elt F) → (⟨S16x24564, .i32⟩ : BufTy).Contents (Elt F) → (⟨S16x24564, .i1⟩ : BufTy).Contents (Elt F)),
    nullary main_c_12 (constantI S_ 32 16#32),
    unary main_c_12 main_v108 (broadcastInDim S16x24564 ![] bcast_S_S16x24564 : (⟨S_, .i32⟩ : BufTy).Contents (Elt F) → (⟨S16x24564, .i32⟩ : BufTy).Contents (Elt F)),
    binary main_v105 main_v108 main_v109 (addi : (⟨S16x24564, .i32⟩ : BufTy).Contents (Elt F) → (⟨S16x24564, .i32⟩ : BufTy).Contents (Elt F) → (⟨S16x24564, .i32⟩ : BufTy).Contents (Elt F)),
    ternary main_v107 main_v109 main_v105 main_v110 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
    unary main_v110 main_v111 (broadcastInDim S16x24564x1 ![0, 1] bcast_S16x24564_S16x24564x1_0_1 : (⟨S16x24564, .i32⟩ : BufTy).Contents (Elt F) → (⟨S16x24564x1, .i32⟩ : BufTy).Contents (Elt F)),
    binary main_v0 main_v111 main_v112 ((fun x i => Host.gather gather_S16x16x4_S16x24564x1_S16x24564x4_2_1_0_0_1_2_114 x i) : (⟨S16x16x4, .f32⟩ : BufTy).Contents (Elt F) → (⟨S16x24564x1, .i32⟩ : BufTy).Contents (Elt F) → (⟨S16x24564x4, .f32⟩ : BufTy).Contents (Elt F)) ]

/-- The operations for the class target. -/
abbrev opsConf : List (HloOp τ sig (Elt F)) :=
  [ nullary main_c_13 (constantI S_ 32 0#32),
    unary main_c_13 main_v113 (broadcastInDim S16x24564 ![] bcast_S_S16x24564 : (⟨S_, .i32⟩ : BufTy).Contents (Elt F) → (⟨S16x24564, .i32⟩ : BufTy).Contents (Elt F)),
    binary main_v105 main_v113 main_v114 (cmpi .slt : (⟨S16x24564, .i32⟩ : BufTy).Contents (Elt F) → (⟨S16x24564, .i32⟩ : BufTy).Contents (Elt F) → (⟨S16x24564, .i1⟩ : BufTy).Contents (Elt F)),
    nullary main_c_14 (constantI S_ 32 16#32),
    unary main_c_14 main_v115 (broadcastInDim S16x24564 ![] bcast_S_S16x24564 : (⟨S_, .i32⟩ : BufTy).Contents (Elt F) → (⟨S16x24564, .i32⟩ : BufTy).Contents (Elt F)),
    binary main_v105 main_v115 main_v116 (addi : (⟨S16x24564, .i32⟩ : BufTy).Contents (Elt F) → (⟨S16x24564, .i32⟩ : BufTy).Contents (Elt F) → (⟨S16x24564, .i32⟩ : BufTy).Contents (Elt F)),
    ternary main_v114 main_v116 main_v105 main_v117 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
    unary main_v117 main_v118 (broadcastInDim S16x24564x1 ![0, 1] bcast_S16x24564_S16x24564x1_0_1 : (⟨S16x24564, .i32⟩ : BufTy).Contents (Elt F) → (⟨S16x24564x1, .i32⟩ : BufTy).Contents (Elt F)),
    binary main_v2 main_v118 main_v119 ((fun x i => Host.gather gather_S16x16_S16x24564x1_S16x24564_n_1_0_0_1_2_11 x i) : (⟨S16x16, .f32⟩ : BufTy).Contents (Elt F) → (⟨S16x24564x1, .i32⟩ : BufTy).Contents (Elt F) → (⟨S16x24564, .f32⟩ : BufTy).Contents (Elt F)),
    unary main_v119 main_v120 (fptosi 32 : (⟨S16x24564, .f32⟩ : BufTy).Contents (Elt F) → (⟨S16x24564, .i32⟩ : BufTy).Contents (Elt F)),
    nullary main_c_15 (constantI S_ 32 1#32),
    unary main_c_15 main_v121 (broadcastInDim S16x24564 ![] bcast_S_S16x24564 : (⟨S_, .i32⟩ : BufTy).Contents (Elt F) → (⟨S16x24564, .i32⟩ : BufTy).Contents (Elt F)),
    binary main_v120 main_v121 main_v122 (addi : (⟨S16x24564, .i32⟩ : BufTy).Contents (Elt F) → (⟨S16x24564, .i32⟩ : BufTy).Contents (Elt F) → (⟨S16x24564, .i32⟩ : BufTy).Contents (Elt F)),
    nullary main_cst_16 (constant S_ .f32 0x3F000000#32),
    unary main_cst_16 main_v123 (broadcastInDim S16x24564 ![] bcast_S_S16x24564 : (⟨S_, .f32⟩ : BufTy).Contents (Elt F) → (⟨S16x24564, .f32⟩ : BufTy).Contents (Elt F)),
    binary main_v87 main_v123 main_v124 (cmpf .olt : (⟨S16x24564, .f32⟩ : BufTy).Contents (Elt F) → (⟨S16x24564, .f32⟩ : BufTy).Contents (Elt F) → (⟨S16x24564, .i1⟩ : BufTy).Contents (Elt F)),
    nullary main_c_17 (constantI S_ 32 0#32),
    TRef.unary (TRef.of (T := ⟨S_, .i32⟩) main_c_17) (TRef.of (T := ⟨S_, .i32⟩) main_call3_v0) id,
    TRef.unary (TRef.of (T := ⟨S_, .i32⟩) main_call3_v0) (TRef.of (T := ⟨S24564, .i32⟩) main_call3_v1) (broadcastInDim S24564 ![] bcast_S_S24564),
    TRef.unary (TRef.of (T := ⟨S24564, .i32⟩) main_call3_v1) (TRef.of (T := ⟨S16x24564, .i32⟩) main_call3_v2) (broadcastInDim S16x24564 ![1] bcast_S24564_S16x24564_1),
    TRef.ternary (TRef.of (T := ⟨S16x24564, .i1⟩) main_v124) (TRef.of (T := ⟨S16x24564, .i32⟩) main_call3_v2) (TRef.of (T := ⟨S16x24564, .i32⟩) main_v122) (TRef.of (T := ⟨S16x24564, .i32⟩) main_v125) select ]

/-- The operations for the encoded centre and size. -/
abbrev opsEnc : List (HloOp τ sig (Elt F)) :=
  [ unary main_v112 main_v126 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
    unary main_v112 main_v127 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
    binary main_v126 main_v127 main_v128 (addf : (⟨S16x24564x2, .f32⟩ : BufTy).Contents (Elt F) → (⟨S16x24564x2, .f32⟩ : BufTy).Contents (Elt F) → (⟨S16x24564x2, .f32⟩ : BufTy).Contents (Elt F)),
    nullary main_cst_18 (constant S_ .f32 0x40000000#32),
    unary main_cst_18 main_v129 (broadcastInDim S16x24564x2 ![] bcast_S_S16x24564x2 : (⟨S_, .f32⟩ : BufTy).Contents (Elt F) → (⟨S16x24564x2, .f32⟩ : BufTy).Contents (Elt F)),
    binary main_v128 main_v129 main_v130 (Host.divf : (⟨S16x24564x2, .f32⟩ : BufTy).Contents (Elt F) → (⟨S16x24564x2, .f32⟩ : BufTy).Contents (Elt F) → (⟨S16x24564x2, .f32⟩ : BufTy).Contents (Elt F)),
    unary main_arg1 main_v131 ((extractStridedSlice S24564x2 ![0, 0] · slices_S24564x4_S24564x2_0_0) : (⟨S24564x4, .f32⟩ : BufTy).Contents (Elt F) → (⟨S24564x2, .f32⟩ : BufTy).Contents (Elt F)),
    unary main_v131 main_v132 (broadcastInDim S1x24564x2 ![1, 2] bcast_S24564x2_S1x24564x2_1_2 : (⟨S24564x2, .f32⟩ : BufTy).Contents (Elt F) → (⟨S1x24564x2, .f32⟩ : BufTy).Contents (Elt F)),
    unary main_v132 main_v133 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
    binary main_v130 main_v133 main_v134 (subf : (⟨S16x24564x2, .f32⟩ : BufTy).Contents (Elt F) → (⟨S16x24564x2, .f32⟩ : BufTy).Contents (Elt F) → (⟨S16x24564x2, .f32⟩ : BufTy).Contents (Elt F)),
    unary main_arg1 main_v135 ((extractStridedSlice S24564x2 ![0, 2] · slices_S24564x4_S24564x2_0_2) : (⟨S24564x4, .f32⟩ : BufTy).Contents (Elt F) → (⟨S24564x2, .f32⟩ : BufTy).Contents (Elt F)),
    nullary main_cst_19 (constant S_ .f32 0x3DCCCCCD#32),
    unary main_cst_19 main_v136 (broadcastInDim S24564x2 ![] bcast_S_S24564x2 : (⟨S_, .f32⟩ : BufTy).Contents (Elt F) → (⟨S24564x2, .f32⟩ : BufTy).Contents (Elt F)),
    binary main_v136 main_v135 main_v137 (mulf : (⟨S24564x2, .f32⟩ : BufTy).Contents (Elt F) → (⟨S24564x2, .f32⟩ : BufTy).Contents (Elt F) → (⟨S24564x2, .f32⟩ : BufTy).Contents (Elt F)),
    unary main_v137 main_v138 (broadcastInDim S1x24564x2 ![1, 2] bcast_S24564x2_S1x24564x2_1_2 : (⟨S24564x2, .f32⟩ : BufTy).Contents (Elt F) → (⟨S1x24564x2, .f32⟩ : BufTy).Contents (Elt F)),
    unary main_v138 main_v139 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
    binary main_v134 main_v139 main_v140 (Host.divf : (⟨S16x24564x2, .f32⟩ : BufTy).Contents (Elt F) → (⟨S16x24564x2, .f32⟩ : BufTy).Contents (Elt F) → (⟨S16x24564x2, .f32⟩ : BufTy).Contents (Elt F)),
    unary main_v112 main_v141 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
    unary main_v112 main_v142 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
    binary main_v141 main_v142 main_v143 (subf : (⟨S16x24564x2, .f32⟩ : BufTy).Contents (Elt F) → (⟨S16x24564x2, .f32⟩ : BufTy).Contents (Elt F) → (⟨S16x24564x2, .f32⟩ : BufTy).Contents (Elt F)),
    unary main_arg1 main_v144 ((extractStridedSlice S24564x2 ![0, 2] · slices_S24564x4_S24564x2_0_2) : (⟨S24564x4, .f32⟩ : BufTy).Contents (Elt F) → (⟨S24564x2, .f32⟩ : BufTy).Contents (Elt F)),
    unary main_v144 main_v145 (broadcastInDim S1x24564x2 ![1, 2] bcast_S24564x2_S1x24564x2_1_2 : (⟨S24564x2, .f32⟩ : BufTy).Contents (Elt F) → (⟨S1x24564x2, .f32⟩ : BufTy).Contents (Elt F)),
    unary main_v145 main_v146 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
    binary main_v143 main_v146 main_v147 (Host.divf : (⟨S16x24564x2, .f32⟩ : BufTy).Contents (Elt F) → (⟨S16x24564x2, .f32⟩ : BufTy).Contents (Elt F) → (⟨S16x24564x2, .f32⟩ : BufTy).Contents (Elt F)),
    unary main_v147 main_v148 (Host.log : (⟨S16x24564x2, .f32⟩ : BufTy).Contents (Elt F) → (⟨S16x24564x2, .f32⟩ : BufTy).Contents (Elt F)),
    nullary main_cst_20 (constant S_ .f32 0x3E4CCCCD#32),
    unary main_cst_20 main_v149 (broadcastInDim S16x24564x2 ![] bcast_S_S16x24564x2 : (⟨S_, .f32⟩ : BufTy).Contents (Elt F) → (⟨S16x24564x2, .f32⟩ : BufTy).Contents (Elt F)),
    binary main_v148 main_v149 main_v150 (Host.divf : (⟨S16x24564x2, .f32⟩ : BufTy).Contents (Elt F) → (⟨S16x24564x2, .f32⟩ : BufTy).Contents (Elt F) → (⟨S16x24564x2, .f32⟩ : BufTy).Contents (Elt F)) ]

/-- The operations for whether a prior is positive, and the smooth absolute difference of its coordinates. -/
abbrev opsSmooth : List (HloOp τ sig (Elt F)) :=
  [ binary main_v140 main_v150 main_v151 ((fun a b => concatenate S16x24564x4 2 [⟨S16x24564x2, a⟩, ⟨S16x24564x2, b⟩] concatenates_S16x24564x2_S16x24564x2_S16x24564x4_d2) : (⟨S16x24564x2, .f32⟩ : BufTy).Contents (Elt F) → (⟨S16x24564x2, .f32⟩ : BufTy).Contents (Elt F) → (⟨S16x24564x4, .f32⟩ : BufTy).Contents (Elt F)),
    nullary main_c_21 (constantI S_ 32 0#32),
    unary main_c_21 main_v152 (broadcastInDim S16x24564 ![] bcast_S_S16x24564 : (⟨S_, .i32⟩ : BufTy).Contents (Elt F) → (⟨S16x24564, .i32⟩ : BufTy).Contents (Elt F)),
    binary main_v125 main_v152 main_v153 (cmpi .sgt : (⟨S16x24564, .i32⟩ : BufTy).Contents (Elt F) → (⟨S16x24564, .i32⟩ : BufTy).Contents (Elt F) → (⟨S16x24564, .i1⟩ : BufTy).Contents (Elt F)),
    binary main_arg0 main_v151 main_v154 (subf : (⟨S16x24564x4, .f32⟩ : BufTy).Contents (Elt F) → (⟨S16x24564x4, .f32⟩ : BufTy).Contents (Elt F) → (⟨S16x24564x4, .f32⟩ : BufTy).Contents (Elt F)),
    unary main_v154 main_v155 (Host.absf : (⟨S16x24564x4, .f32⟩ : BufTy).Contents (Elt F) → (⟨S16x24564x4, .f32⟩ : BufTy).Contents (Elt F)),
    nullary main_cst_22 (constant S_ .f32 0x3F800000#32),
    unary main_cst_22 main_v156 (broadcastInDim S16x24564x4 ![] bcast_S_S16x24564x4 : (⟨S_, .f32⟩ : BufTy).Contents (Elt F) → (⟨S16x24564x4, .f32⟩ : BufTy).Contents (Elt F)),
    binary main_v155 main_v156 main_v157 (cmpf .olt : (⟨S16x24564x4, .f32⟩ : BufTy).Contents (Elt F) → (⟨S16x24564x4, .f32⟩ : BufTy).Contents (Elt F) → (⟨S16x24564x4, .i1⟩ : BufTy).Contents (Elt F)),
    nullary main_cst_23 (constant S_ .f32 0x3F000000#32),
    unary main_cst_23 main_v158 (broadcastInDim S16x24564x4 ![] bcast_S_S16x24564x4 : (⟨S_, .f32⟩ : BufTy).Contents (Elt F) → (⟨S16x24564x4, .f32⟩ : BufTy).Contents (Elt F)),
    binary main_v158 main_v155 main_v159 (mulf : (⟨S16x24564x4, .f32⟩ : BufTy).Contents (Elt F) → (⟨S16x24564x4, .f32⟩ : BufTy).Contents (Elt F) → (⟨S16x24564x4, .f32⟩ : BufTy).Contents (Elt F)),
    binary main_v159 main_v155 main_v160 (mulf : (⟨S16x24564x4, .f32⟩ : BufTy).Contents (Elt F) → (⟨S16x24564x4, .f32⟩ : BufTy).Contents (Elt F) → (⟨S16x24564x4, .f32⟩ : BufTy).Contents (Elt F)),
    nullary main_cst_24 (constant S_ .f32 0x3F000000#32),
    unary main_cst_24 main_v161 (broadcastInDim S16x24564x4 ![] bcast_S_S16x24564x4 : (⟨S_, .f32⟩ : BufTy).Contents (Elt F) → (⟨S16x24564x4, .f32⟩ : BufTy).Contents (Elt F)),
    binary main_v155 main_v161 main_v162 (subf : (⟨S16x24564x4, .f32⟩ : BufTy).Contents (Elt F) → (⟨S16x24564x4, .f32⟩ : BufTy).Contents (Elt F) → (⟨S16x24564x4, .f32⟩ : BufTy).Contents (Elt F)),
    TRef.ternary (TRef.of (T := ⟨S16x24564x4, .i1⟩) main_v157) (TRef.of (T := ⟨S16x24564x4, .f32⟩) main_v160) (TRef.of (T := ⟨S16x24564x4, .f32⟩) main_v162) (TRef.of (T := ⟨S16x24564x4, .f32⟩) main_v163) select ]

/-- The operations for the sums, and the results in their shapes. -/
abbrev opsSums : List (HloOp τ sig (Elt F)) :=
  [ unary main_v153 main_v164 (broadcastInDim S16x24564x1 ![0, 1] bcast_S16x24564_S16x24564x1_0_1 : (⟨S16x24564, .i1⟩ : BufTy).Contents (Elt F) → (⟨S16x24564x1, .i1⟩ : BufTy).Contents (Elt F)),
    unary main_v164 main_v165 (uitofp .f32 : (⟨S16x24564x1, .i1⟩ : BufTy).Contents (Elt F) → (⟨S16x24564x1, .f32⟩ : BufTy).Contents (Elt F)),
    unary main_v165 main_v166 (broadcastInDim S16x24564x4 ![0, 1, 2] bcast_S16x24564x1_S16x24564x4_0_1_2 : (⟨S16x24564x1, .f32⟩ : BufTy).Contents (Elt F) → (⟨S16x24564x4, .f32⟩ : BufTy).Contents (Elt F)),
    binary main_v163 main_v166 main_v167 (mulf : (⟨S16x24564x4, .f32⟩ : BufTy).Contents (Elt F) → (⟨S16x24564x4, .f32⟩ : BufTy).Contents (Elt F) → (⟨S16x24564x4, .f32⟩ : BufTy).Contents (Elt F)),
    nullary main_cst_25 (constant S_ .f32 0x00000000#32),
    binary main_v167 main_cst_25 main_v168 ((fun x v => Host.reduceAdd x v reducesTo_S16x24564x4_S_d0_1_2 h_S_) : (⟨S16x24564x4, .f32⟩ : BufTy).Contents (Elt F) → (⟨S_, .f32⟩ : BufTy).Contents (Elt F) → (⟨S_, .f32⟩ : BufTy).Contents (Elt F)),
    unary main_v153 main_v169 ((extui 32 · natLt_1_32) : (⟨S16x24564, .i1⟩ : BufTy).Contents (Elt F) → (⟨S16x24564, .i32⟩ : BufTy).Contents (Elt F)),
    nullary main_c_26 (constantI S_ 32 0#32),
    binary main_v169 main_c_26 main_v170 ((fun x v => Host.reduce IntOp.addi x v reducesTo_S16x24564_S16_d1 h_S_) : (⟨S16x24564, .i32⟩ : BufTy).Contents (Elt F) → (⟨S_, .i32⟩ : BufTy).Contents (Elt F) → (⟨S16, .i32⟩ : BufTy).Contents (Elt F)),
    unary main_v170 main_v171 (broadcastInDim S16x1 ![0] bcast_S16_S16x1_0 : (⟨S16, .i32⟩ : BufTy).Contents (Elt F) → (⟨S16x1, .i32⟩ : BufTy).Contents (Elt F)),
    unary main_v125 main_v172 (broadcastInDim S16x1x24564 ![0, 2] bcast_S16x24564_S16x1x24564_0_2 : (⟨S16x24564, .i32⟩ : BufTy).Contents (Elt F) → (⟨S16x1x24564, .i32⟩ : BufTy).Contents (Elt F)),
    unary main_v171 main_v173 (broadcastInDim S16x1x1 ![0, 1] bcast_S16x1_S16x1x1_0_1 : (⟨S16x1, .i32⟩ : BufTy).Contents (Elt F) → (⟨S16x1x1, .i32⟩ : BufTy).Contents (Elt F)),
    unary main_v168 main_v174 (broadcastInDim S1x1 ![] bcast_S_S1x1 : (⟨S_, .f32⟩ : BufTy).Contents (Elt F) → (⟨S1x1, .f32⟩ : BufTy).Contents (Elt F)) ]

/-- All of them. -/
abbrev ops : List (HloOp τ sig (Elt F)) :=
  opsCorners ++ (opsInter ++ (opsOverlap ++ (opsBest ++ (opsSpot ++ (opsCredit ++ (opsSpot2 ++ (opsIndex ++ (opsBox ++ (opsConf ++ (opsEnc ++ (opsSmooth ++ (opsSums))))))))))))

set_option maxRecDepth 8192 in
set_option maxHeartbeats 4000000 in
/-- The program is its operations in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsCorners_sub : (opsCorners (F := F)).Forall fun op => op.bufs ⊆ tcRefs τ sig :=
  ⟨unary_bufs_sub .., unary_bufs_sub .., reshape_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub ..⟩
theorem opsInter_sub : (opsInter (F := F)).Forall fun op => op.bufs ⊆ tcRefs τ sig :=
  ⟨binary_bufs_sub .., unary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩
theorem opsOverlap_sub : (opsOverlap (F := F)).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., binary_bufs_sub ..⟩
theorem opsBest_sub : (opsBest (F := F)).Forall fun op => op.bufs ⊆ tcRefs τ sig :=
  ⟨nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub ..⟩
theorem opsSpot_sub : (opsSpot (F := F)).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem opsCredit_sub : (opsCredit (F := F)).Forall fun op => op.bufs ⊆ tcRefs τ sig :=
  ⟨binary_bufs_sub .., nullary_bufs_sub .., unary_bufs_sub .., ternary_bufs_sub ..⟩
theorem opsSpot2_sub : (opsSpot2 (F := F)).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem opsIndex_sub : (opsIndex (F := F)).Forall fun op => op.bufs ⊆ tcRefs τ sig :=
  ⟨binary_bufs_sub .., unary_bufs_sub .., ternary_bufs_sub ..⟩
theorem opsBox_sub : (opsBox (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem opsConf_sub : (opsConf (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., ternary_bufs_sub ..⟩
theorem opsEnc_sub : (opsEnc (F := F)).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub ..⟩
theorem opsSmooth_sub : (opsSmooth (F := F)).Forall fun op => op.bufs ⊆ tcRefs τ sig :=
  ⟨binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsSums_sub : (opsSums (F := F)).Forall fun op => op.bufs ⊆ tcRefs τ sig :=
  ⟨unary_bufs_sub .., unary_bufs_sub .., unary_bufs_sub .., binary_bufs_sub .., nullary_bufs_sub .., binary_bufs_sub .., unary_bufs_sub .., nullary_bufs_sub .., binary_bufs_sub .., unary_bufs_sub .., unary_bufs_sub .., unary_bufs_sub .., unary_bufs_sub ..⟩
theorem opsCorners_fresh : ∀ op ∈ opsCorners (F := F), op.fresh = ∅ := by
  intro _ h; (repeat (cases h with | head => rfl | tail _ h => ?_)); exact nomatch h
theorem opsInter_fresh : ∀ op ∈ opsInter (F := F), op.fresh = ∅ := by
  intro _ h; (repeat (cases h with | head => rfl | tail _ h => ?_)); exact nomatch h
theorem opsOverlap_fresh : ∀ op ∈ opsOverlap (F := F), op.fresh = ∅ := by
  intro _ h; (repeat (cases h with | head => rfl | tail _ h => ?_)); exact nomatch h
theorem opsBest_fresh : ∀ op ∈ opsBest (F := F), op.fresh = ∅ := by
  intro _ h; (repeat (cases h with | head => rfl | tail _ h => ?_)); exact nomatch h
theorem opsSpot_fresh : ∀ op ∈ opsSpot (F := F), op.fresh = ∅ := by
  intro _ h; (repeat (cases h with | head => rfl | tail _ h => ?_)); exact nomatch h
theorem opsCredit_fresh : ∀ op ∈ opsCredit (F := F), op.fresh = ∅ := by
  intro _ h; (repeat (cases h with | head => rfl | tail _ h => ?_)); exact nomatch h
theorem opsSpot2_fresh : ∀ op ∈ opsSpot2 (F := F), op.fresh = ∅ := by
  intro _ h; (repeat (cases h with | head => rfl | tail _ h => ?_)); exact nomatch h
theorem opsIndex_fresh : ∀ op ∈ opsIndex (F := F), op.fresh = ∅ := by
  intro _ h; (repeat (cases h with | head => rfl | tail _ h => ?_)); exact nomatch h
theorem opsBox_fresh : ∀ op ∈ opsBox (F := F), op.fresh = ∅ := by
  intro _ h; (repeat (cases h with | head => rfl | tail _ h => ?_)); exact nomatch h
theorem opsConf_fresh : ∀ op ∈ opsConf (F := F), op.fresh = ∅ := by
  intro _ h; (repeat (cases h with | head => rfl | tail _ h => ?_)); exact nomatch h
theorem opsEnc_fresh : ∀ op ∈ opsEnc (F := F), op.fresh = ∅ := by
  intro _ h; (repeat (cases h with | head => rfl | tail _ h => ?_)); exact nomatch h
theorem opsSmooth_fresh : ∀ op ∈ opsSmooth (F := F), op.fresh = ∅ := by
  intro _ h; (repeat (cases h with | head => rfl | tail _ h => ?_)); exact nomatch h
theorem opsSums_fresh : ∀ op ∈ opsSums (F := F), op.fresh = ∅ := by
  intro _ h; (repeat (cases h with | head => rfl | tail _ h => ?_)); exact nomatch h

/-- Every operation works on the device's own buffers. -/
theorem ops_sub : (ops (F := F)).Forall fun op => op.bufs ⊆ tcRefs τ sig :=
  List.forall_append.mpr ⟨opsCorners_sub, List.forall_append.mpr ⟨opsInter_sub, List.forall_append.mpr ⟨opsOverlap_sub, List.forall_append.mpr ⟨opsBest_sub, List.forall_append.mpr ⟨opsSpot_sub, List.forall_append.mpr ⟨opsCredit_sub, List.forall_append.mpr ⟨opsSpot2_sub, List.forall_append.mpr ⟨opsIndex_sub, List.forall_append.mpr ⟨opsBox_sub, List.forall_append.mpr ⟨opsConf_sub, List.forall_append.mpr ⟨opsEnc_sub, List.forall_append.mpr ⟨opsSmooth_sub, opsSums_sub⟩⟩⟩⟩⟩⟩⟩⟩⟩⟩⟩⟩

/-- Every operation determines its results. -/
theorem ops_fresh : ∀ op ∈ ops (F := F), op.fresh = ∅ := by
  intro op h
  simp only [ops, List.mem_append] at h
  rcases h with h | h | h | h | h | h | h | h | h | h | h | h | h
  · exact opsCorners_fresh op h
  · exact opsInter_fresh op h
  · exact opsOverlap_fresh op h
  · exact opsBest_fresh op h
  · exact opsSpot_fresh op h
  · exact opsCredit_fresh op h
  · exact opsSpot2_fresh op h
  · exact opsIndex_fresh op h
  · exact opsBox_fresh op h
  · exact opsConf_fresh op h
  · exact opsEnc_fresh op h
  · exact opsSmooth_fresh op h
  · exact opsSums_fresh op h

/-- The buffers the operations for the truth boxes, their labels, and the corners of the priors write. -/
abbrev outCorners : List (Ref sig .tc) := [main_v0, main_v1, main_v2, main_v3, main_v4, main_cst, main_v5, main_v6, main_v7, main_v8, main_v9, main_cst_0, main_v10, main_v11, main_v12]
/-- They leave every other buffer alone. -/
theorem keepCorners (V : Valuation τ sig (Elt F)) (r : Ref sig .tc) (h : r ∉ outCorners) :
    after (opsCorners (F := F)) V (Proc.devRef .tc r) = V (Proc.devRef .tc r) :=
  after_unwritten outCorners rfl h V

/-- The buffers the operations for the area every truth box and prior share write. -/
abbrev outInter : List (Ref sig .tc) := [main_v13, main_v14, main_v15, main_v16, main_v17, main_v18, main_v19, main_v20, main_v21, main_v22, main_v23, main_v24, main_v25, main_v26, main_v27, main_v28, main_v29, main_v30, main_cst_1, main_call0_v0, main_call0_v1, main_v31, main_v32, main_v33, main_v34, main_v35, main_v36]
/-- They leave every other buffer alone. -/
theorem keepInter (V : Valuation τ sig (Elt F)) (r : Ref sig .tc) (h : r ∉ outInter) :
    after (opsInter (F := F)) V (Proc.devRef .tc r) = V (Proc.devRef .tc r) :=
  after_unwritten outInter rfl h V

/-- The buffers the operations for the overlap of every truth box with every prior write. -/
abbrev outOverlap : List (Ref sig .tc) := [main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66]
/-- They leave every other buffer alone. -/
theorem keepOverlap (V : Valuation τ sig (Elt F)) (r : Ref sig .tc) (h : r ∉ outOverlap) :
    after (opsOverlap (F := F)) V (Proc.devRef .tc r) = V (Proc.devRef .tc r) :=
  after_unwritten outOverlap rfl h V

/-- The buffers the operations for each truth box's best prior, each prior's best truth box and its overlap write. -/
abbrev outBest : List (Ref sig .tc) := [main_call1_v0, main_call1_cst, main_call1_c, main_call1_v1_0, main_v67, main_cst_2, main_v68, main_call2_v0, main_call2_cst, main_call2_c, main_call2_v1_0, main_v69]
/-- They leave every other buffer alone. -/
theorem keepBest (V : Valuation τ sig (Elt F)) (r : Ref sig .tc) (h : r ∉ outBest) :
    after (opsBest (F := F)) V (Proc.devRef .tc r) = V (Proc.devRef .tc r) :=
  after_unwritten outBest rfl h V

/-- The buffers the operations for the image and the prior of every claim write. -/
abbrev outSpot : List (Ref sig .tc) := [main_v70, main_v71, main_c, main_v72, main_v73, main_c_3, main_v74, main_v75, main_v76, main_c_4, main_v77, main_v78, main_c_5, main_v79, main_v80, main_v81, main_v82, main_v83, main_v84]
/-- They leave every other buffer alone. -/
theorem keepSpot (V : Valuation τ sig (Elt F)) (r : Ref sig .tc) (h : r ∉ outSpot) :
    after (opsSpot (F := F)) V (Proc.devRef .tc r) = V (Proc.devRef .tc r) :=
  after_unwritten outSpot rfl h V

/-- The buffers the operations for the overlap a prior is credited with write. -/
abbrev outCredit : List (Ref sig .tc) := [main_v85, main_cst_6, main_v86, main_v87]
/-- They leave every other buffer alone. -/
theorem keepCredit (V : Valuation τ sig (Elt F)) (r : Ref sig .tc) (h : r ∉ outCredit) :
    after (opsCredit (F := F)) V (Proc.devRef .tc r) = V (Proc.devRef .tc r) :=
  after_unwritten outCredit rfl h V

/-- The buffers the operations for the image and the prior of every claim, again write. -/
abbrev outSpot2 : List (Ref sig .tc) := [main_v88, main_v89, main_c_7, main_v90, main_v91, main_c_8, main_v92, main_v93, main_v94, main_c_9, main_v95, main_v96, main_c_10, main_v97, main_v98, main_v99, main_v100, main_v101, main_v102]
/-- They leave every other buffer alone. -/
theorem keepSpot2 (V : Valuation τ sig (Elt F)) (r : Ref sig .tc) (h : r ∉ outSpot2) :
    after (opsSpot2 (F := F)) V (Proc.devRef .tc r) = V (Proc.devRef .tc r) :=
  after_unwritten outSpot2 rfl h V

/-- The buffers the operations for the truth box a prior answers to write. -/
abbrev outIndex : List (Ref sig .tc) := [main_v103, main_v104, main_v105]
/-- They leave every other buffer alone. -/
theorem keepIndex (V : Valuation τ sig (Elt F)) (r : Ref sig .tc) (h : r ∉ outIndex) :
    after (opsIndex (F := F)) V (Proc.devRef .tc r) = V (Proc.devRef .tc r) :=
  after_unwritten outIndex rfl h V

/-- The buffers the operations for that truth box's corners write. -/
abbrev outBox : List (Ref sig .tc) := [main_c_11, main_v106, main_v107, main_c_12, main_v108, main_v109, main_v110, main_v111, main_v112]
/-- They leave every other buffer alone. -/
theorem keepBox (V : Valuation τ sig (Elt F)) (r : Ref sig .tc) (h : r ∉ outBox) :
    after (opsBox (F := F)) V (Proc.devRef .tc r) = V (Proc.devRef .tc r) :=
  after_unwritten outBox rfl h V

/-- The buffers the operations for the class target write. -/
abbrev outConf : List (Ref sig .tc) := [main_c_13, main_v113, main_v114, main_c_14, main_v115, main_v116, main_v117, main_v118, main_v119, main_v120, main_c_15, main_v121, main_v122, main_cst_16, main_v123, main_v124, main_c_17, main_call3_v0, main_call3_v1, main_call3_v2, main_v125]
/-- They leave every other buffer alone. -/
theorem keepConf (V : Valuation τ sig (Elt F)) (r : Ref sig .tc) (h : r ∉ outConf) :
    after (opsConf (F := F)) V (Proc.devRef .tc r) = V (Proc.devRef .tc r) :=
  after_unwritten outConf rfl h V

/-- The buffers the operations for the encoded centre and size write. -/
abbrev outEnc : List (Ref sig .tc) := [main_v126, main_v127, main_v128, main_cst_18, main_v129, main_v130, main_v131, main_v132, main_v133, main_v134, main_v135, main_cst_19, main_v136, main_v137, main_v138, main_v139, main_v140, main_v141, main_v142, main_v143, main_v144, main_v145, main_v146, main_v147, main_v148, main_cst_20, main_v149, main_v150]
/-- They leave every other buffer alone. -/
theorem keepEnc (V : Valuation τ sig (Elt F)) (r : Ref sig .tc) (h : r ∉ outEnc) :
    after (opsEnc (F := F)) V (Proc.devRef .tc r) = V (Proc.devRef .tc r) :=
  after_unwritten outEnc rfl h V

/-- The buffers the operations for whether a prior is positive, and the smooth absolute difference of its coordinates write. -/
abbrev outSmooth : List (Ref sig .tc) := [main_v151, main_c_21, main_v152, main_v153, main_v154, main_v155, main_cst_22, main_v156, main_v157, main_cst_23, main_v158, main_v159, main_v160, main_cst_24, main_v161, main_v162, main_v163]
/-- They leave every other buffer alone. -/
theorem keepSmooth (V : Valuation τ sig (Elt F)) (r : Ref sig .tc) (h : r ∉ outSmooth) :
    after (opsSmooth (F := F)) V (Proc.devRef .tc r) = V (Proc.devRef .tc r) :=
  after_unwritten outSmooth rfl h V

/-- The buffers the operations for the sums, and the results in their shapes write. -/
abbrev outSums : List (Ref sig .tc) := [main_v164, main_v165, main_v166, main_v167, main_cst_25, main_v168, main_v169, main_c_26, main_v170, main_v171, main_v172, main_v173, main_v174]
/-- They leave every other buffer alone. -/
theorem keepSums (V : Valuation τ sig (Elt F)) (r : Ref sig .tc) (h : r ∉ outSums) :
    after (opsSums (F := F)) V (Proc.devRef .tc r) = V (Proc.devRef .tc r) :=
  after_unwritten outSums rfl h V

/-- Running a line of operations and then another is running both. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The program ends, every buffer at the operations' effect on the starting contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.MatchReferenceIdeal.Run

end
-- ==== Proof.MatchArgmax.lean ====
/-
  The reference's two argmaxes: folding the value–index pairs by the reducer leaves the index of the first greatest
  value.
-/
module

public import proofs.«01_k».proof.Proof.Gen.MatchReferenceIdeal
public import proofs.«01_k».proof.Proof.MatchSpec
public import Idealize.ShloMosaic.Lib.Pointwise

@[expose] public section

set_option maxRecDepth 16384

noncomputable section

open Idealize.ShloMosaic Idealize.ShloMosaic.TcCoe

namespace Cert.MatchReferenceIdeal.Argmax

open Cert.MatchReferenceIdeal Cert.MatchReferenceIdeal.Gen Cert.MatchSpec

/-- A pair is at least as good as another: a greater value, or the same value and no later an index. -/
def Beats (r q : EReal × BitVec 32) : Prop := q.1 < r.1 ∨ (q.1 = r.1 ∧ r.2.toInt ≤ q.2.toInt)

theorem Beats.refl (r : EReal × BitVec 32) : Beats r r := Or.inr ⟨rfl, le_refl _⟩

theorem Beats.trans {a b c : EReal × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The reducer keeps one of its two pairs, and that one beats both. -/
theorem reducer_spec (a b : EReal × BitVec 32) :
    (reducer_argmax_f32_i32 (F := Ideal) a b = a ∨ reducer_argmax_f32_i32 (F := Ideal) a b = b) ∧
      Beats (reducer_argmax_f32_i32 (F := Ideal) a b) a ∧ Beats (reducer_argmax_f32_i32 (F := Ideal) a b) b := by
  obtain ⟨a1, a2⟩ := a
  obtain ⟨b1, b2⟩ := b
  have hne : FloatOps.cmpf (F := Ideal) (φ := .f32) .une a1 a1 = 0#1 := by simp [Ideal.cmpf_def, Ideal.cmp]
  rcases lt_trichotomy b1 a1 with h | h | h
  · have hgt : FloatOps.cmpf (F := Ideal) (φ := .f32) .ogt a1 b1 = 1#1 := by simp [Ideal.cmpf_def, Ideal.cmp, h]
    have e : reducer_argmax_f32_i32 (F := Ideal) (a1, a2) (b1, b2) = (a1, a2) := by
      unfold reducer_argmax_f32_i32
      dsimp only
      rw [hgt, hne]
      have : ∀ v : BitVec 1, IntOp.ori (IntOp.ori 1#1 0#1) v = 1#1 := by decide
      rw [this]; rfl
    rw [e]
    exact ⟨Or.inl rfl, Beats.refl _, Or.inl h⟩
  · subst h
    have hgt : FloatOps.cmpf (F := Ideal) (φ := .f32) .ogt b1 b1 = 0#1 := by simp [Ideal.cmpf_def, Ideal.cmp]
    have heq : FloatOps.cmpf (F := Ideal) (φ := .f32) .oeq b1 b1 = 1#1 := by simp [Ideal.cmpf_def, Ideal.cmp]
    by_cases hs : a2.toInt < b2.toInt
    · have hlt : IntOp.cmpi .slt a2 b2 = 1#1 := by
        show BitVec.ofBool (a2.slt b2) = _
        rw [BitVec.slt_eq_decide, decide_eq_true hs]; rfl
      have e : reducer_argmax_f32_i32 (F := Ideal) (b1, a2) (b1, b2) = (b1, a2) := by
        unfold reducer_argmax_f32_i32
        dsimp only
        rw [hgt, hne, heq, hlt]; rfl
      rw [e]
      exact ⟨Or.inl rfl, Beats.refl _, Or.inr ⟨rfl, hs.le⟩⟩
    · have hlt : IntOp.cmpi .slt a2 b2 = 0#1 := by
        show BitVec.ofBool (a2.slt b2) = _
        rw [BitVec.slt_eq_decide, decide_eq_false hs]; rfl
      have e : reducer_argmax_f32_i32 (F := Ideal) (b1, a2) (b1, b2) = (b1, b2) := by
        unfold reducer_argmax_f32_i32
        dsimp only
        rw [hgt, hne, heq, hlt]; rfl
      rw [e]
      exact ⟨Or.inr rfl, Or.inr ⟨rfl, not_lt.mp hs⟩, Beats.refl _⟩
  · have hgt : FloatOps.cmpf (F := Ideal) (φ := .f32) .ogt a1 b1 = 0#1 := by
      simp [Ideal.cmpf_def, Ideal.cmp, not_lt.mpr h.le]
    have heq : FloatOps.cmpf (F := Ideal) (φ := .f32) .oeq a1 b1 = 0#1 := by simp [Ideal.cmpf_def, Ideal.cmp, h.ne]
    have e : reducer_argmax_f32_i32 (F := Ideal) (a1, a2) (b1, b2) = (b1, b2) := by
      unfold reducer_argmax_f32_i32
      dsimp only
      rw [hgt, hne, heq]
      have : ∀ v : BitVec 1, IntOp.ori (IntOp.ori 0#1 0#1) (IntOp.andi 0#1 v) = 0#1 := by decide
      rw [this]; rfl
    rw [e]
    exact ⟨Or.inr rfl, Or.inl h, Beats.refl _⟩

/-- Folding the reducer over a list leaves the start or an entry, which beats the start and every entry. -/
theorem fold_spec (l : List (EReal × BitVec 32)) (init : EReal × BitVec 32) :
    (l.foldl (reducer_argmax_f32_i32 (F := Ideal)) init = init ∨ l.foldl (reducer_argmax_f32_i32 (F := Ideal)) init ∈ l) ∧
      Beats (l.foldl (reducer_argmax_f32_i32 (F := Ideal)) init) init ∧
      ∀ q ∈ l, Beats (l.foldl (reducer_argmax_f32_i32 (F := Ideal)) init) q := by
  induction l generalizing init with
  | nil => exact ⟨Or.inl rfl, Beats.refl _, fun q hq => absurd hq List.not_mem_nil⟩
  | cons a l ih =>
    rw [List.foldl_cons]
    obtain ⟨h1, h2, h3⟩ := ih (reducer_argmax_f32_i32 (F := Ideal) init a)
    obtain ⟨g1, g2, g3⟩ := reducer_spec init a
    refine ⟨?_, h2.trans g2, fun q hq => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.mp hq with rfl | hq
      · exact h2.trans g3
      · exact h3 q hq

/-- Folding a family's value–index pairs, in whatever order, from (−∞, 0) leaves the first greatest entry's index. -/
theorem fold_first {n : ℕ} (hn : n + 1 < 100000) (f : Fin (n + 1) → EReal) (l : List (EReal × BitVec 32))
    (hl : ∀ q ∈ l, ∃ k, q = (f k, BitVec.ofNat 32 k.val)) (hl' : ∀ k, (f k, BitVec.ofNat 32 k.val) ∈ l) :
    (l.foldl (reducer_argmax_f32_i32 (F := Ideal)) (⊥, 0#32)).2 = BitVec.ofNat 32 (argFirst f).val := by
  obtain ⟨h1, _, h3⟩ := fold_spec l (⊥, 0#32)
  have hb := h3 _ (hl' (argFirst f))
  generalize l.foldl (reducer_argmax_f32_i32 (F := Ideal)) (⊥, 0#32) = r at h1 hb ⊢
  rcases h1 with rfl | h1
  · rcases hb with hb | ⟨hb, _⟩
    · exact absurd hb not_lt_bot
    · dsimp only at hb
      have h0 : f 0 = f (argFirst f) := by
        rw [hb]; exact le_bot_iff.mp (hb ▸ le_argFirst f 0)
      have := argFirst_le f 0 h0
      have : argFirst f = 0 := le_antisymm this (Fin.zero_le _)
      rw [this]; rfl
  · obtain ⟨k, rfl⟩ := hl _ h1
    rcases hb with hb | ⟨hb, hk⟩
    · exact absurd hb (not_lt.mpr (le_argFirst f k))
    · dsimp only at hb hk ⊢
      have hkl := k.isLt
      have hal := (argFirst f).isLt
      rw [toInt_ofNat _ (by omega), toInt_ofNat _ (by omega)] at hk
      have := argFirst_le f k hb.symm
      have : k = argFirst f := le_antisymm (Fin.le_def.mpr (by omega)) this
      rw [this]

/-- The program's argmax along the priors. -/
theorem along_priors (x : FVec Ideal S16x16x24564 .f32) (b j : Fin 16) :
    (Host.argReduce (reducer_argmax_f32_i32 (F := Ideal)) x (iotaInDim S16x16x24564 32 2)
        (constant S_ .f32 0xFF800000#32) (constantI S_ 32 0#32) reducesTo_S16x16x24564_S16x16_d2 h_S_ (ix2 b j)).2
      = BitVec.ofNat 32 (argFirst fun p : Fin 24564 => x (ix3 b j p)).val := by
  rw [Ideal.argReduce_eq_reduce2, Host.reduce2_eq_foldl_fiber]
  have hd : ∀ b' j' (p : Fin 24564), reducesTo_S16x16x24564_S16x16_d2.drop (ix3 b' j' p) = ix2 b' j' := by
    intro b' j' p
    funext a
    refine Fin.ext ?_
    match a with
    | ⟨0, _⟩ => exact reducesTo_S16x16x24564_S16x16_d2.drop_apply_val_of_eq _ 0 0
    | ⟨1, _⟩ => exact reducesTo_S16x16x24564_S16x16_d2.drop_apply_val_of_eq _ 1 1
  have hi : ((constant S_ .f32 0xFF800000#32 : FVec Ideal S_ .f32) (Shape.Idx.first h_S_),
      (constantI S_ 32 0#32) (Shape.Idx.first h_S_)) = ((⊥, 0#32) : EReal × BitVec 32) := Prod.ext negInf rfl
  rw [hi]
  refine fold_first (by decide) (fun p : Fin 24564 => x (ix3 b j p)) _ ?_ ?_
  · intro q hq
    unfold Host.argReduceFiber at hq
    obtain ⟨n, hn, rfl⟩ := List.mem_map.mp hq
    have hn' := of_decide_eq_true (List.mem_filter.mp hn).2
    generalize S16x16x24564.rowMajor.symm n = i at hn' ⊢
    obtain ⟨b', j', p, rfl⟩ : ∃ b' j' p, i = ix3 b' j' p := ⟨_, _, _, eq_ix3 i⟩
    rw [hd] at hn'
    have h0 : b' = b := congrFun hn' 0
    have h1 : j' = j := congrFun hn' 1
    subst h0 h1
    exact ⟨p, rfl⟩
  · intro p
    unfold Host.argReduceFiber
    refine List.mem_map.mpr ⟨S16x16x24564.rowMajor (ix3 b j p), List.mem_filter.mpr ⟨List.mem_finRange _, ?_⟩, ?_⟩
    · exact decide_eq_true (by rw [Equiv.symm_apply_apply]; exact hd b j p)
    · rw [Equiv.symm_apply_apply]; rfl

/-- The program's argmax along the truth boxes. -/
theorem along_truths (x : FVec Ideal S16x16x24564 .f32) (b : Fin 16) (p : Fin 24564) :
    (Host.argReduce (reducer_argmax_f32_i32 (F := Ideal)) x (iotaInDim S16x16x24564 32 1)
        (constant S_ .f32 0xFF800000#32) (constantI S_ 32 0#32) reducesTo_S16x16x24564_S16x24564_d1 h_S_ (ix2 b p)).2
      = BitVec.ofNat 32 (argFirst fun j : Fin 16 => x (ix3 b j p)).val := by
  rw [Ideal.argReduce_eq_reduce2, Host.reduce2_eq_foldl_fiber]
  have hd : ∀ b' (j' : Fin 16) (p' : Fin 24564), reducesTo_S16x16x24564_S16x24564_d1.drop (ix3 b' j' p') = ix2 b' p' := by
    intro b' j' p'
    funext a
    refine Fin.ext ?_
    match a with
    | ⟨0, _⟩ => exact reducesTo_S16x16x24564_S16x24564_d1.drop_apply_val_of_eq _ 0 0
    | ⟨1, _⟩ => exact reducesTo_S16x16x24564_S16x24564_d1.drop_apply_val_of_eq _ 1 2
  have hi : ((constant S_ .f32 0xFF800000#32 : FVec Ideal S_ .f32) (Shape.Idx.first h_S_),
      (constantI S_ 32 0#32) (Shape.Idx.first h_S_)) = ((⊥, 0#32) : EReal × BitVec 32) := Prod.ext negInf rfl
  rw [hi]
  refine fold_first (by decide) (fun j : Fin 16 => x (ix3 b j p)) _ ?_ ?_
  · intro q hq
    unfold Host.argReduceFiber at hq
    obtain ⟨n, hn, rfl⟩ := List.mem_map.mp hq
    have hn' := of_decide_eq_true (List.mem_filter.mp hn).2
    generalize S16x16x24564.rowMajor.symm n = i at hn' ⊢
    obtain ⟨b', j', p', rfl⟩ : ∃ b' j' p', i = ix3 b' j' p' := ⟨_, _, _, eq_ix3 i⟩
    rw [hd] at hn'
    have h0 : b' = b := congrFun hn' 0
    have h1 : p' = p := congrFun hn' 1
    subst h0 h1
    exact ⟨j', rfl⟩
  · intro j
    unfold Host.argReduceFiber
    refine List.mem_map.mpr ⟨S16x16x24564.rowMajor (ix3 b j p), List.mem_filter.mpr ⟨List.mem_finRange _, ?_⟩, ?_⟩
    · exact decide_eq_true (by rw [Equiv.symm_apply_apply]; exact hd b j p)
    · rw [Equiv.symm_apply_apply]; rfl

end Cert.MatchReferenceIdeal.Argmax

end
-- ==== Proof.MatchPlaces.lean ====
/-
  Where the reference's scatters write and its gathers read: a scatter's update for truth box `j` of image `b` lands at
  the prior that box claims, a later box over an earlier one; a gather reads the truth box whose number it is given.
-/
module

public import proofs.«01_k».proof.Proof.Gen.MatchReferenceIdeal
public import proofs.«01_k».proof.Proof.MatchSpec
public import Idealize.ShloMosaic.Lib.Pointwise

@[expose] public section

set_option maxRecDepth 16384

noncomputable section

open Idealize.ShloMosaic Idealize.ShloMosaic.TcCoe

namespace Cert.MatchReferenceIdeal.Places

open Cert.MatchReferenceIdeal Cert.MatchReferenceIdeal.Gen Cert.MatchSpec

/-! ## A line of writes -/

section Writes

variable {N : ℕ} {σ α : Type} [DecidableEq σ] (at_ : Fin N → Option σ) (upd : Fin N → α)

/-- One write. -/
def write (r : σ → α) (n : Fin N) : σ → α :=
  match at_ n with
  | some i => fun i' => if i' = i then upd n else r i'
  | none => r

theorem write_hit (r : σ → α) (n : Fin N) (i : σ) (h : at_ n = some i) : write at_ upd r n i = upd n := by
  unfold write; rw [h]; exact if_pos rfl

theorem write_miss (r : σ → α) (n : Fin N) (i : σ) (h : at_ n ≠ some i) : write at_ upd r n i = r i := by
  unfold write
  cases e : at_ n with
  | none => rfl
  | some i' => exact if_neg fun h' => h (by rw [e, h'])

/-- A place no write lands at keeps its contents. -/
theorem writes_miss (l : List (Fin N)) (x : σ → α) (i : σ) (h : ∀ n ∈ l, at_ n ≠ some i) :
    l.foldl (write at_ upd) x i = x i := by
  induction l generalizing x with
  | nil => rfl
  | cons n l ih =>
    rw [List.foldl_cons, ih _ fun m hm => h m (List.mem_cons_of_mem _ hm), write_miss _ _ _ _ _ (h n List.mem_cons_self)]

/-- Otherwise it holds the last write that does. -/
theorem writes_last (l : List (Fin N)) (hl : l.Pairwise (· < ·)) (x : σ → α) (i : σ) (n₀ : Fin N) (hn₀ : n₀ ∈ l)
    (h₀ : at_ n₀ = some i) (h : ∀ n ∈ l, at_ n = some i → n ≤ n₀) : l.foldl (write at_ upd) x i = upd n₀ := by
  induction l generalizing x with
  | nil => exact absurd hn₀ List.not_mem_nil
  | cons n l ih =>
    rw [List.foldl_cons]
    obtain ⟨hl1, hl2⟩ := List.pairwise_cons.mp hl
    rcases List.mem_cons.mp hn₀ with rfl | hn
    · rw [writes_miss, write_hit _ _ _ _ _ h₀]
      intro m hm e
      exact absurd (h m (List.mem_cons_of_mem _ hm) e) (not_le.mpr (hl1 m hm))
    · exact ih hl2 _ hn fun m hm => h m (List.mem_cons_of_mem _ hm)

end Writes

/-! ## The scatter -/

/-- The place truth box `j` of image `b` writes to. -/
theorem scatter_place (q : Fin 16 → Fin 16 → Fin 24564) (idx : IVec S16x16x2 32)
    (h0 : ∀ b j, idx (ix3 b j 0) = BitVec.ofNat 32 b.val) (h1 : ∀ b j, idx (ix3 b j 1) = BitVec.ofNat 32 (q b j).val)
    (b j : Fin 16) :
    scatter_S16x24564_S16x16x2_S16x16_n_01_01_2.resultIdx? (ix2 b j) idx = some (ix2 b (q b j)) := by
  have hw : ∀ a, scatter_S16x24564_S16x16x2_S16x16_n_01_01_2.window (ix2 b j) a = 0 := by
    intro a
    unfold ScatterDims.window
    have hk : ∀ a : Fin 2, a ∉ scatter_S16x24564_S16x16x2_S16x16_n_01_01_2.sKept := by decide
    exact dif_neg (hk a)
  have s0 : scatter_S16x24564_S16x16x2_S16x16_n_01_01_2.start (ix2 b j) idx 0 = b.val := by
    unfold ScatterDims.start
    rw [dif_pos (show (0 : Fin 2) ∈ scatter_S16x24564_S16x16x2_S16x16_n_01_01_2.scatterDimsToOperandDims from List.mem_cons_self)]
    have hsi : scatter_S16x24564_S16x16x2_S16x16_n_01_01_2.siIdx (ix2 b j)
        ⟨List.idxOf (0 : Fin 2) scatter_S16x24564_S16x16x2_S16x16_n_01_01_2.scatterDimsToOperandDims,
          List.idxOf_lt_length_iff.2 List.mem_cons_self⟩ = ix3 b j 0 := by
      funext d
      refine Fin.ext ?_
      match d with
      | ⟨0, _⟩ => rfl
      | ⟨1, _⟩ => rfl
      | ⟨2, _⟩ => rfl
    rw [hsi, h0, toInt_ofNat _ (by have := b.isLt; omega)]
  have s1 : scatter_S16x24564_S16x16x2_S16x16_n_01_01_2.start (ix2 b j) idx 1 = (q b j).val := by
    unfold ScatterDims.start
    rw [dif_pos (show (1 : Fin 2) ∈ scatter_S16x24564_S16x16x2_S16x16_n_01_01_2.scatterDimsToOperandDims from
      List.mem_cons_of_mem _ List.mem_cons_self)]
    have hsi : scatter_S16x24564_S16x16x2_S16x16_n_01_01_2.siIdx (ix2 b j)
        ⟨List.idxOf (1 : Fin 2) scatter_S16x24564_S16x16x2_S16x16_n_01_01_2.scatterDimsToOperandDims,
          List.idxOf_lt_length_iff.2 (List.mem_cons_of_mem _ List.mem_cons_self)⟩ = ix3 b j 1 := by
      funext d
      refine Fin.ext ?_
      match d with
      | ⟨0, _⟩ => rfl
      | ⟨1, _⟩ => rfl
      | ⟨2, _⟩ => rfl
    rw [hsi, h1, toInt_ofNat _ (by have := (q b j).isLt; omega)]
  unfold ScatterDims.resultIdx?
  have hb := b.isLt
  have hq := (q b j).isLt
  have hall : ∀ a, 0 ≤ scatter_S16x24564_S16x16x2_S16x16_n_01_01_2.start (ix2 b j) idx a
        + scatter_S16x24564_S16x16x2_S16x16_n_01_01_2.window (ix2 b j) a ∧
      scatter_S16x24564_S16x16x2_S16x16_n_01_01_2.start (ix2 b j) idx a
        + scatter_S16x24564_S16x16x2_S16x16_n_01_01_2.window (ix2 b j) a < S16x24564.size a := by
    intro a
    rw [hw]
    match a with
    | ⟨0, _⟩ =>
      rw [show scatter_S16x24564_S16x16x2_S16x16_n_01_01_2.start (ix2 b j) idx ⟨0, by decide⟩ = b.val from s0]
      show 0 ≤ (b.val : Int) + 0 ∧ (b.val : Int) + 0 < 16
      omega
    | ⟨1, _⟩ =>
      rw [show scatter_S16x24564_S16x16x2_S16x16_n_01_01_2.start (ix2 b j) idx ⟨1, by decide⟩ = (q b j).val from s1]
      show 0 ≤ ((q b j).val : Int) + 0 ∧ ((q b j).val : Int) + 0 < 24564
      omega
  rw [dif_pos hall]
  congr 1
  funext a
  refine Fin.ext ?_
  match a with
  | ⟨0, _⟩ =>
    show (scatter_S16x24564_S16x16x2_S16x16_n_01_01_2.start (ix2 b j) idx 0
      + scatter_S16x24564_S16x16x2_S16x16_n_01_01_2.window (ix2 b j) 0).toNat = b.val
    rw [s0, hw]; omega
  | ⟨1, _⟩ =>
    show (scatter_S16x24564_S16x16x2_S16x16_n_01_01_2.start (ix2 b j) idx 1
      + scatter_S16x24564_S16x16x2_S16x16_n_01_01_2.window (ix2 b j) 1).toNat = (q b j).val
    rw [s1, hw]; omega

/-- What the scatter leaves at a prior: the last truth box's update that claims it, otherwise what was there. -/
theorem scatter_apply {α : Type} (q : Fin 16 → Fin 16 → Fin 24564) (x : S16x24564.Idx → α) (idx : IVec S16x16x2 32)
    (u : S16x16.Idx → α) (h0 : ∀ b j, idx (ix3 b j 0) = BitVec.ofNat 32 b.val)
    (h1 : ∀ b j, idx (ix3 b j 1) = BitVec.ofNat 32 (q b j).val) (b : Fin 16) (p : Fin 24564) :
    Host.scatter scatter_S16x24564_S16x16x2_S16x16_n_01_01_2 (fun _ v => v) x idx u (ix2 b p)
      = if h : (Finset.univ.filter fun j => q b j = p).Nonempty then u (ix2 b ((Finset.univ.filter fun j => q b j = p).max' h))
        else x (ix2 b p) := by
  have e : Host.scatter scatter_S16x24564_S16x16x2_S16x16_n_01_01_2 (fun _ v => v) x idx u
      = (List.finRange S16x16.numel).foldl
          (write (fun n => scatter_S16x24564_S16x16x2_S16x16_n_01_01_2.resultIdx? (S16x16.rowMajor.symm n) idx)
            (fun n => u (S16x16.rowMajor.symm n))) x := by
    unfold Host.scatter
    congr 1
    funext r n
    unfold write
    split
    · rename_i i hi
      dsimp only at hi ⊢
      rw [hi]
    · rename_i hi
      dsimp only at hi ⊢
      rw [hi]
  rw [e]
  have hat : ∀ n, scatter_S16x24564_S16x16x2_S16x16_n_01_01_2.resultIdx? (S16x16.rowMajor.symm n) idx = some (ix2 b p) →
      ∃ j, n = S16x16.rowMajor (ix2 b j) ∧ q b j = p := by
    intro n hn
    generalize hi : S16x16.rowMajor.symm n = i at hn
    obtain ⟨b', j', rfl⟩ : ∃ b' j', i = ix2 b' j' := ⟨_, _, eq_ix2 i⟩
    rw [scatter_place q idx h0 h1] at hn
    have hn' := Option.some.inj hn
    have hb : b' = b := congrFun hn' 0
    have hq : q b' j' = p := congrFun hn' 1
    subst hb
    exact ⟨j', by rw [← hi, Equiv.apply_symm_apply], hq⟩
  by_cases h : (Finset.univ.filter fun j => q b j = p).Nonempty
  · rw [dif_pos h]
    have hm : q b ((Finset.univ.filter fun j => q b j = p).max' h) = p :=
      (Finset.mem_filter.mp (Finset.max'_mem _ h)).2
    rw [writes_last _ _ _ (List.pairwise_lt_finRange _) x (ix2 b p)
      (S16x16.rowMajor (ix2 b ((Finset.univ.filter fun j => q b j = p).max' h))) (List.mem_finRange _)]
    · rw [Equiv.symm_apply_apply]
    · rw [Equiv.symm_apply_apply, scatter_place q idx h0 h1, hm]
    · intro n _ hn
      obtain ⟨j, rfl, hj⟩ := hat n hn
      have hle : j ≤ (Finset.univ.filter fun j => q b j = p).max' h :=
        Finset.le_max' (Finset.univ.filter fun j => q b j = p) j (Finset.mem_filter.mpr ⟨Finset.mem_univ _, hj⟩)
      have hle' := Fin.le_def.mp hle
      rw [Fin.le_def, Shape.rowMajor_val_two, Shape.rowMajor_val_two]
      show b.val * 16 + j.val ≤ b.val * 16 + ((Finset.univ.filter fun j => q b j = p).max' h).val
      omega
  · rw [dif_neg h]
    refine writes_miss _ _ _ x _ fun n _ hn => ?_
    obtain ⟨j, _, hj⟩ := hat n hn
    exact h ⟨j, Finset.mem_filter.mpr ⟨Finset.mem_univ _, hj⟩⟩

/-! ## The gathers -/

/-- The corners' gather, at a truth box's number. -/
theorem box_apply (x : FVec Ideal S16x16x4 .f32) (idx : IVec S16x24564x1 32) (b : Fin 16) (p : Fin 24564) (k : Fin 4)
    (i : Fin 16) (h : idx (ix3 b p 0) = BitVec.ofNat 32 i.val) :
    Host.gather gather_S16x16x4_S16x24564x1_S16x24564x4_2_1_0_0_1_2_114 x idx (ix3 b p k) = x (ix3 b i k) := by
  unfold Host.gather
  congr 1
  funext a
  refine Fin.ext ?_
  show GatherDims.start _ _ idx a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S16x16x4_S16x24564x1_S16x24564x4_2_1_0_0_1_2_114.operandBatchingDims from
      List.mem_singleton.mpr rfl)]
    rfl
  · rw [GatherDims.batchCoord_eq_zero _ _ _ (fun h => by
        have := List.mem_singleton.mp h; exact absurd (congrArg Fin.val this) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16x16x4_S16x24564x1_S16x24564x4_2_1_0_0_1_2_114.startIndexMap from
      List.mem_singleton.mpr rfl)]
    have hsi : gather_S16x16x4_S16x24564x1_S16x24564x4_2_1_0_0_1_2_114.siIdx (ix3 b p k)
        ⟨List.idxOf (1 : Fin 3) gather_S16x16x4_S16x24564x1_S16x24564x4_2_1_0_0_1_2_114.startIndexMap,
          List.idxOf_lt_length_iff.2 (List.mem_singleton.mpr rfl)⟩ = ix3 b p 0 := by
      funext d
      refine Fin.ext ?_
      match d with
      | ⟨0, _⟩ => rfl
      | ⟨1, _⟩ => rfl
      | ⟨2, _⟩ => rfl
    have hi := i.isLt
    rw [hsi, h, toInt_ofNat _ (by omega), Int.toNat_natCast]
    show min i.val 15 = i.val
    omega
  · have hs : GatherDims.start gather_S16x16x4_S16x24564x1_S16x24564x4_2_1_0_0_1_2_114 (ix3 b p k) idx 2 = 0 := by
      unfold GatherDims.start
      exact dif_neg (by decide)
    rw [hs, GatherDims.batchCoord_eq_zero _ _ _ (by decide)]
    simp only [Nat.zero_add]
    rfl

/-- The labels' gather, at a truth box's number. -/
theorem label_apply (x : FVec Ideal S16x16 .f32) (idx : IVec S16x24564x1 32) (b : Fin 16) (p : Fin 24564)
    (i : Fin 16) (h : idx (ix3 b p 0) = BitVec.ofNat 32 i.val) :
    Host.gather gather_S16x16_S16x24564x1_S16x24564_n_1_0_0_1_2_11 x idx (ix2 b p) = x (ix2 b i) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x16_S16x24564x1_S16x24564_n_1_0_0_1_2_11.operandBatchingDims from
      List.mem_singleton.mpr rfl)]
    rfl
  · rw [GatherDims.batchCoord_eq_zero _ _ _ (fun h => by
        have := List.mem_singleton.mp h; exact absurd (congrArg Fin.val this) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x16_S16x24564x1_S16x24564_n_1_0_0_1_2_11.startIndexMap from
      List.mem_singleton.mpr rfl)]
    have hsi : gather_S16x16_S16x24564x1_S16x24564_n_1_0_0_1_2_11.siIdx (ix2 b p)
        ⟨List.idxOf (1 : Fin 2) gather_S16x16_S16x24564x1_S16x24564_n_1_0_0_1_2_11.startIndexMap,
          List.idxOf_lt_length_iff.2 (List.mem_singleton.mpr rfl)⟩ = ix3 b p 0 := by
      funext d
      refine Fin.ext ?_
      match d with
      | ⟨0, _⟩ => rfl
      | ⟨1, _⟩ => rfl
      | ⟨2, _⟩ => rfl
    have hi := i.isLt
    rw [hsi, h, toInt_ofNat _ (by omega), Int.toNat_natCast]
    show min i.val 15 = i.val
    omega

end Cert.MatchReferenceIdeal.Places

end
-- ==== Proof.MatchRefRead.lean ====
/-
  What each part of the matching reference's operations leaves, entry by entry, in terms of the buffers it starts from.
-/
module

public import proofs.«01_k».proof.Proof.MatchRefRun
public import proofs.«01_k».proof.Proof.MatchArgmax
public import proofs.«01_k».proof.Proof.MatchPlaces

@[expose] public section

set_option maxRecDepth 16384

noncomputable section

open Idealize.ShloMosaic Idealize.ShloMosaic.TcCoe Idealize.SL.Sem Idealize.ShloMosaic.StableHlo
open scoped BigOperators

namespace Cert.MatchReferenceIdeal.Read

open Cert.MatchReferenceIdeal Cert.MatchReferenceIdeal.Gen Cert.MatchReferenceIdeal.Run Cert.MatchSpec

variable (V : Valuation τ sig (Elt Ideal))

/-- A word that is a small number is not negative, so it is its own index. -/
theorem wrap (n : ℕ) (hn : n < 100000) (w x : BitVec 32) (h : x = BitVec.ofNat 32 n) :
    Scalar.select (IntOp.cmpi .slt x 0#32) w x = BitVec.ofNat 32 n := by
  subst h
  have e : IntOp.cmpi .slt (BitVec.ofNat 32 n) 0#32 = 0#1 := by
    show BitVec.ofBool ((BitVec.ofNat 32 n).slt 0#32) = _
    rw [BitVec.slt_eq_decide, toInt_ofNat n hn, decide_eq_false (by simp)]; rfl
  rw [e]; rfl

/-! The buffers the parts leave to one another, each at the shape and element type it has. -/

/-- Buffer `main_arg0`. -/
abbrev w_arg0 (V : Valuation τ sig (Elt Ideal)) : S16x24564x4.Idx → EReal := V (Proc.devRef .tc main_arg0)
/-- Buffer `main_arg1`. -/
abbrev w_arg1 (V : Valuation τ sig (Elt Ideal)) : S24564x4.Idx → EReal := V (Proc.devRef .tc main_arg1)
/-- Buffer `main_arg2`. -/
abbrev w_arg2 (V : Valuation τ sig (Elt Ideal)) : S16x16x5.Idx → EReal := V (Proc.devRef .tc main_arg2)
/-- Buffer `main_v0`. -/
abbrev w_v0 (V : Valuation τ sig (Elt Ideal)) : S16x16x4.Idx → EReal := V (Proc.devRef .tc main_v0)
/-- Buffer `main_v2`. -/
abbrev w_v2 (V : Valuation τ sig (Elt Ideal)) : S16x16.Idx → EReal := V (Proc.devRef .tc main_v2)
/-- Buffer `main_v7`. -/
abbrev w_v7 (V : Valuation τ sig (Elt Ideal)) : S24564x2.Idx → EReal := V (Proc.devRef .tc main_v7)
/-- Buffer `main_v12`. -/
abbrev w_v12 (V : Valuation τ sig (Elt Ideal)) : S24564x2.Idx → EReal := V (Proc.devRef .tc main_v12)
/-- Buffer `main_v13`. -/
abbrev w_v13 (V : Valuation τ sig (Elt Ideal)) : S24564x4.Idx → EReal := V (Proc.devRef .tc main_v13)
/-- Buffer `main_v36`. -/
abbrev w_v36 (V : Valuation τ sig (Elt Ideal)) : S16x16x24564.Idx → EReal := V (Proc.devRef .tc main_v36)
/-- Buffer `main_v66`. -/
abbrev w_v66 (V : Valuation τ sig (Elt Ideal)) : S16x16x24564.Idx → EReal := V (Proc.devRef .tc main_v66)
/-- Buffer `main_v67`. -/
abbrev w_v67 (V : Valuation τ sig (Elt Ideal)) : S16x16.Idx → BitVec 32 := V (Proc.devRef .tc main_v67)
/-- Buffer `main_v68`. -/
abbrev w_v68 (V : Valuation τ sig (Elt Ideal)) : S16x24564.Idx → EReal := V (Proc.devRef .tc main_v68)
/-- Buffer `main_v69`. -/
abbrev w_v69 (V : Valuation τ sig (Elt Ideal)) : S16x24564.Idx → BitVec 32 := V (Proc.devRef .tc main_v69)
/-- Buffer `main_v71`. -/
abbrev w_v71 (V : Valuation τ sig (Elt Ideal)) : S16x1.Idx → BitVec 32 := V (Proc.devRef .tc main_v71)
/-- Buffer `main_v83`. -/
abbrev w_v83 (V : Valuation τ sig (Elt Ideal)) : S16x16x1.Idx → BitVec 32 := V (Proc.devRef .tc main_v83)
/-- Buffer `main_v84`. -/
abbrev w_v84 (V : Valuation τ sig (Elt Ideal)) : S16x16x1.Idx → BitVec 32 := V (Proc.devRef .tc main_v84)
/-- Buffer `main_v87`. -/
abbrev w_v87 (V : Valuation τ sig (Elt Ideal)) : S16x24564.Idx → EReal := V (Proc.devRef .tc main_v87)
/-- Buffer `main_v89`. -/
abbrev w_v89 (V : Valuation τ sig (Elt Ideal)) : S1x16.Idx → BitVec 32 := V (Proc.devRef .tc main_v89)
/-- Buffer `main_v101`. -/
abbrev w_v101 (V : Valuation τ sig (Elt Ideal)) : S16x16x1.Idx → BitVec 32 := V (Proc.devRef .tc main_v101)
/-- Buffer `main_v102`. -/
abbrev w_v102 (V : Valuation τ sig (Elt Ideal)) : S16x16x1.Idx → BitVec 32 := V (Proc.devRef .tc main_v102)
/-- Buffer `main_v105`. -/
abbrev w_v105 (V : Valuation τ sig (Elt Ideal)) : S16x24564.Idx → BitVec 32 := V (Proc.devRef .tc main_v105)
/-- Buffer `main_v112`. -/
abbrev w_v112 (V : Valuation τ sig (Elt Ideal)) : S16x24564x4.Idx → EReal := V (Proc.devRef .tc main_v112)
/-- Buffer `main_v125`. -/
abbrev w_v125 (V : Valuation τ sig (Elt Ideal)) : S16x24564.Idx → BitVec 32 := V (Proc.devRef .tc main_v125)
/-- Buffer `main_v140`. -/
abbrev w_v140 (V : Valuation τ sig (Elt Ideal)) : S16x24564x2.Idx → EReal := V (Proc.devRef .tc main_v140)
/-- Buffer `main_v150`. -/
abbrev w_v150 (V : Valuation τ sig (Elt Ideal)) : S16x24564x2.Idx → EReal := V (Proc.devRef .tc main_v150)
/-- Buffer `main_v153`. -/
abbrev w_v153 (V : Valuation τ sig (Elt Ideal)) : S16x24564.Idx → BitVec 1 := V (Proc.devRef .tc main_v153)
/-- Buffer `main_v163`. -/
abbrev w_v163 (V : Valuation τ sig (Elt Ideal)) : S16x24564x4.Idx → EReal := V (Proc.devRef .tc main_v163)
/-- Buffer `main_v172`. -/
abbrev w_v172 (V : Valuation τ sig (Elt Ideal)) : S16x1x24564.Idx → BitVec 32 := V (Proc.devRef .tc main_v172)
/-- Buffer `main_v173`. -/
abbrev w_v173 (V : Valuation τ sig (Elt Ideal)) : S16x1x1.Idx → BitVec 32 := V (Proc.devRef .tc main_v173)
/-- Buffer `main_v174`. -/
abbrev w_v174 (V : Valuation τ sig (Elt Ideal)) : S1x1.Idx → EReal := V (Proc.devRef .tc main_v174)

/-- An image's truth boxes, the priors, and an image's predicted boxes. -/
abbrev truths (b : Fin 16) : Fin 16 → Fin 5 → EReal := fun j c => (w_arg2 V) (ix3 b j c)
abbrev priors : Fin 24564 → Fin 4 → EReal := fun p a => (w_arg1 V) (ix2 p a)
abbrev preds (b : Fin 16) : Fin 24564 → Fin 4 → EReal := fun p k => (w_arg0 V) (ix3 b p k)

/-- The truth boxes' corners. -/
theorem corners_box (b j : Fin 16) (k : Fin 4) :
    @Eq EReal ((w_v0 (after (opsCorners (F := Ideal)) V) (ix3 b j k)))
      (truths V b j k.castSucc) := by
  simp only [w_v0, opsCorners, TRef.binary, TRef.nullary, TRef.reshape, TRef.ternary, TRef.unary, TRef.quaternary, TRef.toBuf, TRef.ofBuf, cast_eq]
  after_results_simp
  pointwise []
  rfl

/-- The truth boxes' labels. -/
theorem corners_label (b j : Fin 16) :
    @Eq EReal ((w_v2 (after (opsCorners (F := Ideal)) V) (ix2 b j)))
      (truths V b j 4) := by
  simp only [w_v2, opsCorners, TRef.binary, TRef.nullary, TRef.reshape, TRef.ternary, TRef.unary, TRef.quaternary, TRef.toBuf, TRef.ofBuf, cast_eq]
  after_results_simp
  pointwise []

/-- A prior's left. -/
theorem corners_left (p : Fin 24564) :
    @Eq EReal ((w_v7 (after (opsCorners (F := Ideal)) V) (ix2 p 0)))
      (left (priors V) p) := by
  simp only [w_v7, opsCorners, TRef.binary, TRef.nullary, TRef.reshape, TRef.ternary, TRef.unary, TRef.quaternary, TRef.toBuf, TRef.ofBuf, cast_eq]
  after_results_simp
  pointwise []
  rfl

/-- A prior's top. -/
theorem corners_top (p : Fin 24564) :
    @Eq EReal ((w_v7 (after (opsCorners (F := Ideal)) V) (ix2 p 1)))
      (top (priors V) p) := by
  simp only [w_v7, opsCorners, TRef.binary, TRef.nullary, TRef.reshape, TRef.ternary, TRef.unary, TRef.quaternary, TRef.toBuf, TRef.ofBuf, cast_eq]
  after_results_simp
  pointwise []
  rfl

/-- A prior's right. -/
theorem corners_right (p : Fin 24564) :
    @Eq EReal ((w_v12 (after (opsCorners (F := Ideal)) V) (ix2 p 0)))
      (right (priors V) p) := by
  simp only [w_v12, opsCorners, TRef.binary, TRef.nullary, TRef.reshape, TRef.ternary, TRef.unary, TRef.quaternary, TRef.toBuf, TRef.ofBuf, cast_eq]
  after_results_simp
  pointwise []
  rfl

/-- A prior's bottom. -/
theorem corners_bottom (p : Fin 24564) :
    @Eq EReal ((w_v12 (after (opsCorners (F := Ideal)) V) (ix2 p 1)))
      (bottom (priors V) p) := by
  simp only [w_v12, opsCorners, TRef.binary, TRef.nullary, TRef.reshape, TRef.ternary, TRef.unary, TRef.quaternary, TRef.toBuf, TRef.ofBuf, cast_eq]
  after_results_simp
  pointwise []
  rfl

/-- The area shared. -/
theorem inter_area (b j : Fin 16) (p : Fin 24564) :
    @Eq EReal ((w_v36 (after (opsInter (F := Ideal)) V) (ix3 b j p)))
      (max 0 (min ((w_v0 V) (ix3 b j 2)) ((w_v12 V) (ix2 p 0)) - max ((w_v0 V) (ix3 b j 0)) ((w_v7 V) (ix2 p 0)))
        * max 0 (min ((w_v0 V) (ix3 b j 3)) ((w_v12 V) (ix2 p 1)) - max ((w_v0 V) (ix3 b j 1)) ((w_v7 V) (ix2 p 1)))) := by
  simp only [w_v36, opsInter, TRef.binary, TRef.nullary, TRef.reshape, TRef.ternary, TRef.unary, TRef.quaternary, TRef.toBuf, TRef.ofBuf, cast_eq]
  after_results_simp
  pointwise []
  have z : id (constant S_ FTy.f32 0#32 : FVec Ideal S_ .f32) ix0 = 0 := Ideal.ofBits_zero .f32
  rw [z]

/-- A prior's corner 0. -/
theorem inter_corner0 (p : Fin 24564) :
    @Eq EReal ((w_v13 (after (opsInter (F := Ideal)) V) (ix2 p 0)))
      ((w_v7 V) (ix2 p 0)) := by
  simp only [w_v13, opsInter, TRef.binary, TRef.nullary, TRef.reshape, TRef.ternary, TRef.unary, TRef.quaternary, TRef.toBuf, TRef.ofBuf, cast_eq]
  after_results_simp
  pointwise []

/-- A prior's corner 1. -/
theorem inter_corner1 (p : Fin 24564) :
    @Eq EReal ((w_v13 (after (opsInter (F := Ideal)) V) (ix2 p 1)))
      ((w_v7 V) (ix2 p 1)) := by
  simp only [w_v13, opsInter, TRef.binary, TRef.nullary, TRef.reshape, TRef.ternary, TRef.unary, TRef.quaternary, TRef.toBuf, TRef.ofBuf, cast_eq]
  after_results_simp
  pointwise []

/-- A prior's corner 2. -/
theorem inter_corner2 (p : Fin 24564) :
    @Eq EReal ((w_v13 (after (opsInter (F := Ideal)) V) (ix2 p 2)))
      ((w_v12 V) (ix2 p 0)) := by
  simp only [w_v13, opsInter, TRef.binary, TRef.nullary, TRef.reshape, TRef.ternary, TRef.unary, TRef.quaternary, TRef.toBuf, TRef.ofBuf, cast_eq]
  after_results_simp
  pointwise []

/-- A prior's corner 3. -/
theorem inter_corner3 (p : Fin 24564) :
    @Eq EReal ((w_v13 (after (opsInter (F := Ideal)) V) (ix2 p 3)))
      ((w_v12 V) (ix2 p 1)) := by
  simp only [w_v13, opsInter, TRef.binary, TRef.nullary, TRef.reshape, TRef.ternary, TRef.unary, TRef.quaternary, TRef.toBuf, TRef.ofBuf, cast_eq]
  after_results_simp
  pointwise []

/-- The overlap. -/
theorem overlap_ratio (b j : Fin 16) (p : Fin 24564) :
    @Eq EReal ((w_v66 (after (opsOverlap (F := Ideal)) V) (ix3 b j p)))
      (Ideal.div ((w_v36 V) (ix3 b j p))
        (((w_v0 V) (ix3 b j 2) - (w_v0 V) (ix3 b j 0)) * ((w_v0 V) (ix3 b j 3) - (w_v0 V) (ix3 b j 1))
          + ((w_v13 V) (ix2 p 2) - (w_v13 V) (ix2 p 0)) * ((w_v13 V) (ix2 p 3) - (w_v13 V) (ix2 p 1)) - (w_v36 V) (ix3 b j p))) := by
  simp only [w_v66, opsOverlap, TRef.binary, TRef.nullary, TRef.reshape, TRef.ternary, TRef.unary, TRef.quaternary, TRef.toBuf, TRef.ofBuf, cast_eq]
  after_results_simp
  pointwise []

/-- A prior's greatest overlap. -/
theorem best_max (b : Fin 16) (p : Fin 24564) :
    @Eq EReal ((w_v68 (after (opsBest (F := Ideal)) V) (ix2 b p)))
      ((w_v66 V) (ix3 b (argFirst fun j : Fin 16 => (w_v66 V) (ix3 b j p)) p)) := by
  simp only [w_v68, opsBest, TRef.binary, TRef.nullary, TRef.reshape, TRef.ternary, TRef.unary, TRef.quaternary, TRef.toBuf, TRef.ofBuf, cast_eq]
  after_results_simp
  pointwise []
  rw [negInf]
  exact fold_max_eq fun j : Fin 16 => (w_v66 V) (ix3 b j p)

/-- The prior a truth box overlaps most. -/
theorem best_prior (b j : Fin 16) :
    @Eq (BitVec 32) ((w_v67 (after (opsBest (F := Ideal)) V) (ix2 b j)))
      (BitVec.ofNat 32 (argFirst fun p : Fin 24564 => (w_v66 V) (ix3 b j p)).val) := by
  simp only [w_v67, opsBest, TRef.binary, TRef.nullary, TRef.reshape, TRef.ternary, TRef.unary, TRef.quaternary, TRef.toBuf, TRef.ofBuf, cast_eq]
  after_results_simp
  exact Argmax.along_priors (w_v66 V) b j

/-- The truth box a prior overlaps most. -/
theorem best_truth (b : Fin 16) (p : Fin 24564) :
    @Eq (BitVec 32) ((w_v69 (after (opsBest (F := Ideal)) V) (ix2 b p)))
      (BitVec.ofNat 32 (argFirst fun j : Fin 16 => (w_v66 V) (ix3 b j p)).val) := by
  simp only [w_v69, opsBest, TRef.binary, TRef.nullary, TRef.reshape, TRef.ternary, TRef.unary, TRef.quaternary, TRef.toBuf, TRef.ofBuf, cast_eq]
  after_results_simp
  exact Argmax.along_truths (w_v66 V) b p

/-- The images in order. -/
theorem spot_iota (b : Fin 16) :
    @Eq (BitVec 32) ((w_v71 (after (opsSpot (F := Ideal)) V) (ix2 b 0)))
      (BitVec.ofNat 32 b.val) := by
  simp only [w_v71, opsSpot, TRef.binary, TRef.nullary, TRef.reshape, TRef.ternary, TRef.unary, TRef.quaternary, TRef.toBuf, TRef.ofBuf, cast_eq]
  after_results_simp
  pointwise []

/-- The image of a claim. -/
theorem spot_image (b j : Fin 16) :
    @Eq (BitVec 32) ((w_v83 (after (opsSpot (F := Ideal)) V) (ix3 b j 0)))
      (BitVec.ofNat 32 b.val) := by
  simp only [w_v83, opsSpot, TRef.binary, TRef.nullary, TRef.reshape, TRef.ternary, TRef.unary, TRef.quaternary, TRef.toBuf, TRef.ofBuf, cast_eq]
  after_results_simp
  pointwise []
  exact wrap _ (by have := b.isLt; omega) _ _ rfl

/-- The prior of a claim. -/
theorem spot_prior (b j : Fin 16) (n : ℕ) (hn : n < 100000)
    (h : (w_v67 V) (ix2 b j) = BitVec.ofNat 32 n) :
    @Eq (BitVec 32) ((w_v84 (after (opsSpot (F := Ideal)) V) (ix3 b j 0)))
      (BitVec.ofNat 32 n) := by
  simp only [w_v84, opsSpot, TRef.binary, TRef.nullary, TRef.reshape, TRef.ternary, TRef.unary, TRef.quaternary, TRef.toBuf, TRef.ofBuf, cast_eq]
  after_results_simp
  pointwise []
  exact wrap _ hn _ _ h

/-- The image of a claim. -/
theorem spot2_image (b j : Fin 16)
    (h : (w_v71 V) (ix2 b 0) = BitVec.ofNat 32 b.val) :
    @Eq (BitVec 32) ((w_v101 (after (opsSpot2 (F := Ideal)) V) (ix3 b j 0)))
      (BitVec.ofNat 32 b.val) := by
  simp only [w_v101, opsSpot2, TRef.binary, TRef.nullary, TRef.reshape, TRef.ternary, TRef.unary, TRef.quaternary, TRef.toBuf, TRef.ofBuf, cast_eq]
  after_results_simp
  pointwise []
  exact wrap _ (by have := b.isLt; omega) _ _ h

/-- The prior of a claim. -/
theorem spot2_prior (b j : Fin 16) (n : ℕ) (hn : n < 100000)
    (h : (w_v67 V) (ix2 b j) = BitVec.ofNat 32 n) :
    @Eq (BitVec 32) ((w_v102 (after (opsSpot2 (F := Ideal)) V) (ix3 b j 0)))
      (BitVec.ofNat 32 n) := by
  simp only [w_v102, opsSpot2, TRef.binary, TRef.nullary, TRef.reshape, TRef.ternary, TRef.unary, TRef.quaternary, TRef.toBuf, TRef.ofBuf, cast_eq]
  after_results_simp
  pointwise []
  exact wrap _ hn _ _ h

/-- The truth boxes in order. -/
theorem spot2_truth (j : Fin 16) :
    @Eq (BitVec 32) ((w_v89 (after (opsSpot2 (F := Ideal)) V) (ix2 0 j)))
      (BitVec.ofNat 32 j.val) := by
  simp only [w_v89, opsSpot2, TRef.binary, TRef.nullary, TRef.reshape, TRef.ternary, TRef.unary, TRef.quaternary, TRef.toBuf, TRef.ofBuf, cast_eq]
  after_results_simp
  pointwise []

/-- The overlap a prior is credited with. -/
theorem credit_over (q : Fin 16 → Fin 16 → Fin 24564)
    (h0 : ∀ b j : Fin 16, (w_v83 V) (ix3 b j 0) = BitVec.ofNat 32 b.val)
    (h1 : ∀ b j : Fin 16, (w_v84 V) (ix3 b j 0) = BitVec.ofNat 32 (q b j).val)
    (b : Fin 16) (p : Fin 24564) :
    @Eq EReal ((w_v87 (after (opsCredit (F := Ideal)) V) (ix2 b p)))
      (if h : (Finset.univ.filter fun j => q b j = p).Nonempty then two else (w_v68 V) (ix2 b p)) := by
  simp only [w_v87, opsCredit, TRef.binary, TRef.nullary, TRef.reshape, TRef.ternary, TRef.unary, TRef.quaternary, TRef.toBuf, TRef.ofBuf, cast_eq]
  after_results_simp
  refine (Places.scatter_apply q _ _ _ (fun b j => ?_) (fun b j => ?_) b p).trans ?_
  · pointwise []
    exact h0 b j
  · pointwise []
    exact h1 b j
  · rfl

/-- The truth box a prior answers to. -/
theorem index_truth (q : Fin 16 → Fin 16 → Fin 24564)
    (h0 : ∀ b j : Fin 16, (w_v101 V) (ix3 b j 0) = BitVec.ofNat 32 b.val)
    (h1 : ∀ b j : Fin 16, (w_v102 V) (ix3 b j 0) = BitVec.ofNat 32 (q b j).val)
    (b : Fin 16) (p : Fin 24564) :
    @Eq (BitVec 32) ((w_v105 (after (opsIndex (F := Ideal)) V) (ix2 b p)))
      (if h : (Finset.univ.filter fun j => q b j = p).Nonempty then (w_v89 V) (ix2 0 ((Finset.univ.filter fun j => q b j = p).max' h)) else (w_v69 V) (ix2 b p)) := by
  simp only [w_v105, opsIndex, TRef.binary, TRef.nullary, TRef.reshape, TRef.ternary, TRef.unary, TRef.quaternary, TRef.toBuf, TRef.ofBuf, cast_eq]
  after_results_simp
  refine (Places.scatter_apply q _ _ _ (fun b j => ?_) (fun b j => ?_) b p).trans ?_
  · pointwise []
    exact h0 b j
  · pointwise []
    exact h1 b j
  · pointwise []

/-- The corners of the truth box a prior answers to. -/
theorem box_corner (b : Fin 16) (p : Fin 24564) (k : Fin 4) (i : Fin 16)
    (h : (w_v105 V) (ix2 b p) = BitVec.ofNat 32 i.val) :
    @Eq EReal ((w_v112 (after (opsBox (F := Ideal)) V) (ix3 b p k)))
      ((w_v0 V) (ix3 b i k)) := by
  simp only [w_v112, opsBox, TRef.binary, TRef.nullary, TRef.reshape, TRef.ternary, TRef.unary, TRef.quaternary, TRef.toBuf, TRef.ofBuf, cast_eq]
  after_results_simp
  refine Places.box_apply _ _ b p k i ?_
  pointwise []
  exact wrap _ (by have := i.isLt; omega) _ _ h

/-- The class target. -/
theorem conf_class (b : Fin 16) (p : Fin 24564) (i : Fin 16)
    (h : (w_v105 V) (ix2 b p) = BitVec.ofNat 32 i.val) :
    @Eq (BitVec 32) ((w_v125 (after (opsConf (F := Ideal)) V) (ix2 b p)))
      (if (w_v87 V) (ix2 b p) < half then 0#32
        else IntOp.addi (FloatOps.fptosi (F := Ideal) (φ := .f32) 32 ((w_v2 V) (ix2 b i))) 1#32) := by
  simp only [w_v125, opsConf, TRef.binary, TRef.nullary, TRef.reshape, TRef.ternary, TRef.unary, TRef.quaternary, TRef.toBuf, TRef.ofBuf, cast_eq]
  after_results_simp
  pointwise []
  rw [Places.label_apply _ _ b p i]
  · rfl
  · pointwise []
    exact wrap _ (by have := i.isLt; omega) _ _ h

/-- The encoded centre. -/
theorem enc_centre0 (b : Fin 16) (p : Fin 24564) :
    @Eq EReal ((w_v140 (after (opsEnc (F := Ideal)) V) (ix3 b p 0)))
      (Ideal.div (Ideal.div ((w_v112 V) (ix3 b p 0) + (w_v112 V) (ix3 b p 2)) two - (w_arg1 V) (ix2 p 0)) (var0 * (w_arg1 V) (ix2 p 2))) := by
  simp only [w_v140, opsEnc, TRef.binary, TRef.nullary, TRef.reshape, TRef.ternary, TRef.unary, TRef.quaternary, TRef.toBuf, TRef.ofBuf, cast_eq]
  after_results_simp
  pointwise []

/-- The encoded centre. -/
theorem enc_centre1 (b : Fin 16) (p : Fin 24564) :
    @Eq EReal ((w_v140 (after (opsEnc (F := Ideal)) V) (ix3 b p 1)))
      (Ideal.div (Ideal.div ((w_v112 V) (ix3 b p 1) + (w_v112 V) (ix3 b p 3)) two - (w_arg1 V) (ix2 p 1)) (var0 * (w_arg1 V) (ix2 p 3))) := by
  simp only [w_v140, opsEnc, TRef.binary, TRef.nullary, TRef.reshape, TRef.ternary, TRef.unary, TRef.quaternary, TRef.toBuf, TRef.ofBuf, cast_eq]
  after_results_simp
  pointwise []

/-- The encoded size. -/
theorem enc_size0 (b : Fin 16) (p : Fin 24564) :
    @Eq EReal ((w_v150 (after (opsEnc (F := Ideal)) V) (ix3 b p 0)))
      (Ideal.div (Ideal.log (Ideal.div ((w_v112 V) (ix3 b p 2) - (w_v112 V) (ix3 b p 0)) ((w_arg1 V) (ix2 p 2)))) var1) := by
  simp only [w_v150, opsEnc, TRef.binary, TRef.nullary, TRef.reshape, TRef.ternary, TRef.unary, TRef.quaternary, TRef.toBuf, TRef.ofBuf, cast_eq]
  after_results_simp
  pointwise []

/-- The encoded size. -/
theorem enc_size1 (b : Fin 16) (p : Fin 24564) :
    @Eq EReal ((w_v150 (after (opsEnc (F := Ideal)) V) (ix3 b p 1)))
      (Ideal.div (Ideal.log (Ideal.div ((w_v112 V) (ix3 b p 3) - (w_v112 V) (ix3 b p 1)) ((w_arg1 V) (ix2 p 3)))) var1) := by
  simp only [w_v150, opsEnc, TRef.binary, TRef.nullary, TRef.reshape, TRef.ternary, TRef.unary, TRef.quaternary, TRef.toBuf, TRef.ofBuf, cast_eq]
  after_results_simp
  pointwise []

/-- Whether a prior is positive. -/
theorem smooth_pos (b : Fin 16) (p : Fin 24564) :
    @Eq (BitVec 1) ((w_v153 (after (opsSmooth (F := Ideal)) V) (ix2 b p)))
      (IntOp.cmpi .sgt ((w_v125 V) (ix2 b p)) 0#32) := by
  simp only [w_v153, opsSmooth, TRef.binary, TRef.nullary, TRef.reshape, TRef.ternary, TRef.unary, TRef.quaternary, TRef.toBuf, TRef.ofBuf, cast_eq]
  after_results_simp
  pointwise []

/-- A coordinate's loss. -/
theorem smooth_coord0 (b : Fin 16) (p : Fin 24564) :
    @Eq EReal ((w_v163 (after (opsSmooth (F := Ideal)) V) (ix3 b p 0)))
      (smooth ((w_arg0 V) (ix3 b p 0) - (w_v140 V) (ix3 b p 0))) := by
  simp only [w_v163, opsSmooth, TRef.binary, TRef.nullary, TRef.reshape, TRef.ternary, TRef.unary, TRef.quaternary, TRef.toBuf, TRef.ofBuf, cast_eq]
  after_results_simp
  pointwise []
  rfl

/-- A coordinate's loss. -/
theorem smooth_coord1 (b : Fin 16) (p : Fin 24564) :
    @Eq EReal ((w_v163 (after (opsSmooth (F := Ideal)) V) (ix3 b p 1)))
      (smooth ((w_arg0 V) (ix3 b p 1) - (w_v140 V) (ix3 b p 1))) := by
  simp only [w_v163, opsSmooth, TRef.binary, TRef.nullary, TRef.reshape, TRef.ternary, TRef.unary, TRef.quaternary, TRef.toBuf, TRef.ofBuf, cast_eq]
  after_results_simp
  pointwise []
  rfl

/-- A coordinate's loss. -/
theorem smooth_coord2 (b : Fin 16) (p : Fin 24564) :
    @Eq EReal ((w_v163 (after (opsSmooth (F := Ideal)) V) (ix3 b p 2)))
      (smooth ((w_arg0 V) (ix3 b p 2) - (w_v150 V) (ix3 b p 0))) := by
  simp only [w_v163, opsSmooth, TRef.binary, TRef.nullary, TRef.reshape, TRef.ternary, TRef.unary, TRef.quaternary, TRef.toBuf, TRef.ofBuf, cast_eq]
  after_results_simp
  pointwise []
  rfl

/-- A coordinate's loss. -/
theorem smooth_coord3 (b : Fin 16) (p : Fin 24564) :
    @Eq EReal ((w_v163 (after (opsSmooth (F := Ideal)) V) (ix3 b p 3)))
      (smooth ((w_arg0 V) (ix3 b p 3) - (w_v150 V) (ix3 b p 1))) := by
  simp only [w_v163, opsSmooth, TRef.binary, TRef.nullary, TRef.reshape, TRef.ternary, TRef.unary, TRef.quaternary, TRef.toBuf, TRef.ofBuf, cast_eq]
  after_results_simp
  pointwise []
  rfl

/-- The loss, summed. -/
theorem sums_loss  :
    @Eq EReal ((w_v174 (after (opsSums (F := Ideal)) V) (ix2 0 0)))
      (∑ b : Fin 16, ∑ p : Fin 24564, ∑ k : Fin 4, (w_v163 V) (ix3 b p k) * FloatOps.uitofp (F := Ideal) .f32 ((w_v153 V) (ix2 b p))) := by
  simp only [w_v174, opsSums, TRef.binary, TRef.nullary, TRef.reshape, TRef.ternary, TRef.unary, TRef.quaternary, TRef.toBuf, TRef.ofBuf, cast_eq]
  after_results_simp
  pointwise []

/-- The positive priors, counted. -/
theorem sums_count (b : Fin 16) :
    @Eq (BitVec 32) ((w_v173 (after (opsSums (F := Ideal)) V) (ix3 b 0 0)))
      (Finset.univ.fold IntOp.addi 0#32 fun p : Fin 24564 => BitVec.setWidth 32 ((w_v153 V) (ix2 b p))) := by
  simp only [w_v173, opsSums, TRef.binary, TRef.nullary, TRef.reshape, TRef.ternary, TRef.unary, TRef.quaternary, TRef.toBuf, TRef.ofBuf, cast_eq]
  after_results_simp
  pointwise []

/-- The class targets. -/
theorem sums_class (b : Fin 16) (p : Fin 24564) :
    @Eq (BitVec 32) ((w_v172 (after (opsSums (F := Ideal)) V) (ix3 b 0 p)))
      ((w_v125 V) (ix2 b p)) := by
  simp only [w_v172, opsSums, TRef.binary, TRef.nullary, TRef.reshape, TRef.ternary, TRef.unary, TRef.quaternary, TRef.toBuf, TRef.ofBuf, cast_eq]
  after_results_simp
  pointwise []

end Cert.MatchReferenceIdeal.Read

end
-- ==== Proof.MatchRefValue.lean ====
/-
  What the matching reference computes: every array it leaves, read as the matching and the loss it stands for, part after
  part, and from them its three results.
-/
module

public import proofs.«01_k».proof.Proof.MatchRefRead

@[expose] public section

set_option maxRecDepth 16384

noncomputable section

open Idealize.ShloMosaic Idealize.ShloMosaic.TcCoe Idealize.SL.Sem Idealize.ShloMosaic.StableHlo
open scoped BigOperators

namespace Cert.MatchReferenceIdeal.Value

open Cert.MatchReferenceIdeal Cert.MatchReferenceIdeal.Gen Cert.MatchReferenceIdeal.Run Cert.MatchReferenceIdeal.Read Cert.MatchSpec

variable (V : Valuation τ sig (Elt Ideal))

/-! What the buffers hold after each part. -/

/-- After part 1. -/
def s1 : Valuation τ sig (Elt Ideal) := after (opsCorners (F := Ideal)) V
/-- After part 2. -/
def s2 : Valuation τ sig (Elt Ideal) := after (opsInter (F := Ideal)) (s1 V)
/-- After part 3. -/
def s3 : Valuation τ sig (Elt Ideal) := after (opsOverlap (F := Ideal)) (s2 V)
/-- After part 4. -/
def s4 : Valuation τ sig (Elt Ideal) := after (opsBest (F := Ideal)) (s3 V)
/-- After part 5. -/
def s5 : Valuation τ sig (Elt Ideal) := after (opsSpot (F := Ideal)) (s4 V)
/-- After part 6. -/
def s6 : Valuation τ sig (Elt Ideal) := after (opsCredit (F := Ideal)) (s5 V)
/-- After part 7. -/
def s7 : Valuation τ sig (Elt Ideal) := after (opsSpot2 (F := Ideal)) (s6 V)
/-- After part 8. -/
def s8 : Valuation τ sig (Elt Ideal) := after (opsIndex (F := Ideal)) (s7 V)
/-- After part 9. -/
def s9 : Valuation τ sig (Elt Ideal) := after (opsBox (F := Ideal)) (s8 V)
/-- After part 10. -/
def s10 : Valuation τ sig (Elt Ideal) := after (opsConf (F := Ideal)) (s9 V)
/-- After part 11. -/
def s11 : Valuation τ sig (Elt Ideal) := after (opsEnc (F := Ideal)) (s10 V)
/-- After part 12. -/
def s12 : Valuation τ sig (Elt Ideal) := after (opsSmooth (F := Ideal)) (s11 V)
/-- After part 13. -/
def s13 : Valuation τ sig (Elt Ideal) := after (opsSums (F := Ideal)) (s12 V)

/-- After the last part: after all the operations. -/
theorem all_ops : after (ops (F := Ideal)) V = s13 V := by
  unfold ops
  simp only [after_append]
  rfl

/-! Buffers a part leaves alone keep what they held. -/

theorem keep_arg0_11 : w_arg0 (s11 V) = w_arg0 V := by
  exact (keepEnc (s10 V) main_arg0 (by decide)).trans ((keepConf (s9 V) main_arg0 (by decide)).trans ((keepBox (s8 V) main_arg0 (by decide)).trans ((keepIndex (s7 V) main_arg0 (by decide)).trans ((keepSpot2 (s6 V) main_arg0 (by decide)).trans ((keepCredit (s5 V) main_arg0 (by decide)).trans ((keepSpot (s4 V) main_arg0 (by decide)).trans ((keepBest (s3 V) main_arg0 (by decide)).trans ((keepOverlap (s2 V) main_arg0 (by decide)).trans ((keepInter (s1 V) main_arg0 (by decide)).trans ((keepCorners V main_arg0 (by decide))))))))))))
theorem keep_arg1_10 : w_arg1 (s10 V) = w_arg1 V := by
  exact (keepConf (s9 V) main_arg1 (by decide)).trans ((keepBox (s8 V) main_arg1 (by decide)).trans ((keepIndex (s7 V) main_arg1 (by decide)).trans ((keepSpot2 (s6 V) main_arg1 (by decide)).trans ((keepCredit (s5 V) main_arg1 (by decide)).trans ((keepSpot (s4 V) main_arg1 (by decide)).trans ((keepBest (s3 V) main_arg1 (by decide)).trans ((keepOverlap (s2 V) main_arg1 (by decide)).trans ((keepInter (s1 V) main_arg1 (by decide)).trans ((keepCorners V main_arg1 (by decide)))))))))))
theorem keep_v0_2 : w_v0 (s2 V) = w_v0 (s1 V) := by
  exact (keepInter (s1 V) main_v0 (by decide))
theorem keep_v0_8 : w_v0 (s8 V) = w_v0 (s1 V) := by
  exact (keepIndex (s7 V) main_v0 (by decide)).trans ((keepSpot2 (s6 V) main_v0 (by decide)).trans ((keepCredit (s5 V) main_v0 (by decide)).trans ((keepSpot (s4 V) main_v0 (by decide)).trans ((keepBest (s3 V) main_v0 (by decide)).trans ((keepOverlap (s2 V) main_v0 (by decide)).trans ((keepInter (s1 V) main_v0 (by decide))))))))
theorem keep_v2_9 : w_v2 (s9 V) = w_v2 (s1 V) := by
  exact (keepBox (s8 V) main_v2 (by decide)).trans ((keepIndex (s7 V) main_v2 (by decide)).trans ((keepSpot2 (s6 V) main_v2 (by decide)).trans ((keepCredit (s5 V) main_v2 (by decide)).trans ((keepSpot (s4 V) main_v2 (by decide)).trans ((keepBest (s3 V) main_v2 (by decide)).trans ((keepOverlap (s2 V) main_v2 (by decide)).trans ((keepInter (s1 V) main_v2 (by decide)))))))))
theorem keep_v67_6 : w_v67 (s6 V) = w_v67 (s4 V) := by
  exact (keepCredit (s5 V) main_v67 (by decide)).trans ((keepSpot (s4 V) main_v67 (by decide)))
theorem keep_v68_5 : w_v68 (s5 V) = w_v68 (s4 V) := by
  exact (keepSpot (s4 V) main_v68 (by decide))
theorem keep_v69_7 : w_v69 (s7 V) = w_v69 (s4 V) := by
  exact (keepSpot2 (s6 V) main_v69 (by decide)).trans ((keepCredit (s5 V) main_v69 (by decide)).trans ((keepSpot (s4 V) main_v69 (by decide))))
theorem keep_v71_6 : w_v71 (s6 V) = w_v71 (s5 V) := by
  exact (keepCredit (s5 V) main_v71 (by decide))
theorem keep_v87_9 : w_v87 (s9 V) = w_v87 (s6 V) := by
  exact (keepBox (s8 V) main_v87 (by decide)).trans ((keepIndex (s7 V) main_v87 (by decide)).trans ((keepSpot2 (s6 V) main_v87 (by decide))))
theorem keep_v105_9 : w_v105 (s9 V) = w_v105 (s8 V) := by
  exact (keepBox (s8 V) main_v105 (by decide))
theorem keep_v112_10 : w_v112 (s10 V) = w_v112 (s9 V) := by
  exact (keepConf (s9 V) main_v112 (by decide))
theorem keep_v125_11 : w_v125 (s11 V) = w_v125 (s10 V) := by
  exact (keepEnc (s10 V) main_v125 (by decide))
theorem keep_v125_12 : w_v125 (s12 V) = w_v125 (s10 V) := by
  exact (keepSmooth (s11 V) main_v125 (by decide)).trans ((keepEnc (s10 V) main_v125 (by decide)))

/-- The truth boxes' corners. -/
theorem box1 (b j : Fin 16) (k : Fin 4) : @Eq (EReal) (w_v0 (s1 V) (ix3 b j k)) (truths V b j k.castSucc) := by
  exact corners_box V b j k

/-- The truth boxes' labels. -/
theorem label1 (b j : Fin 16) : @Eq (EReal) (w_v2 (s1 V) (ix2 b j)) (truths V b j 4) := by
  exact corners_label V b j

/-- The priors' left. -/
theorem left1 (p : Fin 24564) : @Eq (EReal) (w_v7 (s1 V) (ix2 p 0)) (left (priors V) p) := by
  exact corners_left V p

/-- The priors' top. -/
theorem top1 (p : Fin 24564) : @Eq (EReal) (w_v7 (s1 V) (ix2 p 1)) (top (priors V) p) := by
  exact corners_top V p

/-- The priors' right. -/
theorem right1 (p : Fin 24564) : @Eq (EReal) (w_v12 (s1 V) (ix2 p 0)) (right (priors V) p) := by
  exact corners_right V p

/-- The priors' bottom. -/
theorem bottom1 (p : Fin 24564) : @Eq (EReal) (w_v12 (s1 V) (ix2 p 1)) (bottom (priors V) p) := by
  exact corners_bottom V p

/-- The priors' left. -/
theorem left2 (p : Fin 24564) : @Eq (EReal) (w_v13 (s2 V) (ix2 p 0)) (left (priors V) p) := by
  exact (inter_corner0 (s1 V) p).trans (left1 V p)

/-- The priors' top. -/
theorem top2 (p : Fin 24564) : @Eq (EReal) (w_v13 (s2 V) (ix2 p 1)) (top (priors V) p) := by
  exact (inter_corner1 (s1 V) p).trans (top1 V p)

/-- The priors' right. -/
theorem right2 (p : Fin 24564) : @Eq (EReal) (w_v13 (s2 V) (ix2 p 2)) (right (priors V) p) := by
  exact (inter_corner2 (s1 V) p).trans (right1 V p)

/-- The priors' bottom. -/
theorem bottom2 (p : Fin 24564) : @Eq (EReal) (w_v13 (s2 V) (ix2 p 3)) (bottom (priors V) p) := by
  exact (inter_corner3 (s1 V) p).trans (bottom1 V p)

/-- The area a truth box and a prior share. -/
theorem area2 (b j : Fin 16) (p : Fin 24564) : @Eq (EReal) (w_v36 (s2 V) (ix3 b j p)) (inter (truths V b) (priors V) j p) := by
  refine (inter_area (s1 V) b j p).trans ?_
  rw [box1, box1, box1, box1, left1, top1, right1, bottom1]
  rfl

/-- The overlaps. -/
theorem overlap3 (b j : Fin 16) (p : Fin 24564) : @Eq (EReal) (w_v66 (s3 V) (ix3 b j p)) (ov (truths V b) (priors V) j p) := by
  refine (overlap_ratio (s2 V) b j p).trans ?_
  rw [keep_v0_2, box1, box1, box1, box1, left2, top2, right2, bottom2, area2]
  rfl

/-- The prior a truth box claims. -/
theorem best4 (b j : Fin 16) : @Eq (BitVec 32) (w_v67 (s4 V) (ix2 b j)) (BitVec.ofNat 32 (best (truths V b) (priors V) j).val) := by
  refine (best_prior (s3 V) b j).trans ?_
  exact congrArg (fun f : Fin 24564 → EReal => BitVec.ofNat 32 (argFirst f).val) (funext fun p => overlap3 V b j p)

/-- The truth box a prior overlaps most. -/
theorem own4 (b : Fin 16) (p : Fin 24564) : @Eq (BitVec 32) (w_v69 (s4 V) (ix2 b p)) (BitVec.ofNat 32 (own (truths V b) (priors V) p).val) := by
  refine (best_truth (s3 V) b p).trans ?_
  exact congrArg (fun f : Fin 16 → EReal => BitVec.ofNat 32 (argFirst f).val) (funext fun j => overlap3 V b j p)

/-- A prior's greatest overlap. -/
theorem greatest4 (b : Fin 16) (p : Fin 24564) : @Eq (EReal) (w_v68 (s4 V) (ix2 b p)) (ov (truths V b) (priors V) (own (truths V b) (priors V) p) p) := by
  refine (best_max (s3 V) b p).trans ((overlap3 V b _ p).trans ?_)
  exact congrArg (fun f : Fin 16 → EReal => ov (truths V b) (priors V) (argFirst f) p) (funext fun j => overlap3 V b j p)

/-- The overlap a prior is credited with. -/
theorem credit6 (b : Fin 16) (p : Fin 24564) : @Eq (EReal) (w_v87 (s6 V) (ix2 b p)) (over (truths V b) (priors V) p) := by
  refine (credit_over (s5 V) (fun b j => best (truths V b) (priors V) j) (fun b j => spot_image (s4 V) b j)
    (fun b j => spot_prior (s4 V) b j _ (by have := (best (truths V b) (priors V) j).isLt; omega) (best4 V b j)) b p).trans ?_
  rw [keep_v68_5, greatest4]
  by_cases h : (Finset.univ.filter fun j => best (truths V b) (priors V) j = p).Nonempty
  · rw [dif_pos h]
    exact (if_pos h).symm
  · rw [dif_neg h]
    exact (if_neg h).symm

/-- The truth box a prior answers to. -/
theorem index8 (b : Fin 16) (p : Fin 24564) : @Eq (BitVec 32) (w_v105 (s8 V) (ix2 b p)) (BitVec.ofNat 32 (idx (truths V b) (priors V) p).val) := by
  refine (index_truth (s7 V) (fun b j => best (truths V b) (priors V) j)
    (fun b j => spot2_image (s6 V) b j ((congrFun (keep_v71_6 V) (ix2 b 0)).trans (spot_iota (s4 V) b)))
    (fun b j => spot2_prior (s6 V) b j _ (by have := (best (truths V b) (priors V) j).isLt; omega)
      ((congrFun (keep_v67_6 V) (ix2 b j)).trans (best4 V b j))) b p).trans ?_
  rw [keep_v69_7, own4]
  unfold idx claims
  split
  · exact spot2_truth (s6 V) _
  · rfl

/-- The corners of the truth box a prior answers to. -/
theorem box9 (b : Fin 16) (p : Fin 24564) (k : Fin 4) : @Eq (EReal) (w_v112 (s9 V) (ix3 b p k)) (truths V b (idx (truths V b) (priors V) p) k.castSucc) := by
  refine (box_corner (s8 V) b p k _ (index8 V b p)).trans ?_
  rw [keep_v0_8, box1]

/-- The class targets. -/
theorem conf10 (b : Fin 16) (p : Fin 24564) : @Eq (BitVec 32) (w_v125 (s10 V) (ix2 b p)) (conf (truths V b) (priors V) p) := by
  refine (conf_class (s9 V) b p (idx (truths V b) (priors V) p) ((congrFun (keep_v105_9 V) (ix2 b p)).trans (index8 V b p))).trans ?_
  rw [keep_v87_9, keep_v2_9, credit6, label1]
  rfl

/-- Coordinate 0 of the encoded box. -/
theorem enc11_0 (b : Fin 16) (p : Fin 24564) : @Eq (EReal) (w_v140 (s11 V) (ix3 b p 0)) (enc (truths V b (idx (truths V b) (priors V) p)) (priors V p) 0) := by
  refine (enc_centre0 (s10 V) b p).trans ?_
  rw [keep_v112_10, keep_arg1_10, box9, box9]
  rfl

/-- Coordinate 1 of the encoded box. -/
theorem enc11_1 (b : Fin 16) (p : Fin 24564) : @Eq (EReal) (w_v140 (s11 V) (ix3 b p 1)) (enc (truths V b (idx (truths V b) (priors V) p)) (priors V p) 1) := by
  refine (enc_centre1 (s10 V) b p).trans ?_
  rw [keep_v112_10, keep_arg1_10, box9, box9]
  rfl

/-- Coordinate 2 of the encoded box. -/
theorem enc11_2 (b : Fin 16) (p : Fin 24564) : @Eq (EReal) (w_v150 (s11 V) (ix3 b p 0)) (enc (truths V b (idx (truths V b) (priors V) p)) (priors V p) 2) := by
  refine (enc_size0 (s10 V) b p).trans ?_
  rw [keep_v112_10, keep_arg1_10, box9, box9]
  rfl

/-- Coordinate 3 of the encoded box. -/
theorem enc11_3 (b : Fin 16) (p : Fin 24564) : @Eq (EReal) (w_v150 (s11 V) (ix3 b p 1)) (enc (truths V b (idx (truths V b) (priors V) p)) (priors V p) 3) := by
  refine (enc_size1 (s10 V) b p).trans ?_
  rw [keep_v112_10, keep_arg1_10, box9, box9]
  rfl

/-- The positive priors. -/
theorem pos12 (b : Fin 16) (p : Fin 24564) : @Eq (BitVec 1) (w_v153 (s12 V) (ix2 b p)) (pos (truths V b) (priors V) p) := by
  refine (smooth_pos (s11 V) b p).trans ?_
  rw [keep_v125_11, conf10]
  rfl

/-- A coordinate's loss. -/
theorem coord12 (b : Fin 16) (p : Fin 24564) (k : Fin 4) : @Eq (EReal) (w_v163 (s12 V) (ix3 b p k)) (coordLoss (truths V b) (priors V) (preds V b) p k) := by
  fin_cases k
  · refine (smooth_coord0 (s11 V) b p).trans ?_
    rw [keep_arg0_11, enc11_0]
    rfl
  · refine (smooth_coord1 (s11 V) b p).trans ?_
    rw [keep_arg0_11, enc11_1]
    rfl
  · refine (smooth_coord2 (s11 V) b p).trans ?_
    rw [keep_arg0_11, enc11_2]
    rfl
  · refine (smooth_coord3 (s11 V) b p).trans ?_
    rw [keep_arg0_11, enc11_3]
    rfl

/-- A weight of 1 keeps a number and a weight of 0 drops it. -/
theorem weigh (x : EReal) (w : BitVec 1) : @Eq (EReal) (x * FloatOps.uitofp (F := Ideal) .f32 w) (if w = 1#1 then x else 0) := by
  rcases (by decide : ∀ w : BitVec 1, w = 0#1 ∨ w = 1#1) w with rfl | rfl
  · have e : FloatOps.uitofp (F := Ideal) .f32 0#1 = (0 : EReal) := by
      show (((0#1 : BitVec 1).toNat : ℝ) : EReal) = 0
      simp
    rw [e, mul_zero, if_neg (by decide)]
  · have e : FloatOps.uitofp (F := Ideal) .f32 1#1 = (1 : EReal) := by
      show (((1#1 : BitVec 1).toNat : ℝ) : EReal) = 1
      simp
    rw [e, mul_one, if_pos rfl]

/-- The first result: the class targets. -/
theorem result_class (b : Fin 16) (p : Fin 24564) : @Eq (BitVec 32) (w_v172 (s13 V) (ix3 b 0 p)) (conf (truths V b) (priors V) p) := by
  refine (sums_class (s12 V) b p).trans ?_
  rw [keep_v125_12, conf10]

/-- The second result: how many priors of an image are positive. -/
theorem result_count (b : Fin 16) : @Eq (BitVec 32) (w_v173 (s13 V) (ix3 b 0 0)) (count (truths V b) (priors V)) := by
  refine (sums_count (s12 V) b).trans ?_
  exact congrArg (Finset.univ.fold IntOp.addi 0#32) (funext fun p => congrArg (BitVec.setWidth 32) (pos12 V b p))

/-- The third result: the localisation loss of all the images. -/
theorem result_loss  : @Eq (EReal) (w_v174 (s13 V) (ix2 0 0)) (∑ b : Fin 16, imageLoss (truths V b) (priors V) (preds V b)) := by
  refine (sums_loss (s12 V)).trans ?_
  refine Finset.sum_congr rfl fun b _ => Finset.sum_congr rfl fun p _ => ?_
  by_cases h : pos (truths V b) (priors V) p = 1#1
  · rw [if_pos h]
    refine Finset.sum_congr rfl fun k _ => ?_
    rw [weigh, pos12, if_pos h, coord12]
  · rw [if_neg h]
    refine Finset.sum_eq_zero fun k _ => ?_
    rw [weigh, pos12, if_neg h]

end Cert.MatchReferenceIdeal.Value

end
-- ==== Proof.MatchClaim.lean ====
/-
  The matching call's claims: its reference's frame, and that the call and the reference leave the same three arrays.
-/
module

public import proofs.«01_k».proof.Defs
public import proofs.«01_k».proof.Proof.MatchArrays
public import proofs.«01_k».proof.Proof.MatchRefValue
public import Idealize.ShloMosaic.Lib.Quiescent

@[expose] public section

set_option maxRecDepth 16384

noncomputable section

open Idealize.ShloMosaic Idealize.ShloMosaic.TcCoe Idealize.SL.Sem
open Idealize.ShloMosaic.StableHlo

namespace Cert.MatchClaim

open Cert.MatchReferenceIdeal Cert.MatchReferenceIdeal.Run Cert.MatchReferenceIdeal.Read Cert.MatchReferenceIdeal.Value
open Cert.MatchIdeal.Arrays (confArr countArr lossArr)

/-- A buffer none of the reference's operations writes holds at the end what it held at the start. -/
theorem keep_all (V : Valuation τ sig (Elt Ideal)) (r : Ref sig .tc)
    (h : r ∉ outCorners ++ outInter ++ outOverlap ++ outBest ++ outSpot ++ outCredit ++ outSpot2 ++ outIndex ++ outBox
      ++ outConf ++ outEnc ++ outSmooth ++ outSums) :
    after (ops (F := Ideal)) V (Proc.devRef .tc r) = V (Proc.devRef .tc r) := by
  simp only [List.mem_append, not_or] at h
  obtain ⟨⟨⟨⟨⟨⟨⟨⟨⟨⟨⟨⟨h1, h2⟩, h3⟩, h4⟩, h5⟩, h6⟩, h7⟩, h8⟩, h9⟩, h10⟩, h11⟩, h12⟩, h13⟩ := h
  rw [all_ops]
  exact (keepSums (s12 V) r h13).trans ((keepSmooth (s11 V) r h12).trans ((keepEnc (s10 V) r h11).trans
    ((keepConf (s9 V) r h10).trans ((keepBox (s8 V) r h9).trans ((keepIndex (s7 V) r h8).trans
    ((keepSpot2 (s6 V) r h7).trans ((keepCredit (s5 V) r h6).trans ((keepSpot (s4 V) r h5).trans
    ((keepBest (s3 V) r h4).trans ((keepOverlap (s2 V) r h3).trans ((keepInter (s1 V) r h2).trans
    (keepCorners V r h1))))))))))))

/-- The reference leaves its arguments as they were. -/
theorem keep_arg0 (V : Valuation τ sig (Elt Ideal)) : after (ops (F := Ideal)) V (Proc.devRef .tc main_arg0) = V (Proc.devRef .tc main_arg0) :=
  keep_all V main_arg0 (by decide)
theorem keep_arg1 (V : Valuation τ sig (Elt Ideal)) : after (ops (F := Ideal)) V (Proc.devRef .tc main_arg1) = V (Proc.devRef .tc main_arg1) :=
  keep_all V main_arg1 (by decide)
theorem keep_arg2 (V : Valuation τ sig (Elt Ideal)) : after (ops (F := Ideal)) V (Proc.devRef .tc main_arg2) = V (Proc.devRef .tc main_arg2) :=
  keep_all V main_arg2 (by decide)

/-- The reference's first result is the array of class targets. -/
theorem reference_conf (V : Valuation τ sig (Elt Ideal)) :
    w_v172 (after (ops (F := Ideal)) V) = confArr (w_arg1 V) (w_arg2 V) := by
  rw [all_ops]
  funext i
  obtain ⟨b, k, p, rfl⟩ : ∃ b k p, i = ix3 b k p := ⟨_, _, _, eq_ix3 i⟩
  obtain rfl : k = 0 := Subsingleton.elim _ _
  exact result_class V b p

/-- The reference's second result is the array of counts. -/
theorem reference_count (V : Valuation τ sig (Elt Ideal)) :
    w_v173 (after (ops (F := Ideal)) V) = countArr (w_arg1 V) (w_arg2 V) := by
  rw [all_ops]
  funext i
  obtain ⟨b, k, p, rfl⟩ : ∃ b k p, i = ix3 b k p := ⟨_, _, _, eq_ix3 i⟩
  obtain rfl : k = 0 := Subsingleton.elim _ _
  obtain rfl : p = 0 := Subsingleton.elim _ _
  exact result_count V b

/-- The reference's third result is the loss. -/
theorem reference_loss (V : Valuation τ sig (Elt Ideal)) :
    w_v174 (after (ops (F := Ideal)) V) = lossArr (w_arg0 V) (w_arg1 V) (w_arg2 V) := by
  rw [all_ops]
  funext i
  have hi : i = ix2 0 0 := (eq_ix2 i).trans (congrArg₂ ix2 (Subsingleton.elim _ _) (Subsingleton.elim _ _))
  rw [hi]
  exact result_loss V

/-- The reference's frame. -/
theorem frame_reference : Cert.quiescent_MatchReferenceIdeal := fun m ρ _ =>
  (θ_run Cert.MatchReferenceIdeal.defs _ _).mono (fun r h => ⟨fun c => ⟨(h c main_arg0).trans (keep_arg0 _),
      (h c main_arg1).trans (keep_arg1 _), (h c main_arg2).trans (keep_arg2 _)⟩,
      Idealize.ShloMosaic.sem_eq_zero_of_no_sems (by decide) r.2⟩)
    (Cert.MatchReferenceIdeal.Run.run m ρ)

/-- THE CALL COMPUTES THE MATCHING: from arguments that agree, its three result arrays and the reference's are the class
    targets, the counts of positive priors and the localisation loss. -/
theorem equal : Cert.algebraic_MatchIdeal_MatchReferenceIdeal := by
  intro m ρ m' ρ' _ hargs
  refine ⟨fun c => confArr (Cert.MatchIdeal.Arrays.arg1 m c) (Cert.MatchIdeal.Arrays.arg2 m c),
    fun c => countArr (Cert.MatchIdeal.Arrays.arg1 m c) (Cert.MatchIdeal.Arrays.arg2 m c),
    fun c => lossArr (Cert.MatchIdeal.Arrays.arg0 m c) (Cert.MatchIdeal.Arrays.arg1 m c) (Cert.MatchIdeal.Arrays.arg2 m c), ?_, ?_⟩
  · exact (θ_run Cert.MatchIdeal.defs _ _).mono (fun r h c => ⟨(h c).1.trans (Cert.MatchIdeal.Arrays.final_conf m c),
      (h c).2.1.trans (Cert.MatchIdeal.Arrays.final_count m c), (h c).2.2.1.trans (Cert.MatchIdeal.Arrays.final_acc m c),
      (h c).2.2.2⟩)
      (Cert.MatchIdeal.Value.run_blocks (F := Ideal) m ρ)
  · refine (θ_run Cert.MatchReferenceIdeal.defs _ _).mono (fun r h c => ?_) (Cert.MatchReferenceIdeal.Run.run m' ρ')
    have e0 : w_arg0 (launchContents m' c) = Cert.MatchIdeal.Arrays.arg0 m c := (hargs c).1
    have e1 : w_arg1 (launchContents m' c) = Cert.MatchIdeal.Arrays.arg1 m c := (hargs c).2.1
    have e2 : w_arg2 (launchContents m' c) = Cert.MatchIdeal.Arrays.arg2 m c := (hargs c).2.2
    refine ⟨(h c main_v172).trans ((reference_conf _).trans ?_), (h c main_v173).trans ((reference_count _).trans ?_),
      (h c main_v174).trans ((reference_loss _).trans ?_), (h c main_arg0).trans (keep_arg0 _),
      (h c main_arg1).trans (keep_arg1 _), (h c main_arg2).trans (keep_arg2 _)⟩
    · rw [e1, e2]
    · rw [e1, e2]
    · rw [e0, e1, e2]

end Cert.MatchClaim

end
-- ==== Proof.MineBody.lean ====
/- The mining kernel as a short program.

   The kernel's body is about two thousand pure statements around eight memory accesses.  The first result's value is
   decided by two of the loads alone; everything else only has to be known to be PURE.  So the body is shown here to be a
   program of six loads and two stores (`short`), whose first store's value is written out (`normalised`) and whose second
   store's value is some function of the values loaded (`body_short`).  The statements in between, the bisection's counted
   loop among them, issue nothing: each part returns a value, and so does their chain. -/
module

public import proofs.«01_k».proof.Proof.Gen.Mine
public import Idealize.ShloMosaic.Lib.Exec.Context

@[expose] public section

set_option maxRecDepth 16384

noncomputable section

namespace Cert.MineBody

open Cert.Mine Idealize.ShloMosaic Idealize.ShloMosaic.TcCoe Idealize.SL.Sem

variable {F : FTy → Type} [BitOps F]

/-- A program that issues nothing: it returns a value. -/
abbrev Pure {E : Type → Type} {α : Type} (p : Prog E α) : Prop := ∃ x, p = .ret x

/-- A program that issues nothing, and then one of a family of programs: the whole is of the family. -/
theorem seq_ex {E : Type → Type} {α β γ : Type} {p : Prog E α} {k : α → Prog E β} {T : γ → Prog E β}
    (hp : Pure p) (hk : ∀ x, ∃ r, k x = T r) : ∃ r, (p >>= k) = T r := by
  obtain ⟨x, rfl⟩ := hp
  exact hk x

/-- A counted loop whose region issues nothing issues nothing. -/
theorem loop_pure {E : Type → Type} {σ : Type} (l : Scf.Loop 32) (ok : l.OK) (init : σ)
    (body : Fin l.trips → σ → Prog E σ) (h : ∀ k acc, Pure (body k acc)) : Pure (Scf.Loop.for l ok init body) := by
  choose g hg using h
  exact ⟨Scf.fold g init, Scf.for_pure _ _ _ _ _ _ g hg⟩

/-- A value returned, and then one of a family of programs. -/
theorem ret_ex {E : Type → Type} {α β γ : Type} {p : Prog E α} {x : α} {k : α → Prog E β} {T : γ → Prog E β}
    (hp : p = .ret x) (hk : ∃ r, k x = T r) : ∃ r, (p >>= k) = T r := by
  subst hp
  exact hk

/-- The same where the value returned goes to the first of two bound together. -/
theorem ret_ret_ex {E : Type → Type} {α α' β γ : Type} {x : α} {q : α → Prog E α'} {k : α' → Prog E β}
    {T : γ → Prog E β} (hk : ∃ r, (q x >>= k) = T r) : ∃ r, ((Prog.ret x >>= q) >>= k) = T r := hk

/-- The same behind a program that issues nothing, the first two of three bound together. -/
theorem seq_seq_ex {E : Type → Type} {α α' β γ : Type} {p : Prog E α} {q : α → Prog E α'} {k : α' → Prog E β}
    {T : γ → Prog E β} (hp : Pure p) (hk : ∀ x, ∃ r, (q x >>= k) = T r) : ∃ r, ((p >>= q) >>= k) = T r := by
  obtain ⟨x, rfl⟩ := hp
  exact hk x

/-- Two accesses, and then one of a family of programs over the values they return. -/
theorem op_op_ex {E : Type → Type} {α α' β γ : Type} {p : Prog E β} {e : E α} {e' : E α'}
    {k : α → α' → Prog E β} {T : α → α' → γ → Prog E β} (hp : p = .op e fun a => .op e' (k a))
    (hk : ∀ a b, ∃ r, k a b = T a b r) : ∃ r : α → α' → γ, p = .op e fun a => .op e' fun b => T a b (r a b) := by
  choose r hr using hk
  exact ⟨r, by rw [hp]; congr; funext a; congr; funext b; exact hr a b⟩

/-- Such a program is pure when it is a return. -/
theorem pure_seq {E : Type → Type} {α β : Type} {p : Prog E α} {k : α → Prog E β}
    (hp : Pure p) (hk : ∀ x, Pure (k x)) : Pure (p >>= k) := by
  obtain ⟨x, rfl⟩ := hp
  exact hk x

/-- The first result: the box loss divided by the number of positives, which is the sum of the images' counts. -/
def normalised (pos : IVec S16x1 32) (ll : FVec F S1x1 .f32) : FVec F S1x1 .f32 :=
  divf ll (broadcast S1x1 (Scalar.sitofp .f32 (extractAt ![0, 0, 0]
    (shapeCast S1x1x1 (multiReductionI .add [1, 2] S1 (shapeCast S1x16x1 pos Facts₀.shapeCasts_S16x1_S1x16x1) 0#32
      Facts₀.reduces_S1x16x1_S1 rfl) Facts₀.shapeCasts_S1_S1x1x1) Facts₀.inpos_S1x1x1_p0_0_0)))

section

variable (arg0 : Memref sig .tc .vmem S16x1x24564 .f32) (harg0 : arg0.IsWhole)
    (arg1 : Memref sig .tc .vmem S16x1 .i32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)

/-- The kernel from its third load on: the first result stored, then the second, which is `r` of the loss loaded. -/
def ending (pos : IVec S16x1 32) (r : FVec F S1x1 .f32 → FVec F S1x1 .f32) :
    Prog (TpuEff nD τ sig (Elt F) Λ₀ .tc) PUnit := do
  let ll : Vec F S1x1 .f32 ← Prog.lift (.load arg2 (Rect.unit (s := S1x1) ![0, 0] S1x1.size Facts₀.inb_S1x1_S1x1_0_0).toLoadRect (View.loadsAt_vmem Facts₀.h_S1x1))
  let _old : Vec F S1x1 .f32 ← Prog.lift (.load arg4 (Rect.unit (s := S1x1) ![0, 0] S1x1.size Facts₀.inb_S1x1_S1x1_0_0).toLoadRect (View.loadsAt_vmem Facts₀.h_S1x1))
  Prog.lift (.store arg4 (Rect.unit (s := S1x1) ![0, 0] S1x1.size Facts₀.inb_S1x1_S1x1_0_0) (normalised pos ll) Finset.univ (View.stores_vmem_bits_univ Facts₀.h_S1x1 rfl) (.inl rfl))
  let s : Vec F S1x1 .f32 ← Prog.lift (.load arg3 (Rect.unit (s := S1x1) ![0, 0] S1x1.size Facts₀.inb_S1x1_S1x1_0_0).toLoadRect (View.loadsAt_vmem Facts₀.h_S1x1))
  let _old : Vec F S1x1 .f32 ← Prog.lift (.load arg5 (Rect.unit (s := S1x1) ![0, 0] S1x1.size Facts₀.inb_S1x1_S1x1_0_0).toLoadRect (View.loadsAt_vmem Facts₀.h_S1x1))
  Prog.lift (.store arg5 (Rect.unit (s := S1x1) ![0, 0] S1x1.size Facts₀.inb_S1x1_S1x1_0_0) (r s) Finset.univ (View.stores_vmem_bits_univ Facts₀.h_S1x1 rfl) (.inl rfl))
  pure ⟨⟩

/-- The whole kernel as a short program: `r` gives the second result from the values loaded. -/
def short (r : FVec F S16x1x24564 .f32 → IVec S16x1 32 → FVec F S1x1 .f32 → FVec F S1x1 .f32) :
    Prog (TpuEff nD τ sig (Elt F) Λ₀ .tc) PUnit := do
  let losses : Vec F S16x1x24564 .f32 ← Prog.lift (.load arg0 (Rect.unit (s := S16x1x24564) ![0, 0, 0] S16x1x24564.size Facts₀.inb_S16x1x24564_S16x1x24564_0_0_0).toLoadRect (View.loadsAt_vmem Facts₀.h_S16x1x24564))
  let pos : Vec F S16x1 .i32 ← Prog.lift (.load arg1 (Rect.unit (s := S16x1) ![0, 0] S16x1.size Facts₀.inb_S16x1_S16x1_0_0).toLoadRect (View.loadsAt_vmem Facts₀.h_S16x1))
  ending arg2 arg3 arg4 arg5 (shapeCast S16x1 pos Facts₀.shapeCasts_S16x1_S16x1) (r losses pos)

set_option maxHeartbeats 4000000 in
/-- The kernel is the short program, for some function giving the second result. -/
theorem body_short : ∃ r, cc0__mine_kernel (F := F) arg0 harg0 arg1 harg1 arg2 harg2 arg3 harg3 arg4 harg4 arg5 harg5 = short arg0 arg1 arg2 arg3 arg4 arg5 r := by
  have h := op_op_ex (p := cc0__mine_kernel (F := F) arg0 harg0 arg1 harg1 arg2 harg2 arg3 harg3 arg4 harg4 arg5 harg5)
      (T := fun losses pos r => ending arg2 arg3 arg4 arg5 (shapeCast S16x1 pos Facts₀.shapeCasts_S16x1_S16x1) r) (hp := rfl)
  refine h ?_
  intro losses pos
  refine ret_ret_ex ?_
  refine seq_seq_ex (loop_pure _ _ _ _ ?_) ?_
  · intro k acc
    refine pure_seq ⟨_, rfl⟩ ?_; rintro ⟨v1779, v1830, v1831⟩
    refine pure_seq ⟨_, rfl⟩ ?_; rintro ⟨v1890, v1891⟩
    refine pure_seq ⟨_, rfl⟩ ?_; rintro ⟨v1950, v1951⟩
    refine pure_seq ⟨_, rfl⟩ ?_; rintro ⟨v2010, v2011⟩
    refine pure_seq ⟨_, rfl⟩ ?_; rintro ⟨v2070, v2071⟩
    refine pure_seq ⟨_, rfl⟩ ?_; rintro ⟨v2130, v2131⟩
    refine pure_seq ⟨_, rfl⟩ ?_; rintro ⟨v2190, v2191⟩
    refine pure_seq ⟨_, rfl⟩ ?_; rintro ⟨v2250, v2251⟩
    refine pure_seq ⟨_, rfl⟩ ?_; rintro ⟨v2310, v2311⟩
    refine pure_seq ⟨_, rfl⟩ ?_; rintro ⟨v2370, v2371⟩
    refine pure_seq ⟨_, rfl⟩ ?_; rintro ⟨v2430, v2431⟩
    refine pure_seq ⟨_, rfl⟩ ?_; rintro ⟨v2490, v2491⟩
    refine pure_seq ⟨_, rfl⟩ ?_; rintro ⟨v2550, v2551⟩
    refine pure_seq ⟨_, rfl⟩ ?_; rintro ⟨v2610, v2611⟩
    refine pure_seq ⟨_, rfl⟩ ?_; rintro ⟨v2670, v2671⟩
    refine pure_seq ⟨_, rfl⟩ ?_; rintro ⟨v2730, v2731⟩
    exact ⟨_, rfl⟩
  intro v13
  refine ret_ex rfl ?_
  refine seq_ex ⟨_, rfl⟩ ?_; rintro ⟨v87, v92, v95⟩
  refine seq_ex ⟨_, rfl⟩ ?_; rintro ⟨v141, v146, v149⟩
  refine seq_ex ⟨_, rfl⟩ ?_; rintro ⟨v195, v200, v203⟩
  refine seq_ex ⟨_, rfl⟩ ?_; rintro ⟨v249, v254, v257⟩
  refine seq_ex ⟨_, rfl⟩ ?_; rintro ⟨v303, v308, v311⟩
  refine seq_ex ⟨_, rfl⟩ ?_; rintro ⟨v357, v362, v365⟩
  refine seq_ex ⟨_, rfl⟩ ?_; rintro ⟨v411, v416, v419⟩
  refine seq_ex ⟨_, rfl⟩ ?_; rintro ⟨v465, v470, v473⟩
  refine seq_ex ⟨_, rfl⟩ ?_; rintro ⟨v519, v524, v527⟩
  refine seq_ex ⟨_, rfl⟩ ?_; rintro ⟨v573, v578, v581⟩
  refine seq_ex ⟨_, rfl⟩ ?_; rintro ⟨v627, v632, v635⟩
  refine seq_ex ⟨_, rfl⟩ ?_; rintro ⟨v681, v686, v689⟩
  refine seq_ex ⟨_, rfl⟩ ?_; rintro ⟨v735, v740, v743⟩
  refine seq_ex ⟨_, rfl⟩ ?_; rintro ⟨v789, v794, v797⟩
  refine seq_ex ⟨_, rfl⟩ ?_; rintro ⟨v843, v848, v851⟩
  refine seq_ex ⟨_, rfl⟩ ?_; rintro ⟨v897, v902, v905⟩
  refine seq_ex ⟨_, rfl⟩ ?_; rintro ⟨v951, v956, v959⟩
  refine seq_ex ⟨_, rfl⟩ ?_; rintro ⟨v1005, v1010, v1013⟩
  refine seq_ex ⟨_, rfl⟩ ?_; rintro ⟨v1059, v1064, v1067⟩
  refine seq_ex ⟨_, rfl⟩ ?_; rintro ⟨v1113, v1118, v1121⟩
  refine seq_ex ⟨_, rfl⟩ ?_; rintro ⟨v1167, v1172, v1175⟩
  refine seq_ex ⟨_, rfl⟩ ?_; rintro ⟨v1221, v1226, v1229⟩
  refine seq_ex ⟨_, rfl⟩ ?_; rintro ⟨v1275, v1280, v1283⟩
  refine seq_ex ⟨_, rfl⟩ ?_; rintro ⟨v1329, v1334, v1337⟩
  refine seq_ex ⟨_, rfl⟩ ?_; rintro ⟨v1383, v1388, v1391⟩
  refine seq_ex ⟨_, rfl⟩ ?_; rintro ⟨v1437, v1442, v1445⟩
  refine seq_ex ⟨_, rfl⟩ ?_; rintro ⟨v1491, v1496, v1499⟩
  refine seq_ex ⟨_, rfl⟩ ?_; rintro ⟨v1545, v1550, v1553⟩
  refine seq_ex ⟨_, rfl⟩ ?_; rintro ⟨v1599, v1604, v1607⟩
  refine seq_ex ⟨_, rfl⟩ ?_; rintro ⟨v1653, v1658, v1661⟩
  refine seq_ex ⟨_, rfl⟩ ?_; rintro ⟨v1707, v1712, v1715⟩
  exact ⟨_, rfl⟩

end

end Cert.MineBody

end
-- ==== Proof.MineFrame.lean ====
/- The mining call's run: its launch, and what its two result arrays are left at.

   The call has one grid point, and every window's block is its whole array.  Its body is the short program of
   MineBody.lean: the arguments' buffers are left as they were, the first result's holds `normalised` of the counts and the
   box loss, and the second's holds some function of the buffers loaded.  Before the call, the host lays two of the arguments
   out anew. -/
module

public import proofs.«01_k».proof.Proof.MineBody
public import proofs.«01_k».proof.Proof.Gen.Mine.Launch
public import proofs.«01_k».proof.Proof.Gen.Mine.Points
public import Idealize.ShloMosaic.Lib.Pipeline.FrameBody
public import Idealize.ShloMosaic.Lib.Pipeline.Value
public import Idealize.ShloMosaic.Lib.Claim
public import Idealize.ShloMosaic.Lib.Tactic

@[expose] public section

set_option maxRecDepth 16384

noncomputable section

namespace Cert.MineFrame

open Cert.Mine Cert.Mine.Gen Cert.MineBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## Before the call -/

/-- A core's buffers when the call is entered: those launched, after the host's two reshapes. -/
abbrev entry (c : Dev nD) (b : Ref sig .tc) : Buf (Elt F) ((c : Thread nD τ).loc b) :=
  StableHlo.after hostOps0 (fun b => m (c, b)) b

/-- The two reshapes take no fresh buffer. -/
theorem no_fresh : (hostOps0 : List (HloOp τ sig (Elt F))).Forall fun op => op.fresh = ∅ := ⟨rfl, rfl⟩

set_option maxHeartbeats 800000 in
/-- The program up to the call is the two reshapes. -/
theorem upto_call (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub no_fresh main_chain

/-- A buffer neither reshape writes is found as launched. -/
theorem entry_keeps (c : Dev nD) (r : Ref sig .tc) (h0 : r ≠ main_v0) (h1 : r ≠ main_v1) :
    entry m c r = m ((c : Thread nD τ).loc r) := by
  refine StableHlo.after_of_writes_sub (W := [main_v0, main_v1]) _ _ ⟨?_, ?_⟩ ?_
  · intro x hx; simpa using Or.inl (Finset.mem_singleton.mp hx)
  · intro x hx; simpa using Or.inr (Finset.mem_singleton.mp hx)
  · simp [h0, h1]

/-- The counts are found as a column. -/
theorem entry_counts (c : Dev nD) :
    entry m c main_v1 = shapeCast S16x1 (m ((c : Thread nD τ).loc main_arg1) : IVec S16x1x1 32) Facts₀.shapeCasts_S16x1x1_S16x1 := by
  show StableHlo.after hostOps0 _ (Proc.devRef .tc main_v1) = _
  rw [StableHlo.after_cons, StableHlo.after_cons, StableHlo.after_nil, StableHlo.reshape_result]
  rw [StableHlo.reshape_result_ne _ _ _ _ _ _ _ (by decide)]
  rfl

/-! ## The body's triple -/

/-- A window's block, read off its array as the call finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The whole of the losses, of the counts and of a one-element array, as rectangles. -/
abbrev allLosses : Rect S16x1x24564 := Rect.unit (s := S16x1x24564) ![0, 0, 0] S16x1x24564.size Facts₀.inb_S16x1x24564_S16x1x24564_0_0_0
abbrev allCounts : Rect S16x1 := Rect.unit (s := S16x1) ![0, 0] S16x1.size Facts₀.inb_S16x1_S16x1_0_0
abbrev allOne : Rect S1x1 := Rect.unit (s := S1x1) ![0, 0] S1x1.size Facts₀.inb_S1x1_S1x1_0_0

/-- What the first result's buffer holds after the body, of the counts and the box loss. -/
def first (x1 : Vec F S16x1 .i32) (x2 : Vec F S1x1 .f32) : Vec F S1x1 .f32 :=
  View.canon [⟨allOne, normalised (shapeCast S16x1 (View.ld x1 allCounts) Facts₀.shapeCasts_S16x1_S16x1) (View.ld x2 allOne)⟩]

/-- What the second's holds, of the losses, the counts and the class loss, `r` giving the value stored. -/
def second (r : FVec F S16x1x24564 .f32 → IVec S16x1 32 → FVec F S1x1 .f32 → FVec F S1x1 .f32)
    (x0 : Vec F S16x1x24564 .f32) (x1 : Vec F S16x1 .i32) (x3 : Vec F S1x1 .f32) : Vec F S1x1 .f32 :=
  View.canon [⟨allOne, r (View.ld x0 allLosses) (View.ld x1 allCounts) (View.ld x3 allOne)⟩]

/-- One store through the whole of a one-element buffer covers it. -/
theorem one_covers (p : Vec F S1x1 .f32) (y : S1x1.Idx) :
    ∃ pc ∈ ([⟨allOne, p⟩] : List (View.Piece (Elt F) S1x1 .f32)), y ∈ pc.1.set :=
  View.cover_of_tiled [⟨allOne, p⟩] S1x1.size (by rfl) y

set_option maxHeartbeats 1000000 in
/-- The short program on whole buffers: the arguments' are left as they were, the two results' at `first` and `second`. -/
theorem short_triple (c : Dev nD) (E : Set ℕ)
    (arg0 : Memref sig .tc .vmem S16x1x24564 .f32)
    (arg1 : Memref sig .tc .vmem S16x1 .i32)
    (arg2 : Memref sig .tc .vmem S1x1 .f32)
    (arg3 : Memref sig .tc .vmem S1x1 .f32)
    (arg4 : Memref sig .tc .vmem S1x1 .f32)
    (arg5 : Memref sig .tc .vmem S1x1 .f32)
    (r : FVec F S16x1x24564 .f32 → IVec S16x1 32 → FVec F S1x1 .f32 → FVec F S1x1 .f32)
    (x0 : Vec F S16x1x24564 .f32) (x1 : Vec F S16x1 .i32) (x2 : Vec F S1x1 .f32) (x3 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (first x1 x2) ∗ owns (c : Thread nD τ) arg5 fullShare (second r x0 x1 x3)) -∗ K ⟨⟩))
      ⊢ wp frame (wpE (defs₀ (F := F)) Variants.none c none) E (short arg0 arg1 arg2 arg3 arg4 arg5 r) K := by
  unfold short ending owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (one_covers _)
  iexists _; isplitr
  swap; · iexact H5
  ipureintro
  exact View.read_writes_eq_canon _ _ _ (one_covers _)

/-! ## What the pipeline is told -/

/-- The function giving the second result's value, at a point's buffers. -/
def second_of (t : Fin cfg0.N) : FVec F S16x1x24564 .f32 → IVec S16x1 32 → FVec F S1x1 .f32 → FVec F S1x1 .f32 :=
  (body_short (F := F) (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0)).choose

/-- The body called at a point is the short program. -/
theorem called (t : Fin cfg0.N) : bodyAt0 (F := F) t = short (st0_0 t) (st0_1 t) (st0_2 t) (st0_3 t) (st0_4 t) (st0_5 t) (second_of t) :=
  (body_short (F := F) (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0)).choose_spec

/-- Each window's array as the call finds it; each argument's buffer at its block after the body, the results' at `first` and
    `second` of the blocks; nothing owed, whole shares. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => first (block m c 1 t) (block m c 2 t)
    | ⟨5, _⟩ => second (second_of t) (block m c 0 t) (block m c 1 t) (block m c 3 t)
  Φ _ := Pipeline.ΦA spec0 c
  q _ := fullShare
  owed _ := 0

theorem arrays (c : Dev nD) (w : Fin cfg0.W) : (dats m 0 c).A w = entry m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = first (block m c 1 t) (block m c 2 t) := by dsimp only [dats]
theorem after_5 (c : Dev nD) (t : Fin cfg0.N) : (dats m 0 c).after 5 t = second (second_of t) (block m c 0 t) (block m c 1 t) (block m c 3 t) := by dsimp only [dats]

/-- Argument window 0's buffer holds its block when the body is called. -/
theorem before_0 (c : Dev nD) (t : Fin cfg0.N) (d) : (dats m 0 c).before 0 t d = block m c 0 t :=
  ((dats m 0 c).before_in_eq_fetched 0 rfl (fun _ => rfl) (fun _ _ _ => rfl)
    (fun t => by rw [after_0]; unfold Dat.blockOf block; rw [arrays]) t d).trans
    (by unfold Dat.fetched Dat.blockOf block; rw [arrays]; try rfl)

/-- Argument window 1's buffer holds its block when the body is called. -/
theorem before_1 (c : Dev nD) (t : Fin cfg0.N) (d) : (dats m 0 c).before 1 t d = block m c 1 t :=
  ((dats m 0 c).before_in_eq_fetched 1 rfl (fun _ => rfl) (fun _ _ _ => rfl)
    (fun t => by rw [after_1]; unfold Dat.blockOf block; rw [arrays]) t d).trans
    (by unfold Dat.fetched Dat.blockOf block; rw [arrays]; try rfl)

/-- Argument window 2's buffer holds its block when the body is called. -/
theorem before_2 (c : Dev nD) (t : Fin cfg0.N) (d) : (dats m 0 c).before 2 t d = block m c 2 t :=
  ((dats m 0 c).before_in_eq_fetched 2 rfl (fun _ => rfl) (fun _ _ _ => rfl)
    (fun t => by rw [after_2]; unfold Dat.blockOf block; rw [arrays]) t d).trans
    (by unfold Dat.fetched Dat.blockOf block; rw [arrays]; try rfl)

/-- Argument window 3's buffer holds its block when the body is called. -/
theorem before_3 (c : Dev nD) (t : Fin cfg0.N) (d) : (dats m 0 c).before 3 t d = block m c 3 t :=
  ((dats m 0 c).before_in_eq_fetched 3 rfl (fun _ => rfl) (fun _ _ _ => rfl)
    (fun t => by rw [after_3]; unfold Dat.blockOf block; rw [arrays]) t d).trans
    (by unfold Dat.fetched Dat.blockOf block; rw [arrays]; try rfl)

/-! ## The body at the point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point goes from the one to the other. -/
theorem body_triple (c : Dev nD) (t : Fin cfg0.N) :
    pre m c t ⊢ wp frame (wpE (defs₀ (F := F)) Variants.none c none) Set.univ (bodyAt0 t) (fun _ => post m c t) := by
  rw [called]
  unfold pre post
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (short_triple c Set.univ _ _ _ _ _ _ _ (block m c 0 t) (block m c 1 t) (block m c 2 t) (block m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table's row at a point's buffers is the body called there. -/
theorem row (t : Fin cfg0.N) : defs₀ (F := F) .tc cfg0.body (cfg0.bodyArgs t (cfg0.slots t)) = bodyAt0 t := by
  unfold defs₀; rw [Defs.onTc_tc]

/-- What the pipeline asks of the body. -/
theorem obligation (c : Dev nD) : BodyObligation (dats (F := F) m 0 c) (defs₀ (F := F)) Variants.none () Set.univ := fun t => by
  rw [bigSep_W0, bigSep_W0, row]
  exact triple_restated (body_triple m c t) rfl .rfl fun _ => .rfl

/-! ## The run -/

set_option backward.isDefEq.respectTransparency.types false in
set_option maxHeartbeats 800000 in
/-- The launch ends, every array of the call as told, every other buffer as found, every counter at zero. -/
theorem launched : θ_run defs (onTc (τ := τ) (main (F := F))) (s₀ m ρ) (fun r => (Pipeline.FramePost cfgs (dats m) 0 (entry m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := entry m) (hmain := upto_call m Variants.none) (hA := arrays m) (hΦ := fun _ _ => rfl)

/-! ## The first result's array -/

theorem zeros : (![0, 0] : Fin 2 → Nat) = fun _ => 0 := funext fun a => by fin_cases a <;> rfl

theorem index_1 : ∀ t : Fin cfg0.N, win0_1.index t (0 : Fin 2) = 0 ∧ win0_1.index t (1 : Fin 2) = 0 :=
  (by decide +kernel : ∀ t : Fin grid0.N, _)

/-- An index of window 1's block is the same index of its array. -/
theorem place_1 (t : Fin cfg0.N) (j : S16x1.Idx) : ((cfg0.win 1).blk t).view.emb j = j := by
  obtain ⟨e0, e1⟩ := index_1 t
  funext a; apply Fin.ext
  match a with
  | ⟨0, _⟩ => show win0_1.index t (0 : Fin 2) * 16 + 1 * (j 0).val = (j 0).val; omega
  | ⟨1, _⟩ => show win0_1.index t (1 : Fin 2) * 1 + 1 * (j 1).val = (j 1).val; omega

theorem index_2 : ∀ t : Fin cfg0.N, win0_2.index t (0 : Fin 2) = 0 ∧ win0_2.index t (1 : Fin 2) = 0 :=
  (by decide +kernel : ∀ t : Fin grid0.N, _)

/-- An index of window 2's block is the same index of its array. -/
theorem place_2 (t : Fin cfg0.N) (j : S1x1.Idx) : ((cfg0.win 2).blk t).view.emb j = j := by
  obtain ⟨e0, e1⟩ := index_2 t
  funext a; apply Fin.ext
  match a with
  | ⟨0, _⟩ => show win0_2.index t (0 : Fin 2) * 1 + 1 * (j 0).val = (j 0).val; omega
  | ⟨1, _⟩ => show win0_2.index t (1 : Fin 2) * 1 + 1 * (j 1).val = (j 1).val; omega

theorem index_4 : ∀ t : Fin cfg0.N, win0_4.index t (0 : Fin 2) = 0 ∧ win0_4.index t (1 : Fin 2) = 0 :=
  (by decide +kernel : ∀ t : Fin grid0.N, _)

/-- An index of window 4's block is the same index of its array. -/
theorem place_4 (t : Fin cfg0.N) (j : S1x1.Idx) : ((cfg0.win 4).blk t).view.emb j = j := by
  obtain ⟨e0, e1⟩ := index_4 t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega

/-- The counts' block is the counts, -/
theorem counts_block (c : Dev nD) (t : Fin cfg0.N) : block m c 1 t = entry m c main_v1 := by
  funext j; show entry m c main_v1 (((cfg0.win 1).blk t).view.emb j) = entry m c main_v1 j; rw [place_1]

/-- and the box loss's is the box loss. -/
theorem loss_block (c : Dev nD) (t : Fin cfg0.N) : block m c 2 t = entry m c main_arg2 := by
  funext j; show entry m c main_arg2 (((cfg0.win 2).blk t).view.emb j) = entry m c main_arg2 j; rw [place_2]

/-- Whole loads read the buffers and a whole store leaves what it stores. -/
theorem first_eq (x1 : Vec F S16x1 .i32) (x2 : Vec F S1x1 .f32) :
    first x1 x2 = normalised (shapeCast S16x1 x1 Facts₀.shapeCasts_S16x1_S16x1) x2 := by
  unfold first
  rw [View.canon_unit_zero zeros, View.ld_unit_zero (S := S16x1) zeros _ x1, View.ld_unit_zero (S := S1x1) zeros _ x2]

/-- The first result, of the arguments. -/
def value (c : Dev nD) : FVec F S1x1 .f32 :=
  normalised (shapeCast S16x1 (entry m c main_v1 : IVec S16x1 32) Facts₀.shapeCasts_S16x1_S16x1) (entry m c main_arg2)

/-- What the point writes back is that. -/
theorem written (c : Dev nD) (t : Fin cfg0.N) :
    (dats m 0 c).flushed 4 t = ((cfg0.win 4).blk t).view.read (Elt F) (value m c) := by
  show (cfg0.win 4).cut (grid0.coords t) ((dats m 0 c).after 4 t) = _
  rw [after_4, first_eq, counts_block, loss_block]
  funext j
  show value m c j = value m c (((cfg0.win 4).blk t).view.emb j)
  rw [place_4]

/-- Its block is the whole array. -/
theorem everywhere (i : S1x1.Idx) : ∃ t : Fin cfg0.N, (cfg0.win 4).flush t = true ∧ i ∈ ((cfg0.win 4).blk t).view.set :=
  ⟨⟨0, by decide⟩, flush0_4 _, by have h := ((cfg0.win 4).blk (⟨0, by decide⟩ : Fin cfg0.N)).view.emb_mem_set i; rwa [place_4] at h⟩

/-- So the array after the run is the first result. -/
theorem final (c : Dev nD) : (dats m 0 c).arrAt 4 cfg0.N = value m c :=
  (dats m 0 c).arrAt_eq_of_cover 4 (value m c) (fun t _ => written m c t) everywhere

/-! ## The two statements the claims take -/

/-- After the run the first result's array is `value` and the arguments are as launched. -/
theorem run : θ_run defs (onTc (τ := τ) (main (F := F))) ⟨m, fun _ => 0, ρ⟩ fun r => ∀ c : Dev nD,
      r.2.mem ((c.tc : Thread nD τ).loc main_v2_0) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final m c),
      ((h.1 c).2 main_arg0 (Pipeline.mem_restRefs_of main_arg0 (by decide) (by decide))).trans (entry_keeps m c _ (by decide) (by decide)),
      ((h.1 c).2 main_arg1 (Pipeline.mem_restRefs_of main_arg1 (by decide) (by decide))).trans (entry_keeps m c _ (by decide) (by decide)),
      ((h.1 c).1 2).trans (((dats m 0 c).arrAt_in 2 rfl _).trans ((arrays m c 2).trans (entry_keeps m c main_arg2 (by decide) (by decide)))),
      ((h.1 c).1 3).trans (((dats m 0 c).arrAt_in 3 rfl _).trans ((arrays m c 3).trans (entry_keeps m c main_arg3 (by decide) (by decide))))⟩)
    (launched m ρ)

/-- The run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun r h c => (h c).2) (run m ρ))
    ((θ_run defs _ _).mono (fun _ h => h.2) (launched m ρ))

end Cert.MineFrame

end
-- ==== Proof.MineClaim.lean ====
/- The mining call's claims: that its first result and its reference's are the same bits, from any arguments.

   Both divide the box loss by the number of positives, and both take that number as the sum of the images' counts; the call
   sums the counts laid out in a column, the reference as they are given.  A sum of integers over all places does not depend on
   the layout. -/
module

public import proofs.«01_k».proof.Defs
public import proofs.«01_k».proof.Proof.MineFrame
public import proofs.«01_k».proof.Proof.Gen.MineReference.Value
public import Idealize.ShloMosaic.PureOps.Reduce

@[expose] public section

set_option maxRecDepth 16384

noncomputable section

namespace Cert.MineClaim

open Idealize.ShloMosaic Idealize.ShloMosaic.TcCoe Idealize.SL.Sem

/-- An array of shape `s` summed over every axis, at the one place left, is the fold of addition over all its places. -/
theorem total {s : Shape} (axes : List (Fin s.rank)) (x : IVec s 32) (h : s.Reduces axes Cert.Mine.S1) (hacc : (0#32 : BitVec 32) = IKind.add.neutral)
    (j : Cert.Mine.S1.Idx) : multiReductionI .add axes Cert.Mine.S1 x 0#32 h hacc j = Finset.univ.fold IKind.add.op 0#32 x := by
  rw [multiReductionI_eq_fold]
  congr 1
  refine Finset.filter_true_of_mem fun i _ => ?_
  funext a
  apply Fin.ext
  have h1 := (h.drop i a).isLt
  have h2 := (j a).isLt
  fin_cases a
  change _ < 1 at h1
  change _ < 1 at h2
  omega

/-- The fold over an array laid out anew is the fold over the array. -/
theorem relaid {s s' : Shape} (x : IVec s 32) (h : s.ShapeCasts s') :
    Finset.univ.fold IKind.add.op 0#32 (shapeCast s' x h) = Finset.univ.fold IKind.add.op 0#32 x := by
  rw [← Finset.map_univ_equiv (Shape.reshapeEquiv h), Finset.fold_map]
  rfl

/-- The two numbers of positives are one. -/
theorem same_count (x : IVec Cert.Mine.S16x1x1 32) (ll : FVec Bits Cert.Mine.S1x1 .f32) :
    Cert.MineBody.normalised (shapeCast Cert.Mine.S16x1 (shapeCast Cert.Mine.S16x1 x Cert.Mine.Facts₀.shapeCasts_S16x1x1_S16x1) Cert.Mine.Facts₀.shapeCasts_S16x1_S16x1) ll
      = Cert.MineReference.Value.G2 (F := Bits) x ll := by
  unfold Cert.MineBody.normalised Cert.MineReference.Value.G2 Cert.MineReference.Gen.k0_pay1
  refine congrArg (fun n => divf ll (broadcast Cert.Mine.S1x1 (Scalar.sitofp .f32 n))) ?_
  refine (total _ _ _ rfl _).trans ?_
  refine Eq.trans ?_ (total _ _ _ rfl _).symm
  rw [relaid, relaid, relaid]
  exact (relaid _ _).symm

/-- From arguments that agree, the call and its reference end with the same first result, the arguments as launched. -/
theorem equal : Cert.bitexact_Mine_MineReference := by
  intro m g m' g' _ hargs
  refine ⟨fun c => Cert.MineFrame.value m c, Cert.MineFrame.run m g, ?_⟩
  refine (θ_run _ _ _).mono (fun r h c => ⟨((h c).1).trans ?_, (h c).2⟩) (Cert.MineReference.Value.run m' g')
  obtain ⟨_, e1, e2, _⟩ := hargs c
  rw [e1, e2]
  show _ = Cert.MineFrame.value m c
  unfold Cert.MineFrame.value
  rw [Cert.MineFrame.entry_counts, Cert.MineFrame.entry_keeps m c _ (by decide) (by decide)]
  exact (same_count _ _).symm

end Cert.MineClaim

end
-- ==== Proof.ValuesSteps.lean ====
/- A float's bits read and written by arithmetic: the steps, on arrays of any shape.

   `keys` gives each float's word: the exponent is found by halving or doubling the value in steps of powers of two, and
   what is left of the significand is the fraction.  `value` goes the other way. -/
module

public import Idealize.ShloMosaic.PureOps

@[expose] public section

noncomputable section

namespace Cert.ValuesSteps

open Idealize.ShloMosaic

variable {F : FTy → Type} [FloatOps F]

/-! ### The word of a float, by halving steps -/

section
variable {s : Shape}

/-- One step down on a large value: at `hi` or above it is multiplied by `lo` and the exponent grows by `d`. -/
def shrink (hi lo d : BitVec 32) (p : FVec F s .f32 × IVec s 32) : FVec F s .f32 × IVec s 32 :=
  (select (cmpf .oge p.1 (broadcast s (Scalar.ofBits .f32 hi))) (mulf p.1 (broadcast s (Scalar.ofBits .f32 lo))) p.1,
   select (cmpf .oge p.1 (broadcast s (Scalar.ofBits .f32 hi))) (addi p.2 (broadcast s d)) p.2)

/-- One step up on a small value: below `lo` it is multiplied by `hi` and the exponent falls by `d`. -/
def grow (lo hi d : BitVec 32) (p : FVec F s .f32 × IVec s 32) : FVec F s .f32 × IVec s 32 :=
  (select (cmpf .olt p.1 (broadcast s (Scalar.ofBits .f32 lo))) (mulf p.1 (broadcast s (Scalar.ofBits .f32 hi))) p.1,
   select (cmpf .olt p.1 (broadcast s (Scalar.ofBits .f32 lo))) (subi p.2 (broadcast s d)) p.2)

/-- The first four steps on large values. -/
def shrunk4 (x : FVec F s .f32) : FVec F s .f32 × IVec s 32 :=
  shrink 0x43800000#32 0x3B800000#32 8#32 (shrink 0x47800000#32 0x37800000#32 16#32
    (shrink 0x4F800000#32 0x2F800000#32 32#32 (shrink 0x5F800000#32 0x1F800000#32 64#32 (x, broadcast s 127#32))))

/-- All seven steps on large values, and the first three on small ones. -/
def shrunk (p : FVec F s .f32 × IVec s 32) : FVec F s .f32 × IVec s 32 :=
  grow 0x38000000#32 0x47800000#32 16#32 (grow 0x30000000#32 0x4F800000#32 32#32 (grow 0x20000000#32 0x5F800000#32 64#32
    (shrink 0x40000000#32 0x3F000000#32 1#32 (shrink 0x40800000#32 0x3E800000#32 2#32
      (shrink 0x41800000#32 0x3D800000#32 4#32 p)))))

/-- The last four steps on small values. -/
def grown (p : FVec F s .f32 × IVec s 32) : FVec F s .f32 × IVec s 32 :=
  grow 0x3F800000#32 0x40000000#32 1#32 (grow 0x3F000000#32 0x40800000#32 2#32
    (grow 0x3E000000#32 0x41800000#32 4#32 (grow 0x3C000000#32 0x43800000#32 8#32 p)))

/-- Exponent and fraction as one word. -/
def packed (p : FVec F s .f32 × IVec s 32) : IVec s 32 :=
  addi (muli p.2 (broadcast s 8388608#32)) (fptosi 32 (mulf (subf p.1 (broadcast s (Scalar.ofBits .f32 0x3F800000#32))) (broadcast s (Scalar.ofBits .f32 0x4B000000#32))))

/-- The word of each float: zero below the least normal value. -/
def keys (x : FVec F s .f32) : IVec s 32 :=
  select (cmpf .olt x (broadcast s (Scalar.ofBits .f32 0x00800000#32))) (broadcast s 0#32) (packed (grown (shrunk (shrunk4 x))))

/-! ### The value of a word, by doubling and halving steps -/

/-- At exponent `e` or above the value is multiplied by `m` and the exponent falls by `d`. -/
def enlarge (e m d : BitVec 32) (p : FVec F s .f32 × IVec s 32) : FVec F s .f32 × IVec s 32 :=
  (select (cmpi .sge p.2 (broadcast s e)) (mulf p.1 (broadcast s (Scalar.ofBits .f32 m))) p.1,
   select (cmpi .sge p.2 (broadcast s e)) (subi p.2 (broadcast s d)) p.2)

/-- At exponent `e` or below the value is multiplied by `m` and the exponent grows by `d`. -/
def lessen (e m d : BitVec 32) (p : FVec F s .f32 × IVec s 32) : FVec F s .f32 × IVec s 32 :=
  (select (cmpi .sle p.2 (broadcast s e)) (mulf p.1 (broadcast s (Scalar.ofBits .f32 m))) p.1,
   select (cmpi .sle p.2 (broadcast s e)) (addi p.2 (broadcast s d)) p.2)

/-- The significand of a word, between one and two, and its exponent. -/
def unpacked (t : IVec s 32) : FVec F s .f32 × IVec s 32 :=
  (mulf (sitofp .f32 (addi (subi t (muli (shrsi t (broadcast s 23#32)) (broadcast s 8388608#32))) (broadcast s 8388608#32))) (broadcast s (Scalar.ofBits .f32 0x34000000#32)),
   shrsi t (broadcast s 23#32))

/-- The first enlarging step. -/
def enlarged1 (t : IVec s 32) : FVec F s .f32 × IVec s 32 := enlarge 191#32 0x5F800000#32 64#32 (unpacked t)

/-- The other six enlarging steps. -/
def enlarged (p : FVec F s .f32 × IVec s 32) : FVec F s .f32 × IVec s 32 :=
  enlarge 128#32 0x40000000#32 1#32 (enlarge 129#32 0x40800000#32 2#32 (enlarge 131#32 0x41800000#32 4#32
    (enlarge 135#32 0x43800000#32 8#32 (enlarge 143#32 0x47800000#32 16#32 (enlarge 159#32 0x4F800000#32 32#32 p)))))

/-- The first five lessening steps. -/
def lessened5 (p : FVec F s .f32 × IVec s 32) : FVec F s .f32 × IVec s 32 :=
  lessen 123#32 0x3D800000#32 4#32 (lessen 119#32 0x3B800000#32 8#32 (lessen 111#32 0x37800000#32 16#32
    (lessen 95#32 0x2F800000#32 32#32 (lessen 63#32 0x1F800000#32 64#32 p))))

/-- The last two lessening steps. -/
def lessened (p : FVec F s .f32 × IVec s 32) : FVec F s .f32 × IVec s 32 :=
  lessen 126#32 0x3F000000#32 1#32 (lessen 125#32 0x3E800000#32 2#32 p)

/-- The value of each word: zero below the word of the least normal value. -/
def value (t : IVec s 32) : FVec F s .f32 :=
  select (cmpi .slt t (broadcast s 8388608#32)) (broadcast s (Scalar.ofBits .f32 0x00000000#32)) (lessened (lessened5 (enlarged (enlarged1 t)))).1

end

end Cert.ValuesSteps

end
-- ==== Proof.ValuesDefs.lean ====
/- The mining kernel with its reading of the floats' bits written as arithmetic: the short program `short` that its body
   is, and the values it names.

   The word of each loss (`keys`), the counts over the chunks of 128 lanes (`counts`), the sums over them (`sums`), the
   thirty-one steps of the bisection (`threshold`), and the two stored values. -/
module

public import proofs.«01_k».proof.Proof.Gen.MineValuesIdeal
public import proofs.«01_k».proof.Proof.ValuesSteps
public import Idealize.ShloMosaic.Lib.Exec.Context

@[expose] public section

set_option maxRecDepth 16384

noncomputable section

namespace Cert.ValuesBody

open Cert.MineValuesIdeal Cert.ValuesSteps Idealize.ShloMosaic Idealize.ShloMosaic.TcCoe Idealize.SL.Sem

variable {F : FTy → Type} [FloatOps F]

/-- A program that returns a value, and then the rest. -/
theorem seq {E : Type → Type} {α β : Type} {p : Prog E α} {x : α} {k : α → Prog E β} {t : Prog E β}
    (hp : p = .ret x) (hk : k x = t) : (p >>= k) = t := by
  subst hp
  exact hk

/-- A program of one access, and then the rest. -/
theorem access {E : Type → Type} {α α' β : Type} {p : Prog E α} {e : E α'} {f : α' → α} {k : α → Prog E β}
    {T : α' → Prog E β} (hp : p = .op e fun a => .ret (f a)) (hk : ∀ a, k (f a) = T a) : (p >>= k) = .op e T := by
  subst hp
  show Prog.op e (fun a => k (f a)) = _
  rw [show T = fun a => k (f a) from funext fun a => (hk a).symm]

/-! ### Counts and sums over the chunks -/

/-- A chunk of 128 lanes lies within the padded row. -/
theorem slices (n : Nat) (h : n < 192) : S16x24576.Slices ![0, 128 * n] S16x128 := by
  refine ⟨rfl, fun a => ?_⟩
  match a with
  | ⟨0, _⟩ => show 0 + 16 ≤ 16; omega
  | ⟨1, _⟩ => show 128 * n + 128 ≤ 24576; omega

/-- The chunk at `n`. -/
def chunk {α : Type} (x : S16x24576.Idx → α) (n : Nat) (h : n < 192) : S16x128.Idx → α :=
  extractStridedSlice S16x128 ![0, 128 * n] x (slices n h)

/-- Where the words of the chunk at `n` compare with the threshold as `p` says. -/
def marks (p : CmpIPredicate) (K : IVec S16x24576 32) (T : IVec S16x1 32) (n : Nat) (h : n < 192) : IVec S16x128 1 :=
  cmpi p (chunk K n h) (broadcastTo S16x128 T Facts₀.broadcasts_S16x1_S16x128)

/-- The marks of the first `n` chunks, counted lane by lane. -/
def counts (p : CmpIPredicate) (K : IVec S16x24576 32) (T : IVec S16x1 32) : (n : Nat) → n ≤ 192 → IVec S16x128 32
  | 0, _ => broadcast S16x128 0#32
  | n + 1, h => addi (counts p K T n (Nat.le_of_succ_le h)) (extui 32 (marks p K T n h) Facts₀.natLt_1_32)

/-- The losses marked in the first `n` chunks, summed lane by lane. -/
def sums (x : FVec F S16x24576 .f32) (K : IVec S16x24576 32) (T : IVec S16x1 32) : (n : Nat) → n ≤ 192 → FVec F S16x128 .f32
  | 0, _ => broadcast S16x128 (Scalar.ofBits .f32 0x00000000#32)
  | n + 1, h => addf (sums x K T n (Nat.le_of_succ_le h))
      (select (marks .sgt K T n h) (chunk x n h) (broadcast S16x128 (Scalar.ofBits .f32 0x00000000#32)))

/-- How many words of each row compare with the row's threshold as `p` says. -/
def count (p : CmpIPredicate) (K : IVec S16x24576 32) (T : IVec S16x1 32) : IVec S16x1 32 :=
  shapeCast S16x1 (multiReductionI .add [1] S16 (counts p K T 192 (le_refl _)) 0#32 Facts₀.reduces_S16x128_S16 rfl) Facts₀.shapeCasts_S16_S16x1

/-- The sum of each row's losses whose words lie above the row's threshold. -/
def sumAbove (x : FVec F S16x24576 .f32) (K : IVec S16x24576 32) (T : IVec S16x1 32) : FVec F S16x1 .f32 :=
  shapeCast S16x1 (multiReduction .add [1] S16 (sums x K T 192 (le_refl _)) 0x00000000#32 Facts₀.reduces_S16x128_S16 (.inl rfl) rfl) Facts₀.shapeCasts_S16_S16x1

/-- The threshold tried at a step of the bisection: the step's bit added. -/
def tried (k : Fin k0_t1_loop.trips) (acc : IVec S16x1 32) : IVec S16x1 32 :=
  addi acc (broadcast S16x1 (Scalar.shli 1#32 (Scalar.subi 30#32 (Scf.iv 0#32 1#32 k))))

/-- One step of the bisection: the bit stays where enough words lie at or above the threshold tried. -/
def bisect (K : IVec S16x24576 32) (want : IVec S16x1 32) (k : Fin k0_t1_loop.trips) (acc : IVec S16x1 32) : IVec S16x1 32 :=
  select (cmpi .sge (count .sge K (tried k acc)) want) (tried k acc) acc

/-- The threshold of each row. -/
def threshold (K : IVec S16x24576 32) (want : IVec S16x1 32) : IVec S16x1 32 :=
  Scf.fold (bisect K want) (broadcast S16x1 0#32)

/-- How many negatives each image keeps. -/
def wanted (pos : IVec S16x1 32) : IVec S16x1 32 := minsi (muli (broadcast S16x1 3#32) pos) (broadcast S16x1 24563#32)

/-- The losses of each row, padded with zeros to whole chunks. -/
def padded (losses : FVec F S16x1x24564 .f32) : FVec F S16x24576 .f32 :=
  concatenate S16x24576 1 [⟨S16x24564, shapeCast S16x24564 losses Facts₀.shapeCasts_S16x1x24564_S16x24564⟩, ⟨S16x12, broadcast S16x12 (Scalar.ofBits .f32 0x00000000#32)⟩] Facts₀.concatenates_S16x24564_S16x12_S16x24576_d1

/-- The sum of the largest losses of each row. -/
def largest (x : FVec F S16x24576 .f32) (K : IVec S16x24576 32) (want T : IVec S16x1 32) : FVec F S16x1 .f32 :=
  select (cmpi .sgt want (broadcast S16x1 0#32))
    (addf (sumAbove x K T) (mulf (sitofp .f32 (subi want (count .sgt K T))) (bitcastToFloat .f32 T)))
    (broadcast S16x1 (Scalar.ofBits .f32 0x00000000#32))

/-- The number of positives, over the images. -/
def positives (pos : IVec S16x1 32) : F .f32 :=
  Scalar.sitofp .f32 (extractAt ![0, 0, 0]
    (shapeCast S1x1x1 (multiReductionI .add [1, 2] S1 (shapeCast S1x16x1 pos Facts₀.shapeCasts_S16x1_S1x16x1) 0#32
      Facts₀.reduces_S1x16x1_S1 rfl) Facts₀.shapeCasts_S1_S1x1x1) Facts₀.inpos_S1x1x1_p0_0_0)

/-- The first result: the box loss divided by the number of positives. -/
def first (pos : IVec S16x1 32) (ll : FVec F S1x1 .f32) : FVec F S1x1 .f32 := divf ll (broadcast S1x1 (positives pos))

/-- The second result from the rows' sums: they are added to the loss of the positives, and the sum is divided. -/
def second (pos : IVec S16x1 32) (top : FVec F S16x1 .f32) (s : FVec F S1x1 .f32) : FVec F S1x1 .f32 :=
  divf (addf s (broadcast S1x1 (extractAt ![0, 0, 0] (shapeCast S1x1x1 (multiReduction .add [1, 2] S1
    (shapeCast S1x16x1 top Facts₀.shapeCasts_S16x1_S1x16x1) 0x00000000#32 Facts₀.reduces_S1x16x1_S1 (.inl rfl) rfl)
    Facts₀.shapeCasts_S1_S1x1x1) Facts₀.inpos_S1x1x1_p0_0_0))) (broadcast S1x1 (positives pos))

/-- The rows' sums from what is loaded. -/
def top (losses : FVec F S16x1x24564 .f32) (pos : IVec S16x1 32) : FVec F S16x1 .f32 :=
  largest (padded losses) (keys (padded losses)) (wanted pos) (threshold (keys (padded losses)) (wanted pos))

section

variable (arg0 : Memref sig .tc .vmem S16x1x24564 .f32) (harg0 : arg0.IsWhole)
    (arg1 : Memref sig .tc .vmem S16x1 .i32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)

/-- The kernel from its third load on. -/
def ending (pos : IVec S16x1 32) (top : FVec F S16x1 .f32) :
    Prog (TpuEff nD τ sig (Elt F) Λ₀ .tc) PUnit := do
  let ll : Vec F S1x1 .f32 ← Prog.lift (.load arg2 (Rect.unit (s := S1x1) ![0, 0] S1x1.size Facts₀.inb_S1x1_S1x1_0_0).toLoadRect (View.loadsAt_vmem Facts₀.h_S1x1))
  let _old : Vec F S1x1 .f32 ← Prog.lift (.load arg4 (Rect.unit (s := S1x1) ![0, 0] S1x1.size Facts₀.inb_S1x1_S1x1_0_0).toLoadRect (View.loadsAt_vmem Facts₀.h_S1x1))
  Prog.lift (.store arg4 (Rect.unit (s := S1x1) ![0, 0] S1x1.size Facts₀.inb_S1x1_S1x1_0_0) (first pos ll) Finset.univ (View.stores_vmem_bits_univ Facts₀.h_S1x1 rfl) (.inl rfl))
  let s : Vec F S1x1 .f32 ← Prog.lift (.load arg3 (Rect.unit (s := S1x1) ![0, 0] S1x1.size Facts₀.inb_S1x1_S1x1_0_0).toLoadRect (View.loadsAt_vmem Facts₀.h_S1x1))
  let _old : Vec F S1x1 .f32 ← Prog.lift (.load arg5 (Rect.unit (s := S1x1) ![0, 0] S1x1.size Facts₀.inb_S1x1_S1x1_0_0).toLoadRect (View.loadsAt_vmem Facts₀.h_S1x1))
  Prog.lift (.store arg5 (Rect.unit (s := S1x1) ![0, 0] S1x1.size Facts₀.inb_S1x1_S1x1_0_0) (second pos top s) Finset.univ (View.stores_vmem_bits_univ Facts₀.h_S1x1 rfl) (.inl rfl))
  pure ⟨⟩

/-- The whole kernel as a short program. -/
def short : Prog (TpuEff nD τ sig (Elt F) Λ₀ .tc) PUnit := do
  let losses : Vec F S16x1x24564 .f32 ← Prog.lift (.load arg0 (Rect.unit (s := S16x1x24564) ![0, 0, 0] S16x1x24564.size Facts₀.inb_S16x1x24564_S16x1x24564_0_0_0).toLoadRect (View.loadsAt_vmem Facts₀.h_S16x1x24564))
  let pos : Vec F S16x1 .i32 ← Prog.lift (.load arg1 (Rect.unit (s := S16x1) ![0, 0] S16x1.size Facts₀.inb_S16x1_S16x1_0_0).toLoadRect (View.loadsAt_vmem Facts₀.h_S16x1))
  ending arg2 arg3 arg4 arg5 (shapeCast S16x1 pos Facts₀.shapeCasts_S16x1_S16x1) (top losses (shapeCast S16x1 pos Facts₀.shapeCasts_S16x1_S16x1))

end

end Cert.ValuesBody

end
-- ==== Proof.ValuesDecode.lean ====
/- What the steps of `ValuesSteps` compute over the reals.

   A word below the one of infinity has the value `decoded`: zero below the word of the least normal value, else the
   significand times the power of two of the exponent.  `decoded` grows with the word, so where every number is the value
   of its own word the words are in the numbers' order (`order`).  `keys_at`, `value_at_eq`: each place is taken alone. -/
module

public import proofs.«01_k».proof.Proof.ValuesSteps
public import Idealize.ShloMosaic.PureOps.Ideal.Laws

@[expose] public section

noncomputable section

namespace Cert.ValuesDecode

open Idealize.ShloMosaic Cert.ValuesSteps

/-- A power of two's bits. -/
theorem power (b : BitVec 32) (E : ℕ) (h1 : (b.extractLsb' 31 1 == 1#1) = false) (h2 : (b.extractLsb' 23 8).toNat = E)
    (h3 : (b.extractLsb' 0 23).toNat = 0) (h4 : E ≠ 255) (h5 : E ≠ 0) :
    Ideal.ofBits .f32 b = (((2 : ℝ) ^ ((E : ℤ) - 127) : ℝ) : EReal) := by
  show Ideal.ieee 8 23 b = _
  unfold Ideal.ieee
  simp only [h1, h2, h3]
  rw [if_neg (by simpa using h4), if_neg h5]
  congr 1
  rw [show ((E : ℤ) - 127) = ((E : ℤ) - (2 ^ (8 - 1) - 1) - (23 : ℕ)) + (23 : ℕ) by norm_num, zpow_add₀ two_ne_zero, zpow_natCast]
  norm_num
  ring

theorem toInt_small (a : ℕ) (h : a < 2 ^ 31) : (BitVec.ofNat 32 a).toInt = (a : ℤ) := by
  rw [BitVec.toInt_eq_toNat_of_lt] <;> rw [BitVec.toNat_ofNat] <;> omega

theorem sle_small (a b : ℕ) (ha : a < 2 ^ 31) (hb : b < 2 ^ 31) :
    (BitVec.ofNat 32 a).sle (BitVec.ofNat 32 b) = decide (a ≤ b) := by
  rw [BitVec.sle_eq_decide, toInt_small a ha, toInt_small b hb]
  simp

theorem slt_small (a b : ℕ) (ha : a < 2 ^ 31) (hb : b < 2 ^ 31) :
    (BitVec.ofNat 32 a).slt (BitVec.ofNat 32 b) = decide (a < b) := by
  rw [BitVec.slt_eq_decide, toInt_small a ha, toInt_small b hb]
  simp

theorem ofBool_eq_one (c : Bool) : (BitVec.ofBool c = 1) ↔ c = true := by cases c <;> decide

section
variable {s : Shape}

/-- A pair at a place: a number times the power of two of the exponent is `R`, and the exponent lies in bounds. -/
def Holds (p : FVec Ideal s .f32 × IVec s 32) (i : s.Idx) (R : ℝ) (lo hi : ℕ) : Prop :=
  ∃ (v : ℝ) (E : ℕ), p.1 i = (v : EReal) ∧ p.2 i = BitVec.ofNat 32 E ∧ v * (2 : ℝ) ^ ((E : ℤ) - 127) = R ∧ lo ≤ E ∧ E ≤ hi

theorem enlarge_holds {p : FVec Ideal s .f32 × IVec s 32} {i : s.Idx} {R : ℝ} {lo hi : ℕ} (h : Holds p i R lo hi) (e m : BitVec 32) (d : ℕ)
    (he : e = BitVec.ofNat 32 (127 + d)) (hm : Ideal.ofBits .f32 m = (((2 : ℝ) ^ (((127 + d : ℕ) : ℤ) - 127) : ℝ) : EReal))
    (hd : d ≤ 64) (hhi : hi < 1000) (hlo : lo ≤ 127) :
    Holds (enlarge e m (BitVec.ofNat 32 d) p) i R lo (max (126 + d) (hi - d)) := by
  obtain ⟨v, E, h1, h2, h3, h4, h5⟩ := h
  have hc : cmpi .sge p.2 (broadcast s e) i = BitVec.ofBool (decide (127 + d ≤ E)) := by
    show BitVec.ofBool (e.sle (p.2 i)) = _
    rw [he, h2, sle_small _ _ (by omega) (by omega)]
  have a1 : (enlarge e m (BitVec.ofNat 32 d) p).1 i = if cmpi .sge p.2 (broadcast s e) i = 1 then p.1 i * Ideal.ofBits .f32 m else p.1 i := rfl
  have a2 : (enlarge e m (BitVec.ofNat 32 d) p).2 i = if cmpi .sge p.2 (broadcast s e) i = 1 then p.2 i - BitVec.ofNat 32 d else p.2 i := rfl
  by_cases hE : 127 + d ≤ E
  · refine ⟨v * (2 : ℝ) ^ (((127 + d : ℕ) : ℤ) - 127), E - d, ?_, ?_, ?_, by omega, by omega⟩
    · rw [a1, hc, if_pos ((ofBool_eq_one _).2 (decide_eq_true hE)), h1, hm, EReal.coe_mul]
    · rw [a2, hc, if_pos ((ofBool_eq_one _).2 (decide_eq_true hE)), h2]
      apply BitVec.eq_of_toNat_eq
      rw [BitVec.toNat_sub, BitVec.toNat_ofNat, BitVec.toNat_ofNat, BitVec.toNat_ofNat]
      omega
    · rw [mul_assoc, ← zpow_add₀ two_ne_zero, ← h3]
      congr 2
      omega
  · refine ⟨v, E, ?_, ?_, h3, h4, by omega⟩
    · rw [a1, hc, if_neg (fun hh => hE (of_decide_eq_true ((ofBool_eq_one _).1 hh))), h1]
    · rw [a2, hc, if_neg (fun hh => hE (of_decide_eq_true ((ofBool_eq_one _).1 hh))), h2]

theorem lessen_holds {p : FVec Ideal s .f32 × IVec s 32} {i : s.Idx} {R : ℝ} {lo : ℕ} (h : Holds p i R lo 127) (e m : BitVec 32) (d : ℕ)
    (he : e = BitVec.ofNat 32 (127 - d)) (hm : Ideal.ofBits .f32 m = (((2 : ℝ) ^ (((127 - d : ℕ) : ℤ) - 127) : ℝ) : EReal))
    (hd : d ≤ 64) :
    Holds (lessen e m (BitVec.ofNat 32 d) p) i R (min (128 - d) (lo + d)) 127 := by
  obtain ⟨v, E, h1, h2, h3, h4, h5⟩ := h
  have hc : cmpi .sle p.2 (broadcast s e) i = BitVec.ofBool (decide (E ≤ 127 - d)) := by
    show BitVec.ofBool ((p.2 i).sle e) = _
    rw [he, h2, sle_small _ _ (by omega) (by omega)]
  have a1 : (lessen e m (BitVec.ofNat 32 d) p).1 i = if cmpi .sle p.2 (broadcast s e) i = 1 then p.1 i * Ideal.ofBits .f32 m else p.1 i := rfl
  have a2 : (lessen e m (BitVec.ofNat 32 d) p).2 i = if cmpi .sle p.2 (broadcast s e) i = 1 then p.2 i + BitVec.ofNat 32 d else p.2 i := rfl
  by_cases hE : E ≤ 127 - d
  · refine ⟨v * (2 : ℝ) ^ (((127 - d : ℕ) : ℤ) - 127), E + d, ?_, ?_, ?_, by omega, by omega⟩
    · rw [a1, hc, if_pos ((ofBool_eq_one _).2 (decide_eq_true hE)), h1, hm, EReal.coe_mul]
    · rw [a2, hc, if_pos ((ofBool_eq_one _).2 (decide_eq_true hE)), h2]
      apply BitVec.eq_of_toNat_eq
      rw [BitVec.toNat_add, BitVec.toNat_ofNat, BitVec.toNat_ofNat, BitVec.toNat_ofNat]
      omega
    · rw [mul_assoc, ← zpow_add₀ two_ne_zero, ← h3]
      congr 2
      omega
  · refine ⟨v, E, ?_, ?_, h3, by omega, h5⟩
    · rw [a1, hc, if_neg (fun hh => hE (of_decide_eq_true ((ofBool_eq_one _).1 hh))), h1]
    · rw [a2, hc, if_neg (fun hh => hE (of_decide_eq_true ((ofBool_eq_one _).1 hh))), h2]

/-- The significand of a word, between one and two, times the power of two of its exponent. -/
def normal (n : ℕ) : ℝ := ((n % 2 ^ 23 + 2 ^ 23 : ℕ) : ℝ) * (2 : ℝ) ^ (-23 : ℤ) * (2 : ℝ) ^ (((n / 2 ^ 23 : ℕ) : ℤ) - 127)

/-- The value of a word: zero below the word of the least normal value. -/
def decoded (n : ℕ) : ℝ := if n < 2 ^ 23 then 0 else normal n

theorem shifted (n : ℕ) (hn : n < 2 ^ 31) : (BitVec.ofNat 32 n).sshiftRight' 23#32 = BitVec.ofNat 32 (n / 2 ^ 23) := by
  show (BitVec.ofNat 32 n).sshiftRight 23 = _
  rw [BitVec.sshiftRight_eq_of_msb_false]
  · apply BitVec.eq_of_toNat_eq
    rw [BitVec.toNat_ushiftRight, BitVec.toNat_ofNat, BitVec.toNat_ofNat, Nat.shiftRight_eq_div_pow]
    omega
  · rw [BitVec.msb_eq_false_iff_two_mul_lt, BitVec.toNat_ofNat]
    omega

theorem unpacked_holds (t : IVec s 32) (i : s.Idx) (n : ℕ) (ht : t i = BitVec.ofNat 32 n) (h0 : 2 ^ 23 ≤ n) (hn : n < 255 * 2 ^ 23) :
    Holds (unpacked t) i (normal n) 1 254 := by
  have b2 : (unpacked (F := Ideal) t).2 i = BitVec.ofNat 32 (n / 2 ^ 23) := by
    rw [← shifted n (by omega), ← ht]
    rfl
  have b1 : (unpacked (F := Ideal) t).1 i = (((t i - (unpacked (F := Ideal) t).2 i * 8388608#32 + 8388608#32).toInt : ℝ) : EReal) * Ideal.ofBits .f32 0x34000000#32 := rfl
  refine ⟨((n % 2 ^ 23 + 2 ^ 23 : ℕ) : ℝ) * (2 : ℝ) ^ (-23 : ℤ), n / 2 ^ 23, ?_, b2, rfl, by omega, by omega⟩
  rw [b1, b2, ht, power 0x34000000#32 104 (by decide) (by decide) (by decide) (by decide) (by decide),
    show BitVec.ofNat 32 n - BitVec.ofNat 32 (n / 2 ^ 23) * 8388608#32 + 8388608#32 = BitVec.ofNat 32 (n % 2 ^ 23 + 2 ^ 23) from ?_,
    toInt_small _ (by omega), EReal.coe_mul, Int.cast_natCast, show (((104 : ℕ) : ℤ) - 127) = -23 by norm_num]
  · apply BitVec.eq_of_toNat_eq
    rw [BitVec.toNat_add, BitVec.toNat_sub, BitVec.toNat_mul, BitVec.toNat_ofNat, BitVec.toNat_ofNat, BitVec.toNat_ofNat, BitVec.toNat_ofNat]
    omega

/-- The value of a word below the one of infinity. -/
theorem value_at (t : IVec s 32) (i : s.Idx) (n : ℕ) (ht : t i = BitVec.ofNat 32 n) (hn : n < 255 * 2 ^ 23) :
    value (F := Ideal) t i = ((decoded n : ℝ) : EReal) := by
  have a : value (F := Ideal) t i = if cmpi .slt t (broadcast s 8388608#32) i = 1 then Ideal.ofBits .f32 0x00000000#32
      else (lessened (lessened5 (enlarged (enlarged1 (F := Ideal) t)))).1 i := rfl
  have hc : cmpi .slt t (broadcast s 8388608#32) i = BitVec.ofBool (decide (n < 2 ^ 23)) := by
    show BitVec.ofBool ((t i).slt 8388608#32) = _
    rw [ht, show (8388608#32 : BitVec 32) = BitVec.ofNat 32 (2 ^ 23) from by decide, slt_small _ _ (by omega) (by omega)]
  rw [a, hc]
  unfold decoded
  by_cases h0 : n < 2 ^ 23
  · rw [if_pos ((ofBool_eq_one _).2 (decide_eq_true h0)), if_pos h0]
    simp [Ideal.ofBits, Ideal.ieee]
  · rw [if_neg (fun hh => h0 (of_decide_eq_true ((ofBool_eq_one _).1 hh))), if_neg h0]
    have h := unpacked_holds t i n ht (by omega) hn
    have h := enlarge_holds h 191#32 0x5F800000#32 64 (by decide) (power _ _ (by decide) (by decide) (by decide) (by decide) (by decide)) (by omega) (by omega) (by omega)
    have h := enlarge_holds h 159#32 0x4F800000#32 32 (by decide) (power _ _ (by decide) (by decide) (by decide) (by decide) (by decide)) (by omega) (by omega) (by omega)
    have h := enlarge_holds h 143#32 0x47800000#32 16 (by decide) (power _ _ (by decide) (by decide) (by decide) (by decide) (by decide)) (by omega) (by omega) (by omega)
    have h := enlarge_holds h 135#32 0x43800000#32 8 (by decide) (power _ _ (by decide) (by decide) (by decide) (by decide) (by decide)) (by omega) (by omega) (by omega)
    have h := enlarge_holds h 131#32 0x41800000#32 4 (by decide) (power _ _ (by decide) (by decide) (by decide) (by decide) (by decide)) (by omega) (by omega) (by omega)
    have h := enlarge_holds h 129#32 0x40800000#32 2 (by decide) (power _ _ (by decide) (by decide) (by decide) (by decide) (by decide)) (by omega) (by omega) (by omega)
    have h := enlarge_holds h 128#32 0x40000000#32 1 (by decide) (power _ _ (by decide) (by decide) (by decide) (by decide) (by decide)) (by omega) (by omega) (by omega)
    have h := lessen_holds h 63#32 0x1F800000#32 64 (by decide) (power _ _ (by decide) (by decide) (by decide) (by decide) (by decide)) (by omega)
    have h := lessen_holds h 95#32 0x2F800000#32 32 (by decide) (power _ _ (by decide) (by decide) (by decide) (by decide) (by decide)) (by omega)
    have h := lessen_holds h 111#32 0x37800000#32 16 (by decide) (power _ _ (by decide) (by decide) (by decide) (by decide) (by decide)) (by omega)
    have h := lessen_holds h 119#32 0x3B800000#32 8 (by decide) (power _ _ (by decide) (by decide) (by decide) (by decide) (by decide)) (by omega)
    have h := lessen_holds h 123#32 0x3D800000#32 4 (by decide) (power _ _ (by decide) (by decide) (by decide) (by decide) (by decide)) (by omega)
    have h := lessen_holds h 125#32 0x3E800000#32 2 (by decide) (power _ _ (by decide) (by decide) (by decide) (by decide) (by decide)) (by omega)
    have h := lessen_holds h 126#32 0x3F000000#32 1 (by decide) (power _ _ (by decide) (by decide) (by decide) (by decide) (by decide)) (by omega)
    obtain ⟨v, E, h1, h2, h3, h4, h5⟩ := h
    have hE : E = 127 := by omega
    refine h1.trans ?_
    rw [← h3, hE]
    norm_num

end

theorem normal_pos (n : ℕ) : 0 ≤ normal n := by unfold normal; positivity

/-- The float whose bits are a word is the word's value, for zero and the words of the normal floats. -/
theorem ofBits_at (n : ℕ) (h0 : n = 0 ∨ 2 ^ 23 ≤ n) (hn : n < 255 * 2 ^ 23) :
    Ideal.ofBits .f32 (BitVec.ofNat 32 n) = ((decoded n : ℝ) : EReal) := by
  rcases h0 with h0 | h0
  · subst h0
    rw [show (BitVec.ofNat 32 0) = 0x00000000#32 from rfl, Ideal.ofBits_zero_f32]
    unfold decoded
    rw [if_pos (by norm_num), EReal.coe_zero]
  · have e0 : (BitVec.ofNat 32 n).toNat = n := by rw [BitVec.toNat_ofNat]; exact Nat.mod_eq_of_lt (by omega)
    have e1 : ((BitVec.ofNat 32 n).extractLsb' 31 1 == 1#1) = false := by
      have : ((BitVec.ofNat 32 n).extractLsb' 31 1) = 0#1 := by
        apply BitVec.eq_of_toNat_eq
        rw [BitVec.extractLsb'_toNat, e0, Nat.shiftRight_eq_div_pow]
        show n / 2 ^ 31 % 2 ^ 1 = 0
        omega
      rw [this]
      rfl
    have e2 : ((BitVec.ofNat 32 n).extractLsb' 23 8).toNat = n / 2 ^ 23 := by
      rw [BitVec.extractLsb'_toNat, e0, Nat.shiftRight_eq_div_pow]
      omega
    have e3 : ((BitVec.ofNat 32 n).extractLsb' 0 23).toNat = n % 2 ^ 23 := by
      rw [BitVec.extractLsb'_toNat, e0, Nat.shiftRight_eq_div_pow]
      omega
    show Ideal.ieee 8 23 _ = _
    unfold Ideal.ieee decoded normal
    simp only [e1, e2, e3]
    rw [if_neg (by norm_num; omega), if_neg (by omega), if_neg Bool.false_ne_true, if_neg (not_lt.2 h0)]
    congr 1
    rw [show (((n / 2 ^ 23 : ℕ) : ℤ) - (2 ^ (8 - 1) - 1) - ((23 : ℕ) : ℤ)) = (-23 : ℤ) + (((n / 2 ^ 23 : ℕ) : ℤ) - 127) by norm_num; ring, zpow_add₀ two_ne_zero,
      show 2 ^ 23 + n % 2 ^ 23 = n % 2 ^ 23 + 2 ^ 23 from Nat.add_comm _ _]
    ring

/-- The value grows with the word. -/
theorem decoded_mono {m n : ℕ} (h : m ≤ n) : decoded m ≤ decoded n := by
  unfold decoded
  by_cases hm : m < 2 ^ 23
  · rw [if_pos hm]
    split
    · exact le_rfl
    · exact normal_pos n
  · rw [if_neg hm, if_neg (by omega)]
    unfold normal
    have h2 : (0 : ℝ) < (2 : ℝ) ^ (-23 : ℤ) := by positivity
    rcases Nat.eq_or_lt_of_le (Nat.div_le_div_right (c := 2 ^ 23) h) with he | he
    · rw [he]
      refine mul_le_mul_of_nonneg_right (mul_le_mul_of_nonneg_right ?_ h2.le) (by positivity)
      exact_mod_cast (by omega : m % 2 ^ 23 + 2 ^ 23 ≤ n % 2 ^ 23 + 2 ^ 23)
    · have hm2 : ((m % 2 ^ 23 + 2 ^ 23 : ℕ) : ℝ) * (2 : ℝ) ^ (-23 : ℤ) ≤ 2 := by
        have : ((m % 2 ^ 23 + 2 ^ 23 : ℕ) : ℝ) ≤ ((2 ^ 24 : ℕ) : ℝ) := by
          exact_mod_cast (by omega : m % 2 ^ 23 + 2 ^ 23 ≤ 2 ^ 24)
        calc _ ≤ ((2 ^ 24 : ℕ) : ℝ) * (2 : ℝ) ^ (-23 : ℤ) := mul_le_mul_of_nonneg_right this h2.le
          _ = 2 := by norm_num
      have hn1 : 1 ≤ ((n % 2 ^ 23 + 2 ^ 23 : ℕ) : ℝ) * (2 : ℝ) ^ (-23 : ℤ) := by
        have : ((2 ^ 23 : ℕ) : ℝ) ≤ ((n % 2 ^ 23 + 2 ^ 23 : ℕ) : ℝ) := by
          exact_mod_cast (by omega : 2 ^ 23 ≤ n % 2 ^ 23 + 2 ^ 23)
        calc (1 : ℝ) = ((2 ^ 23 : ℕ) : ℝ) * (2 : ℝ) ^ (-23 : ℤ) := by norm_num
          _ ≤ _ := mul_le_mul_of_nonneg_right this h2.le
      have hp : (2 : ℝ) * (2 : ℝ) ^ (((m / 2 ^ 23 : ℕ) : ℤ) - 127) ≤ (2 : ℝ) ^ (((n / 2 ^ 23 : ℕ) : ℤ) - 127) := by
        rw [← zpow_one_add₀ two_ne_zero]
        exact zpow_le_zpow_right₀ one_le_two (by omega)
      calc _ ≤ 2 * (2 : ℝ) ^ (((m / 2 ^ 23 : ℕ) : ℤ) - 127) := mul_le_mul_of_nonneg_right hm2 (by positivity)
        _ ≤ _ := hp
        _ = 1 * (2 : ℝ) ^ (((n / 2 ^ 23 : ℕ) : ℤ) - 127) := (one_mul _).symm
        _ ≤ _ := mul_le_mul_of_nonneg_right hn1 (by positivity)

/-! ### Each place is taken alone -/

section
variable {s s' : Shape}

/-- Two pairs agree at two places. -/
def Same (p : FVec Ideal s .f32 × IVec s 32) (i : s.Idx) (q : FVec Ideal s' .f32 × IVec s' 32) (j : s'.Idx) : Prop :=
  p.1 i = q.1 j ∧ p.2 i = q.2 j

variable {p : FVec Ideal s .f32 × IVec s 32} {i : s.Idx} {q : FVec Ideal s' .f32 × IVec s' 32} {j : s'.Idx}

theorem shrink_same (hi lo d : BitVec 32) (h : Same p i q j) : Same (shrink hi lo d p) i (shrink hi lo d q) j := by
  have e : ∀ {s : Shape} (p : FVec Ideal s .f32 × IVec s 32) (i : s.Idx), (shrink hi lo d p).1 i
      = (if Ideal.cmp .oge (p.1 i) (Ideal.ofBits .f32 hi) = 1 then p.1 i * Ideal.ofBits .f32 lo else p.1 i) ∧ (shrink hi lo d p).2 i
      = (if Ideal.cmp .oge (p.1 i) (Ideal.ofBits .f32 hi) = 1 then p.2 i + d else p.2 i) := fun _ _ => ⟨rfl, rfl⟩
  constructor
  · rw [(e p i).1, (e q j).1, h.1]
  · rw [(e p i).2, (e q j).2, h.1, h.2]

theorem grow_same (lo hi d : BitVec 32) (h : Same p i q j) : Same (grow lo hi d p) i (grow lo hi d q) j := by
  have e : ∀ {s : Shape} (p : FVec Ideal s .f32 × IVec s 32) (i : s.Idx), (grow lo hi d p).1 i
      = (if Ideal.cmp .olt (p.1 i) (Ideal.ofBits .f32 lo) = 1 then p.1 i * Ideal.ofBits .f32 hi else p.1 i) ∧ (grow lo hi d p).2 i
      = (if Ideal.cmp .olt (p.1 i) (Ideal.ofBits .f32 lo) = 1 then p.2 i - d else p.2 i) := fun _ _ => ⟨rfl, rfl⟩
  constructor
  · rw [(e p i).1, (e q j).1, h.1]
  · rw [(e p i).2, (e q j).2, h.1, h.2]

theorem keys_at (x : FVec Ideal s .f32) (i : s.Idx) (y : FVec Ideal s' .f32) (j : s'.Idx) (h : x i = y j) : keys x i = keys y j := by
  have h0 : Same (x, broadcast s 127#32) i (y, broadcast s' 127#32) j := ⟨h, rfl⟩
  have hs : Same (grown (shrunk (shrunk4 x))) i (grown (shrunk (shrunk4 y))) j := by
    unfold grown shrunk shrunk4
    exact grow_same _ _ _ (grow_same _ _ _ (grow_same _ _ _ (grow_same _ _ _ (grow_same _ _ _ (grow_same _ _ _ (grow_same _ _ _
      (shrink_same _ _ _ (shrink_same _ _ _ (shrink_same _ _ _ (shrink_same _ _ _ (shrink_same _ _ _ (shrink_same _ _ _ (shrink_same _ _ _ h0)))))))))))))
  have e : ∀ {s : Shape} (x : FVec Ideal s .f32) (i : s.Idx), keys x i
      = if Ideal.cmp .olt (x i) (Ideal.ofBits .f32 0x00800000#32) = 1 then 0#32 else packed (grown (shrunk (shrunk4 x))) i := fun _ _ => rfl
  have ep : ∀ {s : Shape} (p : FVec Ideal s .f32 × IVec s 32) (i : s.Idx), packed p i
      = p.2 i * 8388608#32 + Ideal.fptosi 32 ((p.1 i - Ideal.ofBits .f32 0x3F800000#32) * Ideal.ofBits .f32 0x4B000000#32) := fun _ _ => rfl
  rw [e x i, e y j, h, ep, ep, hs.1, hs.2]

/-- The word of zero is zero. -/
theorem keys_zero (x : FVec Ideal s .f32) (i : s.Idx) (h : x i = 0) : keys x i = 0#32 := by
  have e : keys x i = if Ideal.cmp .olt (x i) (Ideal.ofBits .f32 0x00800000#32) = 1 then 0#32 else packed (grown (shrunk (shrunk4 x))) i := rfl
  rw [e, h, power 0x00800000#32 1 (by decide) (by decide) (by decide) (by decide) (by decide)]
  refine if_pos ((ofBool_eq_one _).2 (decide_eq_true ?_))
  exact_mod_cast (by positivity : (0 : ℝ) < (2 : ℝ) ^ (((1 : ℕ) : ℤ) - 127))

end

section
variable {s : Shape}

/-- Where every number is the value of its own word, and the word is below the one of infinity, the number is the word's
    value as a real. -/
theorem real_of (x : FVec Ideal s .f32) (i : s.Idx) (hk : (keys x i).toNat < 255 * 2 ^ 23) (hv : value (keys x) i = x i) :
    x i = ((decoded (keys x i).toNat : ℝ) : EReal) := by
  rw [← hv, value_at (keys x) i (keys x i).toNat (by simp) hk]

/-- The words are in the numbers' order. -/
theorem order (x : FVec Ideal s .f32) (h : ∀ i, (keys x i).toNat < 255 * 2 ^ 23 ∧ value (keys x) i = x i) (i j : s.Idx) :
    (keys x i).toNat < (keys x j).toNat ↔ decoded (keys x i).toNat < decoded (keys x j).toNat := by
  constructor
  · intro hlt
    refine lt_of_le_of_ne (decoded_mono hlt.le) fun he => ?_
    have : x i = x j := by rw [real_of x i (h i).1 (h i).2, real_of x j (h j).1 (h j).2, he]
    rw [keys_at x i x j this] at hlt
    exact lt_irrefl _ hlt
  · intro hlt
    by_contra hge
    exact absurd (decoded_mono (not_lt.1 hge)) (not_le.2 hlt)

end

end Cert.ValuesDecode

end
-- ==== Proof.ValuesMath.lean ====
/- Three facts on finite rows of numbers that the mining call's second result rests on.

   `topk`: the sum of the `k` places that a sorting puts first is the sum of the places whose key lies above a threshold,
   and for the rest as often the value at the threshold, where fewer than `k` keys lie above it and at least `k` at or
   above it.  `fold_inv`: an invariant of a counted loop holds at its end.  `by_lanes`: a row's sum taken lane by lane over
   chunks of 128 is its sum. -/
module

public import Idealize.ShloMosaic.Lib.Exec.Context
public import Mathlib.Data.EReal.Operations
public import Mathlib.Algebra.BigOperators.Fin
public import Mathlib.Data.BitVec

@[expose] public section

namespace Cert.ValuesMath

open Idealize.ShloMosaic

/-- An invariant of a list of trips. -/
theorem foldl_inv {σ : Type} : ∀ (n : ℕ) (g : Fin n → σ → σ) (P : ℕ → σ → Prop) (init : σ) (_ : P 0 init)
    (_ : ∀ (k : Fin n) (acc : σ), P k.val acc → P (k.val + 1) (g k acc)),
    P n ((List.finRange n).foldl (fun acc k => g k acc) init)
  | 0, _, _, _, h0, _ => h0
  | n + 1, g, P, init, h0, hs => by
    rw [List.finRange_succ_last, List.foldl_append, List.foldl_map]
    exact hs (Fin.last n) _ (foldl_inv n (fun k acc => g k.castSucc acc) P init h0 fun k acc h => hs k.castSucc acc h)

/-- The same of the fold a counted loop returns. -/
theorem fold_inv {σ : Type} {n : ℕ} (g : Fin n → σ → σ) (P : ℕ → σ → Prop) (init : σ) (h0 : P 0 init)
    (hs : ∀ (k : Fin n) (acc : σ), P k.val acc → P (k.val + 1) (g k acc)) : P n (Scf.fold g init) := by
  rw [Scf.fold_eq]
  exact foldl_inv n g P init h0 hs

/-- As many places have a rank below `k` as there are ranks below it. -/
theorem card_rank {n : ℕ} (rank : Fin n → Fin n) (hinj : Function.Injective rank) (k : ℕ) (hk : k ≤ n) :
    (Finset.univ.filter fun p => (rank p).val < k).card = k := by
  have hb : Function.Bijective rank := Finite.injective_iff_bijective.mp hinj
  rw [Finset.card_filter]
  refine (Equiv.sum_comp (Equiv.ofBijective rank hb) (fun r : Fin n => if r.val < k then 1 else 0)).trans ?_
  rw [Fin.sum_univ_eq_sum_range (fun i => if i < k then 1 else 0) n, ← Finset.card_filter]
  have : (Finset.range n).filter (fun i => i < k) = Finset.range k := by
    ext i; simp only [Finset.mem_filter, Finset.mem_range]; omega
  rw [this, Finset.card_range]

/-- THE LARGEST `k`: by rank and by threshold. -/
theorem topk {n : ℕ} (x : Fin n → ℝ) (key : Fin n → ℕ) (rank : Fin n → Fin n) (hinj : Function.Injective rank)
    (hrank : ∀ p q, rank p < rank q → x q ≤ x p) (hkey : ∀ p q, key p < key q ↔ x p < x q) (k T : ℕ)
    (h1 : (Finset.univ.filter fun p => T < key p).card < k) (h2 : k ≤ (Finset.univ.filter fun p => T ≤ key p).card)
    (v : ℝ) (hv : ∀ p, key p = T → x p = v) :
    (∑ p, if (rank p).val < k then x p else 0)
      = (∑ p, if T < key p then x p else 0) + ((k - (Finset.univ.filter fun p => T < key p).card : ℕ) : ℝ) * v := by
  classical
  have hkn : k ≤ n := h2.trans ((Finset.card_le_univ _).trans (by simp))
  have hA := card_rank rank hinj k hkn
  -- what lies above the threshold is among the first `k`
  have hGA : (Finset.univ.filter fun p => T < key p) ⊆ Finset.univ.filter fun p => (rank p).val < k := by
    intro p hp
    simp only [Finset.mem_filter, Finset.mem_univ, true_and] at hp ⊢
    by_contra hn
    have hsub : (Finset.univ.filter fun q => (rank q).val < k) ⊆ Finset.univ.filter fun q => T < key q := by
      intro q hq
      simp only [Finset.mem_filter, Finset.mem_univ, true_and] at hq ⊢
      have hle : x p ≤ x q := hrank q p (by rw [Fin.lt_def]; omega)
      have : ¬ key q < key p := fun h => absurd ((hkey q p).mp h) (not_lt.mpr hle)
      omega
    have := Finset.card_le_card hsub
    omega
  -- and the first `k` lie at the threshold or above it
  have hAE : ∀ q, (rank q).val < k → T ≤ key q := by
    intro q hq
    by_contra hn
    have hsub : (Finset.univ.filter fun p => T ≤ key p) ⊆ Finset.univ.filter fun p => (rank p).val < (rank q).val := by
      intro p hp
      simp only [Finset.mem_filter, Finset.mem_univ, true_and] at hp ⊢
      have hlt : x q < x p := (hkey q p).mp (by omega)
      by_contra hge
      rcases Nat.lt_or_ge (rank q).val (rank p).val with h | h
      · exact absurd (hrank q p h) (not_le.mpr hlt)
      · have : rank p = rank q := Fin.ext (by omega)
        rw [hinj this] at hlt
        exact lt_irrefl _ hlt
    have hc := Finset.card_le_card hsub
    rw [card_rank rank hinj _ (rank q).isLt.le] at hc
    omega
  rw [← Finset.sum_filter, ← Finset.sum_filter, ← Finset.sum_sdiff hGA, add_comm]
  congr 1
  rw [Finset.sum_congr rfl (g := fun _ => v), Finset.sum_const, Finset.card_sdiff_of_subset hGA, hA, nsmul_eq_mul]
  intro p hp
  simp only [Finset.mem_sdiff, Finset.mem_filter, Finset.mem_univ, true_and] at hp
  exact hv p (le_antisymm (not_lt.mp hp.2) (hAE p hp.1))

/-- A row's sum lane by lane. -/
theorem by_lanes {M : Type} [AddCommMonoid M] (f : Fin 24576 → M) :
    (∑ l : Fin 128, ∑ n : Fin 192, f ⟨128 * n.val + l.val, by omega⟩) = ∑ p, f p := by
  rw [Finset.sum_comm, ← Fintype.sum_prod_type']
  refine Fintype.sum_equiv (finProdFinEquiv (m := 192) (n := 128)) _ _ fun a => ?_
  congr 1
  apply Fin.ext
  simp only [finProdFinEquiv, Equiv.coe_fn_mk]
  omega

/-- A sum over the padded row whose padding counts nothing is the sum over the row. -/
theorem unpadded {M : Type} [AddCommMonoid M] (f : Fin 24576 → M) (h : ∀ p : Fin 24576, 24564 ≤ p.val → f p = 0) :
    (∑ p, f p) = ∑ p : Fin 24564, f ⟨p.val, by omega⟩ := by
  have e := Fin.sum_univ_add (a := 24564) (b := 12) (f := f)
  rw [e]
  rw [Finset.sum_eq_zero (s := Finset.univ) (f := fun i : Fin 12 => f (Fin.natAdd 24564 i)) (fun i _ => h _ (by simp)), add_zero]
  rfl

/-- Real numbers summed as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.ValuesMath

end
-- ==== Proof.ValuesRows.lean ====
/- What the mining kernel computes of one row, over the reals.

   The counts and sums over chunks of lanes are counts and sums over the row; the bisection ends at a threshold above which
   fewer words lie than are wanted, and at or above which at least as many do; and `top_at`: the row's sum is the sum of
   the places that any sorting by falling value puts first. -/
module

public import proofs.«01_k».proof.Proof.ValuesDefs
public import proofs.«01_k».proof.Proof.ValuesDecode
public import proofs.«01_k».proof.Proof.ValuesMath
public import Idealize.ShloMosaic.Lib.ValueLayoutCasts
public import Idealize.ShloMosaic.Lib.Pipeline.Value
public import Idealize.ShloMosaic.PureOps.Reduce

@[expose] public section

set_option maxRecDepth 16384

noncomputable section

namespace Cert.ValuesRows

open Cert.MineValuesIdeal Cert.ValuesSteps Cert.ValuesBody Cert.ValuesDecode Idealize.ShloMosaic Idealize.ShloMosaic.ValueIdx

/-! ### Counts and sums of a row -/

/-- One where two words compare as `p` says, else none. -/
def bit (p : CmpIPredicate) (a b : BitVec 32) : ℕ := if IntOp.cmpi p a b = 1 then 1 else 0

theorem chunk_at {α : Type} (x : S16x24576.Idx → α) (n : ℕ) (h : n < 192) (r : Fin 16) (l : Fin 128) :
    chunk x n h (ix2 r l) = x (ix2 r ⟨128 * n + l.val, by omega⟩) :=
  congrArg x (funext fun a => match a with
    | ⟨0, _⟩ => Fin.ext (Nat.zero_add _)
    | ⟨1, _⟩ => rfl)

theorem marks_at (p : CmpIPredicate) (K : IVec S16x24576 32) (T : IVec S16x1 32) (n : ℕ) (h : n < 192) (r : Fin 16) (l : Fin 128) :
    marks p K T n h (ix2 r l) = IntOp.cmpi p (K (ix2 r ⟨128 * n + l.val, by omega⟩)) (T (ix2 r 0)) := by
  show IntOp.cmpi p (chunk K n h (ix2 r l)) (broadcastTo S16x128 T Facts₀.broadcasts_S16x1_S16x128 (ix2 r l)) = _
  rw [chunk_at]
  refine congrArg (fun z => IntOp.cmpi p _ (T z)) (funext fun a => ?_)
  match a with
  | ⟨0, _⟩ => rfl
  | ⟨1, _⟩ => rfl

theorem widened (b : BitVec 1) : b.setWidth 32 = BitVec.ofNat 32 (if b = 1 then 1 else 0) := by
  revert b
  decide

theorem counts_at (p : CmpIPredicate) (K : IVec S16x24576 32) (T : IVec S16x1 32) (r : Fin 16) (l : Fin 128) :
    ∀ (n : ℕ) (h : n ≤ 192), counts p K T n h (ix2 r l)
      = BitVec.ofNat 32 (∑ m : Fin n, bit p (K (ix2 r ⟨128 * m.val + l.val, by omega⟩)) (T (ix2 r 0)))
  | 0, _ => by rw [Fin.sum_univ_zero]; rfl
  | n + 1, h => by
    rw [Fin.sum_univ_castSucc, BitVec.ofNat_add]
    show counts p K T n _ (ix2 r l) + (marks p K T n h (ix2 r l)).setWidth 32 = _
    rw [counts_at p K T r l n, marks_at, widened]
    rfl

theorem sums_at (x : FVec Ideal S16x24576 .f32) (K : IVec S16x24576 32) (T : IVec S16x1 32) (r : Fin 16) (l : Fin 128) :
    ∀ (n : ℕ) (h : n ≤ 192), sums x K T n h (ix2 r l)
      = ∑ m : Fin n, (if IntOp.cmpi .sgt (K (ix2 r ⟨128 * m.val + l.val, by omega⟩)) (T (ix2 r 0)) = 1 then x (ix2 r ⟨128 * m.val + l.val, by omega⟩) else (0 : EReal))
  | 0, _ => by rw [Fin.sum_univ_zero]; exact Ideal.ofBits_zero_f32
  | n + 1, h => by
    rw [Fin.sum_univ_castSucc]
    show sums x K T n _ (ix2 r l) + (if marks .sgt K T n h (ix2 r l) = 1 then chunk x n h (ix2 r l) else Ideal.ofBits .f32 0x00000000#32) = _
    rw [sums_at x K T r l n, marks_at, chunk_at, Ideal.ofBits_zero_f32]
    rfl

theorem fold_ofNat {ι : Type} (s : Finset ι) (g : ι → ℕ) :
    s.fold IKind.add.op 0#32 (fun k => BitVec.ofNat 32 (g k)) = BitVec.ofNat 32 (∑ k ∈ s, g k) := by
  classical
  induction s using Finset.induction_on with
  | empty => rfl
  | insert a s ha ih =>
    rw [Finset.fold_insert ha, Finset.sum_insert ha, ih, BitVec.ofNat_add]
    rfl

theorem lift_at (r : Fin 16) (l : Fin 128) : Facts₀.reduces_S16x128_S16.lift (ix1 r) l = ix2 r l :=
  funext fun a => match a with
    | ⟨0, _⟩ => rfl
    | ⟨1, _⟩ => rfl

/-- How many words of row `r` compare with `T` as `p` says. -/
theorem count_at (p : CmpIPredicate) (K : IVec S16x24576 32) (T : IVec S16x1 32) (r : Fin 16) :
    count p K T (ix2 r 0) = BitVec.ofNat 32 (∑ c : Fin 24576, bit p (K (ix2 r c)) (T (ix2 r 0))) := by
  have key : (counts p K T 192 (le_refl _)) ∘ (Facts₀.reduces_S16x128_S16.lift (ix1 r))
      = fun l : Fin 128 => BitVec.ofNat 32 (∑ n : Fin 192, bit p (K (ix2 r ⟨128 * n.val + l.val, by omega⟩)) (T (ix2 r 0))) :=
    funext fun l => (congrArg (counts p K T 192 (le_refl _)) (lift_at r l)).trans (counts_at p K T r l 192 (le_refl _))
  unfold Cert.ValuesBody.count
  refine (shapeCast_a_a1_apply _ _ r 0).trans ((multiReductionI_eq_fold _ _ _ _ _ _).trans
    ((Facts₀.reduces_S16x128_S16.fold_filter_drop_single _ _ _ _).trans ?_))
  rw [key]
  exact (fold_ofNat (Finset.univ : Finset (Fin 128)) _).trans
    (congrArg (BitVec.ofNat 32) (Cert.ValuesMath.by_lanes fun c => bit p (K (ix2 r c)) (T (ix2 r 0))))

/-- The sum of row `r`'s numbers whose words lie above `T`. -/
theorem sumAbove_at (x : FVec Ideal S16x24576 .f32) (K : IVec S16x24576 32) (T : IVec S16x1 32) (r : Fin 16) :
    sumAbove x K T (ix2 r 0) = ∑ c : Fin 24576, (if IntOp.cmpi .sgt (K (ix2 r c)) (T (ix2 r 0)) = 1 then x (ix2 r c) else (0 : EReal)) := by
  unfold sumAbove
  refine (shapeCast_a_a1_apply _ _ r 0).trans ((Ideal.multiReduction_add_single _ _ _ _ _ _).trans ?_)
  rw [← Cert.ValuesMath.by_lanes (fun c => if IntOp.cmpi .sgt (K (ix2 r c)) (T (ix2 r 0)) = 1 then x (ix2 r c) else (0 : EReal))]
  refine Finset.sum_congr rfl fun l _ => ?_
  exact (congrArg (sums x K T 192 (le_refl _)) (lift_at r l)).trans (sums_at x K T r l 192 (le_refl _))

/-! ### The bisection -/

/-- How many of row `r`'s words are at least `a`. -/
def atLeast (K : IVec S16x24576 32) (r : Fin 16) (a : ℕ) : ℕ := ∑ c : Fin 24576, if a ≤ (K (ix2 r c)).toNat then 1 else 0

theorem atLeast_le (K : IVec S16x24576 32) (r : Fin 16) (a : ℕ) : atLeast K r a ≤ 24576 := by
  unfold atLeast
  calc _ ≤ ∑ _c : Fin 24576, 1 := Finset.sum_le_sum fun c _ => by split <;> omega
    _ = 24576 := by simp

theorem bit_sge (w : BitVec 32) (a : ℕ) (hw : w.toNat < 2 ^ 31) (ha : a < 2 ^ 31) :
    bit .sge w (BitVec.ofNat 32 a) = if a ≤ w.toNat then 1 else 0 := by
  have e : IntOp.cmpi .sge w (BitVec.ofNat 32 a) = BitVec.ofBool (decide (a ≤ w.toNat)) := by
    show BitVec.ofBool ((BitVec.ofNat 32 a).sle w) = _
    rw [← sle_small a w.toNat ha hw, BitVec.ofNat_toNat, BitVec.setWidth_eq]
  unfold bit
  rw [e]
  exact if_congr (by rw [ofBool_eq_one, decide_eq_true_iff]) rfl rfl

theorem sgt_small (w : BitVec 32) (a : ℕ) (hw : w.toNat < 2 ^ 31) (ha : a < 2 ^ 31) :
    (IntOp.cmpi .sgt w (BitVec.ofNat 32 a) = 1) ↔ a + 1 ≤ w.toNat := by
  have e : IntOp.cmpi .sgt w (BitVec.ofNat 32 a) = BitVec.ofBool (decide (a < w.toNat)) := by
    show BitVec.ofBool ((BitVec.ofNat 32 a).slt w) = _
    rw [← slt_small a w.toNat ha hw, BitVec.ofNat_toNat, BitVec.setWidth_eq]
  rw [e, ofBool_eq_one, decide_eq_true_iff]
  rfl

theorem count_sge (K : IVec S16x24576 32) (T : IVec S16x1 32) (r : Fin 16) (a : ℕ) (hK : ∀ c, (K (ix2 r c)).toNat < 2 ^ 31)
    (hT : T (ix2 r 0) = BitVec.ofNat 32 a) (ha : a < 2 ^ 31) : count .sge K T (ix2 r 0) = BitVec.ofNat 32 (atLeast K r a) := by
  rw [count_at, hT]
  exact congrArg _ (Finset.sum_congr rfl fun c _ => bit_sge _ _ (hK c) ha)

theorem count_sgt (K : IVec S16x24576 32) (T : IVec S16x1 32) (r : Fin 16) (a : ℕ) (hK : ∀ c, (K (ix2 r c)).toNat < 2 ^ 31)
    (hT : T (ix2 r 0) = BitVec.ofNat 32 a) (ha : a < 2 ^ 31) : count .sgt K T (ix2 r 0) = BitVec.ofNat 32 (atLeast K r (a + 1)) := by
  rw [count_at, hT]
  refine congrArg _ (Finset.sum_congr rfl fun c _ => ?_)
  unfold bit
  exact if_congr (sgt_small _ _ (hK c) ha) rfl rfl

theorem step_bit : ∀ k : Fin k0_t1_loop.trips, Scalar.shli 1#32 (Scalar.subi 30#32 (Scf.iv 0#32 1#32 k)) = BitVec.ofNat 32 (2 ^ (30 - k.val)) := by
  decide

theorem trips_eq : k0_t1_loop.trips = 31 := by decide

/-- The threshold: fewer words than wanted lie above it, and at least as many at or above it. -/
theorem threshold_at (K : IVec S16x24576 32) (want : IVec S16x1 32) (r : Fin 16) (k : ℕ) (hK : ∀ c, (K (ix2 r c)).toNat < 2 ^ 31)
    (hw : want (ix2 r 0) = BitVec.ofNat 32 k) (hk0 : 0 < k) (hk : k ≤ 24563) :
    ∃ a : ℕ, a < 2 ^ 31 ∧ threshold K want (ix2 r 0) = BitVec.ofNat 32 a ∧ k ≤ atLeast K r a ∧ atLeast K r (a + 1) < k := by
  have h := Cert.ValuesMath.fold_inv (bisect K want)
    (fun t acc => ∃ a : ℕ, a + 2 ^ (31 - t) ≤ 2 ^ 31 ∧ acc (ix2 r 0) = BitVec.ofNat 32 a ∧ k ≤ atLeast K r a ∧ atLeast K r (a + 2 ^ (31 - t)) < k)
    (broadcast S16x1 0#32) ?_ ?_
  · obtain ⟨a, h1, h2, h3, h4⟩ := h
    rw [trips_eq] at h1 h4
    exact ⟨a, by omega, h2, h3, h4⟩
  · refine ⟨0, by omega, rfl, ?_, ?_⟩
    · have : atLeast K r 0 = 24576 := by simp [atLeast]
      omega
    · have : atLeast K r (0 + 2 ^ (31 - 0)) = 0 := Finset.sum_eq_zero fun c _ => if_neg (by have := hK c; omega)
      omega
  · rintro t acc ⟨a, h1, h2, h3, h4⟩
    have ht : t.val < 31 := trips_eq ▸ t.isLt
    have hp : 2 ^ (31 - t.val) = 2 * 2 ^ (30 - t.val) := by rw [← pow_succ']; congr 1; omega
    have hp' : 2 ^ (31 - (t.val + 1)) = 2 ^ (30 - t.val) := by congr 1; omega
    have hpos : 0 < 2 ^ (30 - t.val) := by positivity
    rw [hp] at h1 h4
    rw [hp']
    generalize hd : 2 ^ (30 - t.val) = d at *
    have hT : tried t acc (ix2 r 0) = BitVec.ofNat 32 (a + d) := by
      show acc (ix2 r 0) + Scalar.shli 1#32 (Scalar.subi 30#32 (Scf.iv 0#32 1#32 t)) = _
      rw [h2, step_bit, hd, BitVec.ofNat_add]
    have hc : cmpi .sge (count .sge K (tried t acc)) want (ix2 r 0) = BitVec.ofBool (decide (k ≤ atLeast K r (a + d))) := by
      show BitVec.ofBool ((want (ix2 r 0)).sle (count .sge K (tried t acc) (ix2 r 0))) = _
      have := atLeast_le K r (a + d)
      rw [hw, count_sge K _ r (a + d) hK hT (by omega), sle_small _ _ (by omega) (by omega)]
    have hb : bisect K want t acc (ix2 r 0) = if cmpi .sge (count .sge K (tried t acc)) want (ix2 r 0) = 1 then tried t acc (ix2 r 0) else acc (ix2 r 0) := rfl
    rw [hc] at hb
    by_cases hh : k ≤ atLeast K r (a + d)
    · rw [if_pos ((ofBool_eq_one _).2 (decide_eq_true hh)), hT] at hb
      refine ⟨a + d, by omega, hb, hh, ?_⟩
      rw [show a + d + d = a + 2 * d by omega]
      exact h4
    · rw [if_neg (fun e => hh (of_decide_eq_true ((ofBool_eq_one _).1 e))), h2] at hb
      exact ⟨a, by omega, hb, h3, by omega⟩

/-! ### The padded row -/

theorem padded_left (losses : FVec Ideal S16x1x24564 .f32) (r : Fin 16) (c : Fin 24576) (hc : c.val < 24564) :
    padded losses (ix2 r c) = losses (ix3 r 0 ⟨c.val, hc⟩) := by
  unfold padded
  refine (concatenate_pair_apply_left (t := S16x24576) (s₁ := S16x24564) (s₂ := S16x12) 1 _ _ _ (ix2 r c) rfl (ix2 r (⟨c.val, hc⟩ : Fin 24564))
    (fun b => match b with | ⟨0, _⟩ => rfl | ⟨1, _⟩ => rfl)).trans ?_
  refine shapeCast_apply _ _ _ _ ?_
  rw [Shape.rowMajor_val_three, Shape.rowMajor_val_two]
  show (r.val * 1 + 0) * 24564 + c.val = r.val * 24564 + c.val
  omega

theorem padded_right (losses : FVec Ideal S16x1x24564 .f32) (r : Fin 16) (c : Fin 24576) (hc : 24564 ≤ c.val) :
    padded losses (ix2 r c) = 0 := by
  unfold padded
  refine (concatenate_pair_apply_right (t := S16x24576) (s₁ := S16x24564) (s₂ := S16x12) 1 _ _ _ (ix2 r c) rfl rfl (ix2 r (⟨c.val - 24564, by omega⟩ : Fin 12))
    (fun b hb => match b with | ⟨0, _⟩ => rfl | ⟨1, _⟩ => absurd rfl hb) (by show c.val - 24564 + 24564 = c.val; omega)).trans ?_
  exact Ideal.ofBits_zero_f32

/-! ### The row's sum -/

/-- The sum of a row's largest numbers: of the places that a sorting by falling value puts first, where `y` holds the row's
    numbers at the places `φ` and every number of `y` is the value of its own word. -/
theorem top_at {s : Shape} (losses : FVec Ideal S16x1x24564 .f32) (pos : IVec S16x1 32) (y : FVec Ideal s .f32) (r : Fin 16)
    (φ : Fin 24564 → s.Idx) (hφ : ∀ p, losses (ix3 r 0 p) = y (φ p))
    (hy : ∀ i, (keys y i).toNat < 255 * 2 ^ 23 ∧ value (keys y) i = y i)
    (rank : Fin 24564 → Fin 24564) (hinj : Function.Injective rank)
    (hrank : ∀ p q, rank p < rank q → decoded (keys y (φ q)).toNat ≤ decoded (keys y (φ p)).toNat) :
    top losses pos (ix2 r 0) = ∑ p : Fin 24564, if IntOp.cmpi .slt (BitVec.ofNat 32 (rank p).val) (wanted pos (ix2 r 0)) = 1 then y (φ p) else (0 : EReal) := by
  set x := padded losses with hx
  set K := keys x with hKd
  have hKl : ∀ (p : Fin 24564), K (ix2 r ⟨p.val, by omega⟩) = keys y (φ p) := fun p =>
    keys_at x _ y _ ((padded_left losses r ⟨p.val, by omega⟩ p.isLt).trans (hφ p))
  have hKr : ∀ c : Fin 24576, 24564 ≤ c.val → K (ix2 r c) = 0#32 := fun c hc => keys_zero x _ (padded_right losses r c hc)
  have hxl : ∀ (p : Fin 24564), x (ix2 r ⟨p.val, by omega⟩) = ((decoded (keys y (φ p)).toNat : ℝ) : EReal) := fun p =>
    ((padded_left losses r ⟨p.val, by omega⟩ p.isLt).trans (hφ p)).trans (real_of y (φ p) (hy _).1 (hy _).2)
  have hK : ∀ c, (K (ix2 r c)).toNat < 2 ^ 31 := by
    intro c
    by_cases hc : c.val < 24564
    · have := hKl ⟨c.val, hc⟩
      have h2 := (hy (φ ⟨c.val, hc⟩)).1
      rw [← this] at h2
      exact lt_trans h2 (by norm_num)
    · rw [hKr c (not_lt.1 hc)]
      decide
  set w := wanted pos (ix2 r 0) with hwd
  have htop : top losses pos (ix2 r 0) = if BitVec.ofBool ((0#32).slt w) = 1 then
      sumAbove x K (threshold K (wanted pos)) (ix2 r 0)
        + ((w - count .sgt K (threshold K (wanted pos)) (ix2 r 0)).toInt : ℝ) * Ideal.ofBits .f32 (threshold K (wanted pos) (ix2 r 0))
      else Ideal.ofBits .f32 0x00000000#32 := rfl
  have hwle : w.toInt ≤ 24563 := by
    have e : w = if ((3#32 * pos (ix2 r 0)).slt 24563#32) = true then 3#32 * pos (ix2 r 0) else 24563#32 := rfl
    rw [e]
    split
    · next h => rw [BitVec.slt_eq_decide, decide_eq_true_iff] at h; exact le_of_lt h
    · decide
  rw [htop]
  by_cases hw0 : 0 < w.toInt
  · obtain ⟨k, hk⟩ : ∃ k : ℕ, w.toInt = (k : ℤ) := ⟨w.toInt.toNat, by omega⟩
    have hwk : w = BitVec.ofNat 32 k := by
      have : w = BitVec.ofInt 32 (k : ℤ) := by rw [← hk, BitVec.ofInt_toInt]
      rw [this]
      exact BitVec.ofInt_natCast 32 k
    have hk0 : 0 < k := by omega
    have hk1 : k ≤ 24563 := by omega
    obtain ⟨a, ha, hT, h1, h2⟩ := threshold_at K (wanted pos) r k hK hwk hk0 hk1
    -- the counts over the row without its padding
    have above : ∀ b : ℕ, 0 < b → atLeast K r b = (Finset.univ.filter fun p : Fin 24564 => b ≤ (keys y (φ p)).toNat).card := by
      intro b hb
      unfold atLeast
      rw [Cert.ValuesMath.unpadded _ (fun c hc => if_neg (by rw [hKr c hc]; simp; omega)), Finset.card_filter]
      exact Finset.sum_congr rfl fun p _ => by rw [hKl p]
    have g1 : (Finset.univ.filter fun p : Fin 24564 => a < (keys y (φ p)).toNat).card < k := by
      have := above (a + 1) (by omega)
      rw [this] at h2
      exact h2
    have g2 : k ≤ (Finset.univ.filter fun p : Fin 24564 => a ≤ (keys y (φ p)).toNat).card := by
      rcases Nat.eq_zero_or_pos a with h0 | h0
      · rw [Finset.filter_true_of_mem (fun p _ => by omega), Finset.card_univ, Fintype.card_fin]
        omega
      · rw [← above a h0]
        exact h1
    have hbound : a < 255 * 2 ^ 23 := by
      obtain ⟨p, hp⟩ := Finset.card_pos.1 (lt_of_lt_of_le hk0 g2)
      exact lt_of_le_of_lt (Finset.mem_filter.1 hp).2 (hy (φ p)).1
    have form : a = 0 ∨ 2 ^ 23 ≤ a := by
      obtain ⟨p, hp1, hp2⟩ := Finset.exists_mem_notMem_of_card_lt_card (lt_of_lt_of_le g1 g2)
      have ep : (keys y (φ p)).toNat = a := by
        have q1 := (Finset.mem_filter.1 hp1).2
        have q2 : ¬ a < (keys y (φ p)).toNat := fun h => hp2 (Finset.mem_filter.2 ⟨Finset.mem_univ _, h⟩)
        omega
      by_cases ha0 : 2 ^ 23 ≤ a
      · exact .inr ha0
      · left
        have z := real_of y (φ p) (hy _).1 (hy _).2
        rw [ep, show decoded a = 0 from if_pos (not_le.1 ha0), EReal.coe_zero] at z
        rw [← ep, keys_zero y (φ p) z]
        rfl
    have main := Cert.ValuesMath.topk (fun p => decoded (keys y (φ p)).toNat) (fun p => (keys y (φ p)).toNat) rank hinj hrank
      (fun p q => order y hy (φ p) (φ q)) k a g1 g2 (decoded a) (fun p hp => by rw [hp])
    have hcount := above (a + 1) (by omega)
    rw [if_pos ((ofBool_eq_one _).2 (by rw [BitVec.slt_eq_decide]; exact decide_eq_true hw0)),
      count_sgt K _ r a hK hT ha, hT, ofBits_at a form hbound, hwk, hcount]
    have hsub : BitVec.ofNat 32 k - BitVec.ofNat 32 (Finset.univ.filter fun p : Fin 24564 => a + 1 ≤ (keys y (φ p)).toNat).card
        = BitVec.ofNat 32 (k - (Finset.univ.filter fun p : Fin 24564 => a < (keys y (φ p)).toNat).card) := by
      apply BitVec.eq_of_toNat_eq
      rw [BitVec.toNat_sub, BitVec.toNat_ofNat, BitVec.toNat_ofNat, BitVec.toNat_ofNat]
      show (2 ^ 32 - (Finset.univ.filter fun p : Fin 24564 => a < (keys y (φ p)).toNat).card % 2 ^ 32 + k % 2 ^ 32) % 2 ^ 32 = _
      omega
    rw [hsub, toInt_small _ (by omega), Int.cast_natCast, sumAbove_at,
      Cert.ValuesMath.unpadded _ (fun c hc => by rw [hx, padded_right losses r c hc]; exact ite_self _)]
    have hsum : (∑ p : Fin 24564, if IntOp.cmpi .sgt (K (ix2 r ⟨p.val, by omega⟩)) (threshold K (wanted pos) (ix2 r 0)) = 1 then x (ix2 r ⟨p.val, by omega⟩) else (0 : EReal))
        = ((∑ p : Fin 24564, (if a < (keys y (φ p)).toNat then decoded (keys y (φ p)).toNat else 0) : ℝ) : EReal) := by
      rw [Cert.ValuesMath.coe_sum]
      refine Finset.sum_congr rfl fun p _ => ?_
      rw [hT]
      by_cases hp : a < (keys y (φ p)).toNat
      · rw [if_pos ((sgt_small _ _ (hK _) ha).2 (by rw [hKl p]; exact hp)), if_pos hp, hxl p]
      · rw [if_neg (fun e => hp (by rw [← hKl p]; exact (sgt_small _ _ (hK _) ha).1 e)), if_neg hp, EReal.coe_zero]
    rw [hsum, ← EReal.coe_mul, ← EReal.coe_add, ← main, Cert.ValuesMath.coe_sum]
    refine Finset.sum_congr rfl fun p _ => ?_
    have hs : (IntOp.cmpi .slt (BitVec.ofNat 32 (rank p).val) (BitVec.ofNat 32 k) = 1) ↔ (rank p).val < k := by
      show (BitVec.ofBool ((BitVec.ofNat 32 (rank p).val).slt (BitVec.ofNat 32 k)) = 1) ↔ _
      have := (rank p).isLt
      rw [slt_small _ _ (by omega) (by omega), ofBool_eq_one, decide_eq_true_iff]
    by_cases hp : (rank p).val < k
    · rw [if_pos hp, if_pos (hs.2 hp), real_of y (φ p) (hy _).1 (hy _).2]
    · rw [if_neg hp, if_neg (fun e => hp (hs.1 e)), EReal.coe_zero]
  · rw [if_neg (fun e => hw0 (by have := (ofBool_eq_one _).1 e; rw [BitVec.slt_eq_decide] at this; exact of_decide_eq_true this)),
      Ideal.ofBits_zero_f32]
    refine (Finset.sum_eq_zero fun p _ => if_neg fun e => hw0 ?_).symm
    have e' : (BitVec.ofNat 32 (rank p).val).slt w = true := (ofBool_eq_one _).1 e
    have := (rank p).isLt
    rw [BitVec.slt_eq_decide, decide_eq_true_iff, toInt_small _ (by omega)] at e'
    omega

end Cert.ValuesRows

end
-- ==== Proof.ValuesRef.lean ====
/- The mining reference's ranks, over the reals.

   The reference sorts each row's places by falling loss and sorts the result again: the second sorting's positions are the
   ranks.  Here: the ranks of a row are distinct, and a place of lower rank holds no smaller a loss. -/
module

public import proofs.«01_k».proof.Proof.Gen.MineValuesReferenceIdeal.Read
public import proofs.«01_k».proof.Proof.ValuesDecode
public import Idealize.ShloMosaic.Lib.SortFacts
public import Mathlib.Order.Fin.Basic
public import Idealize.ShloMosaic.Lib.ValueLayoutCasts

@[expose] public section

set_option maxRecDepth 16384

noncomputable section

namespace Cert.ValuesRef

open Cert.MineValuesReferenceIdeal Cert.ValuesDecode Idealize.ShloMosaic Idealize.ShloMosaic.ValueIdx

/-- Sorting a permutation's values gives its inverse. -/
theorem inverse {n : ℕ} (σ : Fin n → Fin n) (hσ : Function.Injective σ) (c : Fin n) :
    σ (sortedFrom (fun k k' => decide (σ k < σ k')) c) = c := by
  have hmono : StrictMono (σ ∘ sortedFrom fun k k' => decide (σ k < σ k')) := by
    intro i j hij
    have h := sortedFrom_noInversion (fun k k' => decide (σ k < σ k')) (fun k k' => decide (σ k < σ k'))
      (fun a b h => decide_eq_false (not_lt.2 (le_of_lt (of_decide_eq_true h)))) (fun _ _ h => h)
      (fun a b c h1 h2 => decide_eq_false (not_lt.2 (le_trans (not_lt.1 (of_decide_eq_false h2)) (not_lt.1 (of_decide_eq_false h1))))) i j hij
    refine lt_of_le_of_ne (not_lt.1 (of_decide_eq_false h)) fun he => ?_
    exact absurd (sortedFrom_injective _ (hσ he)) (ne_of_lt hij)
  have hsurj : Function.Surjective (σ ∘ sortedFrom fun k k' => decide (σ k < σ k')) := Finite.injective_iff_surjective.1 hmono.injective
  have hle : c ≤ (hmono.orderIsoOfSurjective _ hsurj).symm c := (hmono.orderIsoOfSurjective _ hsurj).symm.strictMono.le_apply
  have hge : (hmono.orderIsoOfSurjective _ hsurj) c ≤ c := by
    have h := (hmono.orderIsoOfSurjective _ hsurj).monotone hle
    rwa [OrderIso.apply_symm_apply] at h
  exact le_antisymm hge hmono.le_apply

/-- The ranks by a sorting: distinct, and no greater key comes first. -/
theorem ranks {n : ℕ} (z : Fin n → EReal) :
    Function.Injective (sortedFrom fun k k' => decide (sortedFrom (fun a b => decide (z a < z b)) k < sortedFrom (fun a b => decide (z a < z b)) k'))
    ∧ ∀ p q, sortedFrom (fun k k' => decide (sortedFrom (fun a b => decide (z a < z b)) k < sortedFrom (fun a b => decide (z a < z b)) k')) p
        < sortedFrom (fun k k' => decide (sortedFrom (fun a b => decide (z a < z b)) k < sortedFrom (fun a b => decide (z a < z b)) k')) q → z p ≤ z q := by
  refine ⟨sortedFrom_injective _, fun p q h => ?_⟩
  have hn := sortedFrom_noInversion (fun a b => decide (z a < z b)) (fun a b => decide (z a < z b))
    (fun a b h => decide_eq_false (not_lt.2 (le_of_lt (of_decide_eq_true h)))) (fun _ _ h => h)
    (fun a b c h1 h2 => decide_eq_false (not_lt.2 (le_trans (not_lt.1 (of_decide_eq_false h2)) (not_lt.1 (of_decide_eq_false h1))))) _ _ h
  rw [inverse _ (sortedFrom_injective _) p, inverse _ (sortedFrom_injective _) q] at hn
  exact not_lt.1 (of_decide_eq_false hn)

theorem along_at (r : Fin 16) (c k : Fin 24564) : Shape.Idx.along (s := S16x24564) (ix2 r c) (1 : Fin 2) k = ix2 r k := by
  funext a
  match a with
  | ⟨0, _⟩ => rfl
  | ⟨1, _⟩ => rfl

/-- What a sorting carries along, read at a place. -/
theorem sort2_at {α β : Type} (cmp : α × β → α × β → BitVec 1) (x : S16x24564.Idx → α) (y : S16x24564.Idx → β) (r : Fin 16) (c : Fin 24564) :
    (Host.sort2 S16x24564 1 cmp x y).2 (ix2 r c)
      = y (ix2 r (sortedFrom (fun k k' => cmp (x (ix2 r k), y (ix2 r k)) (x (ix2 r k'), y (ix2 r k')) == 1#1) c)) := by
  unfold Host.sort2
  rw [dif_pos (show 1 < S16x24564.rank by decide)]
  show y (Shape.Idx.along (s := S16x24564) (ix2 r c) (1 : Fin 2) (sortedFrom (fun k k' : Fin 24564 =>
    cmp (x (Shape.Idx.along (s := S16x24564) (ix2 r c) (1 : Fin 2) k), y (Shape.Idx.along (s := S16x24564) (ix2 r c) (1 : Fin 2) k))
      (x (Shape.Idx.along (s := S16x24564) (ix2 r c) (1 : Fin 2) k'), y (Shape.Idx.along (s := S16x24564) (ix2 r c) (1 : Fin 2) k')) == 1#1) c)) = _
  simp only [along_at]
  exact congrArg y (along_at r c _)

theorem before_real (l r : EReal × BitVec 32) : (comparator_f32_i32_d1 (F := Ideal) l r == 1#1) = decide (l.1 < r.1) := by
  have h : ∀ a q z : EReal, Scalar.select (Ideal.cmp .une a a) q (Scalar.select (Ideal.cmp .oeq a z) z a) = a := by
    intro a q z
    unfold Scalar.select Ideal.cmp
    by_cases hz : a = z <;> simp [hz]
  have e : comparator_f32_i32_d1 (F := Ideal) l r = Ideal.cmp .olt
      (Scalar.select (Ideal.cmp .une l.1 l.1) (Ideal.ofBits .f32 0x7FC00000#32) (Scalar.select (Ideal.cmp .oeq l.1 (Ideal.ofBits .f32 0x00000000#32)) (Ideal.ofBits .f32 0x00000000#32) l.1))
      (Scalar.select (Ideal.cmp .une r.1 r.1) (Ideal.ofBits .f32 0x7FC00000#32) (Scalar.select (Ideal.cmp .oeq r.1 (Ideal.ofBits .f32 0x00000000#32)) (Ideal.ofBits .f32 0x00000000#32) r.1)) := rfl
  rw [e, h, h]
  show (BitVec.ofBool (decide (l.1 < r.1)) == 1#1) = _
  cases decide (l.1 < r.1) <;> rfl

theorem before_int (l r : BitVec 32 × BitVec 32) (a b : ℕ) (ha : a < 2 ^ 31) (hb : b < 2 ^ 31) (hl : l.1 = BitVec.ofNat 32 a) (hr : r.1 = BitVec.ofNat 32 b) :
    (comparator_i32_i32_d1 l r == 1#1) = decide (a < b) := by
  show (BitVec.ofBool (l.1.slt r.1) == 1#1) = _
  rw [hl, hr, slt_small _ _ ha hb]
  cases decide (a < b) <;> rfl

/-- The ranks of a row: distinct, and a place of lower rank holds no smaller a loss. -/
theorem rank_at (x0 : FVec Ideal S16x6141x4 .f32) (r : Fin 16) : ∃ rank : Fin 24564 → Fin 24564, Function.Injective rank
    ∧ (∀ c, Read.val_main_v4 (F := Ideal) x0 (ix2 r c) = BitVec.ofNat 32 (rank c).val)
    ∧ ∀ p q, rank p < rank q → (Read.val_main_v0 (F := Ideal) x0 (ix2 r q) : EReal) ≤ Read.val_main_v0 (F := Ideal) x0 (ix2 r p) := by
  set z : Fin 24564 → EReal := fun c => -(Read.val_main_v0 (F := Ideal) x0 (ix2 r c) : EReal) with hz
  obtain ⟨h1, h2⟩ := ranks z
  have i0 : ∀ k : Fin 24564, Read.val_main_call0_v0 (F := Ideal) (ix2 r k) = BitVec.ofNat 32 k.val := fun k => (Read.val_main_call0_v0_apply _).trans rfl
  have i1 : ∀ k : Fin 24564, Read.val_main_call1_v0 (F := Ideal) (ix2 r k) = BitVec.ofNat 32 k.val := fun k => (Read.val_main_call1_v0_apply _).trans rfl
  have small : 24564 < 2 ^ 31 := by norm_num
  have h3 : ∀ c, Read.val_main_v3 (F := Ideal) x0 (ix2 r c) = BitVec.ofNat 32 (sortedFrom (fun a b => decide (z a < z b)) c).val := by
    intro c
    unfold Read.val_main_v3
    rw [sort2_at]
    have : (fun k k' => comparator_f32_i32_d1 (F := Ideal) (Read.val_main_v2 (F := Ideal) x0 (ix2 r k), Read.val_main_call0_v0 (F := Ideal) (ix2 r k))
        (Read.val_main_v2 (F := Ideal) x0 (ix2 r k'), Read.val_main_call0_v0 (F := Ideal) (ix2 r k')) == 1#1) = fun a b => decide (z a < z b) := by
      funext k k'
      exact before_real _ _
    refine (i0 _).trans ?_
    exact congrArg (fun f : Fin 24564 → Fin 24564 → Bool => BitVec.ofNat 32 (sortedFrom f c).val) this
  refine ⟨_, h1, fun c => ?_, fun p q h => ?_⟩
  · unfold Read.val_main_v4
    rw [sort2_at]
    have : (fun k k' => comparator_i32_i32_d1 (Read.val_main_v3 (F := Ideal) x0 (ix2 r k), Read.val_main_call1_v0 (F := Ideal) (ix2 r k))
        (Read.val_main_v3 (F := Ideal) x0 (ix2 r k'), Read.val_main_call1_v0 (F := Ideal) (ix2 r k')) == 1#1)
        = fun k k' => decide (sortedFrom (fun a b => decide (z a < z b)) k < sortedFrom (fun a b => decide (z a < z b)) k') := by
      funext k k'
      exact (before_int (_, _) (_, _) _ _ (lt_trans (Fin.isLt _) small) (lt_trans (Fin.isLt _) small) (h3 k) (h3 k')).trans
        (decide_eq_decide.2 Fin.lt_def.symm)
    refine (i1 _).trans ?_
    exact congrArg (fun f : Fin 24564 → Fin 24564 → Bool => BitVec.ofNat 32 (sortedFrom f c).val) this
  · exact EReal.neg_le_neg_iff.1 (h2 p q h)

end Cert.ValuesRef

end
-- ==== Proof.ValuesEqual.lean ====
/- The mining call's two values are its reference's.

   Row by row the call's sum of the largest losses is the reference's sum of the losses of low rank; the rows' sums are added
   up over the rows on one side and over all places at once on the other; and the two numbers of positives are one. -/
module

public import proofs.«01_k».proof.Proof.ValuesRows
public import proofs.«01_k».proof.Proof.ValuesRef

@[expose] public section

set_option maxRecDepth 16384

noncomputable section

namespace Cert.ValuesEqual

open Cert.MineValuesIdeal Cert.ValuesSteps Cert.ValuesBody Cert.ValuesDecode Idealize.ShloMosaic Idealize.ShloMosaic.ValueIdx

/-- The counts of positives as the call's body takes them: laid out as a column, twice. -/
def column (x1 : IVec S16x1x1 32) : IVec S16x1 32 :=
  shapeCast S16x1 (shapeCast S16x1 x1 Facts₀.shapeCasts_S16x1x1_S16x1) Facts₀.shapeCasts_S16x1_S16x1

/-- The losses laid out in rows. -/
def rows (x0 : FVec Ideal S16x6141x4 .f32) : FVec Ideal S16x1x24564 .f32 :=
  shapeCast S16x1x24564 x0 Facts₀.shapeCasts_S16x6141x4_S16x1x24564

theorem column_eq (x1 : IVec S16x1x1 32) : column x1 = Cert.MineValuesReferenceIdeal.Read.val_main_v1 (F := Ideal) x1 := by
  funext i
  show shapeCast S16x1 x1 Facts₀.shapeCasts_S16x1x1_S16x1 (Shape.reshapeEquiv Facts₀.shapeCasts_S16x1_S16x1 i) = _
  rw [Shape.reshapeEquiv_self]
  rfl

theorem wanted_at (x1 : IVec S16x1x1 32) (i : S16x1.Idx) :
    wanted (column x1) i = Cert.MineValuesReferenceIdeal.Read.val_main_v8 (F := Ideal) x1 i := by
  rw [column_eq, Cert.MineValuesReferenceIdeal.Read.val_main_v8_apply, Cert.MineValuesReferenceIdeal.Read.val_main_v6_apply,
    Cert.MineValuesReferenceIdeal.Read.val_main_v5_apply, Cert.MineValuesReferenceIdeal.Read.val_main_v7_apply]
  rfl

/-- A place of a row, as a place of the losses. -/
def place (r : Fin 16) (p : Fin 24564) : S16x6141x4.Idx := Cert.MineValuesReferenceIdeal.Read.idx_main_v0 (ix2 r p)

theorem rows_at (x0 : FVec Ideal S16x6141x4 .f32) (r : Fin 16) (p : Fin 24564) : rows x0 (ix3 r 0 p) = x0 (place r p) := by
  refine shapeCast_apply x0 _ _ _ ?_
  rewrite [Shape.rowMajor_val_three, Shape.rowMajor_val_three]
  have h0 : r.val < 16 := r.isLt
  have h1 : p.val < 24564 := p.isLt
  show ((r.val * 24564 + p.val) / 24564 * 6141 + (r.val * 24564 + p.val) / 4 % 6141) * 4 + (r.val * 24564 + p.val) % 4
    = (r.val * 1 + 0) * 24564 + p.val
  omega

/-- A row's sum of the largest losses is the reference's sum over the row. -/
theorem row (x0 : FVec Ideal S16x6141x4 .f32) (x1 : IVec S16x1x1 32)
    (h : ∀ i, (keys x0 i).toNat < 255 * 2 ^ 23 ∧ value (keys x0) i = x0 i) (r : Fin 16) :
    top (rows x0) (column x1) (ix2 r 0)
      = ∑ p : Fin 24564, (Cert.MineValuesReferenceIdeal.Read.val_main_v11 (F := Ideal) x0 x1 (ix2 r p) : EReal) := by
  obtain ⟨rank, hinj, hv, hle⟩ := Cert.ValuesRef.rank_at x0 r
  refine (Cert.ValuesRows.top_at (rows x0) (column x1) x0 r (place r) (rows_at x0 r) h rank hinj fun p q hpq => ?_).trans ?_
  · have h1 := hle p q hpq
    rw [Cert.MineValuesReferenceIdeal.Read.val_main_v0_apply, Cert.MineValuesReferenceIdeal.Read.val_main_v0_apply] at h1
    have h2 : (x0 (place r q) : EReal) ≤ x0 (place r p) := h1
    rw [real_of x0 _ (h _).1 (h _).2, real_of x0 (place r p) (h _).1 (h _).2] at h2
    exact EReal.coe_le_coe_iff.1 h2
  · refine Finset.sum_congr rfl fun p _ => ?_
    rw [Cert.MineValuesReferenceIdeal.Read.val_main_v11_apply, Cert.MineValuesReferenceIdeal.Read.val_main_v10_apply,
      Cert.MineValuesReferenceIdeal.Read.val_main_v9_apply, hv, Cert.MineValuesReferenceIdeal.Read.val_main_v0_apply,
      Cert.MineValuesReferenceIdeal.Read.val_main_call2_v1_apply, Cert.MineValuesReferenceIdeal.Read.val_main_call2_v0_apply,
      Cert.MineValuesReferenceIdeal.Read.val_main_cst_apply, wanted_at]
    have hz : (FloatOps.ofBits (F := Ideal) .f32 0x00000000#32 : EReal) = 0 := Ideal.ofBits_zero_f32
    have hp : Cert.MineValuesReferenceIdeal.Read.idx_main_v9 (ix2 r p) = ix2 r 0 := by
      funext a
      match a with
      | ⟨0, _⟩ => rfl
      | ⟨1, _⟩ => rfl
    rw [hz, hp]
    rfl

/-! ### The sums over the rows -/

theorem totalled (x : FVec Ideal S16x1 .f32) :
    extractAt ![0, 0, 0] (shapeCast S1x1x1 (multiReduction .add [1, 2] S1
      (shapeCast S1x16x1 x Facts₀.shapeCasts_S16x1_S1x16x1) 0x00000000#32 Facts₀.reduces_S1x16x1_S1 (.inl rfl) rfl)
      Facts₀.shapeCasts_S1_S1x1x1) Facts₀.inpos_S1x1x1_p0_0_0 = ∑ r : Fin 16, (x (ix2 r 0) : EReal) := by
  refine (Ideal.multiReduction_add_total _ _ Facts₀.reduces_S1x16x1_S1 ?_ (.inl rfl) rfl _).trans ?_
  · intro b
    match b with
    | ⟨0, _⟩ => rfl
  · refine (Equiv.sum_comp (Shape.reshapeEquiv Facts₀.shapeCasts_S16x1_S1x16x1) (fun i => (x i : EReal))).trans ?_
    rw [sum_idx2]
    exact Finset.sum_congr rfl fun r _ => Fin.sum_univ_one _

/-- An array of integers summed over every axis, at the one place left, is the fold of addition over all its places. -/
theorem summed {s : Shape} (axes : List (Fin s.rank)) (x : IVec s 32) (h : s.Reduces axes S1) (hacc : (0#32 : BitVec 32) = IKind.add.neutral)
    (j : S1.Idx) : multiReductionI .add axes S1 x 0#32 h hacc j = Finset.univ.fold IKind.add.op 0#32 x := by
  rw [multiReductionI_eq_fold]
  congr 1
  refine Finset.filter_true_of_mem fun i _ => ?_
  funext a
  apply Fin.ext
  have h1 := (h.drop i a).isLt
  have h2 := (j a).isLt
  fin_cases a
  change _ < 1 at h1
  change _ < 1 at h2
  omega

/-- The two numbers of positives are one. -/
theorem positives_eq (x1 : IVec S16x1x1 32) (i : Cert.MineValuesReferenceIdeal.S_.Idx) :
    positives (F := Ideal) (column x1) = Cert.MineValuesReferenceIdeal.Read.val_main_v16 (F := Ideal) x1 i := by
  refine congrArg (Scalar.sitofp (F := Ideal) .f32) ((summed _ _ _ rfl _).trans ?_)
  rw [column_eq]
  unfold Cert.MineValuesReferenceIdeal.Read.val_main_v15
  refine Eq.trans ?_ (Host.reduce_eq_fold _ _ _ _ _ _).symm
  refine Eq.trans (?_ : _ = Finset.univ.fold IKind.add.op 0#32 (Cert.MineValuesReferenceIdeal.Read.val_main_v1 (F := Ideal) x1)) ?_
  · rw [← Finset.map_univ_equiv (Shape.reshapeEquiv Facts₀.shapeCasts_S16x1_S1x16x1), Finset.fold_map]
    rfl
  · refine Eq.trans ?_ (congrArg (fun s => Finset.fold _ _ _ s) (Finset.filter_true_of_mem fun k _ => funext fun a => a.elim0).symm)
    rfl

/-- The first results are one, -/
theorem first_eq (x1 : IVec S16x1x1 32) (x2 : FVec Ideal S1x1 .f32) :
    first (column x1) x2 = Cert.MineValuesReferenceIdeal.Read.val_main_v18 (F := Ideal) x1 x2 := by
  funext i
  rw [Cert.MineValuesReferenceIdeal.Read.val_main_v18_apply, Cert.MineValuesReferenceIdeal.Read.val_main_v17_apply,
    ← positives_eq]
  rfl

/-- and so are the second. -/
theorem second_eq (x0 : FVec Ideal S16x6141x4 .f32) (x1 : IVec S16x1x1 32) (x3 : FVec Ideal S1x1 .f32)
    (h : ∀ i, (keys x0 i).toNat < 255 * 2 ^ 23 ∧ value (keys x0) i = x0 i) :
    second (column x1) (top (rows x0) (column x1)) x3 = Cert.MineValuesReferenceIdeal.Read.val_main_v20 (F := Ideal) x0 x1 x3 := by
  funext i
  rw [Cert.MineValuesReferenceIdeal.Read.val_main_v20_apply, Cert.MineValuesReferenceIdeal.Read.val_main_v19_apply,
    Cert.MineValuesReferenceIdeal.Read.val_main_v14_apply, Cert.MineValuesReferenceIdeal.Read.val_main_v13_apply,
    Cert.MineValuesReferenceIdeal.Read.val_main_v12_apply, ← positives_eq]
  have hz : (Cert.MineValuesReferenceIdeal.Read.val_main_cst_1 (F := Ideal) (Shape.Idx.first Cert.MineValuesReferenceIdeal.Gen.h_S_) : EReal) = 0 :=
    Ideal.ofBits_zero_f32
  have hs : (∑ j : Cert.MineValuesReferenceIdeal.S16x24564.Idx, (Cert.MineValuesReferenceIdeal.Read.val_main_v11 (F := Ideal) x0 x1 j : EReal))
      = ∑ r : Fin 16, (top (rows x0) (column x1) (ix2 r 0) : EReal) := by
    rw [sum_idx2]
    exact Finset.sum_congr rfl fun r _ => (row x0 x1 h r).symm
  have ht := totalled (top (rows x0) (column x1))
  unfold second
  generalize top (rows x0) (column x1) = t at hs ht ⊢
  generalize positives (F := Ideal) (column x1) = n
  refine congrArg (fun s : Ideal .f32 => FloatOps.divf s n) ?_
  refine congrArg (fun e : EReal => (x3 i : EReal) + e) (ht.trans ?_)
  rw [hs, hz, zero_add]

end Cert.ValuesEqual

end
-- ==== Proof.ValuesBody.lean ====
/- The mining kernel with its reading of the floats' bits written as arithmetic: its body is the program `short`.

   The body is a chain of pure statements around eight memory accesses.  Each of its windows is given in the closed form
   of `ValuesDefs`, and `body_eq` joins the windows. -/
module

public import proofs.«01_k».proof.Proof.ValuesDefs
public import Idealize.ShloMosaic.Lib.Exec.Context

@[expose] public section

set_option maxRecDepth 16384

noncomputable section

namespace Cert.ValuesBody

open Cert.MineValuesIdeal Cert.ValuesSteps Idealize.ShloMosaic Idealize.ShloMosaic.TcCoe Idealize.SL.Sem

variable {F : FTy → Type} [FloatOps F]

section

variable (arg0 : Memref sig .tc .vmem S16x1x24564 .f32) (harg0 : arg0.IsWhole)
    (arg1 : Memref sig .tc .vmem S16x1 .i32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)

/-! ### The windows of the loop's region -/

/-- The first ten chunks. -/
theorem part1 (K : IVec S16x24576 32) (k : Fin k0_t1_loop.trips) (acc : IVec S16x1 32) : k0_part1 (F := F) arg0 harg0 arg1 harg1 arg2 harg2 arg3 harg3 arg4 harg4 arg5 harg5 K 0#32 1#32 k acc = .ret ⟨tried k acc, counts .sge K (tried k acc) 10 (by decide), chunk K 10 (by decide)⟩ := rfl

/-- Chunks 10 to 21. -/
theorem part2 (K : IVec S16x24576 32) (T : IVec S16x1 32) : k0_part2 (F := F) arg0 harg0 arg1 harg1 arg2 harg2 arg3 harg3 arg4 harg4 arg5 harg5 K T (counts .sge K T 10 (by decide)) (chunk K 10 (by decide)) = .ret ⟨counts .sge K T 22 (by decide), chunk K 22 (by decide)⟩ := rfl

/-- Chunks 22 to 33. -/
theorem part3 (K : IVec S16x24576 32) (T : IVec S16x1 32) : k0_part3 (F := F) arg0 harg0 arg1 harg1 arg2 harg2 arg3 harg3 arg4 harg4 arg5 harg5 K T (counts .sge K T 22 (by decide)) (chunk K 22 (by decide)) = .ret ⟨counts .sge K T 34 (by decide), chunk K 34 (by decide)⟩ := rfl

/-- Chunks 34 to 45. -/
theorem part4 (K : IVec S16x24576 32) (T : IVec S16x1 32) : k0_part4 (F := F) arg0 harg0 arg1 harg1 arg2 harg2 arg3 harg3 arg4 harg4 arg5 harg5 K T (counts .sge K T 34 (by decide)) (chunk K 34 (by decide)) = .ret ⟨counts .sge K T 46 (by decide), chunk K 46 (by decide)⟩ := rfl

/-- Chunks 46 to 57. -/
theorem part5 (K : IVec S16x24576 32) (T : IVec S16x1 32) : k0_part5 (F := F) arg0 harg0 arg1 harg1 arg2 harg2 arg3 harg3 arg4 harg4 arg5 harg5 K T (counts .sge K T 46 (by decide)) (chunk K 46 (by decide)) = .ret ⟨counts .sge K T 58 (by decide), chunk K 58 (by decide)⟩ := rfl

/-- Chunks 58 to 69. -/
theorem part6 (K : IVec S16x24576 32) (T : IVec S16x1 32) : k0_part6 (F := F) arg0 harg0 arg1 harg1 arg2 harg2 arg3 harg3 arg4 harg4 arg5 harg5 K T (counts .sge K T 58 (by decide)) (chunk K 58 (by decide)) = .ret ⟨counts .sge K T 70 (by decide), chunk K 70 (by decide)⟩ := rfl

/-- Chunks 70 to 81. -/
theorem part7 (K : IVec S16x24576 32) (T : IVec S16x1 32) : k0_part7 (F := F) arg0 harg0 arg1 harg1 arg2 harg2 arg3 harg3 arg4 harg4 arg5 harg5 K T (counts .sge K T 70 (by decide)) (chunk K 70 (by decide)) = .ret ⟨counts .sge K T 82 (by decide), chunk K 82 (by decide)⟩ := rfl

/-- Chunks 82 to 93. -/
theorem part8 (K : IVec S16x24576 32) (T : IVec S16x1 32) : k0_part8 (F := F) arg0 harg0 arg1 harg1 arg2 harg2 arg3 harg3 arg4 harg4 arg5 harg5 K T (counts .sge K T 82 (by decide)) (chunk K 82 (by decide)) = .ret ⟨counts .sge K T 94 (by decide), chunk K 94 (by decide)⟩ := rfl

/-- Chunks 94 to 105. -/
theorem part9 (K : IVec S16x24576 32) (T : IVec S16x1 32) : k0_part9 (F := F) arg0 harg0 arg1 harg1 arg2 harg2 arg3 harg3 arg4 harg4 arg5 harg5 K T (counts .sge K T 94 (by decide)) (chunk K 94 (by decide)) = .ret ⟨counts .sge K T 106 (by decide), chunk K 106 (by decide)⟩ := rfl

/-- Chunks 106 to 117. -/
theorem part10 (K : IVec S16x24576 32) (T : IVec S16x1 32) : k0_part10 (F := F) arg0 harg0 arg1 harg1 arg2 harg2 arg3 harg3 arg4 harg4 arg5 harg5 K T (counts .sge K T 106 (by decide)) (chunk K 106 (by decide)) = .ret ⟨counts .sge K T 118 (by decide), chunk K 118 (by decide)⟩ := rfl

/-- Chunks 118 to 129. -/
theorem part11 (K : IVec S16x24576 32) (T : IVec S16x1 32) : k0_part11 (F := F) arg0 harg0 arg1 harg1 arg2 harg2 arg3 harg3 arg4 harg4 arg5 harg5 K T (counts .sge K T 118 (by decide)) (chunk K 118 (by decide)) = .ret ⟨counts .sge K T 130 (by decide), chunk K 130 (by decide)⟩ := rfl

/-- Chunks 130 to 141. -/
theorem part12 (K : IVec S16x24576 32) (T : IVec S16x1 32) : k0_part12 (F := F) arg0 harg0 arg1 harg1 arg2 harg2 arg3 harg3 arg4 harg4 arg5 harg5 K T (counts .sge K T 130 (by decide)) (chunk K 130 (by decide)) = .ret ⟨counts .sge K T 142 (by decide), chunk K 142 (by decide)⟩ := rfl

/-- Chunks 142 to 153. -/
theorem part13 (K : IVec S16x24576 32) (T : IVec S16x1 32) : k0_part13 (F := F) arg0 harg0 arg1 harg1 arg2 harg2 arg3 harg3 arg4 harg4 arg5 harg5 K T (counts .sge K T 142 (by decide)) (chunk K 142 (by decide)) = .ret ⟨counts .sge K T 154 (by decide), chunk K 154 (by decide)⟩ := rfl

/-- Chunks 154 to 165. -/
theorem part14 (K : IVec S16x24576 32) (T : IVec S16x1 32) : k0_part14 (F := F) arg0 harg0 arg1 harg1 arg2 harg2 arg3 harg3 arg4 harg4 arg5 harg5 K T (counts .sge K T 154 (by decide)) (chunk K 154 (by decide)) = .ret ⟨counts .sge K T 166 (by decide), chunk K 166 (by decide)⟩ := rfl

/-- Chunks 166 to 177. -/
theorem part15 (K : IVec S16x24576 32) (T : IVec S16x1 32) : k0_part15 (F := F) arg0 harg0 arg1 harg1 arg2 harg2 arg3 harg3 arg4 harg4 arg5 harg5 K T (counts .sge K T 166 (by decide)) (chunk K 166 (by decide)) = .ret ⟨counts .sge K T 178 (by decide), chunk K 178 (by decide)⟩ := rfl

/-- Chunks 178 to 189. -/
theorem part16 (K : IVec S16x24576 32) (T : IVec S16x1 32) : k0_part16 (F := F) arg0 harg0 arg1 harg1 arg2 harg2 arg3 harg3 arg4 harg4 arg5 harg5 K T (counts .sge K T 178 (by decide)) (chunk K 178 (by decide)) = .ret ⟨counts .sge K T 190 (by decide), chunk K 190 (by decide)⟩ := rfl

/-! ### The windows of the words -/

/-- The steps in the middle. -/
theorem part18 (x : FVec F S16x24576 .f32) : k0_part18 arg0 harg0 arg1 harg1 arg2 harg2 arg3 harg3 arg4 harg4 arg5 harg5 (shrunk4 x).1 (shrunk4 x).2 (cmpf .oge (shrunk4 x).1 (broadcast S16x24576 (Scalar.ofBits .f32 0x41800000#32))) (mulf (shrunk4 x).1 (broadcast S16x24576 (Scalar.ofBits .f32 0x3D800000#32))) = .ret ⟨(shrunk (shrunk4 x)).1, (shrunk (shrunk4 x)).2⟩ := rfl

/-- The last steps. -/
theorem part19 (x : FVec F S16x24576 .f32) (p : FVec F S16x24576 .f32 × IVec S16x24576 32) : k0_part19 arg0 harg0 arg1 harg1 arg2 harg2 arg3 harg3 arg4 harg4 arg5 harg5 x p.1 p.2 = .ret ⟨cmpf .olt x (broadcast S16x24576 (Scalar.ofBits .f32 0x00800000#32)), packed (grown p), broadcast S16x24576 0#32⟩ := rfl

/-- The losses loaded and padded, and the first steps. -/
theorem part17 : k0_part17 (F := F) arg0 harg0 arg1 harg1 arg2 harg2 arg3 harg3 arg4 harg4 arg5 harg5 = .op (.load arg0 (Rect.unit (s := S16x1x24564) ![0, 0, 0] S16x1x24564.size Facts₀.inb_S16x1x24564_S16x1x24564_0_0_0).toLoadRect (View.loadsAt_vmem Facts₀.h_S16x1x24564)) fun (losses : Vec F S16x1x24564 .f32) => .ret ⟨padded losses, (shrunk4 (padded losses)).1, (shrunk4 (padded losses)).2, cmpf .oge (shrunk4 (padded losses)).1 (broadcast S16x24576 (Scalar.ofBits .f32 0x41800000#32)), mulf (shrunk4 (padded losses)).1 (broadcast S16x24576 (Scalar.ofBits .f32 0x3D800000#32))⟩ := rfl

set_option maxHeartbeats 4000000 in
/-- The counts loaded, the bisection, and the first chunks of the second pass. -/
theorem part20 (x : FVec F S16x24576 .f32) (p : IVec S16x24576 32) (K : IVec S16x24576 32)
    (hK : K = select (cmpf .olt x (broadcast S16x24576 (Scalar.ofBits .f32 0x00800000#32))) (broadcast S16x24576 0#32) p) :
    k0_part20 arg0 harg0 arg1 harg1 arg2 harg2 arg3 harg3 arg4 harg4 arg5 harg5 x (cmpf .olt x (broadcast S16x24576 (Scalar.ofBits .f32 0x00800000#32))) p (broadcast S16x24576 0#32)
      = .op (.load arg1 (Rect.unit (s := S16x1) ![0, 0] S16x1.size Facts₀.inb_S16x1_S16x1_0_0).toLoadRect (View.loadsAt_vmem Facts₀.h_S16x1)) fun (pos : Vec F S16x1 .i32) =>
        .ret ⟨K, shapeCast S16x1 pos Facts₀.shapeCasts_S16x1_S16x1, wanted (shapeCast S16x1 pos Facts₀.shapeCasts_S16x1_S16x1),
          threshold K (wanted (shapeCast S16x1 pos Facts₀.shapeCasts_S16x1_S16x1)),
          sums x K (threshold K (wanted (shapeCast S16x1 pos Facts₀.shapeCasts_S16x1_S16x1))) 3 (by decide),
          marks .sgt K (threshold K (wanted (shapeCast S16x1 pos Facts₀.shapeCasts_S16x1_S16x1))) 3 (by decide),
          counts .sgt K (threshold K (wanted (shapeCast S16x1 pos Facts₀.shapeCasts_S16x1_S16x1))) 4 (by decide),
          chunk x 3 (by decide), Scalar.ofBits .f32 0x00000000#32⟩ := by
  unfold k0_part20
  rw [← hK]
  refine congrArg (Prog.op _) (funext fun pos => ?_)
  refine seq (x := pos) rfl ?_
  refine seq (x := threshold K (wanted (shapeCast S16x1 pos Facts₀.shapeCasts_S16x1_S16x1))) ?_ rfl
  refine Scf.for_pure _ _ _ _ _ _ (bisect K (wanted (shapeCast S16x1 pos Facts₀.shapeCasts_S16x1_S16x1))) ?_
  intro k acc
  refine seq (part1 arg0 harg0 arg1 harg1 arg2 harg2 arg3 harg3 arg4 harg4 arg5 harg5 K k acc) ?_

  refine seq (part2 arg0 harg0 arg1 harg1 arg2 harg2 arg3 harg3 arg4 harg4 arg5 harg5 K (tried k acc)) ?_
  refine seq (part3 arg0 harg0 arg1 harg1 arg2 harg2 arg3 harg3 arg4 harg4 arg5 harg5 K (tried k acc)) ?_
  refine seq (part4 arg0 harg0 arg1 harg1 arg2 harg2 arg3 harg3 arg4 harg4 arg5 harg5 K (tried k acc)) ?_
  refine seq (part5 arg0 harg0 arg1 harg1 arg2 harg2 arg3 harg3 arg4 harg4 arg5 harg5 K (tried k acc)) ?_
  refine seq (part6 arg0 harg0 arg1 harg1 arg2 harg2 arg3 harg3 arg4 harg4 arg5 harg5 K (tried k acc)) ?_
  refine seq (part7 arg0 harg0 arg1 harg1 arg2 harg2 arg3 harg3 arg4 harg4 arg5 harg5 K (tried k acc)) ?_
  refine seq (part8 arg0 harg0 arg1 harg1 arg2 harg2 arg3 harg3 arg4 harg4 arg5 harg5 K (tried k acc)) ?_
  refine seq (part9 arg0 harg0 arg1 harg1 arg2 harg2 arg3 harg3 arg4 harg4 arg5 harg5 K (tried k acc)) ?_
  refine seq (part10 arg0 harg0 arg1 harg1 arg2 harg2 arg3 harg3 arg4 harg4 arg5 harg5 K (tried k acc)) ?_
  refine seq (part11 arg0 harg0 arg1 harg1 arg2 harg2 arg3 harg3 arg4 harg4 arg5 harg5 K (tried k acc)) ?_
  refine seq (part12 arg0 harg0 arg1 harg1 arg2 harg2 arg3 harg3 arg4 harg4 arg5 harg5 K (tried k acc)) ?_
  refine seq (part13 arg0 harg0 arg1 harg1 arg2 harg2 arg3 harg3 arg4 harg4 arg5 harg5 K (tried k acc)) ?_
  refine seq (part14 arg0 harg0 arg1 harg1 arg2 harg2 arg3 harg3 arg4 harg4 arg5 harg5 K (tried k acc)) ?_
  refine seq (part15 arg0 harg0 arg1 harg1 arg2 harg2 arg3 harg3 arg4 harg4 arg5 harg5 K (tried k acc)) ?_
  refine seq (part16 arg0 harg0 arg1 harg1 arg2 harg2 arg3 harg3 arg4 harg4 arg5 harg5 K (tried k acc)) ?_
  rfl

/-- Chunks 3 to 8 of the second pass. -/
theorem part21 (x : FVec F S16x24576 .f32) (K : IVec S16x24576 32) (T : IVec S16x1 32) : k0_part21 arg0 harg0 arg1 harg1 arg2 harg2 arg3 harg3 arg4 harg4 arg5 harg5 x K T (sums x K T 3 (by decide)) (marks .sgt K T 3 (by decide)) (counts .sgt K T 4 (by decide)) (chunk x 3 (by decide)) (Scalar.ofBits .f32 0x00000000#32) = .ret ⟨sums x K T 9 (by decide), marks .sgt K T 9 (by decide), counts .sgt K T 10 (by decide), chunk x 9 (by decide), Scalar.ofBits .f32 0x00000000#32⟩ := rfl

/-- Chunks 9 to 14 of the second pass. -/
theorem part22 (x : FVec F S16x24576 .f32) (K : IVec S16x24576 32) (T : IVec S16x1 32) : k0_part22 arg0 harg0 arg1 harg1 arg2 harg2 arg3 harg3 arg4 harg4 arg5 harg5 x K T (sums x K T 9 (by decide)) (marks .sgt K T 9 (by decide)) (counts .sgt K T 10 (by decide)) (chunk x 9 (by decide)) (Scalar.ofBits .f32 0x00000000#32) = .ret ⟨sums x K T 15 (by decide), marks .sgt K T 15 (by decide), counts .sgt K T 16 (by decide), chunk x 15 (by decide), Scalar.ofBits .f32 0x00000000#32⟩ := rfl

/-- Chunks 15 to 20 of the second pass. -/
theorem part23 (x : FVec F S16x24576 .f32) (K : IVec S16x24576 32) (T : IVec S16x1 32) : k0_part23 arg0 harg0 arg1 harg1 arg2 harg2 arg3 harg3 arg4 harg4 arg5 harg5 x K T (sums x K T 15 (by decide)) (marks .sgt K T 15 (by decide)) (counts .sgt K T 16 (by decide)) (chunk x 15 (by decide)) (Scalar.ofBits .f32 0x00000000#32) = .ret ⟨sums x K T 21 (by decide), marks .sgt K T 21 (by decide), counts .sgt K T 22 (by decide), chunk x 21 (by decide), Scalar.ofBits .f32 0x00000000#32⟩ := rfl

/-- Chunks 21 to 26 of the second pass. -/
theorem part24 (x : FVec F S16x24576 .f32) (K : IVec S16x24576 32) (T : IVec S16x1 32) : k0_part24 arg0 harg0 arg1 harg1 arg2 harg2 arg3 harg3 arg4 harg4 arg5 harg5 x K T (sums x K T 21 (by decide)) (marks .sgt K T 21 (by decide)) (counts .sgt K T 22 (by decide)) (chunk x 21 (by decide)) (Scalar.ofBits .f32 0x00000000#32) = .ret ⟨sums x K T 27 (by decide), marks .sgt K T 27 (by decide), counts .sgt K T 28 (by decide), chunk x 27 (by decide), Scalar.ofBits .f32 0x00000000#32⟩ := rfl

/-- Chunks 27 to 32 of the second pass. -/
theorem part25 (x : FVec F S16x24576 .f32) (K : IVec S16x24576 32) (T : IVec S16x1 32) : k0_part25 arg0 harg0 arg1 harg1 arg2 harg2 arg3 harg3 arg4 harg4 arg5 harg5 x K T (sums x K T 27 (by decide)) (marks .sgt K T 27 (by decide)) (counts .sgt K T 28 (by decide)) (chunk x 27 (by decide)) (Scalar.ofBits .f32 0x00000000#32) = .ret ⟨sums x K T 33 (by decide), marks .sgt K T 33 (by decide), counts .sgt K T 34 (by decide), chunk x 33 (by decide), Scalar.ofBits .f32 0x00000000#32⟩ := rfl

/-- Chunks 33 to 38 of the second pass. -/
theorem part26 (x : FVec F S16x24576 .f32) (K : IVec S16x24576 32) (T : IVec S16x1 32) : k0_part26 arg0 harg0 arg1 harg1 arg2 harg2 arg3 harg3 arg4 harg4 arg5 harg5 x K T (sums x K T 33 (by decide)) (marks .sgt K T 33 (by decide)) (counts .sgt K T 34 (by decide)) (chunk x 33 (by decide)) (Scalar.ofBits .f32 0x00000000#32) = .ret ⟨sums x K T 39 (by decide), marks .sgt K T 39 (by decide), counts .sgt K T 40 (by decide), chunk x 39 (by decide), Scalar.ofBits .f32 0x00000000#32⟩ := rfl

/-- Chunks 39 to 44 of the second pass. -/
theorem part27 (x : FVec F S16x24576 .f32) (K : IVec S16x24576 32) (T : IVec S16x1 32) : k0_part27 arg0 harg0 arg1 harg1 arg2 harg2 arg3 harg3 arg4 harg4 arg5 harg5 x K T (sums x K T 39 (by decide)) (marks .sgt K T 39 (by decide)) (counts .sgt K T 40 (by decide)) (chunk x 39 (by decide)) (Scalar.ofBits .f32 0x00000000#32) = .ret ⟨sums x K T 45 (by decide), marks .sgt K T 45 (by decide), counts .sgt K T 46 (by decide), chunk x 45 (by decide), Scalar.ofBits .f32 0x00000000#32⟩ := rfl

/-- Chunks 45 to 50 of the second pass. -/
theorem part28 (x : FVec F S16x24576 .f32) (K : IVec S16x24576 32) (T : IVec S16x1 32) : k0_part28 arg0 harg0 arg1 harg1 arg2 harg2 arg3 harg3 arg4 harg4 arg5 harg5 x K T (sums x K T 45 (by decide)) (marks .sgt K T 45 (by decide)) (counts .sgt K T 46 (by decide)) (chunk x 45 (by decide)) (Scalar.ofBits .f32 0x00000000#32) = .ret ⟨sums x K T 51 (by decide), marks .sgt K T 51 (by decide), counts .sgt K T 52 (by decide), chunk x 51 (by decide), Scalar.ofBits .f32 0x00000000#32⟩ := rfl

/-- Chunks 51 to 56 of the second pass. -/
theorem part29 (x : FVec F S16x24576 .f32) (K : IVec S16x24576 32) (T : IVec S16x1 32) : k0_part29 arg0 harg0 arg1 harg1 arg2 harg2 arg3 harg3 arg4 harg4 arg5 harg5 x K T (sums x K T 51 (by decide)) (marks .sgt K T 51 (by decide)) (counts .sgt K T 52 (by decide)) (chunk x 51 (by decide)) (Scalar.ofBits .f32 0x00000000#32) = .ret ⟨sums x K T 57 (by decide), marks .sgt K T 57 (by decide), counts .sgt K T 58 (by decide), chunk x 57 (by decide), Scalar.ofBits .f32 0x00000000#32⟩ := rfl

/-- Chunks 57 to 62 of the second pass. -/
theorem part30 (x : FVec F S16x24576 .f32) (K : IVec S16x24576 32) (T : IVec S16x1 32) : k0_part30 arg0 harg0 arg1 harg1 arg2 harg2 arg3 harg3 arg4 harg4 arg5 harg5 x K T (sums x K T 57 (by decide)) (marks .sgt K T 57 (by decide)) (counts .sgt K T 58 (by decide)) (chunk x 57 (by decide)) (Scalar.ofBits .f32 0x00000000#32) = .ret ⟨sums x K T 63 (by decide), marks .sgt K T 63 (by decide), counts .sgt K T 64 (by decide), chunk x 63 (by decide), Scalar.ofBits .f32 0x00000000#32⟩ := rfl

/-- Chunks 63 to 68 of the second pass. -/
theorem part31 (x : FVec F S16x24576 .f32) (K : IVec S16x24576 32) (T : IVec S16x1 32) : k0_part31 arg0 harg0 arg1 harg1 arg2 harg2 arg3 harg3 arg4 harg4 arg5 harg5 x K T (sums x K T 63 (by decide)) (marks .sgt K T 63 (by decide)) (counts .sgt K T 64 (by decide)) (chunk x 63 (by decide)) (Scalar.ofBits .f32 0x00000000#32) = .ret ⟨sums x K T 69 (by decide), marks .sgt K T 69 (by decide), counts .sgt K T 70 (by decide), chunk x 69 (by decide), Scalar.ofBits .f32 0x00000000#32⟩ := rfl

/-- Chunks 69 to 74 of the second pass. -/
theorem part32 (x : FVec F S16x24576 .f32) (K : IVec S16x24576 32) (T : IVec S16x1 32) : k0_part32 arg0 harg0 arg1 harg1 arg2 harg2 arg3 harg3 arg4 harg4 arg5 harg5 x K T (sums x K T 69 (by decide)) (marks .sgt K T 69 (by decide)) (counts .sgt K T 70 (by decide)) (chunk x 69 (by decide)) (Scalar.ofBits .f32 0x00000000#32) = .ret ⟨sums x K T 75 (by decide), marks .sgt K T 75 (by decide), counts .sgt K T 76 (by decide), chunk x 75 (by decide), Scalar.ofBits .f32 0x00000000#32⟩ := rfl

/-- Chunks 75 to 80 of the second pass. -/
theorem part33 (x : FVec F S16x24576 .f32) (K : IVec S16x24576 32) (T : IVec S16x1 32) : k0_part33 arg0 harg0 arg1 harg1 arg2 harg2 arg3 harg3 arg4 harg4 arg5 harg5 x K T (sums x K T 75 (by decide)) (marks .sgt K T 75 (by decide)) (counts .sgt K T 76 (by decide)) (chunk x 75 (by decide)) (Scalar.ofBits .f32 0x00000000#32) = .ret ⟨sums x K T 81 (by decide), marks .sgt K T 81 (by decide), counts .sgt K T 82 (by decide), chunk x 81 (by decide), Scalar.ofBits .f32 0x00000000#32⟩ := rfl

/-- Chunks 81 to 86 of the second pass. -/
theorem part34 (x : FVec F S16x24576 .f32) (K : IVec S16x24576 32) (T : IVec S16x1 32) : k0_part34 arg0 harg0 arg1 harg1 arg2 harg2 arg3 harg3 arg4 harg4 arg5 harg5 x K T (sums x K T 81 (by decide)) (marks .sgt K T 81 (by decide)) (counts .sgt K T 82 (by decide)) (chunk x 81 (by decide)) (Scalar.ofBits .f32 0x00000000#32) = .ret ⟨sums x K T 87 (by decide), marks .sgt K T 87 (by decide), counts .sgt K T 88 (by decide), chunk x 87 (by decide), Scalar.ofBits .f32 0x00000000#32⟩ := rfl

/-- Chunks 87 to 92 of the second pass. -/
theorem part35 (x : FVec F S16x24576 .f32) (K : IVec S16x24576 32) (T : IVec S16x1 32) : k0_part35 arg0 harg0 arg1 harg1 arg2 harg2 arg3 harg3 arg4 harg4 arg5 harg5 x K T (sums x K T 87 (by decide)) (marks .sgt K T 87 (by decide)) (counts .sgt K T 88 (by decide)) (chunk x 87 (by decide)) (Scalar.ofBits .f32 0x00000000#32) = .ret ⟨sums x K T 93 (by decide), marks .sgt K T 93 (by decide), counts .sgt K T 94 (by decide), chunk x 93 (by decide), Scalar.ofBits .f32 0x00000000#32⟩ := rfl

/-- Chunks 93 to 98 of the second pass. -/
theorem part36 (x : FVec F S16x24576 .f32) (K : IVec S16x24576 32) (T : IVec S16x1 32) : k0_part36 arg0 harg0 arg1 harg1 arg2 harg2 arg3 harg3 arg4 harg4 arg5 harg5 x K T (sums x K T 93 (by decide)) (marks .sgt K T 93 (by decide)) (counts .sgt K T 94 (by decide)) (chunk x 93 (by decide)) (Scalar.ofBits .f32 0x00000000#32) = .ret ⟨sums x K T 99 (by decide), marks .sgt K T 99 (by decide), counts .sgt K T 100 (by decide), chunk x 99 (by decide), Scalar.ofBits .f32 0x00000000#32⟩ := rfl

/-- Chunks 99 to 104 of the second pass. -/
theorem part37 (x : FVec F S16x24576 .f32) (K : IVec S16x24576 32) (T : IVec S16x1 32) : k0_part37 arg0 harg0 arg1 harg1 arg2 harg2 arg3 harg3 arg4 harg4 arg5 harg5 x K T (sums x K T 99 (by decide)) (marks .sgt K T 99 (by decide)) (counts .sgt K T 100 (by decide)) (chunk x 99 (by decide)) (Scalar.ofBits .f32 0x00000000#32) = .ret ⟨sums x K T 105 (by decide), marks .sgt K T 105 (by decide), counts .sgt K T 106 (by decide), chunk x 105 (by decide), Scalar.ofBits .f32 0x00000000#32⟩ := rfl

/-- Chunks 105 to 110 of the second pass. -/
theorem part38 (x : FVec F S16x24576 .f32) (K : IVec S16x24576 32) (T : IVec S16x1 32) : k0_part38 arg0 harg0 arg1 harg1 arg2 harg2 arg3 harg3 arg4 harg4 arg5 harg5 x K T (sums x K T 105 (by decide)) (marks .sgt K T 105 (by decide)) (counts .sgt K T 106 (by decide)) (chunk x 105 (by decide)) (Scalar.ofBits .f32 0x00000000#32) = .ret ⟨sums x K T 111 (by decide), marks .sgt K T 111 (by decide), counts .sgt K T 112 (by decide), chunk x 111 (by decide), Scalar.ofBits .f32 0x00000000#32⟩ := rfl

/-- Chunks 111 to 116 of the second pass. -/
theorem part39 (x : FVec F S16x24576 .f32) (K : IVec S16x24576 32) (T : IVec S16x1 32) : k0_part39 arg0 harg0 arg1 harg1 arg2 harg2 arg3 harg3 arg4 harg4 arg5 harg5 x K T (sums x K T 111 (by decide)) (marks .sgt K T 111 (by decide)) (counts .sgt K T 112 (by decide)) (chunk x 111 (by decide)) (Scalar.ofBits .f32 0x00000000#32) = .ret ⟨sums x K T 117 (by decide), marks .sgt K T 117 (by decide), counts .sgt K T 118 (by decide), chunk x 117 (by decide), Scalar.ofBits .f32 0x00000000#32⟩ := rfl

/-- Chunks 117 to 122 of the second pass. -/
theorem part40 (x : FVec F S16x24576 .f32) (K : IVec S16x24576 32) (T : IVec S16x1 32) : k0_part40 arg0 harg0 arg1 harg1 arg2 harg2 arg3 harg3 arg4 harg4 arg5 harg5 x K T (sums x K T 117 (by decide)) (marks .sgt K T 117 (by decide)) (counts .sgt K T 118 (by decide)) (chunk x 117 (by decide)) (Scalar.ofBits .f32 0x00000000#32) = .ret ⟨sums x K T 123 (by decide), marks .sgt K T 123 (by decide), counts .sgt K T 124 (by decide), chunk x 123 (by decide), Scalar.ofBits .f32 0x00000000#32⟩ := rfl

/-- Chunks 123 to 128 of the second pass. -/
theorem part41 (x : FVec F S16x24576 .f32) (K : IVec S16x24576 32) (T : IVec S16x1 32) : k0_part41 arg0 harg0 arg1 harg1 arg2 harg2 arg3 harg3 arg4 harg4 arg5 harg5 x K T (sums x K T 123 (by decide)) (marks .sgt K T 123 (by decide)) (counts .sgt K T 124 (by decide)) (chunk x 123 (by decide)) (Scalar.ofBits .f32 0x00000000#32) = .ret ⟨sums x K T 129 (by decide), marks .sgt K T 129 (by decide), counts .sgt K T 130 (by decide), chunk x 129 (by decide), Scalar.ofBits .f32 0x00000000#32⟩ := rfl

/-- Chunks 129 to 134 of the second pass. -/
theorem part42 (x : FVec F S16x24576 .f32) (K : IVec S16x24576 32) (T : IVec S16x1 32) : k0_part42 arg0 harg0 arg1 harg1 arg2 harg2 arg3 harg3 arg4 harg4 arg5 harg5 x K T (sums x K T 129 (by decide)) (marks .sgt K T 129 (by decide)) (counts .sgt K T 130 (by decide)) (chunk x 129 (by decide)) (Scalar.ofBits .f32 0x00000000#32) = .ret ⟨sums x K T 135 (by decide), marks .sgt K T 135 (by decide), counts .sgt K T 136 (by decide), chunk x 135 (by decide), Scalar.ofBits .f32 0x00000000#32⟩ := rfl

/-- Chunks 135 to 140 of the second pass. -/
theorem part43 (x : FVec F S16x24576 .f32) (K : IVec S16x24576 32) (T : IVec S16x1 32) : k0_part43 arg0 harg0 arg1 harg1 arg2 harg2 arg3 harg3 arg4 harg4 arg5 harg5 x K T (sums x K T 135 (by decide)) (marks .sgt K T 135 (by decide)) (counts .sgt K T 136 (by decide)) (chunk x 135 (by decide)) (Scalar.ofBits .f32 0x00000000#32) = .ret ⟨sums x K T 141 (by decide), marks .sgt K T 141 (by decide), counts .sgt K T 142 (by decide), chunk x 141 (by decide), Scalar.ofBits .f32 0x00000000#32⟩ := rfl

/-- Chunks 141 to 146 of the second pass. -/
theorem part44 (x : FVec F S16x24576 .f32) (K : IVec S16x24576 32) (T : IVec S16x1 32) : k0_part44 arg0 harg0 arg1 harg1 arg2 harg2 arg3 harg3 arg4 harg4 arg5 harg5 x K T (sums x K T 141 (by decide)) (marks .sgt K T 141 (by decide)) (counts .sgt K T 142 (by decide)) (chunk x 141 (by decide)) (Scalar.ofBits .f32 0x00000000#32) = .ret ⟨sums x K T 147 (by decide), marks .sgt K T 147 (by decide), counts .sgt K T 148 (by decide), chunk x 147 (by decide), Scalar.ofBits .f32 0x00000000#32⟩ := rfl

/-- Chunks 147 to 152 of the second pass. -/
theorem part45 (x : FVec F S16x24576 .f32) (K : IVec S16x24576 32) (T : IVec S16x1 32) : k0_part45 arg0 harg0 arg1 harg1 arg2 harg2 arg3 harg3 arg4 harg4 arg5 harg5 x K T (sums x K T 147 (by decide)) (marks .sgt K T 147 (by decide)) (counts .sgt K T 148 (by decide)) (chunk x 147 (by decide)) (Scalar.ofBits .f32 0x00000000#32) = .ret ⟨sums x K T 153 (by decide), marks .sgt K T 153 (by decide), counts .sgt K T 154 (by decide), chunk x 153 (by decide), Scalar.ofBits .f32 0x00000000#32⟩ := rfl

/-- Chunks 153 to 158 of the second pass. -/
theorem part46 (x : FVec F S16x24576 .f32) (K : IVec S16x24576 32) (T : IVec S16x1 32) : k0_part46 arg0 harg0 arg1 harg1 arg2 harg2 arg3 harg3 arg4 harg4 arg5 harg5 x K T (sums x K T 153 (by decide)) (marks .sgt K T 153 (by decide)) (counts .sgt K T 154 (by decide)) (chunk x 153 (by decide)) (Scalar.ofBits .f32 0x00000000#32) = .ret ⟨sums x K T 159 (by decide), marks .sgt K T 159 (by decide), counts .sgt K T 160 (by decide), chunk x 159 (by decide), Scalar.ofBits .f32 0x00000000#32⟩ := rfl

/-- Chunks 159 to 164 of the second pass. -/
theorem part47 (x : FVec F S16x24576 .f32) (K : IVec S16x24576 32) (T : IVec S16x1 32) : k0_part47 arg0 harg0 arg1 harg1 arg2 harg2 arg3 harg3 arg4 harg4 arg5 harg5 x K T (sums x K T 159 (by decide)) (marks .sgt K T 159 (by decide)) (counts .sgt K T 160 (by decide)) (chunk x 159 (by decide)) (Scalar.ofBits .f32 0x00000000#32) = .ret ⟨sums x K T 165 (by decide), marks .sgt K T 165 (by decide), counts .sgt K T 166 (by decide), chunk x 165 (by decide), Scalar.ofBits .f32 0x00000000#32⟩ := rfl

/-- Chunks 165 to 170 of the second pass. -/
theorem part48 (x : FVec F S16x24576 .f32) (K : IVec S16x24576 32) (T : IVec S16x1 32) : k0_part48 arg0 harg0 arg1 harg1 arg2 harg2 arg3 harg3 arg4 harg4 arg5 harg5 x K T (sums x K T 165 (by decide)) (marks .sgt K T 165 (by decide)) (counts .sgt K T 166 (by decide)) (chunk x 165 (by decide)) (Scalar.ofBits .f32 0x00000000#32) = .ret ⟨sums x K T 171 (by decide), marks .sgt K T 171 (by decide), counts .sgt K T 172 (by decide), chunk x 171 (by decide), Scalar.ofBits .f32 0x00000000#32⟩ := rfl

/-- Chunks 171 to 176 of the second pass. -/
theorem part49 (x : FVec F S16x24576 .f32) (K : IVec S16x24576 32) (T : IVec S16x1 32) : k0_part49 arg0 harg0 arg1 harg1 arg2 harg2 arg3 harg3 arg4 harg4 arg5 harg5 x K T (sums x K T 171 (by decide)) (marks .sgt K T 171 (by decide)) (counts .sgt K T 172 (by decide)) (chunk x 171 (by decide)) (Scalar.ofBits .f32 0x00000000#32) = .ret ⟨sums x K T 177 (by decide), marks .sgt K T 177 (by decide), counts .sgt K T 178 (by decide), chunk x 177 (by decide), Scalar.ofBits .f32 0x00000000#32⟩ := rfl

/-- Chunks 177 to 182 of the second pass. -/
theorem part50 (x : FVec F S16x24576 .f32) (K : IVec S16x24576 32) (T : IVec S16x1 32) : k0_part50 arg0 harg0 arg1 harg1 arg2 harg2 arg3 harg3 arg4 harg4 arg5 harg5 x K T (sums x K T 177 (by decide)) (marks .sgt K T 177 (by decide)) (counts .sgt K T 178 (by decide)) (chunk x 177 (by decide)) (Scalar.ofBits .f32 0x00000000#32) = .ret ⟨sums x K T 183 (by decide), marks .sgt K T 183 (by decide), counts .sgt K T 184 (by decide), chunk x 183 (by decide), Scalar.ofBits .f32 0x00000000#32⟩ := rfl

/-- Chunks 183 to 188 of the second pass. -/
theorem part51 (x : FVec F S16x24576 .f32) (K : IVec S16x24576 32) (T : IVec S16x1 32) : k0_part51 arg0 harg0 arg1 harg1 arg2 harg2 arg3 harg3 arg4 harg4 arg5 harg5 x K T (sums x K T 183 (by decide)) (marks .sgt K T 183 (by decide)) (counts .sgt K T 184 (by decide)) (chunk x 183 (by decide)) (Scalar.ofBits .f32 0x00000000#32) = .ret ⟨sums x K T 189 (by decide), marks .sgt K T 189 (by decide), counts .sgt K T 190 (by decide), chunk x 189 (by decide), Scalar.ofBits .f32 0x00000000#32⟩ := rfl

/-- A program equal to another, and then the rest. -/
theorem same {E : Type → Type} {α β : Type} {p q : Prog E α} {k : α → Prog E β} {t : Prog E β}
    (hp : p = q) (hk : (q >>= k) = t) : (p >>= k) = t := by
  subst hp
  exact hk

set_option maxHeartbeats 4000000 in
/-- The last chunks, the two reductions, the rows' sums, and the first result stored. -/
theorem part52 (x : FVec F S16x24576 .f32) (K : IVec S16x24576 32) (pos T : IVec S16x1 32) :
    k0_part52 arg0 harg0 arg1 harg1 arg2 harg2 arg3 harg3 arg4 harg4 arg5 harg5 x K pos (wanted pos) T (sums x K T 189 (by decide)) (marks .sgt K T 189 (by decide)) (counts .sgt K T 190 (by decide)) (chunk x 189 (by decide)) (Scalar.ofBits .f32 0x00000000#32) = (do
      let ll : Vec F S1x1 .f32 ← Prog.lift (.load arg2 (Rect.unit (s := S1x1) ![0, 0] S1x1.size Facts₀.inb_S1x1_S1x1_0_0).toLoadRect (View.loadsAt_vmem Facts₀.h_S1x1))
      let _old : Vec F S1x1 .f32 ← Prog.lift (.load arg4 (Rect.unit (s := S1x1) ![0, 0] S1x1.size Facts₀.inb_S1x1_S1x1_0_0).toLoadRect (View.loadsAt_vmem Facts₀.h_S1x1))
      Prog.lift (.store arg4 (Rect.unit (s := S1x1) ![0, 0] S1x1.size Facts₀.inb_S1x1_S1x1_0_0) (first pos ll) Finset.univ (View.stores_vmem_bits_univ Facts₀.h_S1x1 rfl) (.inl rfl))
      let s : Vec F S1x1 .f32 ← Prog.lift (.load arg3 (Rect.unit (s := S1x1) ![0, 0] S1x1.size Facts₀.inb_S1x1_S1x1_0_0).toLoadRect (View.loadsAt_vmem Facts₀.h_S1x1))
      pure ⟨positives pos, s, shapeCast S1x16x1 (largest x K (wanted pos) T) Facts₀.shapeCasts_S16x1_S1x16x1⟩) := rfl

set_option maxHeartbeats 4000000 in
/-- The kernel is the short program. -/
theorem body_eq : cc0__mine_values_kernel (F := F) arg0 harg0 arg1 harg1 arg2 harg2 arg3 harg3 arg4 harg4 arg5 harg5 = short arg0 arg1 arg2 arg3 arg4 arg5 := by
  unfold cc0__mine_values_kernel
  refine access (part17 arg0 harg0 arg1 harg1 arg2 harg2 arg3 harg3 arg4 harg4 arg5 harg5) fun losses => ?_
  refine seq (part18 arg0 harg0 arg1 harg1 arg2 harg2 arg3 harg3 arg4 harg4 arg5 harg5 (padded losses)) ?_
  refine seq (part19 arg0 harg0 arg1 harg1 arg2 harg2 arg3 harg3 arg4 harg4 arg5 harg5 (padded losses) (shrunk (shrunk4 (padded losses)))) ?_
  refine access (part20 arg0 harg0 arg1 harg1 arg2 harg2 arg3 harg3 arg4 harg4 arg5 harg5 (padded losses) _ (keys (padded losses)) rfl) fun pos => ?_

  refine seq (part21 arg0 harg0 arg1 harg1 arg2 harg2 arg3 harg3 arg4 harg4 arg5 harg5 (padded losses) (keys (padded losses)) _) ?_
  refine seq (part22 arg0 harg0 arg1 harg1 arg2 harg2 arg3 harg3 arg4 harg4 arg5 harg5 (padded losses) (keys (padded losses)) _) ?_
  refine seq (part23 arg0 harg0 arg1 harg1 arg2 harg2 arg3 harg3 arg4 harg4 arg5 harg5 (padded losses) (keys (padded losses)) _) ?_
  refine seq (part24 arg0 harg0 arg1 harg1 arg2 harg2 arg3 harg3 arg4 harg4 arg5 harg5 (padded losses) (keys (padded losses)) _) ?_
  refine seq (part25 arg0 harg0 arg1 harg1 arg2 harg2 arg3 harg3 arg4 harg4 arg5 harg5 (padded losses) (keys (padded losses)) _) ?_
  refine seq (part26 arg0 harg0 arg1 harg1 arg2 harg2 arg3 harg3 arg4 harg4 arg5 harg5 (padded losses) (keys (padded losses)) _) ?_
  refine seq (part27 arg0 harg0 arg1 harg1 arg2 harg2 arg3 harg3 arg4 harg4 arg5 harg5 (padded losses) (keys (padded losses)) _) ?_
  refine seq (part28 arg0 harg0 arg1 harg1 arg2 harg2 arg3 harg3 arg4 harg4 arg5 harg5 (padded losses) (keys (padded losses)) _) ?_
  refine seq (part29 arg0 harg0 arg1 harg1 arg2 harg2 arg3 harg3 arg4 harg4 arg5 harg5 (padded losses) (keys (padded losses)) _) ?_
  refine seq (part30 arg0 harg0 arg1 harg1 arg2 harg2 arg3 harg3 arg4 harg4 arg5 harg5 (padded losses) (keys (padded losses)) _) ?_
  refine seq (part31 arg0 harg0 arg1 harg1 arg2 harg2 arg3 harg3 arg4 harg4 arg5 harg5 (padded losses) (keys (padded losses)) _) ?_
  refine seq (part32 arg0 harg0 arg1 harg1 arg2 harg2 arg3 harg3 arg4 harg4 arg5 harg5 (padded losses) (keys (padded losses)) _) ?_
  refine seq (part33 arg0 harg0 arg1 harg1 arg2 harg2 arg3 harg3 arg4 harg4 arg5 harg5 (padded losses) (keys (padded losses)) _) ?_
  refine seq (part34 arg0 harg0 arg1 harg1 arg2 harg2 arg3 harg3 arg4 harg4 arg5 harg5 (padded losses) (keys (padded losses)) _) ?_
  refine seq (part35 arg0 harg0 arg1 harg1 arg2 harg2 arg3 harg3 arg4 harg4 arg5 harg5 (padded losses) (keys (padded losses)) _) ?_
  refine seq (part36 arg0 harg0 arg1 harg1 arg2 harg2 arg3 harg3 arg4 harg4 arg5 harg5 (padded losses) (keys (padded losses)) _) ?_
  refine seq (part37 arg0 harg0 arg1 harg1 arg2 harg2 arg3 harg3 arg4 harg4 arg5 harg5 (padded losses) (keys (padded losses)) _) ?_
  refine seq (part38 arg0 harg0 arg1 harg1 arg2 harg2 arg3 harg3 arg4 harg4 arg5 harg5 (padded losses) (keys (padded losses)) _) ?_
  refine seq (part39 arg0 harg0 arg1 harg1 arg2 harg2 arg3 harg3 arg4 harg4 arg5 harg5 (padded losses) (keys (padded losses)) _) ?_
  refine seq (part40 arg0 harg0 arg1 harg1 arg2 harg2 arg3 harg3 arg4 harg4 arg5 harg5 (padded losses) (keys (padded losses)) _) ?_
  refine seq (part41 arg0 harg0 arg1 harg1 arg2 harg2 arg3 harg3 arg4 harg4 arg5 harg5 (padded losses) (keys (padded losses)) _) ?_
  refine seq (part42 arg0 harg0 arg1 harg1 arg2 harg2 arg3 harg3 arg4 harg4 arg5 harg5 (padded losses) (keys (padded losses)) _) ?_
  refine seq (part43 arg0 harg0 arg1 harg1 arg2 harg2 arg3 harg3 arg4 harg4 arg5 harg5 (padded losses) (keys (padded losses)) _) ?_
  refine seq (part44 arg0 harg0 arg1 harg1 arg2 harg2 arg3 harg3 arg4 harg4 arg5 harg5 (padded losses) (keys (padded losses)) _) ?_
  refine seq (part45 arg0 harg0 arg1 harg1 arg2 harg2 arg3 harg3 arg4 harg4 arg5 harg5 (padded losses) (keys (padded losses)) _) ?_
  refine seq (part46 arg0 harg0 arg1 harg1 arg2 harg2 arg3 harg3 arg4 harg4 arg5 harg5 (padded losses) (keys (padded losses)) _) ?_
  refine seq (part47 arg0 harg0 arg1 harg1 arg2 harg2 arg3 harg3 arg4 harg4 arg5 harg5 (padded losses) (keys (padded losses)) _) ?_
  refine seq (part48 arg0 harg0 arg1 harg1 arg2 harg2 arg3 harg3 arg4 harg4 arg5 harg5 (padded losses) (keys (padded losses)) _) ?_
  refine seq (part49 arg0 harg0 arg1 harg1 arg2 harg2 arg3 harg3 arg4 harg4 arg5 harg5 (padded losses) (keys (padded losses)) _) ?_
  refine seq (part50 arg0 harg0 arg1 harg1 arg2 harg2 arg3 harg3 arg4 harg4 arg5 harg5 (padded losses) (keys (padded losses)) _) ?_
  refine seq (part51 arg0 harg0 arg1 harg1 arg2 harg2 arg3 harg3 arg4 harg4 arg5 harg5 (padded losses) (keys (padded losses)) _) ?_
  refine same (part52 arg0 harg0 arg1 harg1 arg2 harg2 arg3 harg3 arg4 harg4 arg5 harg5 (padded losses) (keys (padded losses)) _ _) ?_
  rfl

end

end Cert.ValuesBody

end
-- ==== Proof.ValuesFrame.lean ====
/- The run of the mining call with its reading of the floats' bits written as arithmetic: its launch, and what its two
   result arrays are left at.

   The call has one grid point, and every window's block is its whole array.  Its body is the short program of
   ValuesBody.lean: the arguments' buffers are left as they were, and the results' hold the box loss and the class loss
   divided.  Before the call, the host lays two of the arguments out anew. -/
module

public import proofs.«01_k».proof.Proof.ValuesBody
public import proofs.«01_k».proof.Proof.Gen.MineValuesIdeal.Launch
public import proofs.«01_k».proof.Proof.Gen.MineValuesIdeal.Points
public import Idealize.ShloMosaic.Lib.Pipeline.FrameBody
public import Idealize.ShloMosaic.Lib.Pipeline.Value
public import Idealize.ShloMosaic.Lib.Claim
public import Idealize.ShloMosaic.Lib.Tactic

@[expose] public section

set_option maxRecDepth 16384

noncomputable section

namespace Cert.ValuesFrame

open Cert.MineValuesIdeal Cert.MineValuesIdeal.Gen Cert.ValuesBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the call -/

/-- A core's buffers when the call is entered: those launched, after the host's two reshapes. -/
abbrev entry (c : Dev nD) (b : Ref sig .tc) : Buf (Elt F) ((c : Thread nD τ).loc b) :=
  StableHlo.after hostOps0 (fun b => m (c, b)) b

/-- The two reshapes take no fresh buffer. -/
theorem no_fresh : (hostOps0 : List (HloOp τ sig (Elt F))).Forall fun op => op.fresh = ∅ := ⟨rfl, rfl⟩

set_option maxHeartbeats 800000 in
/-- The program up to the call is the two reshapes. -/
theorem upto_call (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub no_fresh main_chain

/-- A buffer neither reshape writes is found as launched. -/
theorem entry_keeps (c : Dev nD) (r : Ref sig .tc) (h0 : r ≠ main_v0) (h1 : r ≠ main_v1) :
    entry m c r = m ((c : Thread nD τ).loc r) := by
  refine StableHlo.after_of_writes_sub (W := [main_v0, main_v1]) _ _ ⟨?_, ?_⟩ ?_
  · intro x hx; simpa using Or.inl (Finset.mem_singleton.mp hx)
  · intro x hx; simpa using Or.inr (Finset.mem_singleton.mp hx)
  · simp [h0, h1]

/-- The counts are found as a column. -/
theorem entry_counts (c : Dev nD) :
    entry m c main_v1 = shapeCast S16x1 (m ((c : Thread nD τ).loc main_arg1) : IVec S16x1x1 32) Facts₀.shapeCasts_S16x1x1_S16x1 := by
  show StableHlo.after hostOps0 _ (Proc.devRef .tc main_v1) = _
  rw [StableHlo.after_cons, StableHlo.after_cons, StableHlo.after_nil, StableHlo.reshape_result]
  rw [StableHlo.reshape_result_ne _ _ _ _ _ _ _ (by decide)]
  rfl

/-- The losses are found as rows. -/
theorem entry_losses (c : Dev nD) :
    entry m c main_v0 = shapeCast S16x1x24564 (m ((c : Thread nD τ).loc main_arg0) : FVec F S16x6141x4 .f32) Facts₀.shapeCasts_S16x6141x4_S16x1x24564 := by
  show StableHlo.after hostOps0 _ (Proc.devRef .tc main_v0) = _
  rw [StableHlo.after_cons, StableHlo.after_cons, StableHlo.after_nil, StableHlo.reshape_result_ne _ _ _ _ _ _ _ (by decide)]
  rw [StableHlo.reshape_result]
  rfl

/-! ## The body's triple -/

/-- A window's block, read off its array as the call finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The whole of the losses, of the counts and of a one-element array, as rectangles. -/
abbrev allLosses : Rect S16x1x24564 := Rect.unit (s := S16x1x24564) ![0, 0, 0] S16x1x24564.size Facts₀.inb_S16x1x24564_S16x1x24564_0_0_0
abbrev allCounts : Rect S16x1 := Rect.unit (s := S16x1) ![0, 0] S16x1.size Facts₀.inb_S16x1_S16x1_0_0
abbrev allOne : Rect S1x1 := Rect.unit (s := S1x1) ![0, 0] S1x1.size Facts₀.inb_S1x1_S1x1_0_0

/-- What the first result's buffer holds after the body, of the counts and the box loss. -/
def firstBuf (x1 : Vec F S16x1 .i32) (x2 : Vec F S1x1 .f32) : Vec F S1x1 .f32 :=
  View.canon [⟨allOne, first (shapeCast S16x1 (View.ld x1 allCounts) Facts₀.shapeCasts_S16x1_S16x1) (View.ld x2 allOne)⟩]

/-- What the second's holds, of the losses, the counts and the loss of the positives. -/
def secondBuf (x0 : Vec F S16x1x24564 .f32) (x1 : Vec F S16x1 .i32) (x3 : Vec F S1x1 .f32) : Vec F S1x1 .f32 :=
  View.canon [⟨allOne, second (shapeCast S16x1 (View.ld x1 allCounts) Facts₀.shapeCasts_S16x1_S16x1)
    (top (View.ld x0 allLosses) (shapeCast S16x1 (View.ld x1 allCounts) Facts₀.shapeCasts_S16x1_S16x1)) (View.ld x3 allOne)⟩]

/-- One store through the whole of a one-element buffer covers it. -/
theorem one_covers (p : Vec F S1x1 .f32) (y : S1x1.Idx) :
    ∃ pc ∈ ([⟨allOne, p⟩] : List (View.Piece (Elt F) S1x1 .f32)), y ∈ pc.1.set :=
  View.cover_of_tiled [⟨allOne, p⟩] S1x1.size (by rfl) y

set_option maxHeartbeats 1000000 in
/-- The short program on whole buffers: the arguments' are left as they were, the two results' at what it stores. -/
theorem short_triple (c : Dev nD) (E : Set ℕ)
    (arg0 : Memref sig .tc .vmem S16x1x24564 .f32)
    (arg1 : Memref sig .tc .vmem S16x1 .i32)
    (arg2 : Memref sig .tc .vmem S1x1 .f32)
    (arg3 : Memref sig .tc .vmem S1x1 .f32)
    (arg4 : Memref sig .tc .vmem S1x1 .f32)
    (arg5 : Memref sig .tc .vmem S1x1 .f32)
    (x0 : Vec F S16x1x24564 .f32) (x1 : Vec F S16x1 .i32) (x2 : Vec F S1x1 .f32) (x3 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (firstBuf x1 x2) ∗ owns (c : Thread nD τ) arg5 fullShare (secondBuf x0 x1 x3)) -∗ K ⟨⟩))
      ⊢ wp frame (wpE (defs₀ (F := F)) Variants.none c none) E (short arg0 arg1 arg2 arg3 arg4 arg5) K := by
  unfold short ending owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (one_covers _)
  iexists _; isplitr
  swap; · iexact H5
  ipureintro
  exact View.read_writes_eq_canon _ _ _ (one_covers _)

/-! ## What the pipeline is told -/

/-- The body called at a point is the short program. -/
theorem called (t : Fin cfg0.N) : bodyAt0 (F := F) t = short (st0_0 t) (st0_1 t) (st0_2 t) (st0_3 t) (st0_4 t) (st0_5 t) :=
  body_eq (F := F) (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0)

/-- Each window's array as the call finds it; each argument's buffer at its block after the body, the results' at what
    is stored of the blocks; nothing owed, whole shares. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => firstBuf (block m c 1 t) (block m c 2 t)
    | ⟨5, _⟩ => secondBuf (block m c 0 t) (block m c 1 t) (block m c 3 t)
  Φ _ := Pipeline.ΦA spec0 c
  q _ := fullShare
  owed _ := 0

theorem arrays (c : Dev nD) (w : Fin cfg0.W) : (dats m 0 c).A w = entry m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = firstBuf (block m c 1 t) (block m c 2 t) := by dsimp only [dats]
theorem after_5 (c : Dev nD) (t : Fin cfg0.N) : (dats m 0 c).after 5 t = secondBuf (block m c 0 t) (block m c 1 t) (block m c 3 t) := by dsimp only [dats]

/-- Argument window 0's buffer holds its block when the body is called. -/
theorem before_0 (c : Dev nD) (t : Fin cfg0.N) (d) : (dats m 0 c).before 0 t d = block m c 0 t :=
  ((dats m 0 c).before_in_eq_fetched 0 rfl (fun _ => rfl) (fun _ _ _ => rfl)
    (fun t => by rw [after_0]; unfold Dat.blockOf block; rw [arrays]) t d).trans
    (by unfold Dat.fetched Dat.blockOf block; rw [arrays]; try rfl)

/-- Argument window 1's buffer holds its block when the body is called. -/
theorem before_1 (c : Dev nD) (t : Fin cfg0.N) (d) : (dats m 0 c).before 1 t d = block m c 1 t :=
  ((dats m 0 c).before_in_eq_fetched 1 rfl (fun _ => rfl) (fun _ _ _ => rfl)
    (fun t => by rw [after_1]; unfold Dat.blockOf block; rw [arrays]) t d).trans
    (by unfold Dat.fetched Dat.blockOf block; rw [arrays]; try rfl)

/-- Argument window 2's buffer holds its block when the body is called. -/
theorem before_2 (c : Dev nD) (t : Fin cfg0.N) (d) : (dats m 0 c).before 2 t d = block m c 2 t :=
  ((dats m 0 c).before_in_eq_fetched 2 rfl (fun _ => rfl) (fun _ _ _ => rfl)
    (fun t => by rw [after_2]; unfold Dat.blockOf block; rw [arrays]) t d).trans
    (by unfold Dat.fetched Dat.blockOf block; rw [arrays]; try rfl)

/-- Argument window 3's buffer holds its block when the body is called. -/
theorem before_3 (c : Dev nD) (t : Fin cfg0.N) (d) : (dats m 0 c).before 3 t d = block m c 3 t :=
  ((dats m 0 c).before_in_eq_fetched 3 rfl (fun _ => rfl) (fun _ _ _ => rfl)
    (fun t => by rw [after_3]; unfold Dat.blockOf block; rw [arrays]) t d).trans
    (by unfold Dat.fetched Dat.blockOf block; rw [arrays]; try rfl)

/-! ## The body at the point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point goes from the one to the other. -/
theorem body_triple (c : Dev nD) (t : Fin cfg0.N) :
    pre m c t ⊢ wp frame (wpE (defs₀ (F := F)) Variants.none c none) Set.univ (bodyAt0 t) (fun _ => post m c t) := by
  rw [called]
  unfold pre post
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (short_triple c Set.univ _ _ _ _ _ _ (block m c 0 t) (block m c 1 t) (block m c 2 t) (block m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table's row at a point's buffers is the body called there. -/
theorem row (t : Fin cfg0.N) : defs₀ (F := F) .tc cfg0.body (cfg0.bodyArgs t (cfg0.slots t)) = bodyAt0 t := by
  unfold defs₀; rw [Defs.onTc_tc]

/-- What the pipeline asks of the body. -/
theorem obligation (c : Dev nD) : BodyObligation (dats (F := F) m 0 c) (defs₀ (F := F)) Variants.none () Set.univ := fun t => by
  rw [bigSep_W0, bigSep_W0, row]
  exact triple_restated (body_triple m c t) rfl .rfl fun _ => .rfl

/-! ## The run -/

set_option backward.isDefEq.respectTransparency.types false in
set_option maxHeartbeats 800000 in
/-- The launch ends, every array of the call as told, every other buffer as found, every counter at zero. -/
theorem launched : θ_run defs (onTc (τ := τ) (main (F := F))) (s₀ m ρ) (fun r => (Pipeline.FramePost cfgs (dats m) 0 (entry m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := entry m) (hmain := upto_call m Variants.none) (hA := arrays m) (hΦ := fun _ _ => rfl)

/-! ## The results' arrays -/

theorem zeros : (![0, 0] : Fin 2 → Nat) = fun _ => 0 := funext fun a => by fin_cases a <;> rfl

theorem index_1 : ∀ t : Fin cfg0.N, win0_1.index t (0 : Fin 2) = 0 ∧ win0_1.index t (1 : Fin 2) = 0 :=
  (by decide +kernel : ∀ t : Fin grid0.N, _)

/-- An index of window 1's block is the same index of its array. -/
theorem place_1 (t : Fin cfg0.N) (j : S16x1.Idx) : ((cfg0.win 1).blk t).view.emb j = j := by
  obtain ⟨e0, e1⟩ := index_1 t
  funext a; apply Fin.ext
  match a with
  | ⟨0, _⟩ => show win0_1.index t (0 : Fin 2) * 16 + 1 * (j 0).val = (j 0).val; omega
  | ⟨1, _⟩ => show win0_1.index t (1 : Fin 2) * 1 + 1 * (j 1).val = (j 1).val; omega

theorem index_2 : ∀ t : Fin cfg0.N, win0_2.index t (0 : Fin 2) = 0 ∧ win0_2.index t (1 : Fin 2) = 0 :=
  (by decide +kernel : ∀ t : Fin grid0.N, _)

/-- An index of window 2's block is the same index of its array. -/
theorem place_2 (t : Fin cfg0.N) (j : S1x1.Idx) : ((cfg0.win 2).blk t).view.emb j = j := by
  obtain ⟨e0, e1⟩ := index_2 t
  funext a; apply Fin.ext
  match a with
  | ⟨0, _⟩ => show win0_2.index t (0 : Fin 2) * 1 + 1 * (j 0).val = (j 0).val; omega
  | ⟨1, _⟩ => show win0_2.index t (1 : Fin 2) * 1 + 1 * (j 1).val = (j 1).val; omega

theorem index_4 : ∀ t : Fin cfg0.N, win0_4.index t (0 : Fin 2) = 0 ∧ win0_4.index t (1 : Fin 2) = 0 :=
  (by decide +kernel : ∀ t : Fin grid0.N, _)

/-- An index of window 4's block is the same index of its array. -/
theorem place_4 (t : Fin cfg0.N) (j : S1x1.Idx) : ((cfg0.win 4).blk t).view.emb j = j := by
  obtain ⟨e0, e1⟩ := index_4 t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega

theorem zeros3 : (![0, 0, 0] : Fin 3 → Nat) = fun _ => 0 := funext fun a => by fin_cases a <;> rfl

theorem index_0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem place_0 (t : Fin cfg0.N) (j : S16x1x24564.Idx) : ((cfg0.win 0).blk t).view.emb j = j := by
  obtain ⟨e0, e1, e2⟩ := index_0 t
  funext a; apply Fin.ext
  match a with
  | ⟨0, _⟩ => show win0_0.index t (0 : Fin 3) * 16 + 1 * (j 0).val = (j 0).val; omega
  | ⟨1, _⟩ => show win0_0.index t (1 : Fin 3) * 1 + 1 * (j 1).val = (j 1).val; omega
  | ⟨2, _⟩ => show win0_0.index t (2 : Fin 3) * 24564 + 1 * (j 2).val = (j 2).val; omega

theorem index_3 : ∀ t : Fin cfg0.N, win0_3.index t (0 : Fin 2) = 0 ∧ win0_3.index t (1 : Fin 2) = 0 :=
  (by decide +kernel : ∀ t : Fin grid0.N, _)

/-- An index of window 3's block is the same index of its array. -/
theorem place_3 (t : Fin cfg0.N) (j : S1x1.Idx) : ((cfg0.win 3).blk t).view.emb j = j := by
  obtain ⟨e0, e1⟩ := index_3 t
  funext a; apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega

theorem index_5 : ∀ t : Fin cfg0.N, win0_5.index t (0 : Fin 2) = 0 ∧ win0_5.index t (1 : Fin 2) = 0 :=
  (by decide +kernel : ∀ t : Fin grid0.N, _)

/-- An index of window 5's block is the same index of its array. -/
theorem place_5 (t : Fin cfg0.N) (j : S1x1.Idx) : ((cfg0.win 5).blk t).view.emb j = j := by
  obtain ⟨e0, e1⟩ := index_5 t
  funext a; apply Fin.ext
  match a with
  | ⟨0, _⟩ => show win0_5.index t (0 : Fin 2) * 1 + 1 * (j 0).val = (j 0).val; omega
  | ⟨1, _⟩ => show win0_5.index t (1 : Fin 2) * 1 + 1 * (j 1).val = (j 1).val; omega

/-- The losses' block is the losses, -/
theorem losses_block (c : Dev nD) (t : Fin cfg0.N) : block m c 0 t = entry m c main_v0 := by
  funext j; show entry m c main_v0 (((cfg0.win 0).blk t).view.emb j) = entry m c main_v0 j; rw [place_0]

/-- the counts' the counts, -/
theorem counts_block (c : Dev nD) (t : Fin cfg0.N) : block m c 1 t = entry m c main_v1 := by
  funext j; show entry m c main_v1 (((cfg0.win 1).blk t).view.emb j) = entry m c main_v1 j; rw [place_1]

/-- the box loss's the box loss, -/
theorem loss_block (c : Dev nD) (t : Fin cfg0.N) : block m c 2 t = entry m c main_arg2 := by
  funext j; show entry m c main_arg2 (((cfg0.win 2).blk t).view.emb j) = entry m c main_arg2 j; rw [place_2]

/-- and the positives' loss's the positives' loss. -/
theorem positive_block (c : Dev nD) (t : Fin cfg0.N) : block m c 3 t = entry m c main_arg3 := by
  funext j; show entry m c main_arg3 (((cfg0.win 3).blk t).view.emb j) = entry m c main_arg3 j; rw [place_3]

/-- Whole loads read the buffers and a whole store leaves what it stores. -/
theorem firstBuf_eq (x1 : Vec F S16x1 .i32) (x2 : Vec F S1x1 .f32) :
    firstBuf x1 x2 = first (shapeCast S16x1 x1 Facts₀.shapeCasts_S16x1_S16x1) x2 := by
  unfold firstBuf
  rw [View.canon_unit_zero zeros, View.ld_unit_zero (S := S16x1) zeros _ x1, View.ld_unit_zero (S := S1x1) zeros _ x2]

/-- The same of the second result. -/
theorem secondBuf_eq (x0 : Vec F S16x1x24564 .f32) (x1 : Vec F S16x1 .i32) (x3 : Vec F S1x1 .f32) :
    secondBuf x0 x1 x3 = second (shapeCast S16x1 x1 Facts₀.shapeCasts_S16x1_S16x1) (top x0 (shapeCast S16x1 x1 Facts₀.shapeCasts_S16x1_S16x1)) x3 := by
  unfold secondBuf
  rw [View.canon_unit_zero zeros, View.ld_unit_zero (S := S16x1x24564) zeros3 _ x0, View.ld_unit_zero (S := S16x1) zeros _ x1, View.ld_unit_zero (S := S1x1) zeros _ x3]

/-- The counts as the body lays them out. -/
def column (c : Dev nD) : IVec S16x1 32 := shapeCast S16x1 (entry m c main_v1 : IVec S16x1 32) Facts₀.shapeCasts_S16x1_S16x1

/-- The first result, of the arguments. -/
def firstValue (c : Dev nD) : FVec F S1x1 .f32 := first (column m c) (entry m c main_arg2)

/-- The second. -/
def secondValue (c : Dev nD) : FVec F S1x1 .f32 := second (column m c) (top (entry m c main_v0) (column m c)) (entry m c main_arg3)

/-- What the point writes back is the one -/
theorem written_4 (c : Dev nD) (t : Fin cfg0.N) :
    (dats m 0 c).flushed 4 t = ((cfg0.win 4).blk t).view.read (Elt F) (firstValue m c) := by
  show (cfg0.win 4).cut (grid0.coords t) ((dats m 0 c).after 4 t) = _
  rw [after_4, firstBuf_eq, counts_block, loss_block]
  funext j
  show firstValue m c j = firstValue m c (((cfg0.win 4).blk t).view.emb j)
  rw [place_4]

/-- and the other. -/
theorem written_5 (c : Dev nD) (t : Fin cfg0.N) :
    (dats m 0 c).flushed 5 t = ((cfg0.win 5).blk t).view.read (Elt F) (secondValue m c) := by
  show (cfg0.win 5).cut (grid0.coords t) ((dats m 0 c).after 5 t) = _
  rw [after_5, secondBuf_eq, counts_block, losses_block, positive_block]
  funext j
  show secondValue m c j = secondValue m c (((cfg0.win 5).blk t).view.emb j)
  rw [place_5]

/-- The one block is the whole array, -/
theorem everywhere_4 (i : S1x1.Idx) : ∃ t : Fin cfg0.N, (cfg0.win 4).flush t = true ∧ i ∈ ((cfg0.win 4).blk t).view.set :=
  ⟨⟨0, by decide⟩, flush0_4 _, by have h := ((cfg0.win 4).blk (⟨0, by decide⟩ : Fin cfg0.N)).view.emb_mem_set i; rwa [place_4] at h⟩

/-- and so is the other. -/
theorem everywhere_5 (i : S1x1.Idx) : ∃ t : Fin cfg0.N, (cfg0.win 5).flush t = true ∧ i ∈ ((cfg0.win 5).blk t).view.set :=
  ⟨⟨0, by decide⟩, flush0_5 _, by have h := ((cfg0.win 5).blk (⟨0, by decide⟩ : Fin cfg0.N)).view.emb_mem_set i; rwa [place_5] at h⟩

/-- So the arrays after the run are the two results. -/
theorem final_4 (c : Dev nD) : (dats m 0 c).arrAt 4 cfg0.N = firstValue m c :=
  (dats m 0 c).arrAt_eq_of_cover 4 (firstValue m c) (fun t _ => written_4 m c t) everywhere_4

theorem final_5 (c : Dev nD) : (dats m 0 c).arrAt 5 cfg0.N = secondValue m c :=
  (dats m 0 c).arrAt_eq_of_cover 5 (secondValue m c) (fun t _ => written_5 m c t) everywhere_5

/-! ## The two statements the claims take -/

/-- After the run the results' arrays are the two values and the arguments are as launched. -/
theorem run : θ_run defs (onTc (τ := τ) (main (F := F))) ⟨m, fun _ => 0, ρ⟩ fun r => ∀ c : Dev nD,
      r.2.mem ((c.tc : Thread nD τ).loc main_v2_0) = firstValue m c
      ∧ r.2.mem ((c.tc : Thread nD τ).loc main_v2_1) = secondValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final_4 m c), ((h.1 c).1 5).trans (final_5 m c),
      ((h.1 c).2 main_arg0 (Pipeline.mem_restRefs_of main_arg0 (by decide) (by decide))).trans (entry_keeps m c _ (by decide) (by decide)),
      ((h.1 c).2 main_arg1 (Pipeline.mem_restRefs_of main_arg1 (by decide) (by decide))).trans (entry_keeps m c _ (by decide) (by decide)),
      ((h.1 c).1 2).trans (((dats m 0 c).arrAt_in 2 rfl _).trans ((arrays m c 2).trans (entry_keeps m c main_arg2 (by decide) (by decide)))),
      ((h.1 c).1 3).trans (((dats m 0 c).arrAt_in 3 rfl _).trans ((arrays m c 3).trans (entry_keeps m c main_arg3 (by decide) (by decide))))⟩)
    (launched m ρ)

/-- The run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun r h c => (h c).2.2) (run m ρ))
    ((θ_run defs _ _).mono (fun _ h => h.2) (launched m ρ))

end Cert.ValuesFrame

end
-- ==== Proof.ValuesPre.lean ====
/- The precondition of the mining call's values, read at a place.

   It says of every loss that its word is the word of a finite float of no negative sign, and that the value of the word is
   the loss.  Its steps are the ones of `keys` and `value`. -/
module

public import proofs.«01_k».proof.Pre_losses_are_floats
public import proofs.«01_k».proof.Proof.ValuesDecode

@[expose] public section

set_option maxRecDepth 16384

noncomputable section

namespace Cert.ValuesPre

open Cert.Pre_losses_are_floats Cert.ValuesSteps Idealize.ShloMosaic

/-- The one side condition. -/
theorem facts : Facts := ⟨by decide⟩

/-- The precondition, in the words' own terms. -/
theorem fn_eq [Facts] {F : FTy → Type} [FloatOps F] (x0 : FVec F S16x6141x4 .f32) (x1 : IVec S16x1x1 32) (x2 x3 : FVec F S1x1 .f32) :
    fn x0 x1 x2 x3 = andi (andi (cmpi .sge (keys x0) (broadcast _ 0#32)) (cmpi .slt (keys x0) (broadcast _ 0x7F800000#32)))
      (cmpf .oeq (value (keys x0)) x0) := by
  unfold fn
  extract_lets -merge main_c main_v0 main_cst main_v1 main_v2 main_cst_0 main_v3 main_v4 main_v5 main_c_1 main_v6 main_v7 main_v8 main_cst_2 main_v9 main_v10 main_cst_3 main_v11 main_v12 main_v13 main_c_4 main_v14 main_v15 main_v16
  have s1 : (((main_v5, main_v8) : FVec F S16x6141x4 .f32 × IVec S16x6141x4 32)) = shrink 0x5F800000#32 0x1F800000#32 64#32 (x0, broadcast _ 127#32) := rfl
  clear_value main_v5 main_v8
  have s2 : (((main_v13, main_v16) : FVec F S16x6141x4 .f32 × IVec S16x6141x4 32)) = shrink 0x4F800000#32 0x2F800000#32 32#32 (main_v5, main_v8) := rfl
  clear_value main_v13 main_v16
  unfold fn_part1
  extract_lets -merge main_cst_5 main_v17 main_v18 main_cst_6 main_v19 main_v20 main_v21 main_c_7 main_v22 main_v23 main_v24 main_cst_8 main_v25 main_v26 main_cst_9 main_v27 main_v28 main_v29 main_c_10 main_v30 main_v31 main_v32 main_cst_11 main_v33
  have s3 : (((main_v21, main_v24) : FVec F S16x6141x4 .f32 × IVec S16x6141x4 32)) = shrink 0x47800000#32 0x37800000#32 16#32 (main_v13, main_v16) := rfl
  clear_value main_v21 main_v24
  have s4 : (((main_v29, main_v32) : FVec F S16x6141x4 .f32 × IVec S16x6141x4 32)) = shrink 0x43800000#32 0x3B800000#32 8#32 (main_v21, main_v24) := rfl
  clear_value main_v29 main_v32
  unfold fn_part2
  extract_lets -merge main_v34 main_cst_12 main_v35 main_v36 main_v37 main_c_13 main_v38 main_v39 main_v40 main_cst_14 main_v41 main_v42 main_cst_15 main_v43 main_v44 main_v45 main_c_16 main_v46 main_v47 main_v48 main_cst_17 main_v49 main_v50 main_cst_18
  have s5 : (((main_v37, main_v40) : FVec F S16x6141x4 .f32 × IVec S16x6141x4 32)) = shrink 0x41800000#32 0x3D800000#32 4#32 (main_v29, main_v32) := rfl
  clear_value main_v37 main_v40
  have s6 : (((main_v45, main_v48) : FVec F S16x6141x4 .f32 × IVec S16x6141x4 32)) = shrink 0x40800000#32 0x3E800000#32 2#32 (main_v37, main_v40) := rfl
  clear_value main_v45 main_v48
  unfold fn_part3
  extract_lets -merge main_v51 main_v52 main_v53 main_c_19 main_v54 main_v55 main_v56 main_cst_20 main_v57 main_v58 main_cst_21 main_v59 main_v60 main_v61 main_c_22 main_v62 main_v63 main_v64 main_cst_23 main_v65 main_v66 main_cst_24 main_v67 main_v68
  have s7 : (((main_v53, main_v56) : FVec F S16x6141x4 .f32 × IVec S16x6141x4 32)) = shrink 0x40000000#32 0x3F000000#32 1#32 (main_v45, main_v48) := rfl
  clear_value main_v53 main_v56
  have s8 : (((main_v61, main_v64) : FVec F S16x6141x4 .f32 × IVec S16x6141x4 32)) = grow 0x20000000#32 0x5F800000#32 64#32 (main_v53, main_v56) := rfl
  clear_value main_v61 main_v64
  unfold fn_part4
  extract_lets -merge main_v69 main_c_25 main_v70 main_v71 main_v72 main_cst_26 main_v73 main_v74 main_cst_27 main_v75 main_v76 main_v77 main_c_28 main_v78 main_v79 main_v80 main_cst_29 main_v81 main_v82 main_cst_30 main_v83 main_v84 main_v85 main_c_31
  have s9 : (((main_v69, main_v72) : FVec F S16x6141x4 .f32 × IVec S16x6141x4 32)) = grow 0x30000000#32 0x4F800000#32 32#32 (main_v61, main_v64) := rfl
  clear_value main_v69 main_v72
  have s10 : (((main_v77, main_v80) : FVec F S16x6141x4 .f32 × IVec S16x6141x4 32)) = grow 0x38000000#32 0x47800000#32 16#32 (main_v69, main_v72) := rfl
  clear_value main_v77 main_v80
  unfold fn_part5
  extract_lets -merge main_v86 main_v87 main_v88 main_cst_32 main_v89 main_v90 main_cst_33 main_v91 main_v92 main_v93 main_c_34 main_v94 main_v95 main_v96 main_cst_35 main_v97 main_v98 main_cst_36 main_v99 main_v100 main_v101 main_c_37 main_v102 main_v103
  have s11 : (((main_v85, main_v88) : FVec F S16x6141x4 .f32 × IVec S16x6141x4 32)) = grow 0x3C000000#32 0x43800000#32 8#32 (main_v77, main_v80) := rfl
  clear_value main_v85 main_v88
  have s12 : (((main_v93, main_v96) : FVec F S16x6141x4 .f32 × IVec S16x6141x4 32)) = grow 0x3E000000#32 0x41800000#32 4#32 (main_v85, main_v88) := rfl
  clear_value main_v93 main_v96
  unfold fn_part6
  extract_lets -merge main_v104 main_cst_38 main_v105 main_v106 main_cst_39 main_v107 main_v108 main_v109 main_c_40 main_v110 main_v111 main_v112 main_cst_41 main_v113 main_v114 main_cst_42 main_v115 main_v116 main_v117 main_cst_43 main_v118 main_v119 main_c_44 main_v120
  have s13 : (((main_v101, main_v104) : FVec F S16x6141x4 .f32 × IVec S16x6141x4 32)) = grow 0x3F000000#32 0x40800000#32 2#32 (main_v93, main_v96) := rfl
  clear_value main_v101 main_v104
  have s14 : (((main_v109, main_v112) : FVec F S16x6141x4 .f32 × IVec S16x6141x4 32)) = grow 0x3F800000#32 0x40000000#32 1#32 (main_v101, main_v104) := rfl
  clear_value main_v109 main_v112
  unfold fn_part7
  extract_lets -merge main_v121 main_v122 main_c_45 main_v123 main_c_46 main_v124 main_v125 main_c_47 main_v126 main_v127 main_v128 main_c_48 main_v129 main_v130 main_c_49 main_v131 main_v132 main_v133 main_c_50 main_v134 main_v135 main_v136 main_cst_51 main_v137
  have hk : main_v123 = keys x0 := by
    unfold keys grown shrunk shrunk4
    rw [← s1, ← s2, ← s3, ← s4, ← s5, ← s6, ← s7, ← s8, ← s9, ← s10, ← s11, ← s12, ← s13, ← s14]
    rfl
  clear_value main_v123
  unfold fn_part8
  extract_lets -merge main_v138 main_c_52 main_v139 main_v140 main_cst_53 main_v141 main_v142 main_v143 main_c_54 main_v144 main_v145 main_v146 main_c_55 main_v147 main_v148 main_cst_56 main_v149 main_v150 main_v151 main_c_57 main_v152 main_v153 main_v154 main_c_58
  have s15 : (((main_v143, main_v146) : FVec F S16x6141x4 .f32 × IVec S16x6141x4 32)) = enlarge 191#32 0x5F800000#32 64#32 (unpacked (F := F) main_v123) := rfl
  clear_value main_v143 main_v146
  have s16 : (((main_v151, main_v154) : FVec F S16x6141x4 .f32 × IVec S16x6141x4 32)) = enlarge 159#32 0x4F800000#32 32#32 (main_v143, main_v146) := rfl
  clear_value main_v151 main_v154
  unfold fn_part9
  extract_lets -merge main_v155 main_v156 main_cst_59 main_v157 main_v158 main_v159 main_c_60 main_v160 main_v161 main_v162 main_c_61 main_v163 main_v164 main_cst_62 main_v165 main_v166 main_v167 main_c_63 main_v168 main_v169 main_v170 main_c_64 main_v171 main_v172
  have s17 : (((main_v159, main_v162) : FVec F S16x6141x4 .f32 × IVec S16x6141x4 32)) = enlarge 143#32 0x47800000#32 16#32 (main_v151, main_v154) := rfl
  clear_value main_v159 main_v162
  have s18 : (((main_v167, main_v170) : FVec F S16x6141x4 .f32 × IVec S16x6141x4 32)) = enlarge 135#32 0x43800000#32 8#32 (main_v159, main_v162) := rfl
  clear_value main_v167 main_v170
  unfold fn_part10
  extract_lets -merge main_cst_65 main_v173 main_v174 main_v175 main_c_66 main_v176 main_v177 main_v178 main_c_67 main_v179 main_v180 main_cst_68 main_v181 main_v182 main_v183 main_c_69 main_v184 main_v185 main_v186 main_c_70 main_v187 main_v188 main_cst_71 main_v189
  have s19 : (((main_v175, main_v178) : FVec F S16x6141x4 .f32 × IVec S16x6141x4 32)) = enlarge 131#32 0x41800000#32 4#32 (main_v167, main_v170) := rfl
  clear_value main_v175 main_v178
  have s20 : (((main_v183, main_v186) : FVec F S16x6141x4 .f32 × IVec S16x6141x4 32)) = enlarge 129#32 0x40800000#32 2#32 (main_v175, main_v178) := rfl
  clear_value main_v183 main_v186
  unfold fn_part11
  extract_lets -merge main_v190 main_v191 main_c_72 main_v192 main_v193 main_v194 main_c_73 main_v195 main_v196 main_cst_74 main_v197 main_v198 main_v199 main_c_75 main_v200 main_v201 main_v202 main_c_76 main_v203 main_v204 main_cst_77 main_v205 main_v206 main_v207
  have s21 : (((main_v191, main_v194) : FVec F S16x6141x4 .f32 × IVec S16x6141x4 32)) = enlarge 128#32 0x40000000#32 1#32 (main_v183, main_v186) := rfl
  clear_value main_v191 main_v194
  have s22 : (((main_v199, main_v202) : FVec F S16x6141x4 .f32 × IVec S16x6141x4 32)) = lessen 63#32 0x1F800000#32 64#32 (main_v191, main_v194) := rfl
  clear_value main_v199 main_v202
  unfold fn_part12
  extract_lets -merge main_c_78 main_v208 main_v209 main_v210 main_c_79 main_v211 main_v212 main_cst_80 main_v213 main_v214 main_v215 main_c_81 main_v216 main_v217 main_v218 main_c_82 main_v219 main_v220 main_cst_83 main_v221 main_v222 main_v223 main_c_84 main_v224
  have s23 : (((main_v207, main_v210) : FVec F S16x6141x4 .f32 × IVec S16x6141x4 32)) = lessen 95#32 0x2F800000#32 32#32 (main_v199, main_v202) := rfl
  clear_value main_v207 main_v210
  have s24 : (((main_v215, main_v218) : FVec F S16x6141x4 .f32 × IVec S16x6141x4 32)) = lessen 111#32 0x37800000#32 16#32 (main_v207, main_v210) := rfl
  clear_value main_v215 main_v218
  unfold fn_part13
  extract_lets -merge main_v225 main_v226 main_c_85 main_v227 main_v228 main_cst_86 main_v229 main_v230 main_v231 main_c_87 main_v232 main_v233 main_v234 main_c_88 main_v235 main_v236 main_cst_89 main_v237 main_v238 main_v239 main_c_90 main_v240 main_v241 main_v242
  have s25 : (((main_v223, main_v226) : FVec F S16x6141x4 .f32 × IVec S16x6141x4 32)) = lessen 119#32 0x3B800000#32 8#32 (main_v215, main_v218) := rfl
  clear_value main_v223 main_v226
  have s26 : (((main_v231, main_v234) : FVec F S16x6141x4 .f32 × IVec S16x6141x4 32)) = lessen 123#32 0x3D800000#32 4#32 (main_v223, main_v226) := rfl
  clear_value main_v231 main_v234
  have s27 : (((main_v239, main_v242) : FVec F S16x6141x4 .f32 × IVec S16x6141x4 32)) = lessen 125#32 0x3E800000#32 2#32 (main_v231, main_v234) := rfl
  clear_value main_v239 main_v242
  unfold fn_part14
  extract_lets -merge main_c_91 main_v243 main_v244 main_cst_92 main_v245 main_v246 main_v247 main_c_93 main_v248 main_v249 main_v250 main_c_94 main_v251 main_v252 main_cst_95 main_v253 main_v254 main_v255
  have s28 : (((main_v247, main_v250) : FVec F S16x6141x4 .f32 × IVec S16x6141x4 32)) = lessen 126#32 0x3F000000#32 1#32 (main_v239, main_v242) := rfl
  clear_value main_v247 main_v250
  have hv : main_v253 = value main_v123 := by
    unfold value lessened lessened5 enlarged enlarged1
    rw [← s15, ← s16, ← s17, ← s18, ← s19, ← s20, ← s21, ← s22, ← s23, ← s24, ← s25, ← s26, ← s27, ← s28]
    rfl
  clear_value main_v253
  rw [← hk, ← hv]
  rfl

/-- What it says of a loss. -/
theorem read [Facts] (x0 : FVec Ideal S16x6141x4 .f32) (x1 : IVec S16x1x1 32) (x2 x3 : FVec Ideal S1x1 .f32)
    (h : fn x0 x1 x2 x3 = fun _ => 1#1) (i : S16x6141x4.Idx) :
    (keys x0 i).toNat < 255 * 2 ^ 23 ∧ value (keys x0) i = x0 i := by
  have hi := congrFun ((fn_eq x0 x1 x2 x3).symm.trans h) i
  generalize value (F := Ideal) (keys x0) = v at hi ⊢
  generalize keys x0 = t at hi ⊢
  have hv : IntOp.andi (IntOp.andi (IntOp.cmpi .sge (t i) 0#32) (IntOp.cmpi .slt (t i) 0x7F800000#32))
      (Ideal.cmp .oeq (v i) (x0 i)) = 1#1 := hi
  generalize t i = w at hv ⊢
  have h0 : (0#32 : BitVec 32).sle w = true ∧ w.slt 0x7F800000#32 = true ∧ Ideal.cmp .oeq (v i) (x0 i) = 1#1 := by
    revert hv
    generalize Ideal.cmp .oeq (v i) (x0 i) = b
    simp only [IntOp.andi, IntOp.cmpi]
    cases (0#32 : BitVec 32).sle w <;> cases w.slt 0x7F800000#32 <;> revert b <;> decide
  obtain ⟨ha, hb, hc⟩ := h0
  refine ⟨?_, ?_⟩
  · rw [BitVec.sle_eq_decide, decide_eq_true_iff] at ha
    rw [BitVec.slt_eq_decide, decide_eq_true_iff] at hb
    have e0 : (0#32 : BitVec 32).toInt = 0 := by decide
    have e1 : (0x7F800000#32 : BitVec 32).toInt = 255 * 2 ^ 23 := by decide
    rw [e0] at ha
    rw [e1] at hb
    have hn : w.toInt = (w.toNat : Int) := by
      rw [BitVec.toInt_eq_toNat_cond] at ha ⊢
      have := w.isLt
      split at ha <;> split <;> omega
    omega
  · have hd : BitVec.ofBool (decide ((v i : EReal) = x0 i)) = 1#1 := hc
    by_contra hne
    rw [decide_eq_false hne] at hd
    exact absurd hd (by decide)

end Cert.ValuesPre

end
-- ==== Proof.ValuesClaim.lean ====
/- The claims of the mining call with its reading of the floats' bits written as arithmetic: its reference's frame, and that
   where every loss is a float the call and the reference leave the same two results. -/
module

public import proofs.«01_k».proof.Defs
public import proofs.«01_k».proof.Proof.ValuesEqual
public import proofs.«01_k».proof.Proof.ValuesFrame
public import proofs.«01_k».proof.Proof.ValuesPre
public import Idealize.ShloMosaic.Lib.Quiescent

@[expose] public section

set_option maxRecDepth 16384

noncomputable section

open Idealize.ShloMosaic Idealize.ShloMosaic.TcCoe Idealize.SL.Sem

namespace Cert.ValuesClaim

/-- The reference's frame. -/
theorem frame_reference : Cert.quiescent_MineValuesReferenceIdeal := fun m ρ _ =>
  (θ_run Cert.MineValuesReferenceIdeal.defs _ _).mono (fun r h => ⟨fun c => (h c).2.2,
      Idealize.ShloMosaic.sem_eq_zero_of_no_sems (by decide) r.2⟩)
    (Cert.MineValuesReferenceIdeal.Value.run (F := Ideal) m ρ)

/-- THE CALL COMPUTES BOTH LOSSES: from arguments that agree, its two results and the reference's are one. -/
theorem equal [Cert.Pre_losses_are_floats.Facts] : Cert.algebraic_MineValuesIdeal_MineValuesReferenceIdeal_pre_losses_are_floats := by
  intro m ρ m' ρ' hpre hargs
  refine ⟨fun c => Cert.ValuesFrame.firstValue m c, fun c => Cert.ValuesFrame.secondValue m c, Cert.ValuesFrame.run m ρ, ?_⟩
  refine (θ_run Cert.MineValuesReferenceIdeal.defs _ _).mono (fun r h c => ⟨(h c).1.trans ?_, (h c).2.1.trans ?_, (h c).2.2⟩)
    (Cert.MineValuesReferenceIdeal.Value.run (F := Ideal) m' ρ')
  · obtain ⟨_, e1, e2, _⟩ := hargs c
    rw [Cert.MineValuesReferenceIdeal.Read.val_main_v18_eq, e1, e2]
    show _ = Cert.ValuesFrame.firstValue m c
    unfold Cert.ValuesFrame.firstValue Cert.ValuesFrame.column
    rw [Cert.ValuesFrame.entry_counts, Cert.ValuesFrame.entry_keeps m c _ (by decide) (by decide)]
    exact (Cert.ValuesEqual.first_eq _ _).symm
  · obtain ⟨e0, e1, _, e3⟩ := hargs c
    rw [Cert.MineValuesReferenceIdeal.Read.val_main_v20_eq, e0, e1, e3]
    show _ = Cert.ValuesFrame.secondValue m c
    unfold Cert.ValuesFrame.secondValue Cert.ValuesFrame.column
    rw [Cert.ValuesFrame.entry_counts, Cert.ValuesFrame.entry_losses, Cert.ValuesFrame.entry_keeps m c _ (by decide) (by decide)]
    exact (Cert.ValuesEqual.second_eq _ _ _ (Cert.ValuesPre.read _ _ _ _ (hpre c))).symm

end Cert.ValuesClaim

end
-- ==== Proof.lean ====
/-
  The certificate's theorem: the frames of the cross-entropy call and of the matching call, word by word and on the
  extended reals, the frame of the mining call word by word, its frames with one operation written as arithmetic, the
  frames of the references, and each call's values against its reference.
-/
module

public import proofs.«01_k».proof.Defs
public import proofs.«01_k».proof.Proof.Gen.Ce
public import proofs.«01_k».proof.Proof.Gen.Ce.Frame
public import proofs.«01_k».proof.Proof.Gen.CeIdeal
public import proofs.«01_k».proof.Proof.Gen.CeIdeal.Frame
public import proofs.«01_k».proof.Proof.Gen.CeReferenceIdeal
public import proofs.«01_k».proof.Proof.Gen.Match
public import proofs.«01_k».proof.Proof.Gen.Match.Frame
public import proofs.«01_k».proof.Proof.Gen.MatchIdeal
public import proofs.«01_k».proof.Proof.Gen.MatchIdeal.Frame
public import proofs.«01_k».proof.Proof.Gen.CeIdeal.Value
public import proofs.«01_k».proof.Proof.Gen.MatchIdeal.Value
public import proofs.«01_k».proof.Proof.Gen.MatchReferenceIdeal
public import proofs.«01_k».proof.Proof.Gen.CeReferenceIdeal.Run
public import proofs.«01_k».proof.Proof.Gen.CeReferenceIdeal.Read
public import proofs.«01_k».proof.Proof.Gen.Mine
public import proofs.«01_k».proof.Proof.Gen.Mine.Launch
public import proofs.«01_k».proof.Proof.Gen.Mine.Points
public import proofs.«01_k».proof.Proof.Gen.MineReference
public import proofs.«01_k».proof.Proof.Gen.MineReference.Frame
public import proofs.«01_k».proof.Proof.Gen.MineReference.Value
public import proofs.«01_k».proof.Proof.Gen.MineValues
public import proofs.«01_k».proof.Proof.Gen.MineValues.Launch
public import proofs.«01_k».proof.Proof.Gen.MineValues.Points
public import proofs.«01_k».proof.Proof.Gen.MineValuesIdeal
public import proofs.«01_k».proof.Proof.Gen.MineValuesIdeal.Launch
public import proofs.«01_k».proof.Proof.Gen.MineValuesIdeal.Points
public import proofs.«01_k».proof.Proof.Gen.MineValuesReferenceIdeal
public import proofs.«01_k».proof.Proof.Gen.MineValuesReferenceIdeal.Run
public import proofs.«01_k».proof.Proof.Gen.MineValuesReferenceIdeal.Read
public import proofs.«01_k».proof.Proof.CeClaim
public import proofs.«01_k».proof.Proof.MatchClaim
public import proofs.«01_k».proof.Proof.MineClaim
public import proofs.«01_k».proof.Proof.ValuesBitsFrame
public import proofs.«01_k».proof.Proof.ValuesClaim

@[expose] public section

noncomputable section

namespace Cert.Proof

open Idealize.ShloMosaic Idealize.SL.Sem

/-- Every claim, in order. -/
theorem claim : Cert.Claim :=
  ⟨Cert.Ce.Gen.facts, Cert.CeIdeal.Gen.facts, Cert.CeReferenceIdeal.Gen.facts, Cert.Match.Gen.facts,
    Cert.MatchIdeal.Gen.facts, Cert.MatchReferenceIdeal.Gen.facts, Cert.Mine.Gen.facts,
    Cert.MineReference.Gen.facts, Cert.MineValues.Gen.facts, Cert.MineValuesIdeal.Gen.facts,
    Cert.MineValuesReferenceIdeal.Gen.facts, Cert.CeClaim.pre_facts, Cert.ValuesPre.facts,
    fun m ρ _ => Cert.Ce.Gen.frame m ρ,
    fun m ρ _ => Cert.CeIdeal.Gen.frame m ρ,
    fun m ρ _ => Cert.CeIdeal.Gen.frame m ρ,
    Cert.CeClaim.frame_reference,
    fun m ρ _ => Cert.CeClaim.frame_reference m ρ trivial,
    fun m ρ _ => Cert.Match.Gen.frame m ρ,
    fun m ρ _ => Cert.MatchIdeal.Gen.frame m ρ,
    Cert.MatchClaim.frame_reference,
    fun m ρ _ => Cert.MineFrame.frame m ρ,
    fun m ρ _ => Cert.MineReference.Gen.frame m ρ,
    fun m ρ _ => Cert.ValuesBitsFrame.frame m ρ,
    fun m ρ _ => Cert.ValuesFrame.frame m ρ,
    fun m ρ _ => Cert.ValuesFrame.frame m ρ,
    Cert.ValuesClaim.frame_reference,
    fun m ρ _ => Cert.ValuesClaim.frame_reference m ρ trivial,
    trivial,
    @Cert.CeClaim.equal Cert.CeClaim.pre_facts,
    trivial,
    Cert.MatchClaim.equal,
    Cert.MineClaim.equal,
    trivial,
    @Cert.ValuesClaim.equal Cert.ValuesPre.facts⟩

end Cert.Proof

end
